-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d_model" .f32 0x39924925#32 ((3584⁻¹ : ℝ) : EReal)

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26_0) = v0 c
          ∧ r.2.mem ((c.tc : Thread Cert.ReferenceIdeal.nD Cert.ReferenceIdeal.τ).loc Cert.ReferenceIdeal.main_v26_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S8x4096 : Shape := ⟨2, ![8, 4096]⟩
abbrev S64000x3584 : Shape := ⟨2, ![64000, 3584]⟩
abbrev S64000 : Shape := ⟨1, ![64000]⟩
abbrev S3584 : Shape := ⟨1, ![3584]⟩
abbrev S_ : Shape := ⟨0, ![]⟩

class Facts : Prop where
  bcast_S_S8x4096 : S_.BroadcastsInDim S8x4096 (![] : Fin 0 → Fin S8x4096.rank)

variable [Facts]

def fn {F : FTy → Type} [FloatOps F] (main_arg0 : IVec S8x4096 32) (main_arg1 : IVec S64000x3584 8) (main_arg2 : FVec F S64000 .f32) (main_arg3 : FVec F S64000 .bf16) (main_arg4 : FVec F S3584 .bf16) : IVec S8x4096 1 :=
  let main_c : IVec S_ 32 := constantI S_ 32 0#32
  let main_v0 : IVec S8x4096 32 := broadcastInDim S8x4096 ![] bcast_S_S8x4096 main_c
  let main_v1 : IVec S8x4096 1 := cmpi .sge main_arg0 main_v0
  let main_c_0 : IVec S_ 32 := constantI S_ 32 64000#32
  let main_v2 : IVec S8x4096 32 := broadcastInDim S8x4096 ![] bcast_S_S8x4096 main_c_0
  let main_v3 : IVec S8x4096 1 := cmpi .slt main_arg0 main_v2
  let main_v4 : IVec S8x4096 1 := andi main_v1 main_v3
  main_v4
-- ==== Kernel.lean ====
abbrev S8x4096 : Shape := ⟨2, ![8, 4096]⟩
abbrev S64000x3584 : Shape := ⟨2, ![64000, 3584]⟩
abbrev S64000 : Shape := ⟨1, ![64000]⟩
abbrev S3584 : Shape := ⟨1, ![3584]⟩
abbrev S32768 : Shape := ⟨1, ![32768]⟩
abbrev S16000x4x3584 : Shape := ⟨3, ![16000, 4, 3584]⟩
abbrev S16000x3584x4 : Shape := ⟨3, ![16000, 3584, 4]⟩
abbrev S16000x3584 : Shape := ⟨2, ![16000, 3584]⟩
abbrev S_ : Shape := ⟨0, ![]⟩
abbrev S65536 : Shape := ⟨1, ![65536]⟩
abbrev S512x128 : Shape := ⟨2, ![512, 128]⟩
abbrev S512x256 : Shape := ⟨2, ![512, 256]⟩
abbrev S1x3584 : Shape := ⟨2, ![1, 3584]⟩
abbrev S256x1x128 : Shape := ⟨3, ![256, 1, 128]⟩
abbrev S32768x3584 : Shape := ⟨2, ![32768, 3584]⟩
abbrev S1x1x128 : Shape := ⟨3, ![1, 1, 128]⟩
abbrev S128x3584 : Shape := ⟨2, ![128, 3584]⟩
abbrev S3x128x3584 : Shape := ⟨3, ![3, 128, 3584]⟩
abbrev S128x128 : Shape := ⟨2, ![128, 128]⟩
abbrev S3 : Shape := ⟨1, ![3]⟩
abbrev S1 : Shape := ⟨1, ![1]⟩
abbrev S1x1x3584 : Shape := ⟨3, ![1, 1, 3584]⟩
abbrev S1x128 : Shape := ⟨2, ![1, 128]⟩
abbrev S128x512 : Shape := ⟨2, ![128, 512]⟩
abbrev S128x256 : Shape := ⟨2, ![128, 256]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩

abbrev nBuf : Space → Nat
  | .hbm => 23
  | .vmem => 12
  | .smem => 1
  | _ => 0

abbrev bufTy : (tb : Table) → Fin (tcTables nBuf tb) → BufTy
  | .hbm, ⟨0, _⟩ => ⟨S8x4096, .i32⟩
  | .hbm, ⟨1, _⟩ => ⟨S64000x3584, .i8⟩
  | .hbm, ⟨2, _⟩ => ⟨S64000, .f32⟩
  | .hbm, ⟨3, _⟩ => ⟨S64000, .bf16⟩
  | .hbm, ⟨4, _⟩ => ⟨S3584, .bf16⟩
  | .hbm, ⟨5, _⟩ => ⟨S16000x4x3584, .i8⟩
  | .hbm, ⟨6, _⟩ => ⟨S16000x3584x4, .i8⟩
  | .hbm, ⟨7, _⟩ => ⟨S16000x3584, .i32⟩
  | .hbm, ⟨8, _⟩ => ⟨S64000, .bf16⟩
  | .hbm, ⟨9, _⟩ => ⟨S_, .i32⟩
  | .hbm, ⟨10, _⟩ => ⟨S_, .bf16⟩
  | .hbm, ⟨11, _⟩ => ⟨S65536, .bf16⟩
  | .hbm, ⟨12, _⟩ => ⟨S512x128, .bf16⟩
  | .hbm, ⟨13, _⟩ => ⟨S_, .i32⟩
  | .hbm, ⟨14, _⟩ => ⟨S_, .bf16⟩
  | .hbm, ⟨15, _⟩ => ⟨S65536, .bf16⟩
  | .hbm, ⟨16, _⟩ => ⟨S512x128, .bf16⟩
  | .hbm, ⟨17, _⟩ => ⟨S512x256, .bf16⟩
  | .hbm, ⟨18, _⟩ => ⟨S3584, .f32⟩
  | .hbm, ⟨19, _⟩ => ⟨S1x3584, .f32⟩
  | .hbm, ⟨20, _⟩ => ⟨S256x1x128, .i32⟩
  | .hbm, ⟨21, _⟩ => ⟨S32768x3584, .bf16⟩
  | .hbm, ⟨22, _⟩ => ⟨S32768x3584, .bf16⟩
  | .local _ .vmem, ⟨0, _⟩ => ⟨S1x1x128, .i32⟩
  | .local _ .vmem, ⟨1, _⟩ => ⟨S1x1x128, .i32⟩
  | .local _ .vmem, ⟨2, _⟩ => ⟨S512x256, .bf16⟩
  | .local _ .vmem, ⟨3, _⟩ => ⟨S1x3584, .f32⟩
  | .local _ .vmem, ⟨4, _⟩ => ⟨S128x3584, .bf16⟩
  | .local _ .vmem, ⟨5, _⟩ => ⟨S128x3584, .bf16⟩
  | .local _ .vmem, ⟨6, _⟩ => ⟨S128x3584, .bf16⟩
  | .local _ .vmem, ⟨7, _⟩ => ⟨S128x3584, .bf16⟩
  | .local _ .vmem, ⟨8, _⟩ => ⟨S3x128x3584, .i32⟩
  | .local _ .vmem, ⟨9, _⟩ => ⟨S128x128, .bf16⟩
  | .local _ .vmem, ⟨10, _⟩ => ⟨S128x128, .bf16⟩
  | .local _ .vmem, ⟨11, _⟩ => ⟨S128x128, .i32⟩
  | .local _ .smem, ⟨0, _⟩ => ⟨S32768, .i32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_36 : BitVec 32 := 0#32
  let c8_i32_37 : BitVec 32 := 8#32
  let v80 : BitVec 32 := Scalar.addi c0_i32_36 c8_i32_37
  let c1_i32_38 : BitVec 32 := 1#32
  ⟨c0_i32_36, v80, c1_i32_38⟩
def k0_off1 (k0_t1 : Fin k0_t1_loop.trips) : Fin 1 → Nat :=
  let c0_i32_47 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32 : BitVec 32 := 16#32
  let v84 : BitVec 32 := Scalar.muli v83 c16_i32
  let c0_i32_46 : BitVec 32 := 0#32
  let v85 : BitVec 32 := Scalar.addi v84 c0_i32_46
  let v86 : BitVec 32 := Scalar.addi c0_i32_47 v85
  let v87 : Index := Scalar.indexCast v86
  ![v87.toNat]
def k0_off2 (k0_t1 : Fin k0_t1_loop.trips) : Fin 3 → Nat :=
  let c0_i32_48 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32 : BitVec 32 := 16#32
  let v84 : BitVec 32 := Scalar.muli v83 c16_i32
  let c0_i32_46 : BitVec 32 := 0#32
  let v85 : BitVec 32 := Scalar.addi v84 c0_i32_46
  let c0_i32_50 : BitVec 32 := 0#32
  ![0, v85.toNat, 0]
def k0_off3 (v88 : BitVec 32) : Fin 2 → Nat :=
  let c2_i32 : BitVec 32 := 2#32
  let v89 : BitVec 32 := Scalar.shrui v88 c2_i32
  let c0_i32_51 : BitVec 32 := 0#32
  ![v89.toNat, 0]

def k0_chk1 (i : grid0.Coords) (v88 : BitVec 32) : Prop :=
  (∀ (k0_h1 : k0_cond1 i = 1#1), ∀ a, (k0_off3 v88) a + S1x3584.size a ≤ S16000x3584.size a)
theorem k0_off3_inb : ∀ (i : grid0.Coords) (v88 : BitVec 32) (k0_hw1 : k0_chk1 i v88), ∀ (k0_h1 : k0_cond1 i = 1#1), ∀ a, (k0_off3 v88) a + S1x3584.size a ≤ S16000x3584.size a := fun i v88 k0_hw1 k0_h1 => k0_hw1 k0_h1

def k0_off4 (k0_t1 : Fin k0_t1_loop.trips) : Fin 1 → Nat :=
  let c0_i32_54 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_52 : BitVec 32 := 16#32
  let v95 : BitVec 32 := Scalar.muli v83 c16_i32_52
  let c1_i32_53 : BitVec 32 := 1#32
  let v96 : BitVec 32 := Scalar.addi v95 c1_i32_53
  let v97 : BitVec 32 := Scalar.addi c0_i32_54 v96
  let v98 : Index := Scalar.indexCast v97
  ![v98.toNat]
def k0_off5 (k0_t1 : Fin k0_t1_loop.trips) : Fin 3 → Nat :=
  let c0_i32_56 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_52 : BitVec 32 := 16#32
  let v95 : BitVec 32 := Scalar.muli v83 c16_i32_52
  let c1_i32_53 : BitVec 32 := 1#32
  let v96 : BitVec 32 := Scalar.addi v95 c1_i32_53
  let c0_i32_58 : BitVec 32 := 0#32
  ![0, v96.toNat, 0]
def k0_off6 (v99 : BitVec 32) : Fin 2 → Nat :=
  let c2_i32_55 : BitVec 32 := 2#32
  let v100 : BitVec 32 := Scalar.shrui v99 c2_i32_55
  let c0_i32_59 : BitVec 32 := 0#32
  ![v100.toNat, 0]

def k0_chk2 (i : grid0.Coords) (v99 : BitVec 32) : Prop :=
  (∀ (k0_h1 : k0_cond1 i = 1#1), ∀ a, (k0_off6 v99) a + S1x3584.size a ≤ S16000x3584.size a)
theorem k0_off6_inb : ∀ (i : grid0.Coords) (v99 : BitVec 32) (k0_hw2 : k0_chk2 i v99), ∀ (k0_h1 : k0_cond1 i = 1#1), ∀ a, (k0_off6 v99) a + S1x3584.size a ≤ S16000x3584.size a := fun i v99 k0_hw2 k0_h1 => k0_hw2 k0_h1

def k0_off7 (k0_t1 : Fin k0_t1_loop.trips) : Fin 1 → Nat :=
  let c0_i32_62 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_60 : BitVec 32 := 16#32
  let v106 : BitVec 32 := Scalar.muli v83 c16_i32_60
  let c2_i32_61 : BitVec 32 := 2#32
  let v107 : BitVec 32 := Scalar.addi v106 c2_i32_61
  let v108 : BitVec 32 := Scalar.addi c0_i32_62 v107
  let v109 : Index := Scalar.indexCast v108
  ![v109.toNat]
def k0_off8 (k0_t1 : Fin k0_t1_loop.trips) : Fin 3 → Nat :=
  let c0_i32_64 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_60 : BitVec 32 := 16#32
  let v106 : BitVec 32 := Scalar.muli v83 c16_i32_60
  let c2_i32_61 : BitVec 32 := 2#32
  let v107 : BitVec 32 := Scalar.addi v106 c2_i32_61
  let c0_i32_66 : BitVec 32 := 0#32
  ![0, v107.toNat, 0]
def k0_off9 (v110 : BitVec 32) : Fin 2 → Nat :=
  let c2_i32_63 : BitVec 32 := 2#32
  let v111 : BitVec 32 := Scalar.shrui v110 c2_i32_63
  let c0_i32_67 : BitVec 32 := 0#32
  ![v111.toNat, 0]

def k0_chk3 (i : grid0.Coords) (v110 : BitVec 32) : Prop :=
  (∀ (k0_h1 : k0_cond1 i = 1#1), ∀ a, (k0_off9 v110) a + S1x3584.size a ≤ S16000x3584.size a)
theorem k0_off9_inb : ∀ (i : grid0.Coords) (v110 : BitVec 32) (k0_hw3 : k0_chk3 i v110), ∀ (k0_h1 : k0_cond1 i = 1#1), ∀ a, (k0_off9 v110) a + S1x3584.size a ≤ S16000x3584.size a := fun i v110 k0_hw3 k0_h1 => k0_hw3 k0_h1

def k0_off10 (k0_t1 : Fin k0_t1_loop.trips) : Fin 1 → Nat :=
  let c0_i32_70 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_68 : BitVec 32 := 16#32
  let v117 : BitVec 32 := Scalar.muli v83 c16_i32_68
  let c3_i32_69 : BitVec 32 := 3#32
  let v118 : BitVec 32 := Scalar.addi v117 c3_i32_69
  let v119 : BitVec 32 := Scalar.addi c0_i32_70 v118
  let v120 : Index := Scalar.indexCast v119
  ![v120.toNat]
def k0_off11 (k0_t1 : Fin k0_t1_loop.trips) : Fin 3 → Nat :=
  let c0_i32_72 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_68 : BitVec 32 := 16#32
  let v117 : BitVec 32 := Scalar.muli v83 c16_i32_68
  let c3_i32_69 : BitVec 32 := 3#32
  let v118 : BitVec 32 := Scalar.addi v117 c3_i32_69
  let c0_i32_74 : BitVec 32 := 0#32
  ![0, v118.toNat, 0]
def k0_off12 (v121 : BitVec 32) : Fin 2 → Nat :=
  let c2_i32_71 : BitVec 32 := 2#32
  let v122 : BitVec 32 := Scalar.shrui v121 c2_i32_71
  let c0_i32_75 : BitVec 32 := 0#32
  ![v122.toNat, 0]

def k0_chk4 (i : grid0.Coords) (v121 : BitVec 32) : Prop :=
  (∀ (k0_h1 : k0_cond1 i = 1#1), ∀ a, (k0_off12 v121) a + S1x3584.size a ≤ S16000x3584.size a)
theorem k0_off12_inb : ∀ (i : grid0.Coords) (v121 : BitVec 32) (k0_hw4 : k0_chk4 i v121), ∀ (k0_h1 : k0_cond1 i = 1#1), ∀ a, (k0_off12 v121) a + S1x3584.size a ≤ S16000x3584.size a := fun i v121 k0_hw4 k0_h1 => k0_hw4 k0_h1

def k0_off13 (k0_t1 : Fin k0_t1_loop.trips) : Fin 1 → Nat :=
  let c0_i32_77 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_76 : BitVec 32 := 16#32
  let v128 : BitVec 32 := Scalar.muli v83 c16_i32_76
  let c4_i32 : BitVec 32 := 4#32
  let v129 : BitVec 32 := Scalar.addi v128 c4_i32
  let v130 : BitVec 32 := Scalar.addi c0_i32_77 v129
  let v131 : Index := Scalar.indexCast v130
  ![v131.toNat]
def k0_off14 (k0_t1 : Fin k0_t1_loop.trips) : Fin 3 → Nat :=
  let c0_i32_79 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_76 : BitVec 32 := 16#32
  let v128 : BitVec 32 := Scalar.muli v83 c16_i32_76
  let c4_i32 : BitVec 32 := 4#32
  let v129 : BitVec 32 := Scalar.addi v128 c4_i32
  let c0_i32_81 : BitVec 32 := 0#32
  ![0, v129.toNat, 0]
def k0_off15 (v132 : BitVec 32) : Fin 2 → Nat :=
  let c2_i32_78 : BitVec 32 := 2#32
  let v133 : BitVec 32 := Scalar.shrui v132 c2_i32_78
  let c0_i32_82 : BitVec 32 := 0#32
  ![v133.toNat, 0]

def k0_chk5 (i : grid0.Coords) (v132 : BitVec 32) : Prop :=
  (∀ (k0_h1 : k0_cond1 i = 1#1), ∀ a, (k0_off15 v132) a + S1x3584.size a ≤ S16000x3584.size a)
theorem k0_off15_inb : ∀ (i : grid0.Coords) (v132 : BitVec 32) (k0_hw5 : k0_chk5 i v132), ∀ (k0_h1 : k0_cond1 i = 1#1), ∀ a, (k0_off15 v132) a + S1x3584.size a ≤ S16000x3584.size a := fun i v132 k0_hw5 k0_h1 => k0_hw5 k0_h1

def k0_off16 (k0_t1 : Fin k0_t1_loop.trips) : Fin 1 → Nat :=
  let c0_i32_84 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_83 : BitVec 32 := 16#32
  let v139 : BitVec 32 := Scalar.muli v83 c16_i32_83
  let c5_i32 : BitVec 32 := 5#32
  let v140 : BitVec 32 := Scalar.addi v139 c5_i32
  let v141 : BitVec 32 := Scalar.addi c0_i32_84 v140
  let v142 : Index := Scalar.indexCast v141
  ![v142.toNat]
def k0_off17 (k0_t1 : Fin k0_t1_loop.trips) : Fin 3 → Nat :=
  let c0_i32_86 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_83 : BitVec 32 := 16#32
  let v139 : BitVec 32 := Scalar.muli v83 c16_i32_83
  let c5_i32 : BitVec 32 := 5#32
  let v140 : BitVec 32 := Scalar.addi v139 c5_i32
  let c0_i32_88 : BitVec 32 := 0#32
  ![0, v140.toNat, 0]
def k0_off18 (v143 : BitVec 32) : Fin 2 → Nat :=
  let c2_i32_85 : BitVec 32 := 2#32
  let v144 : BitVec 32 := Scalar.shrui v143 c2_i32_85
  let c0_i32_89 : BitVec 32 := 0#32
  ![v144.toNat, 0]

def k0_chk6 (i : grid0.Coords) (v143 : BitVec 32) : Prop :=
  (∀ (k0_h1 : k0_cond1 i = 1#1), ∀ a, (k0_off18 v143) a + S1x3584.size a ≤ S16000x3584.size a)
theorem k0_off18_inb : ∀ (i : grid0.Coords) (v143 : BitVec 32) (k0_hw6 : k0_chk6 i v143), ∀ (k0_h1 : k0_cond1 i = 1#1), ∀ a, (k0_off18 v143) a + S1x3584.size a ≤ S16000x3584.size a := fun i v143 k0_hw6 k0_h1 => k0_hw6 k0_h1

def k0_off19 (k0_t1 : Fin k0_t1_loop.trips) : Fin 1 → Nat :=
  let c0_i32_91 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_90 : BitVec 32 := 16#32
  let v150 : BitVec 32 := Scalar.muli v83 c16_i32_90
  let c6_i32 : BitVec 32 := 6#32
  let v151 : BitVec 32 := Scalar.addi v150 c6_i32
  let v152 : BitVec 32 := Scalar.addi c0_i32_91 v151
  let v153 : Index := Scalar.indexCast v152
  ![v153.toNat]
def k0_off20 (k0_t1 : Fin k0_t1_loop.trips) : Fin 3 → Nat :=
  let c0_i32_93 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_90 : BitVec 32 := 16#32
  let v150 : BitVec 32 := Scalar.muli v83 c16_i32_90
  let c6_i32 : BitVec 32 := 6#32
  let v151 : BitVec 32 := Scalar.addi v150 c6_i32
  let c0_i32_95 : BitVec 32 := 0#32
  ![0, v151.toNat, 0]
def k0_off21 (v154 : BitVec 32) : Fin 2 → Nat :=
  let c2_i32_92 : BitVec 32 := 2#32
  let v155 : BitVec 32 := Scalar.shrui v154 c2_i32_92
  let c0_i32_96 : BitVec 32 := 0#32
  ![v155.toNat, 0]

def k0_chk7 (i : grid0.Coords) (v154 : BitVec 32) : Prop :=
  (∀ (k0_h1 : k0_cond1 i = 1#1), ∀ a, (k0_off21 v154) a + S1x3584.size a ≤ S16000x3584.size a)
theorem k0_off21_inb : ∀ (i : grid0.Coords) (v154 : BitVec 32) (k0_hw7 : k0_chk7 i v154), ∀ (k0_h1 : k0_cond1 i = 1#1), ∀ a, (k0_off21 v154) a + S1x3584.size a ≤ S16000x3584.size a := fun i v154 k0_hw7 k0_h1 => k0_hw7 k0_h1

def k0_off22 (k0_t1 : Fin k0_t1_loop.trips) : Fin 1 → Nat :=
  let c0_i32_99 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_97 : BitVec 32 := 16#32
  let v161 : BitVec 32 := Scalar.muli v83 c16_i32_97
  let c7_i32_98 : BitVec 32 := 7#32
  let v162 : BitVec 32 := Scalar.addi v161 c7_i32_98
  let v163 : BitVec 32 := Scalar.addi c0_i32_99 v162
  let v164 : Index := Scalar.indexCast v163
  ![v164.toNat]
def k0_off23 (k0_t1 : Fin k0_t1_loop.trips) : Fin 3 → Nat :=
  let c0_i32_101 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_97 : BitVec 32 := 16#32
  let v161 : BitVec 32 := Scalar.muli v83 c16_i32_97
  let c7_i32_98 : BitVec 32 := 7#32
  let v162 : BitVec 32 := Scalar.addi v161 c7_i32_98
  let c0_i32_103 : BitVec 32 := 0#32
  ![0, v162.toNat, 0]
def k0_off24 (v165 : BitVec 32) : Fin 2 → Nat :=
  let c2_i32_100 : BitVec 32 := 2#32
  let v166 : BitVec 32 := Scalar.shrui v165 c2_i32_100
  let c0_i32_104 : BitVec 32 := 0#32
  ![v166.toNat, 0]

def k0_chk8 (i : grid0.Coords) (v165 : BitVec 32) : Prop :=
  (∀ (k0_h1 : k0_cond1 i = 1#1), ∀ a, (k0_off24 v165) a + S1x3584.size a ≤ S16000x3584.size a)
theorem k0_off24_inb : ∀ (i : grid0.Coords) (v165 : BitVec 32) (k0_hw8 : k0_chk8 i v165), ∀ (k0_h1 : k0_cond1 i = 1#1), ∀ a, (k0_off24 v165) a + S1x3584.size a ≤ S16000x3584.size a := fun i v165 k0_hw8 k0_h1 => k0_hw8 k0_h1

def k0_off25 (k0_t1 : Fin k0_t1_loop.trips) : Fin 1 → Nat :=
  let c0_i32_107 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_105 : BitVec 32 := 16#32
  let v172 : BitVec 32 := Scalar.muli v83 c16_i32_105
  let c8_i32_106 : BitVec 32 := 8#32
  let v173 : BitVec 32 := Scalar.addi v172 c8_i32_106
  let v174 : BitVec 32 := Scalar.addi c0_i32_107 v173
  let v175 : Index := Scalar.indexCast v174
  ![v175.toNat]
def k0_off26 (k0_t1 : Fin k0_t1_loop.trips) : Fin 3 → Nat :=
  let c0_i32_109 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_105 : BitVec 32 := 16#32
  let v172 : BitVec 32 := Scalar.muli v83 c16_i32_105
  let c8_i32_106 : BitVec 32 := 8#32
  let v173 : BitVec 32 := Scalar.addi v172 c8_i32_106
  let c0_i32_111 : BitVec 32 := 0#32
  ![0, v173.toNat, 0]
def k0_off27 (v176 : BitVec 32) : Fin 2 → Nat :=
  let c2_i32_108 : BitVec 32 := 2#32
  let v177 : BitVec 32 := Scalar.shrui v176 c2_i32_108
  let c0_i32_112 : BitVec 32 := 0#32
  ![v177.toNat, 0]

def k0_chk9 (i : grid0.Coords) (v176 : BitVec 32) : Prop :=
  (∀ (k0_h1 : k0_cond1 i = 1#1), ∀ a, (k0_off27 v176) a + S1x3584.size a ≤ S16000x3584.size a)
theorem k0_off27_inb : ∀ (i : grid0.Coords) (v176 : BitVec 32) (k0_hw9 : k0_chk9 i v176), ∀ (k0_h1 : k0_cond1 i = 1#1), ∀ a, (k0_off27 v176) a + S1x3584.size a ≤ S16000x3584.size a := fun i v176 k0_hw9 k0_h1 => k0_hw9 k0_h1

def k0_off28 (k0_t1 : Fin k0_t1_loop.trips) : Fin 1 → Nat :=
  let c0_i32_114 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_113 : BitVec 32 := 16#32
  let v183 : BitVec 32 := Scalar.muli v83 c16_i32_113
  let c9_i32 : BitVec 32 := 9#32
  let v184 : BitVec 32 := Scalar.addi v183 c9_i32
  let v185 : BitVec 32 := Scalar.addi c0_i32_114 v184
  let v186 : Index := Scalar.indexCast v185
  ![v186.toNat]
def k0_off29 (k0_t1 : Fin k0_t1_loop.trips) : Fin 3 → Nat :=
  let c0_i32_116 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_113 : BitVec 32 := 16#32
  let v183 : BitVec 32 := Scalar.muli v83 c16_i32_113
  let c9_i32 : BitVec 32 := 9#32
  let v184 : BitVec 32 := Scalar.addi v183 c9_i32
  let c0_i32_118 : BitVec 32 := 0#32
  ![0, v184.toNat, 0]
def k0_off30 (v187 : BitVec 32) : Fin 2 → Nat :=
  let c2_i32_115 : BitVec 32 := 2#32
  let v188 : BitVec 32 := Scalar.shrui v187 c2_i32_115
  let c0_i32_119 : BitVec 32 := 0#32
  ![v188.toNat, 0]

def k0_chk10 (i : grid0.Coords) (v187 : BitVec 32) : Prop :=
  (∀ (k0_h1 : k0_cond1 i = 1#1), ∀ a, (k0_off30 v187) a + S1x3584.size a ≤ S16000x3584.size a)
theorem k0_off30_inb : ∀ (i : grid0.Coords) (v187 : BitVec 32) (k0_hw10 : k0_chk10 i v187), ∀ (k0_h1 : k0_cond1 i = 1#1), ∀ a, (k0_off30 v187) a + S1x3584.size a ≤ S16000x3584.size a := fun i v187 k0_hw10 k0_h1 => k0_hw10 k0_h1

def k0_off31 (k0_t1 : Fin k0_t1_loop.trips) : Fin 1 → Nat :=
  let c0_i32_121 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_120 : BitVec 32 := 16#32
  let v194 : BitVec 32 := Scalar.muli v83 c16_i32_120
  let c10_i32 : BitVec 32 := 10#32
  let v195 : BitVec 32 := Scalar.addi v194 c10_i32
  let v196 : BitVec 32 := Scalar.addi c0_i32_121 v195
  let v197 : Index := Scalar.indexCast v196
  ![v197.toNat]
def k0_off32 (k0_t1 : Fin k0_t1_loop.trips) : Fin 3 → Nat :=
  let c0_i32_123 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_120 : BitVec 32 := 16#32
  let v194 : BitVec 32 := Scalar.muli v83 c16_i32_120
  let c10_i32 : BitVec 32 := 10#32
  let v195 : BitVec 32 := Scalar.addi v194 c10_i32
  let c0_i32_125 : BitVec 32 := 0#32
  ![0, v195.toNat, 0]
def k0_off33 (v198 : BitVec 32) : Fin 2 → Nat :=
  let c2_i32_122 : BitVec 32 := 2#32
  let v199 : BitVec 32 := Scalar.shrui v198 c2_i32_122
  let c0_i32_126 : BitVec 32 := 0#32
  ![v199.toNat, 0]

def k0_chk11 (i : grid0.Coords) (v198 : BitVec 32) : Prop :=
  (∀ (k0_h1 : k0_cond1 i = 1#1), ∀ a, (k0_off33 v198) a + S1x3584.size a ≤ S16000x3584.size a)
theorem k0_off33_inb : ∀ (i : grid0.Coords) (v198 : BitVec 32) (k0_hw11 : k0_chk11 i v198), ∀ (k0_h1 : k0_cond1 i = 1#1), ∀ a, (k0_off33 v198) a + S1x3584.size a ≤ S16000x3584.size a := fun i v198 k0_hw11 k0_h1 => k0_hw11 k0_h1

def k0_off34 (k0_t1 : Fin k0_t1_loop.trips) : Fin 1 → Nat :=
  let c0_i32_128 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_127 : BitVec 32 := 16#32
  let v205 : BitVec 32 := Scalar.muli v83 c16_i32_127
  let c11_i32 : BitVec 32 := 11#32
  let v206 : BitVec 32 := Scalar.addi v205 c11_i32
  let v207 : BitVec 32 := Scalar.addi c0_i32_128 v206
  let v208 : Index := Scalar.indexCast v207
  ![v208.toNat]
def k0_off35 (k0_t1 : Fin k0_t1_loop.trips) : Fin 3 → Nat :=
  let c0_i32_130 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_127 : BitVec 32 := 16#32
  let v205 : BitVec 32 := Scalar.muli v83 c16_i32_127
  let c11_i32 : BitVec 32 := 11#32
  let v206 : BitVec 32 := Scalar.addi v205 c11_i32
  let c0_i32_132 : BitVec 32 := 0#32
  ![0, v206.toNat, 0]
def k0_off36 (v209 : BitVec 32) : Fin 2 → Nat :=
  let c2_i32_129 : BitVec 32 := 2#32
  let v210 : BitVec 32 := Scalar.shrui v209 c2_i32_129
  let c0_i32_133 : BitVec 32 := 0#32
  ![v210.toNat, 0]

def k0_chk12 (i : grid0.Coords) (v209 : BitVec 32) : Prop :=
  (∀ (k0_h1 : k0_cond1 i = 1#1), ∀ a, (k0_off36 v209) a + S1x3584.size a ≤ S16000x3584.size a)
theorem k0_off36_inb : ∀ (i : grid0.Coords) (v209 : BitVec 32) (k0_hw12 : k0_chk12 i v209), ∀ (k0_h1 : k0_cond1 i = 1#1), ∀ a, (k0_off36 v209) a + S1x3584.size a ≤ S16000x3584.size a := fun i v209 k0_hw12 k0_h1 => k0_hw12 k0_h1

def k0_off37 (k0_t1 : Fin k0_t1_loop.trips) : Fin 1 → Nat :=
  let c0_i32_135 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_134 : BitVec 32 := 16#32
  let v216 : BitVec 32 := Scalar.muli v83 c16_i32_134
  let c12_i32 : BitVec 32 := 12#32
  let v217 : BitVec 32 := Scalar.addi v216 c12_i32
  let v218 : BitVec 32 := Scalar.addi c0_i32_135 v217
  let v219 : Index := Scalar.indexCast v218
  ![v219.toNat]
def k0_off38 (k0_t1 : Fin k0_t1_loop.trips) : Fin 3 → Nat :=
  let c0_i32_137 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_134 : BitVec 32 := 16#32
  let v216 : BitVec 32 := Scalar.muli v83 c16_i32_134
  let c12_i32 : BitVec 32 := 12#32
  let v217 : BitVec 32 := Scalar.addi v216 c12_i32
  let c0_i32_139 : BitVec 32 := 0#32
  ![0, v217.toNat, 0]
def k0_off39 (v220 : BitVec 32) : Fin 2 → Nat :=
  let c2_i32_136 : BitVec 32 := 2#32
  let v221 : BitVec 32 := Scalar.shrui v220 c2_i32_136
  let c0_i32_140 : BitVec 32 := 0#32
  ![v221.toNat, 0]

def k0_chk13 (i : grid0.Coords) (v220 : BitVec 32) : Prop :=
  (∀ (k0_h1 : k0_cond1 i = 1#1), ∀ a, (k0_off39 v220) a + S1x3584.size a ≤ S16000x3584.size a)
theorem k0_off39_inb : ∀ (i : grid0.Coords) (v220 : BitVec 32) (k0_hw13 : k0_chk13 i v220), ∀ (k0_h1 : k0_cond1 i = 1#1), ∀ a, (k0_off39 v220) a + S1x3584.size a ≤ S16000x3584.size a := fun i v220 k0_hw13 k0_h1 => k0_hw13 k0_h1

def k0_off40 (k0_t1 : Fin k0_t1_loop.trips) : Fin 1 → Nat :=
  let c0_i32_142 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_141 : BitVec 32 := 16#32
  let v227 : BitVec 32 := Scalar.muli v83 c16_i32_141
  let c13_i32 : BitVec 32 := 13#32
  let v228 : BitVec 32 := Scalar.addi v227 c13_i32
  let v229 : BitVec 32 := Scalar.addi c0_i32_142 v228
  let v230 : Index := Scalar.indexCast v229
  ![v230.toNat]
def k0_off41 (k0_t1 : Fin k0_t1_loop.trips) : Fin 3 → Nat :=
  let c0_i32_144 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_141 : BitVec 32 := 16#32
  let v227 : BitVec 32 := Scalar.muli v83 c16_i32_141
  let c13_i32 : BitVec 32 := 13#32
  let v228 : BitVec 32 := Scalar.addi v227 c13_i32
  let c0_i32_146 : BitVec 32 := 0#32
  ![0, v228.toNat, 0]
def k0_off42 (v231 : BitVec 32) : Fin 2 → Nat :=
  let c2_i32_143 : BitVec 32 := 2#32
  let v232 : BitVec 32 := Scalar.shrui v231 c2_i32_143
  let c0_i32_147 : BitVec 32 := 0#32
  ![v232.toNat, 0]

def k0_chk14 (i : grid0.Coords) (v231 : BitVec 32) : Prop :=
  (∀ (k0_h1 : k0_cond1 i = 1#1), ∀ a, (k0_off42 v231) a + S1x3584.size a ≤ S16000x3584.size a)
theorem k0_off42_inb : ∀ (i : grid0.Coords) (v231 : BitVec 32) (k0_hw14 : k0_chk14 i v231), ∀ (k0_h1 : k0_cond1 i = 1#1), ∀ a, (k0_off42 v231) a + S1x3584.size a ≤ S16000x3584.size a := fun i v231 k0_hw14 k0_h1 => k0_hw14 k0_h1

def k0_off43 (k0_t1 : Fin k0_t1_loop.trips) : Fin 1 → Nat :=
  let c0_i32_149 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_148 : BitVec 32 := 16#32
  let v238 : BitVec 32 := Scalar.muli v83 c16_i32_148
  let c14_i32 : BitVec 32 := 14#32
  let v239 : BitVec 32 := Scalar.addi v238 c14_i32
  let v240 : BitVec 32 := Scalar.addi c0_i32_149 v239
  let v241 : Index := Scalar.indexCast v240
  ![v241.toNat]
def k0_off44 (k0_t1 : Fin k0_t1_loop.trips) : Fin 3 → Nat :=
  let c0_i32_151 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_148 : BitVec 32 := 16#32
  let v238 : BitVec 32 := Scalar.muli v83 c16_i32_148
  let c14_i32 : BitVec 32 := 14#32
  let v239 : BitVec 32 := Scalar.addi v238 c14_i32
  let c0_i32_153 : BitVec 32 := 0#32
  ![0, v239.toNat, 0]
def k0_off45 (v242 : BitVec 32) : Fin 2 → Nat :=
  let c2_i32_150 : BitVec 32 := 2#32
  let v243 : BitVec 32 := Scalar.shrui v242 c2_i32_150
  let c0_i32_154 : BitVec 32 := 0#32
  ![v243.toNat, 0]

def k0_chk15 (i : grid0.Coords) (v242 : BitVec 32) : Prop :=
  (∀ (k0_h1 : k0_cond1 i = 1#1), ∀ a, (k0_off45 v242) a + S1x3584.size a ≤ S16000x3584.size a)
theorem k0_off45_inb : ∀ (i : grid0.Coords) (v242 : BitVec 32) (k0_hw15 : k0_chk15 i v242), ∀ (k0_h1 : k0_cond1 i = 1#1), ∀ a, (k0_off45 v242) a + S1x3584.size a ≤ S16000x3584.size a := fun i v242 k0_hw15 k0_h1 => k0_hw15 k0_h1

def k0_off46 (k0_t1 : Fin k0_t1_loop.trips) : Fin 1 → Nat :=
  let c0_i32_156 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_155 : BitVec 32 := 16#32
  let v249 : BitVec 32 := Scalar.muli v83 c16_i32_155
  let c15_i32 : BitVec 32 := 15#32
  let v250 : BitVec 32 := Scalar.addi v249 c15_i32
  let v251 : BitVec 32 := Scalar.addi c0_i32_156 v250
  let v252 : Index := Scalar.indexCast v251
  ![v252.toNat]
def k0_off47 (k0_t1 : Fin k0_t1_loop.trips) : Fin 3 → Nat :=
  let c0_i32_158 : BitVec 32 := 0#32
  let c0_i32_45 : BitVec 32 := 0#32
  let c0_i32_36 : BitVec 32 := 0#32
  let c1_i32_38 : BitVec 32 := 1#32
  let arg13 : BitVec 32 := Scf.iv c0_i32_36 c1_i32_38 k0_t1
  let c1_i32_44 : BitVec 32 := 1#32
  let v82 : BitVec 32 := Scalar.muli arg13 c1_i32_44
  let v83 : BitVec 32 := Scalar.addi c0_i32_45 v82
  let c16_i32_155 : BitVec 32 := 16#32
  let v249 : BitVec 32 := Scalar.muli v83 c16_i32_155
  let c15_i32 : BitVec 32 := 15#32
  let v250 : BitVec 32 := Scalar.addi v249 c15_i32
  let c0_i32_160 : BitVec 32 := 0#32
  ![0, v250.toNat, 0]
def k0_off48 (v253 : BitVec 32) : Fin 2 → Nat :=
  let c2_i32_157 : BitVec 32 := 2#32
  let v254 : BitVec 32 := Scalar.shrui v253 c2_i32_157
  let c0_i32_161 : BitVec 32 := 0#32
  ![v254.toNat, 0]

def k0_chk16 (i : grid0.Coords) (v253 : BitVec 32) : Prop :=
  (∀ (k0_h1 : k0_cond1 i = 1#1), ∀ a, (k0_off48 v253) a + S1x3584.size a ≤ S16000x3584.size a)
theorem k0_off48_inb : ∀ (i : grid0.Coords) (v253 : BitVec 32) (k0_hw16 : k0_chk16 i v253), ∀ (k0_h1 : k0_cond1 i = 1#1), ∀ a, (k0_off48 v253) a + S1x3584.size a ≤ S16000x3584.size a := fun i v253 k0_hw16 k0_h1 => k0_hw16 k0_h1

@[reducible] def k0_t2_loop : Scf.Loop 32 :=
  let c0_i32_40 : BitVec 32 := 0#32
  let c8_i32_41 : BitVec 32 := 8#32
  let v81 : BitVec 32 := Scalar.addi c0_i32_40 c8_i32_41
  let c1_i32_42 : BitVec 32 := 1#32
  ⟨c0_i32_40, v81, c1_i32_42⟩
def k0_off49 (k0_t2 : Fin k0_t2_loop.trips) : Fin 1 → Nat :=
  let c128_i32_47 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32 : BitVec 32 := 16#32
  let v84 : BitVec 32 := Scalar.muli v83 c16_i32
  let c0_i32_46 : BitVec 32 := 0#32
  let v85 : BitVec 32 := Scalar.addi v84 c0_i32_46
  let v86 : BitVec 32 := Scalar.addi c128_i32_47 v85
  let v87 : Index := Scalar.indexCast v86
  ![v87.toNat]
def k0_off50 (k0_t2 : Fin k0_t2_loop.trips) : Fin 3 → Nat :=
  let c1_i32_48 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32 : BitVec 32 := 16#32
  let v84 : BitVec 32 := Scalar.muli v83 c16_i32
  let c0_i32_46 : BitVec 32 := 0#32
  let v85 : BitVec 32 := Scalar.addi v84 c0_i32_46
  let c0_i32_50 : BitVec 32 := 0#32
  ![1, v85.toNat, 0]
def k0_off51 (v88 : BitVec 32) : Fin 2 → Nat :=
  let c2_i32 : BitVec 32 := 2#32
  let v89 : BitVec 32 := Scalar.shrui v88 c2_i32
  let c0_i32_51 : BitVec 32 := 0#32
  ![v89.toNat, 0]

def k0_chk17 (i : grid0.Coords) (v88 : BitVec 32) : Prop :=
  (∀ (k0_h1 : k0_cond1 i = 1#1), ∀ a, (k0_off51 v88) a + S1x3584.size a ≤ S16000x3584.size a)
theorem k0_off51_inb : ∀ (i : grid0.Coords) (v88 : BitVec 32) (k0_hw17 : k0_chk17 i v88), ∀ (k0_h1 : k0_cond1 i = 1#1), ∀ a, (k0_off51 v88) a + S1x3584.size a ≤ S16000x3584.size a := fun i v88 k0_hw17 k0_h1 => k0_hw17 k0_h1

def k0_off52 (k0_t2 : Fin k0_t2_loop.trips) : Fin 1 → Nat :=
  let c128_i32_54 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_52 : BitVec 32 := 16#32
  let v95 : BitVec 32 := Scalar.muli v83 c16_i32_52
  let c1_i32_53 : BitVec 32 := 1#32
  let v96 : BitVec 32 := Scalar.addi v95 c1_i32_53
  let v97 : BitVec 32 := Scalar.addi c128_i32_54 v96
  let v98 : Index := Scalar.indexCast v97
  ![v98.toNat]
def k0_off53 (k0_t2 : Fin k0_t2_loop.trips) : Fin 3 → Nat :=
  let c1_i32_56 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_52 : BitVec 32 := 16#32
  let v95 : BitVec 32 := Scalar.muli v83 c16_i32_52
  let c1_i32_53 : BitVec 32 := 1#32
  let v96 : BitVec 32 := Scalar.addi v95 c1_i32_53
  let c0_i32_58 : BitVec 32 := 0#32
  ![1, v96.toNat, 0]
def k0_off54 (v99 : BitVec 32) : Fin 2 → Nat :=
  let c2_i32_55 : BitVec 32 := 2#32
  let v100 : BitVec 32 := Scalar.shrui v99 c2_i32_55
  let c0_i32_59 : BitVec 32 := 0#32
  ![v100.toNat, 0]

def k0_chk18 (i : grid0.Coords) (v99 : BitVec 32) : Prop :=
  (∀ (k0_h1 : k0_cond1 i = 1#1), ∀ a, (k0_off54 v99) a + S1x3584.size a ≤ S16000x3584.size a)
theorem k0_off54_inb : ∀ (i : grid0.Coords) (v99 : BitVec 32) (k0_hw18 : k0_chk18 i v99), ∀ (k0_h1 : k0_cond1 i = 1#1), ∀ a, (k0_off54 v99) a + S1x3584.size a ≤ S16000x3584.size a := fun i v99 k0_hw18 k0_h1 => k0_hw18 k0_h1

def k0_off55 (k0_t2 : Fin k0_t2_loop.trips) : Fin 1 → Nat :=
  let c128_i32_62 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_60 : BitVec 32 := 16#32
  let v106 : BitVec 32 := Scalar.muli v83 c16_i32_60
  let c2_i32_61 : BitVec 32 := 2#32
  let v107 : BitVec 32 := Scalar.addi v106 c2_i32_61
  let v108 : BitVec 32 := Scalar.addi c128_i32_62 v107
  let v109 : Index := Scalar.indexCast v108
  ![v109.toNat]
def k0_off56 (k0_t2 : Fin k0_t2_loop.trips) : Fin 3 → Nat :=
  let c1_i32_64 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_60 : BitVec 32 := 16#32
  let v106 : BitVec 32 := Scalar.muli v83 c16_i32_60
  let c2_i32_61 : BitVec 32 := 2#32
  let v107 : BitVec 32 := Scalar.addi v106 c2_i32_61
  let c0_i32_66 : BitVec 32 := 0#32
  ![1, v107.toNat, 0]
def k0_off57 (v110 : BitVec 32) : Fin 2 → Nat :=
  let c2_i32_63 : BitVec 32 := 2#32
  let v111 : BitVec 32 := Scalar.shrui v110 c2_i32_63
  let c0_i32_67 : BitVec 32 := 0#32
  ![v111.toNat, 0]

def k0_chk19 (i : grid0.Coords) (v110 : BitVec 32) : Prop :=
  (∀ (k0_h1 : k0_cond1 i = 1#1), ∀ a, (k0_off57 v110) a + S1x3584.size a ≤ S16000x3584.size a)
theorem k0_off57_inb : ∀ (i : grid0.Coords) (v110 : BitVec 32) (k0_hw19 : k0_chk19 i v110), ∀ (k0_h1 : k0_cond1 i = 1#1), ∀ a, (k0_off57 v110) a + S1x3584.size a ≤ S16000x3584.size a := fun i v110 k0_hw19 k0_h1 => k0_hw19 k0_h1

def k0_off58 (k0_t2 : Fin k0_t2_loop.trips) : Fin 1 → Nat :=
  let c128_i32_70 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_68 : BitVec 32 := 16#32
  let v117 : BitVec 32 := Scalar.muli v83 c16_i32_68
  let c3_i32_69 : BitVec 32 := 3#32
  let v118 : BitVec 32 := Scalar.addi v117 c3_i32_69
  let v119 : BitVec 32 := Scalar.addi c128_i32_70 v118
  let v120 : Index := Scalar.indexCast v119
  ![v120.toNat]
def k0_off59 (k0_t2 : Fin k0_t2_loop.trips) : Fin 3 → Nat :=
  let c1_i32_72 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_68 : BitVec 32 := 16#32
  let v117 : BitVec 32 := Scalar.muli v83 c16_i32_68
  let c3_i32_69 : BitVec 32 := 3#32
  let v118 : BitVec 32 := Scalar.addi v117 c3_i32_69
  let c0_i32_74 : BitVec 32 := 0#32
  ![1, v118.toNat, 0]
def k0_off60 (v121 : BitVec 32) : Fin 2 → Nat :=
  let c2_i32_71 : BitVec 32 := 2#32
  let v122 : BitVec 32 := Scalar.shrui v121 c2_i32_71
  let c0_i32_75 : BitVec 32 := 0#32
  ![v122.toNat, 0]

def k0_chk20 (i : grid0.Coords) (v121 : BitVec 32) : Prop :=
  (∀ (k0_h1 : k0_cond1 i = 1#1), ∀ a, (k0_off60 v121) a + S1x3584.size a ≤ S16000x3584.size a)
theorem k0_off60_inb : ∀ (i : grid0.Coords) (v121 : BitVec 32) (k0_hw20 : k0_chk20 i v121), ∀ (k0_h1 : k0_cond1 i = 1#1), ∀ a, (k0_off60 v121) a + S1x3584.size a ≤ S16000x3584.size a := fun i v121 k0_hw20 k0_h1 => k0_hw20 k0_h1

def k0_off61 (k0_t2 : Fin k0_t2_loop.trips) : Fin 1 → Nat :=
  let c128_i32_77 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_76 : BitVec 32 := 16#32
  let v128 : BitVec 32 := Scalar.muli v83 c16_i32_76
  let c4_i32 : BitVec 32 := 4#32
  let v129 : BitVec 32 := Scalar.addi v128 c4_i32
  let v130 : BitVec 32 := Scalar.addi c128_i32_77 v129
  let v131 : Index := Scalar.indexCast v130
  ![v131.toNat]
def k0_off62 (k0_t2 : Fin k0_t2_loop.trips) : Fin 3 → Nat :=
  let c1_i32_79 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_76 : BitVec 32 := 16#32
  let v128 : BitVec 32 := Scalar.muli v83 c16_i32_76
  let c4_i32 : BitVec 32 := 4#32
  let v129 : BitVec 32 := Scalar.addi v128 c4_i32
  let c0_i32_81 : BitVec 32 := 0#32
  ![1, v129.toNat, 0]
def k0_off63 (v132 : BitVec 32) : Fin 2 → Nat :=
  let c2_i32_78 : BitVec 32 := 2#32
  let v133 : BitVec 32 := Scalar.shrui v132 c2_i32_78
  let c0_i32_82 : BitVec 32 := 0#32
  ![v133.toNat, 0]

def k0_chk21 (i : grid0.Coords) (v132 : BitVec 32) : Prop :=
  (∀ (k0_h1 : k0_cond1 i = 1#1), ∀ a, (k0_off63 v132) a + S1x3584.size a ≤ S16000x3584.size a)
theorem k0_off63_inb : ∀ (i : grid0.Coords) (v132 : BitVec 32) (k0_hw21 : k0_chk21 i v132), ∀ (k0_h1 : k0_cond1 i = 1#1), ∀ a, (k0_off63 v132) a + S1x3584.size a ≤ S16000x3584.size a := fun i v132 k0_hw21 k0_h1 => k0_hw21 k0_h1

def k0_off64 (k0_t2 : Fin k0_t2_loop.trips) : Fin 1 → Nat :=
  let c128_i32_84 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_83 : BitVec 32 := 16#32
  let v139 : BitVec 32 := Scalar.muli v83 c16_i32_83
  let c5_i32 : BitVec 32 := 5#32
  let v140 : BitVec 32 := Scalar.addi v139 c5_i32
  let v141 : BitVec 32 := Scalar.addi c128_i32_84 v140
  let v142 : Index := Scalar.indexCast v141
  ![v142.toNat]
def k0_off65 (k0_t2 : Fin k0_t2_loop.trips) : Fin 3 → Nat :=
  let c1_i32_86 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_83 : BitVec 32 := 16#32
  let v139 : BitVec 32 := Scalar.muli v83 c16_i32_83
  let c5_i32 : BitVec 32 := 5#32
  let v140 : BitVec 32 := Scalar.addi v139 c5_i32
  let c0_i32_88 : BitVec 32 := 0#32
  ![1, v140.toNat, 0]
def k0_off66 (v143 : BitVec 32) : Fin 2 → Nat :=
  let c2_i32_85 : BitVec 32 := 2#32
  let v144 : BitVec 32 := Scalar.shrui v143 c2_i32_85
  let c0_i32_89 : BitVec 32 := 0#32
  ![v144.toNat, 0]

def k0_chk22 (i : grid0.Coords) (v143 : BitVec 32) : Prop :=
  (∀ (k0_h1 : k0_cond1 i = 1#1), ∀ a, (k0_off66 v143) a + S1x3584.size a ≤ S16000x3584.size a)
theorem k0_off66_inb : ∀ (i : grid0.Coords) (v143 : BitVec 32) (k0_hw22 : k0_chk22 i v143), ∀ (k0_h1 : k0_cond1 i = 1#1), ∀ a, (k0_off66 v143) a + S1x3584.size a ≤ S16000x3584.size a := fun i v143 k0_hw22 k0_h1 => k0_hw22 k0_h1

def k0_off67 (k0_t2 : Fin k0_t2_loop.trips) : Fin 1 → Nat :=
  let c128_i32_91 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_90 : BitVec 32 := 16#32
  let v150 : BitVec 32 := Scalar.muli v83 c16_i32_90
  let c6_i32 : BitVec 32 := 6#32
  let v151 : BitVec 32 := Scalar.addi v150 c6_i32
  let v152 : BitVec 32 := Scalar.addi c128_i32_91 v151
  let v153 : Index := Scalar.indexCast v152
  ![v153.toNat]
def k0_off68 (k0_t2 : Fin k0_t2_loop.trips) : Fin 3 → Nat :=
  let c1_i32_93 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_90 : BitVec 32 := 16#32
  let v150 : BitVec 32 := Scalar.muli v83 c16_i32_90
  let c6_i32 : BitVec 32 := 6#32
  let v151 : BitVec 32 := Scalar.addi v150 c6_i32
  let c0_i32_95 : BitVec 32 := 0#32
  ![1, v151.toNat, 0]
def k0_off69 (v154 : BitVec 32) : Fin 2 → Nat :=
  let c2_i32_92 : BitVec 32 := 2#32
  let v155 : BitVec 32 := Scalar.shrui v154 c2_i32_92
  let c0_i32_96 : BitVec 32 := 0#32
  ![v155.toNat, 0]

def k0_chk23 (i : grid0.Coords) (v154 : BitVec 32) : Prop :=
  (∀ (k0_h1 : k0_cond1 i = 1#1), ∀ a, (k0_off69 v154) a + S1x3584.size a ≤ S16000x3584.size a)
theorem k0_off69_inb : ∀ (i : grid0.Coords) (v154 : BitVec 32) (k0_hw23 : k0_chk23 i v154), ∀ (k0_h1 : k0_cond1 i = 1#1), ∀ a, (k0_off69 v154) a + S1x3584.size a ≤ S16000x3584.size a := fun i v154 k0_hw23 k0_h1 => k0_hw23 k0_h1

def k0_off70 (k0_t2 : Fin k0_t2_loop.trips) : Fin 1 → Nat :=
  let c128_i32_99 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_97 : BitVec 32 := 16#32
  let v161 : BitVec 32 := Scalar.muli v83 c16_i32_97
  let c7_i32_98 : BitVec 32 := 7#32
  let v162 : BitVec 32 := Scalar.addi v161 c7_i32_98
  let v163 : BitVec 32 := Scalar.addi c128_i32_99 v162
  let v164 : Index := Scalar.indexCast v163
  ![v164.toNat]
def k0_off71 (k0_t2 : Fin k0_t2_loop.trips) : Fin 3 → Nat :=
  let c1_i32_101 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_97 : BitVec 32 := 16#32
  let v161 : BitVec 32 := Scalar.muli v83 c16_i32_97
  let c7_i32_98 : BitVec 32 := 7#32
  let v162 : BitVec 32 := Scalar.addi v161 c7_i32_98
  let c0_i32_103 : BitVec 32 := 0#32
  ![1, v162.toNat, 0]
def k0_off72 (v165 : BitVec 32) : Fin 2 → Nat :=
  let c2_i32_100 : BitVec 32 := 2#32
  let v166 : BitVec 32 := Scalar.shrui v165 c2_i32_100
  let c0_i32_104 : BitVec 32 := 0#32
  ![v166.toNat, 0]

def k0_chk24 (i : grid0.Coords) (v165 : BitVec 32) : Prop :=
  (∀ (k0_h1 : k0_cond1 i = 1#1), ∀ a, (k0_off72 v165) a + S1x3584.size a ≤ S16000x3584.size a)
theorem k0_off72_inb : ∀ (i : grid0.Coords) (v165 : BitVec 32) (k0_hw24 : k0_chk24 i v165), ∀ (k0_h1 : k0_cond1 i = 1#1), ∀ a, (k0_off72 v165) a + S1x3584.size a ≤ S16000x3584.size a := fun i v165 k0_hw24 k0_h1 => k0_hw24 k0_h1

def k0_off73 (k0_t2 : Fin k0_t2_loop.trips) : Fin 1 → Nat :=
  let c128_i32_107 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_105 : BitVec 32 := 16#32
  let v172 : BitVec 32 := Scalar.muli v83 c16_i32_105
  let c8_i32_106 : BitVec 32 := 8#32
  let v173 : BitVec 32 := Scalar.addi v172 c8_i32_106
  let v174 : BitVec 32 := Scalar.addi c128_i32_107 v173
  let v175 : Index := Scalar.indexCast v174
  ![v175.toNat]
def k0_off74 (k0_t2 : Fin k0_t2_loop.trips) : Fin 3 → Nat :=
  let c1_i32_109 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_105 : BitVec 32 := 16#32
  let v172 : BitVec 32 := Scalar.muli v83 c16_i32_105
  let c8_i32_106 : BitVec 32 := 8#32
  let v173 : BitVec 32 := Scalar.addi v172 c8_i32_106
  let c0_i32_111 : BitVec 32 := 0#32
  ![1, v173.toNat, 0]
def k0_off75 (v176 : BitVec 32) : Fin 2 → Nat :=
  let c2_i32_108 : BitVec 32 := 2#32
  let v177 : BitVec 32 := Scalar.shrui v176 c2_i32_108
  let c0_i32_112 : BitVec 32 := 0#32
  ![v177.toNat, 0]

def k0_chk25 (i : grid0.Coords) (v176 : BitVec 32) : Prop :=
  (∀ (k0_h1 : k0_cond1 i = 1#1), ∀ a, (k0_off75 v176) a + S1x3584.size a ≤ S16000x3584.size a)
theorem k0_off75_inb : ∀ (i : grid0.Coords) (v176 : BitVec 32) (k0_hw25 : k0_chk25 i v176), ∀ (k0_h1 : k0_cond1 i = 1#1), ∀ a, (k0_off75 v176) a + S1x3584.size a ≤ S16000x3584.size a := fun i v176 k0_hw25 k0_h1 => k0_hw25 k0_h1

def k0_off76 (k0_t2 : Fin k0_t2_loop.trips) : Fin 1 → Nat :=
  let c128_i32_114 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_113 : BitVec 32 := 16#32
  let v183 : BitVec 32 := Scalar.muli v83 c16_i32_113
  let c9_i32 : BitVec 32 := 9#32
  let v184 : BitVec 32 := Scalar.addi v183 c9_i32
  let v185 : BitVec 32 := Scalar.addi c128_i32_114 v184
  let v186 : Index := Scalar.indexCast v185
  ![v186.toNat]
def k0_off77 (k0_t2 : Fin k0_t2_loop.trips) : Fin 3 → Nat :=
  let c1_i32_116 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_113 : BitVec 32 := 16#32
  let v183 : BitVec 32 := Scalar.muli v83 c16_i32_113
  let c9_i32 : BitVec 32 := 9#32
  let v184 : BitVec 32 := Scalar.addi v183 c9_i32
  let c0_i32_118 : BitVec 32 := 0#32
  ![1, v184.toNat, 0]
def k0_off78 (v187 : BitVec 32) : Fin 2 → Nat :=
  let c2_i32_115 : BitVec 32 := 2#32
  let v188 : BitVec 32 := Scalar.shrui v187 c2_i32_115
  let c0_i32_119 : BitVec 32 := 0#32
  ![v188.toNat, 0]

def k0_chk26 (i : grid0.Coords) (v187 : BitVec 32) : Prop :=
  (∀ (k0_h1 : k0_cond1 i = 1#1), ∀ a, (k0_off78 v187) a + S1x3584.size a ≤ S16000x3584.size a)
theorem k0_off78_inb : ∀ (i : grid0.Coords) (v187 : BitVec 32) (k0_hw26 : k0_chk26 i v187), ∀ (k0_h1 : k0_cond1 i = 1#1), ∀ a, (k0_off78 v187) a + S1x3584.size a ≤ S16000x3584.size a := fun i v187 k0_hw26 k0_h1 => k0_hw26 k0_h1

def k0_off79 (k0_t2 : Fin k0_t2_loop.trips) : Fin 1 → Nat :=
  let c128_i32_121 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_120 : BitVec 32 := 16#32
  let v194 : BitVec 32 := Scalar.muli v83 c16_i32_120
  let c10_i32 : BitVec 32 := 10#32
  let v195 : BitVec 32 := Scalar.addi v194 c10_i32
  let v196 : BitVec 32 := Scalar.addi c128_i32_121 v195
  let v197 : Index := Scalar.indexCast v196
  ![v197.toNat]
def k0_off80 (k0_t2 : Fin k0_t2_loop.trips) : Fin 3 → Nat :=
  let c1_i32_123 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_120 : BitVec 32 := 16#32
  let v194 : BitVec 32 := Scalar.muli v83 c16_i32_120
  let c10_i32 : BitVec 32 := 10#32
  let v195 : BitVec 32 := Scalar.addi v194 c10_i32
  let c0_i32_125 : BitVec 32 := 0#32
  ![1, v195.toNat, 0]
def k0_off81 (v198 : BitVec 32) : Fin 2 → Nat :=
  let c2_i32_122 : BitVec 32 := 2#32
  let v199 : BitVec 32 := Scalar.shrui v198 c2_i32_122
  let c0_i32_126 : BitVec 32 := 0#32
  ![v199.toNat, 0]

def k0_chk27 (i : grid0.Coords) (v198 : BitVec 32) : Prop :=
  (∀ (k0_h1 : k0_cond1 i = 1#1), ∀ a, (k0_off81 v198) a + S1x3584.size a ≤ S16000x3584.size a)
theorem k0_off81_inb : ∀ (i : grid0.Coords) (v198 : BitVec 32) (k0_hw27 : k0_chk27 i v198), ∀ (k0_h1 : k0_cond1 i = 1#1), ∀ a, (k0_off81 v198) a + S1x3584.size a ≤ S16000x3584.size a := fun i v198 k0_hw27 k0_h1 => k0_hw27 k0_h1

def k0_off82 (k0_t2 : Fin k0_t2_loop.trips) : Fin 1 → Nat :=
  let c128_i32_128 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_127 : BitVec 32 := 16#32
  let v205 : BitVec 32 := Scalar.muli v83 c16_i32_127
  let c11_i32 : BitVec 32 := 11#32
  let v206 : BitVec 32 := Scalar.addi v205 c11_i32
  let v207 : BitVec 32 := Scalar.addi c128_i32_128 v206
  let v208 : Index := Scalar.indexCast v207
  ![v208.toNat]
def k0_off83 (k0_t2 : Fin k0_t2_loop.trips) : Fin 3 → Nat :=
  let c1_i32_130 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_127 : BitVec 32 := 16#32
  let v205 : BitVec 32 := Scalar.muli v83 c16_i32_127
  let c11_i32 : BitVec 32 := 11#32
  let v206 : BitVec 32 := Scalar.addi v205 c11_i32
  let c0_i32_132 : BitVec 32 := 0#32
  ![1, v206.toNat, 0]
def k0_off84 (v209 : BitVec 32) : Fin 2 → Nat :=
  let c2_i32_129 : BitVec 32 := 2#32
  let v210 : BitVec 32 := Scalar.shrui v209 c2_i32_129
  let c0_i32_133 : BitVec 32 := 0#32
  ![v210.toNat, 0]

def k0_chk28 (i : grid0.Coords) (v209 : BitVec 32) : Prop :=
  (∀ (k0_h1 : k0_cond1 i = 1#1), ∀ a, (k0_off84 v209) a + S1x3584.size a ≤ S16000x3584.size a)
theorem k0_off84_inb : ∀ (i : grid0.Coords) (v209 : BitVec 32) (k0_hw28 : k0_chk28 i v209), ∀ (k0_h1 : k0_cond1 i = 1#1), ∀ a, (k0_off84 v209) a + S1x3584.size a ≤ S16000x3584.size a := fun i v209 k0_hw28 k0_h1 => k0_hw28 k0_h1

def k0_off85 (k0_t2 : Fin k0_t2_loop.trips) : Fin 1 → Nat :=
  let c128_i32_135 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_134 : BitVec 32 := 16#32
  let v216 : BitVec 32 := Scalar.muli v83 c16_i32_134
  let c12_i32 : BitVec 32 := 12#32
  let v217 : BitVec 32 := Scalar.addi v216 c12_i32
  let v218 : BitVec 32 := Scalar.addi c128_i32_135 v217
  let v219 : Index := Scalar.indexCast v218
  ![v219.toNat]
def k0_off86 (k0_t2 : Fin k0_t2_loop.trips) : Fin 3 → Nat :=
  let c1_i32_137 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_134 : BitVec 32 := 16#32
  let v216 : BitVec 32 := Scalar.muli v83 c16_i32_134
  let c12_i32 : BitVec 32 := 12#32
  let v217 : BitVec 32 := Scalar.addi v216 c12_i32
  let c0_i32_139 : BitVec 32 := 0#32
  ![1, v217.toNat, 0]
def k0_off87 (v220 : BitVec 32) : Fin 2 → Nat :=
  let c2_i32_136 : BitVec 32 := 2#32
  let v221 : BitVec 32 := Scalar.shrui v220 c2_i32_136
  let c0_i32_140 : BitVec 32 := 0#32
  ![v221.toNat, 0]

def k0_chk29 (i : grid0.Coords) (v220 : BitVec 32) : Prop :=
  (∀ (k0_h1 : k0_cond1 i = 1#1), ∀ a, (k0_off87 v220) a + S1x3584.size a ≤ S16000x3584.size a)
theorem k0_off87_inb : ∀ (i : grid0.Coords) (v220 : BitVec 32) (k0_hw29 : k0_chk29 i v220), ∀ (k0_h1 : k0_cond1 i = 1#1), ∀ a, (k0_off87 v220) a + S1x3584.size a ≤ S16000x3584.size a := fun i v220 k0_hw29 k0_h1 => k0_hw29 k0_h1

def k0_off88 (k0_t2 : Fin k0_t2_loop.trips) : Fin 1 → Nat :=
  let c128_i32_142 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_141 : BitVec 32 := 16#32
  let v227 : BitVec 32 := Scalar.muli v83 c16_i32_141
  let c13_i32 : BitVec 32 := 13#32
  let v228 : BitVec 32 := Scalar.addi v227 c13_i32
  let v229 : BitVec 32 := Scalar.addi c128_i32_142 v228
  let v230 : Index := Scalar.indexCast v229
  ![v230.toNat]
def k0_off89 (k0_t2 : Fin k0_t2_loop.trips) : Fin 3 → Nat :=
  let c1_i32_144 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_141 : BitVec 32 := 16#32
  let v227 : BitVec 32 := Scalar.muli v83 c16_i32_141
  let c13_i32 : BitVec 32 := 13#32
  let v228 : BitVec 32 := Scalar.addi v227 c13_i32
  let c0_i32_146 : BitVec 32 := 0#32
  ![1, v228.toNat, 0]
def k0_off90 (v231 : BitVec 32) : Fin 2 → Nat :=
  let c2_i32_143 : BitVec 32 := 2#32
  let v232 : BitVec 32 := Scalar.shrui v231 c2_i32_143
  let c0_i32_147 : BitVec 32 := 0#32
  ![v232.toNat, 0]

def k0_chk30 (i : grid0.Coords) (v231 : BitVec 32) : Prop :=
  (∀ (k0_h1 : k0_cond1 i = 1#1), ∀ a, (k0_off90 v231) a + S1x3584.size a ≤ S16000x3584.size a)
theorem k0_off90_inb : ∀ (i : grid0.Coords) (v231 : BitVec 32) (k0_hw30 : k0_chk30 i v231), ∀ (k0_h1 : k0_cond1 i = 1#1), ∀ a, (k0_off90 v231) a + S1x3584.size a ≤ S16000x3584.size a := fun i v231 k0_hw30 k0_h1 => k0_hw30 k0_h1

def k0_off91 (k0_t2 : Fin k0_t2_loop.trips) : Fin 1 → Nat :=
  let c128_i32_149 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_148 : BitVec 32 := 16#32
  let v238 : BitVec 32 := Scalar.muli v83 c16_i32_148
  let c14_i32 : BitVec 32 := 14#32
  let v239 : BitVec 32 := Scalar.addi v238 c14_i32
  let v240 : BitVec 32 := Scalar.addi c128_i32_149 v239
  let v241 : Index := Scalar.indexCast v240
  ![v241.toNat]
def k0_off92 (k0_t2 : Fin k0_t2_loop.trips) : Fin 3 → Nat :=
  let c1_i32_151 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_148 : BitVec 32 := 16#32
  let v238 : BitVec 32 := Scalar.muli v83 c16_i32_148
  let c14_i32 : BitVec 32 := 14#32
  let v239 : BitVec 32 := Scalar.addi v238 c14_i32
  let c0_i32_153 : BitVec 32 := 0#32
  ![1, v239.toNat, 0]
def k0_off93 (v242 : BitVec 32) : Fin 2 → Nat :=
  let c2_i32_150 : BitVec 32 := 2#32
  let v243 : BitVec 32 := Scalar.shrui v242 c2_i32_150
  let c0_i32_154 : BitVec 32 := 0#32
  ![v243.toNat, 0]

def k0_chk31 (i : grid0.Coords) (v242 : BitVec 32) : Prop :=
  (∀ (k0_h1 : k0_cond1 i = 1#1), ∀ a, (k0_off93 v242) a + S1x3584.size a ≤ S16000x3584.size a)
theorem k0_off93_inb : ∀ (i : grid0.Coords) (v242 : BitVec 32) (k0_hw31 : k0_chk31 i v242), ∀ (k0_h1 : k0_cond1 i = 1#1), ∀ a, (k0_off93 v242) a + S1x3584.size a ≤ S16000x3584.size a := fun i v242 k0_hw31 k0_h1 => k0_hw31 k0_h1

def k0_off94 (k0_t2 : Fin k0_t2_loop.trips) : Fin 1 → Nat :=
  let c128_i32_156 : BitVec 32 := 128#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_155 : BitVec 32 := 16#32
  let v249 : BitVec 32 := Scalar.muli v83 c16_i32_155
  let c15_i32 : BitVec 32 := 15#32
  let v250 : BitVec 32 := Scalar.addi v249 c15_i32
  let v251 : BitVec 32 := Scalar.addi c128_i32_156 v250
  let v252 : Index := Scalar.indexCast v251
  ![v252.toNat]
def k0_off95 (k0_t2 : Fin k0_t2_loop.trips) : Fin 3 → Nat :=
  let c1_i32_158 : BitVec 32 := 1#32
  let c0_i32_45 : BitVec 32 := 0#32
  let c0_i32_40 : BitVec 32 := 0#32
  let c1_i32_42 : BitVec 32 := 1#32
  let arg13 : BitVec 32 := Scf.iv c0_i32_40 c1_i32_42 k0_t2
  let c1_i32_44 : BitVec 32 := 1#32
  let v82 : BitVec 32 := Scalar.muli arg13 c1_i32_44
  let v83 : BitVec 32 := Scalar.addi c0_i32_45 v82
  let c16_i32_155 : BitVec 32 := 16#32
  let v249 : BitVec 32 := Scalar.muli v83 c16_i32_155
  let c15_i32 : BitVec 32 := 15#32
  let v250 : BitVec 32 := Scalar.addi v249 c15_i32
  let c0_i32_160 : BitVec 32 := 0#32
  ![1, v250.toNat, 0]
def k0_off96 (v253 : BitVec 32) : Fin 2 → Nat :=
  let c2_i32_157 : BitVec 32 := 2#32
  let v254 : BitVec 32 := Scalar.shrui v253 c2_i32_157
  let c0_i32_161 : BitVec 32 := 0#32
  ![v254.toNat, 0]

def k0_chk32 (i : grid0.Coords) (v253 : BitVec 32) : Prop :=
  (∀ (k0_h1 : k0_cond1 i = 1#1), ∀ a, (k0_off96 v253) a + S1x3584.size a ≤ S16000x3584.size a)
theorem k0_off96_inb : ∀ (i : grid0.Coords) (v253 : BitVec 32) (k0_hw32 : k0_chk32 i v253), ∀ (k0_h1 : k0_cond1 i = 1#1), ∀ a, (k0_off96 v253) a + S1x3584.size a ≤ S16000x3584.size a := fun i v253 k0_hw32 k0_h1 => k0_hw32 k0_h1

@[reducible] def k0_t3_loop : Scf.Loop 32 :=
  let c0_i32_28 : BitVec 32 := 0#32
  let c128_i32_29 : BitVec 32 := 128#32
  let v78 : BitVec 32 := Scalar.addi c0_i32_28 c128_i32_29
  let c1_i32_30 : BitVec 32 := 1#32
  ⟨c0_i32_28, v78, c1_i32_30⟩
def k0_off97 (i : grid0.Coords) : Fin 1 → Nat :=
  let arg0 : BitVec 32 := BitVec.ofNat 32 (i 0).val
  let c3_i32_25 : BitVec 32 := 3#32
  let v74 : BitVec 32 := Scalar.remsi arg0 c3_i32_25
  ![v74.toNat]
def k0_off98 (i : grid0.Coords) (k0_t3 : Fin k0_t3_loop.trips) : Fin 3 → Nat :=
  let arg0 : BitVec 32 := BitVec.ofNat 32 (i 0).val
  let c3_i32_25 : BitVec 32 := 3#32
  let v74 : BitVec 32 := Scalar.remsi arg0 c3_i32_25
  let c0_i32_37 : BitVec 32 := 0#32
  let c0_i32_28 : BitVec 32 := 0#32
  let c1_i32_30 : BitVec 32 := 1#32
  let arg13 : BitVec 32 := Scf.iv c0_i32_28 c1_i32_30 k0_t3
  let c1_i32_36 : BitVec 32 := 1#32
  let v80 : BitVec 32 := Scalar.muli arg13 c1_i32_36
  let v81 : BitVec 32 := Scalar.addi c0_i32_37 v80
  let c0_i32_38 : BitVec 32 := 0#32
  ![v74.toNat, v81.toNat, 0]
@[reducible] def k0_t4_loop : Scf.Loop 32 :=
  let c0_i32_32 : BitVec 32 := 0#32
  let c8_i32_33 : BitVec 32 := 8#32
  let v79 : BitVec 32 := Scalar.addi c0_i32_32 c8_i32_33
  let c1_i32_34 : BitVec 32 := 1#32
  ⟨c0_i32_32, v79, c1_i32_34⟩
def k0_cond2 (i : grid0.Coords) : BitVec 1 :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c256_i32_38 : BitVec 32 := 256#32
  let v82 : BitVec 1 := Scalar.cmpi .slt v76 c256_i32_38
  let v83 : BitVec 32 := Scalar.extui v82
  let c0_i32_39 : BitVec 32 := 0#32
  let v84 : BitVec 1 := Scalar.cmpi .ne v83 c0_i32_39
  v84

def k0_off99 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_190 : BitVec 32 := 128#32
  let v805 : BitVec 32 := Scalar.muli v76 c128_i32_190
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_188 : BitVec 32 := 16#32
  let v803 : BitVec 32 := Scalar.muli v81 c16_i32_188
  let c0_i32_189 : BitVec 32 := 0#32
  let v804 : BitVec 32 := Scalar.addi v803 c0_i32_189
  let v806 : BitVec 32 := Scalar.addi v805 v804
  let v807 : Index := Scalar.indexCast v806
  ![v807.toNat]
def k0_off100 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off101 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_188 : BitVec 32 := 16#32
  let v803 : BitVec 32 := Scalar.muli v81 c16_i32_188
  let c0_i32_189 : BitVec 32 := 0#32
  let v804 : BitVec 32 := Scalar.addi v803 c0_i32_189
  let c0_i32_191 : BitVec 32 := 0#32
  ![v77.toNat, v804.toNat, 0]
def k0_off102 (v808 : BitVec 32) : Fin 2 → Nat :=
  let c2_i32 : BitVec 32 := 2#32
  let v809 : BitVec 32 := Scalar.shrui v808 c2_i32
  let c0_i32_192 : BitVec 32 := 0#32
  ![v809.toNat, 0]

def k0_chk33 (i : grid0.Coords) (v808 : BitVec 32) : Prop :=
  (∀ (k0_h2 : k0_cond2 i = 1#1), ∀ a, (k0_off102 v808) a + S1x3584.size a ≤ S16000x3584.size a)
theorem k0_off102_inb : ∀ (i : grid0.Coords) (v808 : BitVec 32) (k0_hw33 : k0_chk33 i v808), ∀ (k0_h2 : k0_cond2 i = 1#1), ∀ a, (k0_off102 v808) a + S1x3584.size a ≤ S16000x3584.size a := fun i v808 k0_hw33 k0_h2 => k0_hw33 k0_h2

def k0_off103 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_195 : BitVec 32 := 128#32
  let v817 : BitVec 32 := Scalar.muli v76 c128_i32_195
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_193 : BitVec 32 := 16#32
  let v815 : BitVec 32 := Scalar.muli v81 c16_i32_193
  let c1_i32_194 : BitVec 32 := 1#32
  let v816 : BitVec 32 := Scalar.addi v815 c1_i32_194
  let v818 : BitVec 32 := Scalar.addi v817 v816
  let v819 : Index := Scalar.indexCast v818
  ![v819.toNat]
def k0_off104 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off105 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_193 : BitVec 32 := 16#32
  let v815 : BitVec 32 := Scalar.muli v81 c16_i32_193
  let c1_i32_194 : BitVec 32 := 1#32
  let v816 : BitVec 32 := Scalar.addi v815 c1_i32_194
  let c0_i32_197 : BitVec 32 := 0#32
  ![v77.toNat, v816.toNat, 0]
def k0_off106 (v820 : BitVec 32) : Fin 2 → Nat :=
  let c2_i32_196 : BitVec 32 := 2#32
  let v821 : BitVec 32 := Scalar.shrui v820 c2_i32_196
  let c0_i32_198 : BitVec 32 := 0#32
  ![v821.toNat, 0]

def k0_chk34 (i : grid0.Coords) (v820 : BitVec 32) : Prop :=
  (∀ (k0_h2 : k0_cond2 i = 1#1), ∀ a, (k0_off106 v820) a + S1x3584.size a ≤ S16000x3584.size a)
theorem k0_off106_inb : ∀ (i : grid0.Coords) (v820 : BitVec 32) (k0_hw34 : k0_chk34 i v820), ∀ (k0_h2 : k0_cond2 i = 1#1), ∀ a, (k0_off106 v820) a + S1x3584.size a ≤ S16000x3584.size a := fun i v820 k0_hw34 k0_h2 => k0_hw34 k0_h2

def k0_off107 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_201 : BitVec 32 := 128#32
  let v829 : BitVec 32 := Scalar.muli v76 c128_i32_201
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_199 : BitVec 32 := 16#32
  let v827 : BitVec 32 := Scalar.muli v81 c16_i32_199
  let c2_i32_200 : BitVec 32 := 2#32
  let v828 : BitVec 32 := Scalar.addi v827 c2_i32_200
  let v830 : BitVec 32 := Scalar.addi v829 v828
  let v831 : Index := Scalar.indexCast v830
  ![v831.toNat]
def k0_off108 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off109 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_199 : BitVec 32 := 16#32
  let v827 : BitVec 32 := Scalar.muli v81 c16_i32_199
  let c2_i32_200 : BitVec 32 := 2#32
  let v828 : BitVec 32 := Scalar.addi v827 c2_i32_200
  let c0_i32_203 : BitVec 32 := 0#32
  ![v77.toNat, v828.toNat, 0]
def k0_off110 (v832 : BitVec 32) : Fin 2 → Nat :=
  let c2_i32_202 : BitVec 32 := 2#32
  let v833 : BitVec 32 := Scalar.shrui v832 c2_i32_202
  let c0_i32_204 : BitVec 32 := 0#32
  ![v833.toNat, 0]

def k0_chk35 (i : grid0.Coords) (v832 : BitVec 32) : Prop :=
  (∀ (k0_h2 : k0_cond2 i = 1#1), ∀ a, (k0_off110 v832) a + S1x3584.size a ≤ S16000x3584.size a)
theorem k0_off110_inb : ∀ (i : grid0.Coords) (v832 : BitVec 32) (k0_hw35 : k0_chk35 i v832), ∀ (k0_h2 : k0_cond2 i = 1#1), ∀ a, (k0_off110 v832) a + S1x3584.size a ≤ S16000x3584.size a := fun i v832 k0_hw35 k0_h2 => k0_hw35 k0_h2

def k0_off111 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_207 : BitVec 32 := 128#32
  let v841 : BitVec 32 := Scalar.muli v76 c128_i32_207
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_205 : BitVec 32 := 16#32
  let v839 : BitVec 32 := Scalar.muli v81 c16_i32_205
  let c3_i32_206 : BitVec 32 := 3#32
  let v840 : BitVec 32 := Scalar.addi v839 c3_i32_206
  let v842 : BitVec 32 := Scalar.addi v841 v840
  let v843 : Index := Scalar.indexCast v842
  ![v843.toNat]
def k0_off112 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off113 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_205 : BitVec 32 := 16#32
  let v839 : BitVec 32 := Scalar.muli v81 c16_i32_205
  let c3_i32_206 : BitVec 32 := 3#32
  let v840 : BitVec 32 := Scalar.addi v839 c3_i32_206
  let c0_i32_209 : BitVec 32 := 0#32
  ![v77.toNat, v840.toNat, 0]
def k0_off114 (v844 : BitVec 32) : Fin 2 → Nat :=
  let c2_i32_208 : BitVec 32 := 2#32
  let v845 : BitVec 32 := Scalar.shrui v844 c2_i32_208
  let c0_i32_210 : BitVec 32 := 0#32
  ![v845.toNat, 0]

def k0_chk36 (i : grid0.Coords) (v844 : BitVec 32) : Prop :=
  (∀ (k0_h2 : k0_cond2 i = 1#1), ∀ a, (k0_off114 v844) a + S1x3584.size a ≤ S16000x3584.size a)
theorem k0_off114_inb : ∀ (i : grid0.Coords) (v844 : BitVec 32) (k0_hw36 : k0_chk36 i v844), ∀ (k0_h2 : k0_cond2 i = 1#1), ∀ a, (k0_off114 v844) a + S1x3584.size a ≤ S16000x3584.size a := fun i v844 k0_hw36 k0_h2 => k0_hw36 k0_h2

def k0_off115 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_212 : BitVec 32 := 128#32
  let v853 : BitVec 32 := Scalar.muli v76 c128_i32_212
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_211 : BitVec 32 := 16#32
  let v851 : BitVec 32 := Scalar.muli v81 c16_i32_211
  let c4_i32 : BitVec 32 := 4#32
  let v852 : BitVec 32 := Scalar.addi v851 c4_i32
  let v854 : BitVec 32 := Scalar.addi v853 v852
  let v855 : Index := Scalar.indexCast v854
  ![v855.toNat]
def k0_off116 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off117 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_211 : BitVec 32 := 16#32
  let v851 : BitVec 32 := Scalar.muli v81 c16_i32_211
  let c4_i32 : BitVec 32 := 4#32
  let v852 : BitVec 32 := Scalar.addi v851 c4_i32
  let c0_i32_214 : BitVec 32 := 0#32
  ![v77.toNat, v852.toNat, 0]
def k0_off118 (v856 : BitVec 32) : Fin 2 → Nat :=
  let c2_i32_213 : BitVec 32 := 2#32
  let v857 : BitVec 32 := Scalar.shrui v856 c2_i32_213
  let c0_i32_215 : BitVec 32 := 0#32
  ![v857.toNat, 0]

def k0_chk37 (i : grid0.Coords) (v856 : BitVec 32) : Prop :=
  (∀ (k0_h2 : k0_cond2 i = 1#1), ∀ a, (k0_off118 v856) a + S1x3584.size a ≤ S16000x3584.size a)
theorem k0_off118_inb : ∀ (i : grid0.Coords) (v856 : BitVec 32) (k0_hw37 : k0_chk37 i v856), ∀ (k0_h2 : k0_cond2 i = 1#1), ∀ a, (k0_off118 v856) a + S1x3584.size a ≤ S16000x3584.size a := fun i v856 k0_hw37 k0_h2 => k0_hw37 k0_h2

def k0_off119 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_217 : BitVec 32 := 128#32
  let v865 : BitVec 32 := Scalar.muli v76 c128_i32_217
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_216 : BitVec 32 := 16#32
  let v863 : BitVec 32 := Scalar.muli v81 c16_i32_216
  let c5_i32 : BitVec 32 := 5#32
  let v864 : BitVec 32 := Scalar.addi v863 c5_i32
  let v866 : BitVec 32 := Scalar.addi v865 v864
  let v867 : Index := Scalar.indexCast v866
  ![v867.toNat]
def k0_off120 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off121 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_216 : BitVec 32 := 16#32
  let v863 : BitVec 32 := Scalar.muli v81 c16_i32_216
  let c5_i32 : BitVec 32 := 5#32
  let v864 : BitVec 32 := Scalar.addi v863 c5_i32
  let c0_i32_219 : BitVec 32 := 0#32
  ![v77.toNat, v864.toNat, 0]
def k0_off122 (v868 : BitVec 32) : Fin 2 → Nat :=
  let c2_i32_218 : BitVec 32 := 2#32
  let v869 : BitVec 32 := Scalar.shrui v868 c2_i32_218
  let c0_i32_220 : BitVec 32 := 0#32
  ![v869.toNat, 0]

def k0_chk38 (i : grid0.Coords) (v868 : BitVec 32) : Prop :=
  (∀ (k0_h2 : k0_cond2 i = 1#1), ∀ a, (k0_off122 v868) a + S1x3584.size a ≤ S16000x3584.size a)
theorem k0_off122_inb : ∀ (i : grid0.Coords) (v868 : BitVec 32) (k0_hw38 : k0_chk38 i v868), ∀ (k0_h2 : k0_cond2 i = 1#1), ∀ a, (k0_off122 v868) a + S1x3584.size a ≤ S16000x3584.size a := fun i v868 k0_hw38 k0_h2 => k0_hw38 k0_h2

def k0_off123 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_222 : BitVec 32 := 128#32
  let v877 : BitVec 32 := Scalar.muli v76 c128_i32_222
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_221 : BitVec 32 := 16#32
  let v875 : BitVec 32 := Scalar.muli v81 c16_i32_221
  let c6_i32 : BitVec 32 := 6#32
  let v876 : BitVec 32 := Scalar.addi v875 c6_i32
  let v878 : BitVec 32 := Scalar.addi v877 v876
  let v879 : Index := Scalar.indexCast v878
  ![v879.toNat]
def k0_off124 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off125 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_221 : BitVec 32 := 16#32
  let v875 : BitVec 32 := Scalar.muli v81 c16_i32_221
  let c6_i32 : BitVec 32 := 6#32
  let v876 : BitVec 32 := Scalar.addi v875 c6_i32
  let c0_i32_224 : BitVec 32 := 0#32
  ![v77.toNat, v876.toNat, 0]
def k0_off126 (v880 : BitVec 32) : Fin 2 → Nat :=
  let c2_i32_223 : BitVec 32 := 2#32
  let v881 : BitVec 32 := Scalar.shrui v880 c2_i32_223
  let c0_i32_225 : BitVec 32 := 0#32
  ![v881.toNat, 0]

def k0_chk39 (i : grid0.Coords) (v880 : BitVec 32) : Prop :=
  (∀ (k0_h2 : k0_cond2 i = 1#1), ∀ a, (k0_off126 v880) a + S1x3584.size a ≤ S16000x3584.size a)
theorem k0_off126_inb : ∀ (i : grid0.Coords) (v880 : BitVec 32) (k0_hw39 : k0_chk39 i v880), ∀ (k0_h2 : k0_cond2 i = 1#1), ∀ a, (k0_off126 v880) a + S1x3584.size a ≤ S16000x3584.size a := fun i v880 k0_hw39 k0_h2 => k0_hw39 k0_h2

def k0_off127 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_228 : BitVec 32 := 128#32
  let v889 : BitVec 32 := Scalar.muli v76 c128_i32_228
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_226 : BitVec 32 := 16#32
  let v887 : BitVec 32 := Scalar.muli v81 c16_i32_226
  let c7_i32_227 : BitVec 32 := 7#32
  let v888 : BitVec 32 := Scalar.addi v887 c7_i32_227
  let v890 : BitVec 32 := Scalar.addi v889 v888
  let v891 : Index := Scalar.indexCast v890
  ![v891.toNat]
def k0_off128 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off129 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_226 : BitVec 32 := 16#32
  let v887 : BitVec 32 := Scalar.muli v81 c16_i32_226
  let c7_i32_227 : BitVec 32 := 7#32
  let v888 : BitVec 32 := Scalar.addi v887 c7_i32_227
  let c0_i32_230 : BitVec 32 := 0#32
  ![v77.toNat, v888.toNat, 0]
def k0_off130 (v892 : BitVec 32) : Fin 2 → Nat :=
  let c2_i32_229 : BitVec 32 := 2#32
  let v893 : BitVec 32 := Scalar.shrui v892 c2_i32_229
  let c0_i32_231 : BitVec 32 := 0#32
  ![v893.toNat, 0]

def k0_chk40 (i : grid0.Coords) (v892 : BitVec 32) : Prop :=
  (∀ (k0_h2 : k0_cond2 i = 1#1), ∀ a, (k0_off130 v892) a + S1x3584.size a ≤ S16000x3584.size a)
theorem k0_off130_inb : ∀ (i : grid0.Coords) (v892 : BitVec 32) (k0_hw40 : k0_chk40 i v892), ∀ (k0_h2 : k0_cond2 i = 1#1), ∀ a, (k0_off130 v892) a + S1x3584.size a ≤ S16000x3584.size a := fun i v892 k0_hw40 k0_h2 => k0_hw40 k0_h2

def k0_off131 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_234 : BitVec 32 := 128#32
  let v901 : BitVec 32 := Scalar.muli v76 c128_i32_234
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_232 : BitVec 32 := 16#32
  let v899 : BitVec 32 := Scalar.muli v81 c16_i32_232
  let c8_i32_233 : BitVec 32 := 8#32
  let v900 : BitVec 32 := Scalar.addi v899 c8_i32_233
  let v902 : BitVec 32 := Scalar.addi v901 v900
  let v903 : Index := Scalar.indexCast v902
  ![v903.toNat]
def k0_off132 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off133 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_232 : BitVec 32 := 16#32
  let v899 : BitVec 32 := Scalar.muli v81 c16_i32_232
  let c8_i32_233 : BitVec 32 := 8#32
  let v900 : BitVec 32 := Scalar.addi v899 c8_i32_233
  let c0_i32_236 : BitVec 32 := 0#32
  ![v77.toNat, v900.toNat, 0]
def k0_off134 (v904 : BitVec 32) : Fin 2 → Nat :=
  let c2_i32_235 : BitVec 32 := 2#32
  let v905 : BitVec 32 := Scalar.shrui v904 c2_i32_235
  let c0_i32_237 : BitVec 32 := 0#32
  ![v905.toNat, 0]

def k0_chk41 (i : grid0.Coords) (v904 : BitVec 32) : Prop :=
  (∀ (k0_h2 : k0_cond2 i = 1#1), ∀ a, (k0_off134 v904) a + S1x3584.size a ≤ S16000x3584.size a)
theorem k0_off134_inb : ∀ (i : grid0.Coords) (v904 : BitVec 32) (k0_hw41 : k0_chk41 i v904), ∀ (k0_h2 : k0_cond2 i = 1#1), ∀ a, (k0_off134 v904) a + S1x3584.size a ≤ S16000x3584.size a := fun i v904 k0_hw41 k0_h2 => k0_hw41 k0_h2

def k0_off135 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_239 : BitVec 32 := 128#32
  let v913 : BitVec 32 := Scalar.muli v76 c128_i32_239
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_238 : BitVec 32 := 16#32
  let v911 : BitVec 32 := Scalar.muli v81 c16_i32_238
  let c9_i32 : BitVec 32 := 9#32
  let v912 : BitVec 32 := Scalar.addi v911 c9_i32
  let v914 : BitVec 32 := Scalar.addi v913 v912
  let v915 : Index := Scalar.indexCast v914
  ![v915.toNat]
def k0_off136 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off137 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_238 : BitVec 32 := 16#32
  let v911 : BitVec 32 := Scalar.muli v81 c16_i32_238
  let c9_i32 : BitVec 32 := 9#32
  let v912 : BitVec 32 := Scalar.addi v911 c9_i32
  let c0_i32_241 : BitVec 32 := 0#32
  ![v77.toNat, v912.toNat, 0]
def k0_off138 (v916 : BitVec 32) : Fin 2 → Nat :=
  let c2_i32_240 : BitVec 32 := 2#32
  let v917 : BitVec 32 := Scalar.shrui v916 c2_i32_240
  let c0_i32_242 : BitVec 32 := 0#32
  ![v917.toNat, 0]

def k0_chk42 (i : grid0.Coords) (v916 : BitVec 32) : Prop :=
  (∀ (k0_h2 : k0_cond2 i = 1#1), ∀ a, (k0_off138 v916) a + S1x3584.size a ≤ S16000x3584.size a)
theorem k0_off138_inb : ∀ (i : grid0.Coords) (v916 : BitVec 32) (k0_hw42 : k0_chk42 i v916), ∀ (k0_h2 : k0_cond2 i = 1#1), ∀ a, (k0_off138 v916) a + S1x3584.size a ≤ S16000x3584.size a := fun i v916 k0_hw42 k0_h2 => k0_hw42 k0_h2

def k0_off139 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_244 : BitVec 32 := 128#32
  let v925 : BitVec 32 := Scalar.muli v76 c128_i32_244
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_243 : BitVec 32 := 16#32
  let v923 : BitVec 32 := Scalar.muli v81 c16_i32_243
  let c10_i32 : BitVec 32 := 10#32
  let v924 : BitVec 32 := Scalar.addi v923 c10_i32
  let v926 : BitVec 32 := Scalar.addi v925 v924
  let v927 : Index := Scalar.indexCast v926
  ![v927.toNat]
def k0_off140 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off141 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_243 : BitVec 32 := 16#32
  let v923 : BitVec 32 := Scalar.muli v81 c16_i32_243
  let c10_i32 : BitVec 32 := 10#32
  let v924 : BitVec 32 := Scalar.addi v923 c10_i32
  let c0_i32_246 : BitVec 32 := 0#32
  ![v77.toNat, v924.toNat, 0]
def k0_off142 (v928 : BitVec 32) : Fin 2 → Nat :=
  let c2_i32_245 : BitVec 32 := 2#32
  let v929 : BitVec 32 := Scalar.shrui v928 c2_i32_245
  let c0_i32_247 : BitVec 32 := 0#32
  ![v929.toNat, 0]

def k0_chk43 (i : grid0.Coords) (v928 : BitVec 32) : Prop :=
  (∀ (k0_h2 : k0_cond2 i = 1#1), ∀ a, (k0_off142 v928) a + S1x3584.size a ≤ S16000x3584.size a)
theorem k0_off142_inb : ∀ (i : grid0.Coords) (v928 : BitVec 32) (k0_hw43 : k0_chk43 i v928), ∀ (k0_h2 : k0_cond2 i = 1#1), ∀ a, (k0_off142 v928) a + S1x3584.size a ≤ S16000x3584.size a := fun i v928 k0_hw43 k0_h2 => k0_hw43 k0_h2

def k0_off143 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_249 : BitVec 32 := 128#32
  let v937 : BitVec 32 := Scalar.muli v76 c128_i32_249
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_248 : BitVec 32 := 16#32
  let v935 : BitVec 32 := Scalar.muli v81 c16_i32_248
  let c11_i32 : BitVec 32 := 11#32
  let v936 : BitVec 32 := Scalar.addi v935 c11_i32
  let v938 : BitVec 32 := Scalar.addi v937 v936
  let v939 : Index := Scalar.indexCast v938
  ![v939.toNat]
def k0_off144 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off145 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_248 : BitVec 32 := 16#32
  let v935 : BitVec 32 := Scalar.muli v81 c16_i32_248
  let c11_i32 : BitVec 32 := 11#32
  let v936 : BitVec 32 := Scalar.addi v935 c11_i32
  let c0_i32_251 : BitVec 32 := 0#32
  ![v77.toNat, v936.toNat, 0]
def k0_off146 (v940 : BitVec 32) : Fin 2 → Nat :=
  let c2_i32_250 : BitVec 32 := 2#32
  let v941 : BitVec 32 := Scalar.shrui v940 c2_i32_250
  let c0_i32_252 : BitVec 32 := 0#32
  ![v941.toNat, 0]

def k0_chk44 (i : grid0.Coords) (v940 : BitVec 32) : Prop :=
  (∀ (k0_h2 : k0_cond2 i = 1#1), ∀ a, (k0_off146 v940) a + S1x3584.size a ≤ S16000x3584.size a)
theorem k0_off146_inb : ∀ (i : grid0.Coords) (v940 : BitVec 32) (k0_hw44 : k0_chk44 i v940), ∀ (k0_h2 : k0_cond2 i = 1#1), ∀ a, (k0_off146 v940) a + S1x3584.size a ≤ S16000x3584.size a := fun i v940 k0_hw44 k0_h2 => k0_hw44 k0_h2

def k0_off147 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_254 : BitVec 32 := 128#32
  let v949 : BitVec 32 := Scalar.muli v76 c128_i32_254
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_253 : BitVec 32 := 16#32
  let v947 : BitVec 32 := Scalar.muli v81 c16_i32_253
  let c12_i32 : BitVec 32 := 12#32
  let v948 : BitVec 32 := Scalar.addi v947 c12_i32
  let v950 : BitVec 32 := Scalar.addi v949 v948
  let v951 : Index := Scalar.indexCast v950
  ![v951.toNat]
def k0_off148 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off149 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_253 : BitVec 32 := 16#32
  let v947 : BitVec 32 := Scalar.muli v81 c16_i32_253
  let c12_i32 : BitVec 32 := 12#32
  let v948 : BitVec 32 := Scalar.addi v947 c12_i32
  let c0_i32_256 : BitVec 32 := 0#32
  ![v77.toNat, v948.toNat, 0]
def k0_off150 (v952 : BitVec 32) : Fin 2 → Nat :=
  let c2_i32_255 : BitVec 32 := 2#32
  let v953 : BitVec 32 := Scalar.shrui v952 c2_i32_255
  let c0_i32_257 : BitVec 32 := 0#32
  ![v953.toNat, 0]

def k0_chk45 (i : grid0.Coords) (v952 : BitVec 32) : Prop :=
  (∀ (k0_h2 : k0_cond2 i = 1#1), ∀ a, (k0_off150 v952) a + S1x3584.size a ≤ S16000x3584.size a)
theorem k0_off150_inb : ∀ (i : grid0.Coords) (v952 : BitVec 32) (k0_hw45 : k0_chk45 i v952), ∀ (k0_h2 : k0_cond2 i = 1#1), ∀ a, (k0_off150 v952) a + S1x3584.size a ≤ S16000x3584.size a := fun i v952 k0_hw45 k0_h2 => k0_hw45 k0_h2

def k0_off151 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_259 : BitVec 32 := 128#32
  let v961 : BitVec 32 := Scalar.muli v76 c128_i32_259
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_258 : BitVec 32 := 16#32
  let v959 : BitVec 32 := Scalar.muli v81 c16_i32_258
  let c13_i32 : BitVec 32 := 13#32
  let v960 : BitVec 32 := Scalar.addi v959 c13_i32
  let v962 : BitVec 32 := Scalar.addi v961 v960
  let v963 : Index := Scalar.indexCast v962
  ![v963.toNat]
def k0_off152 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off153 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_258 : BitVec 32 := 16#32
  let v959 : BitVec 32 := Scalar.muli v81 c16_i32_258
  let c13_i32 : BitVec 32 := 13#32
  let v960 : BitVec 32 := Scalar.addi v959 c13_i32
  let c0_i32_261 : BitVec 32 := 0#32
  ![v77.toNat, v960.toNat, 0]
def k0_off154 (v964 : BitVec 32) : Fin 2 → Nat :=
  let c2_i32_260 : BitVec 32 := 2#32
  let v965 : BitVec 32 := Scalar.shrui v964 c2_i32_260
  let c0_i32_262 : BitVec 32 := 0#32
  ![v965.toNat, 0]

def k0_chk46 (i : grid0.Coords) (v964 : BitVec 32) : Prop :=
  (∀ (k0_h2 : k0_cond2 i = 1#1), ∀ a, (k0_off154 v964) a + S1x3584.size a ≤ S16000x3584.size a)
theorem k0_off154_inb : ∀ (i : grid0.Coords) (v964 : BitVec 32) (k0_hw46 : k0_chk46 i v964), ∀ (k0_h2 : k0_cond2 i = 1#1), ∀ a, (k0_off154 v964) a + S1x3584.size a ≤ S16000x3584.size a := fun i v964 k0_hw46 k0_h2 => k0_hw46 k0_h2

def k0_off155 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_264 : BitVec 32 := 128#32
  let v973 : BitVec 32 := Scalar.muli v76 c128_i32_264
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_263 : BitVec 32 := 16#32
  let v971 : BitVec 32 := Scalar.muli v81 c16_i32_263
  let c14_i32 : BitVec 32 := 14#32
  let v972 : BitVec 32 := Scalar.addi v971 c14_i32
  let v974 : BitVec 32 := Scalar.addi v973 v972
  let v975 : Index := Scalar.indexCast v974
  ![v975.toNat]
def k0_off156 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off157 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_263 : BitVec 32 := 16#32
  let v971 : BitVec 32 := Scalar.muli v81 c16_i32_263
  let c14_i32 : BitVec 32 := 14#32
  let v972 : BitVec 32 := Scalar.addi v971 c14_i32
  let c0_i32_266 : BitVec 32 := 0#32
  ![v77.toNat, v972.toNat, 0]
def k0_off158 (v976 : BitVec 32) : Fin 2 → Nat :=
  let c2_i32_265 : BitVec 32 := 2#32
  let v977 : BitVec 32 := Scalar.shrui v976 c2_i32_265
  let c0_i32_267 : BitVec 32 := 0#32
  ![v977.toNat, 0]

def k0_chk47 (i : grid0.Coords) (v976 : BitVec 32) : Prop :=
  (∀ (k0_h2 : k0_cond2 i = 1#1), ∀ a, (k0_off158 v976) a + S1x3584.size a ≤ S16000x3584.size a)
theorem k0_off158_inb : ∀ (i : grid0.Coords) (v976 : BitVec 32) (k0_hw47 : k0_chk47 i v976), ∀ (k0_h2 : k0_cond2 i = 1#1), ∀ a, (k0_off158 v976) a + S1x3584.size a ≤ S16000x3584.size a := fun i v976 k0_hw47 k0_h2 => k0_hw47 k0_h2

def k0_off159 (i : grid0.Coords) (k0_t4 : Fin k0_t4_loop.trips) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c128_i32_269 : BitVec 32 := 128#32
  let v985 : BitVec 32 := Scalar.muli v76 c128_i32_269
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_268 : BitVec 32 := 16#32
  let v983 : BitVec 32 := Scalar.muli v81 c16_i32_268
  let c15_i32 : BitVec 32 := 15#32
  let v984 : BitVec 32 := Scalar.addi v983 c15_i32
  let v986 : BitVec 32 := Scalar.addi v985 v984
  let v987 : Index := Scalar.indexCast v986
  ![v987.toNat]
def k0_off160 (i : grid0.Coords) : Fin 1 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  ![v77.toNat]
def k0_off161 (i : grid0.Coords) (k0_t4 : Fin k0_t4_loop.trips) : Fin 3 → Nat :=
  let arg0 : BitVec 32 := BitVec.ofNat 32 (i 0).val
  let c3_i32_26 : BitVec 32 := 3#32
  let v75 : BitVec 32 := Scalar.addi arg0 c3_i32_26
  let c1_i32 : BitVec 32 := 1#32
  let v76 : BitVec 32 := Scalar.subi v75 c1_i32
  let c3_i32_27 : BitVec 32 := 3#32
  let v77 : BitVec 32 := Scalar.remsi v76 c3_i32_27
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32_268 : BitVec 32 := 16#32
  let v983 : BitVec 32 := Scalar.muli v81 c16_i32_268
  let c15_i32 : BitVec 32 := 15#32
  let v984 : BitVec 32 := Scalar.addi v983 c15_i32
  let c0_i32_271 : BitVec 32 := 0#32
  ![v77.toNat, v984.toNat, 0]
def k0_off162 (v988 : BitVec 32) : Fin 2 → Nat :=
  let c2_i32_270 : BitVec 32 := 2#32
  let v989 : BitVec 32 := Scalar.shrui v988 c2_i32_270
  let c0_i32_272 : BitVec 32 := 0#32
  ![v989.toNat, 0]

def k0_chk48 (i : grid0.Coords) (v988 : BitVec 32) : Prop :=
  (∀ (k0_h2 : k0_cond2 i = 1#1), ∀ a, (k0_off162 v988) a + S1x3584.size a ≤ S16000x3584.size a)
theorem k0_off162_inb : ∀ (i : grid0.Coords) (v988 : BitVec 32) (k0_hw48 : k0_chk48 i v988), ∀ (k0_h2 : k0_cond2 i = 1#1), ∀ a, (k0_off162 v988) a + S1x3584.size a ≤ S16000x3584.size a := fun i v988 k0_hw48 k0_h2 => k0_hw48 k0_h2

def k0_mult1 (k0_t4 : Fin k0_t4_loop.trips) : BitVec 32 :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  v85
def k0_off163 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v87 : Index := Scalar.indexCast v86
  let c0_40 : Index := 0#32
  ![v87.toNat, 0]
def k0_off164 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v94 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v95 : Index := Scalar.indexCast v86
  let c0_44 : Index := 0#32
  ![v94.toNat, v95.toNat, 0]
def k0_off165 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v105 : Index := Scalar.indexCast v86
  let c0_46 : Index := 0#32
  ![v105.toNat, 0]
def k0_off166 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v110 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v111 : Index := Scalar.indexCast v86
  let c128 : Index := 128#32
  ![v110.toNat, v111.toNat, 128]
def k0_off167 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v121 : Index := Scalar.indexCast v86
  let c128_48 : Index := 128#32
  ![v121.toNat, 128]
def k0_off168 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v126 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v127 : Index := Scalar.indexCast v86
  let c256 : Index := 256#32
  ![v126.toNat, v127.toNat, 256]
def k0_off169 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v137 : Index := Scalar.indexCast v86
  let c256_50 : Index := 256#32
  ![v137.toNat, 256]
def k0_off170 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v142 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v143 : Index := Scalar.indexCast v86
  let c384 : Index := 384#32
  ![v142.toNat, v143.toNat, 384]
def k0_off171 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v153 : Index := Scalar.indexCast v86
  let c384_52 : Index := 384#32
  ![v153.toNat, 384]
def k0_off172 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v158 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v159 : Index := Scalar.indexCast v86
  let c512 : Index := 512#32
  ![v158.toNat, v159.toNat, 512]
def k0_off173 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v169 : Index := Scalar.indexCast v86
  let c512_54 : Index := 512#32
  ![v169.toNat, 512]
def k0_off174 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v174 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v175 : Index := Scalar.indexCast v86
  let c640 : Index := 640#32
  ![v174.toNat, v175.toNat, 640]
def k0_off175 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v185 : Index := Scalar.indexCast v86
  let c640_56 : Index := 640#32
  ![v185.toNat, 640]
def k0_off176 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v190 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v191 : Index := Scalar.indexCast v86
  let c768 : Index := 768#32
  ![v190.toNat, v191.toNat, 768]
def k0_off177 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v201 : Index := Scalar.indexCast v86
  let c768_58 : Index := 768#32
  ![v201.toNat, 768]
def k0_off178 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v206 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v207 : Index := Scalar.indexCast v86
  let c896 : Index := 896#32
  ![v206.toNat, v207.toNat, 896]
def k0_off179 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v217 : Index := Scalar.indexCast v86
  let c896_60 : Index := 896#32
  ![v217.toNat, 896]
def k0_off180 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v222 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v223 : Index := Scalar.indexCast v86
  let c1024 : Index := 1024#32
  ![v222.toNat, v223.toNat, 1024]
def k0_off181 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v233 : Index := Scalar.indexCast v86
  let c1024_62 : Index := 1024#32
  ![v233.toNat, 1024]
def k0_off182 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v238 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v239 : Index := Scalar.indexCast v86
  let c1152 : Index := 1152#32
  ![v238.toNat, v239.toNat, 1152]
def k0_off183 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v249 : Index := Scalar.indexCast v86
  let c1152_64 : Index := 1152#32
  ![v249.toNat, 1152]
def k0_off184 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v254 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v255 : Index := Scalar.indexCast v86
  let c1280 : Index := 1280#32
  ![v254.toNat, v255.toNat, 1280]
def k0_off185 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v265 : Index := Scalar.indexCast v86
  let c1280_66 : Index := 1280#32
  ![v265.toNat, 1280]
def k0_off186 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v270 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v271 : Index := Scalar.indexCast v86
  let c1408 : Index := 1408#32
  ![v270.toNat, v271.toNat, 1408]
def k0_off187 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v281 : Index := Scalar.indexCast v86
  let c1408_68 : Index := 1408#32
  ![v281.toNat, 1408]
def k0_off188 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v286 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v287 : Index := Scalar.indexCast v86
  let c1536 : Index := 1536#32
  ![v286.toNat, v287.toNat, 1536]
def k0_off189 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v297 : Index := Scalar.indexCast v86
  let c1536_70 : Index := 1536#32
  ![v297.toNat, 1536]
def k0_off190 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v302 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v303 : Index := Scalar.indexCast v86
  let c1664 : Index := 1664#32
  ![v302.toNat, v303.toNat, 1664]
def k0_off191 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v313 : Index := Scalar.indexCast v86
  let c1664_72 : Index := 1664#32
  ![v313.toNat, 1664]
def k0_off192 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v318 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v319 : Index := Scalar.indexCast v86
  let c1792 : Index := 1792#32
  ![v318.toNat, v319.toNat, 1792]
def k0_off193 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v329 : Index := Scalar.indexCast v86
  let c1792_74 : Index := 1792#32
  ![v329.toNat, 1792]
def k0_off194 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v334 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v335 : Index := Scalar.indexCast v86
  let c1920 : Index := 1920#32
  ![v334.toNat, v335.toNat, 1920]
def k0_off195 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v345 : Index := Scalar.indexCast v86
  let c1920_76 : Index := 1920#32
  ![v345.toNat, 1920]
def k0_off196 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v350 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v351 : Index := Scalar.indexCast v86
  let c2048 : Index := 2048#32
  ![v350.toNat, v351.toNat, 2048]
def k0_off197 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v361 : Index := Scalar.indexCast v86
  let c2048_78 : Index := 2048#32
  ![v361.toNat, 2048]
def k0_off198 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v366 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v367 : Index := Scalar.indexCast v86
  let c2176 : Index := 2176#32
  ![v366.toNat, v367.toNat, 2176]
def k0_off199 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v377 : Index := Scalar.indexCast v86
  let c2176_80 : Index := 2176#32
  ![v377.toNat, 2176]
def k0_off200 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v382 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v383 : Index := Scalar.indexCast v86
  let c2304 : Index := 2304#32
  ![v382.toNat, v383.toNat, 2304]
def k0_off201 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v393 : Index := Scalar.indexCast v86
  let c2304_82 : Index := 2304#32
  ![v393.toNat, 2304]
def k0_off202 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v398 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v399 : Index := Scalar.indexCast v86
  let c2432 : Index := 2432#32
  ![v398.toNat, v399.toNat, 2432]
def k0_off203 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v409 : Index := Scalar.indexCast v86
  let c2432_84 : Index := 2432#32
  ![v409.toNat, 2432]
def k0_off204 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v414 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v415 : Index := Scalar.indexCast v86
  let c2560 : Index := 2560#32
  ![v414.toNat, v415.toNat, 2560]
def k0_off205 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v425 : Index := Scalar.indexCast v86
  let c2560_86 : Index := 2560#32
  ![v425.toNat, 2560]
def k0_off206 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v430 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v431 : Index := Scalar.indexCast v86
  let c2688 : Index := 2688#32
  ![v430.toNat, v431.toNat, 2688]
def k0_off207 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v441 : Index := Scalar.indexCast v86
  let c2688_88 : Index := 2688#32
  ![v441.toNat, 2688]
def k0_off208 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v446 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v447 : Index := Scalar.indexCast v86
  let c2816 : Index := 2816#32
  ![v446.toNat, v447.toNat, 2816]
def k0_off209 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v457 : Index := Scalar.indexCast v86
  let c2816_90 : Index := 2816#32
  ![v457.toNat, 2816]
def k0_off210 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v462 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v463 : Index := Scalar.indexCast v86
  let c2944 : Index := 2944#32
  ![v462.toNat, v463.toNat, 2944]
def k0_off211 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v473 : Index := Scalar.indexCast v86
  let c2944_92 : Index := 2944#32
  ![v473.toNat, 2944]
def k0_off212 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v478 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v479 : Index := Scalar.indexCast v86
  let c3072 : Index := 3072#32
  ![v478.toNat, v479.toNat, 3072]
def k0_off213 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v489 : Index := Scalar.indexCast v86
  let c3072_94 : Index := 3072#32
  ![v489.toNat, 3072]
def k0_off214 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v494 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v495 : Index := Scalar.indexCast v86
  let c3200 : Index := 3200#32
  ![v494.toNat, v495.toNat, 3200]
def k0_off215 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v505 : Index := Scalar.indexCast v86
  let c3200_96 : Index := 3200#32
  ![v505.toNat, 3200]
def k0_off216 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v510 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v511 : Index := Scalar.indexCast v86
  let c3328 : Index := 3328#32
  ![v510.toNat, v511.toNat, 3328]
def k0_off217 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v521 : Index := Scalar.indexCast v86
  let c3328_98 : Index := 3328#32
  ![v521.toNat, 3328]
def k0_off218 (i : grid0.Coords) (k0_t4 : Fin k0_t4_loop.trips) : Fin 3 → Nat :=
  let arg0 : BitVec 32 := BitVec.ofNat 32 (i 0).val
  let c3_i32_25 : BitVec 32 := 3#32
  let v74 : BitVec 32 := Scalar.remsi arg0 c3_i32_25
  let v526 : Index := Scalar.indexCast v74
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v527 : Index := Scalar.indexCast v86
  let c3456 : Index := 3456#32
  ![v526.toNat, v527.toNat, 3456]
def k0_off219 (k0_t4 : Fin k0_t4_loop.trips) : Fin 2 → Nat :=
  let c0_i32_37 : BitVec 32 := 0#32
  let c0_i32_32 : BitVec 32 := 0#32
  let c1_i32_34 : BitVec 32 := 1#32
  let arg13 : BitVec 32 := Scf.iv c0_i32_32 c1_i32_34 k0_t4
  let c1_i32_36 : BitVec 32 := 1#32
  let v80 : BitVec 32 := Scalar.muli arg13 c1_i32_36
  let v81 : BitVec 32 := Scalar.addi c0_i32_37 v80
  let c16_i32 : BitVec 32 := 16#32
  let v85 : BitVec 32 := Scalar.muli v81 c16_i32
  let v86 : BitVec 32 := v85
  let v537 : Index := Scalar.indexCast v86
  let c3456_100 : Index := 3456#32
  ![v537.toNat, 3456]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_d_model" => some ((3584⁻¹ : ℝ) : EReal)
  | _ => none
-- ==== ReferenceIdeal.lean ====
abbrev S8x4096 : Shape := ⟨2, ![8, 4096]⟩
abbrev S64000x3584 : Shape := ⟨2, ![64000, 3584]⟩
abbrev S64000 : Shape := ⟨1, ![64000]⟩
abbrev S3584 : Shape := ⟨1, ![3584]⟩
abbrev S32768 : Shape := ⟨1, ![32768]⟩
abbrev S_ : Shape := ⟨0, ![]⟩
abbrev S32768x1 : Shape := ⟨2, ![32768, 1]⟩
abbrev S32768x3584 : Shape := ⟨2, ![32768, 3584]⟩
abbrev S1x3584 : Shape := ⟨2, ![1, 3584]⟩

abbrev nBuf : Space → Nat
  | .hbm => 39
  | .vmem => 6
  | .smem => 0
  | _ => 0

abbrev bufTy : (tb : Table) → Fin (tcTables nBuf tb) → BufTy
  | .hbm, ⟨0, _⟩ => ⟨S8x4096, .i32⟩
  | .hbm, ⟨1, _⟩ => ⟨S64000x3584, .i8⟩
  | .hbm, ⟨2, _⟩ => ⟨S64000, .f32⟩
  | .hbm, ⟨3, _⟩ => ⟨S64000, .bf16⟩
  | .hbm, ⟨4, _⟩ => ⟨S3584, .bf16⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S32768x3584, .i8⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S32768, .f32⟩
  | .hbm, ⟨24, _⟩ => ⟨S32768, .bf16⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768, .bf16⟩
  | .hbm, ⟨34, _⟩ => ⟨S32768x1, .bf16⟩
  | .hbm, ⟨35, _⟩ => ⟨S32768x1, .bf16⟩
  | .hbm, ⟨36, _⟩ => ⟨S1x3584, .bf16⟩
  | .hbm, ⟨37, _⟩ => ⟨S32768x3584, .bf16⟩
  | .hbm, ⟨38, _⟩ => ⟨S32768x3584, .bf16⟩
  | .local _ .vmem, ⟨0, _⟩ => ⟨S32768x3584, .i8⟩
  | .local _ .vmem, ⟨1, _⟩ => ⟨S32768x1, .bf16⟩
  | .local _ .vmem, ⟨2, _⟩ => ⟨S32768x1, .bf16⟩
  | .local _ .vmem, ⟨3, _⟩ => ⟨S1x3584, .bf16⟩
  | .local _ .vmem, ⟨4, _⟩ => ⟨S32768x3584, .bf16⟩
  | .local _ .vmem, ⟨5, _⟩ => ⟨S32768x3584, .bf16⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Ring.lean ====
/- The row transfers of the kernel: which words a block of tokens waits for, what one transfer delivers, and the rule by
   which one transfer is issued. Slot `s` of the ring `cc0_scratch0` holds one row of table words per token of the block. -/
module

public import proofs.«01_k».proof.Kernel
public import proofs.«01_k».proof.Proof.Gen.Kernel
public import proofs.«01_k».proof.Proof.Gen.Kernel.Skeleton
public import proofs.«01_k».proof.Proof.Gen.Kernel.Launch
public import Idealize.ShloMosaic.Lib.Batch
public import Idealize.ShloMosaic.Lib.Ring
public import Idealize.ShloMosaic.Lib.Tactic
public import Idealize.ShloMosaic.Lib.ShareLeaves
public import Idealize.ShloMosaic.Lib.Pipeline.Frame
public import Idealize.ShloMosaic.Lib.Pointwise
public import Idealize.ShloMosaic.Lib.WritesUnit

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

/-- The table row of the word `v`: a quarter of the row number it names. -/
def qrow (v : BitVec 32) : Fin 16000 := ⟨(v >>> 2).toNat % 16000, Nat.mod_lt _ (by decide)⟩

/-- Token number `n`, kept inside the array of tokens. -/
def tokIx (n : ℕ) : S32768.Idx := fun a => match a with | ⟨0, _⟩ => ⟨n % 32768, Nat.mod_lt _ (by decide)⟩

/-- An index of the table of words. -/
def tabIx (r : Fin 16000) (d : Fin 3584) : S16000x3584.Idx := fun a => match a with | ⟨0, _⟩ => r | ⟨1, _⟩ => d

/-- The words block `p` of tokens waits for, over the whole ring buffer (every slot the same): row `y 1` holds the table
    row of token `128 p + y 1`. -/
def gath (ids : S32768.Idx → Elt F .i32) (T : S16000x3584.Idx → Elt F .i32) (p : ℕ) : S3x128x3584.Idx → Elt F .i32 :=
  fun y => T (tabIx (qrow (ids (tokIx (128 * p + (y 1).val)))) (y 2))

/-- Row `t` of slot `s` of the ring. -/
def rowSet (s : ℕ) (t : ℕ) : Finset S3x128x3584.Idx := Finset.univ.filter fun y => (y 0).val = s ∧ (y 1).val = t

/-- What one row transfer credits its semaphore. -/
def NN : ℕ := cc0_scratch0.dmaCredit S1x3584 .i32

theorem NN_pos : 0 < NN := by decide +kernel

/-- The ring buffer, the table of words, as this device's. -/
abbrev ringAt (c : Dev nD) (I : Finset S3x128x3584.Idx) (f : S3x128x3584.Idx → Elt F .i32) : sProp 𝕄 :=
  (Memref.whole cc0_scratch0).view.loc (c : Thread nD τ) ↦[I]{fullShare} f
abbrev tabAt (c : Dev nD) (q : PosShare TreeShare) (T : S16000x3584.Idx → Elt F .i32) : sProp 𝕄 :=
  (Memref.whole main_v3).view.loc (c : Thread nD τ) ↦{q} T

/-- The share of the table dealt to token `t` of slot `s`. -/
def share (s : Fin 3) (t : Fin 128) : PosShare TreeShare :=
  ShareLeaves.leaf 7 (ShareLeaves.leaf 2 fullShare ⟨s.val, by omega⟩) t

/-- The delivery of token `t`'s transfer into slot `s` for block `p`: the row at the table's words, the share back. -/
def D (c : Dev nD) (ids : S32768.Idx → Elt F .i32) (T : S16000x3584.Idx → Elt F .i32) (s : Fin 3) (p : ℕ) (t : Fin 128) : sProp 𝕄 :=
  iprop(ringAt c (rowSet s.val t.val) (gath ids T p) ∗ tabAt c (share s t) T)

instance D_storable (c : Dev nD) (ids : S32768.Idx → Elt F .i32) (T : S16000x3584.Idx → Elt F .i32) (s : Fin 3) (p : ℕ) (t : Fin 128) :
    BI.Storable (upEmb : UEmb _ 𝕄) (D c ids T s p t) := by unfold D; infer_instance

/-- The semaphore of slot `s`. -/
def semOf (s : Fin 3) : DmaSem sig := ⟨8 + s.val, by have := s.isLt; show 8 + s.val < 11; omega⟩

/-- The batch of slot `s`: `k` transfers issued, `u` units consumed. -/
def bat (c : Dev nD) (ids : S32768.Idx → Elt F .i32) (T : S16000x3584.Idx → Elt F .i32) (s : Fin 3) (p k u : ℕ) : sProp 𝕄 :=
  Batch (countersEmb (U := Pipeline.UD sig nD τ)) (c : Thread nD τ) (.dma (semOf s)) () NN (D c ids T s p) k u

/-- While block `p`'s rows are being issued into slot `s`, `k` of them so far: the batch; for each row not yet issued its
    share of the table and its row of the ring. -/
def Iss (c : Dev nD) (ids : S32768.Idx → Elt F .i32) (T : S16000x3584.Idx → Elt F .i32) (s : Fin 3) (p k : ℕ) : sProp 𝕄 :=
  iprop(bat c ids T s p k 0 ∗ bigSep (pending k) (fun t : Fin 128 => iprop(tabAt c (share s t) T ∗ ∃ f, ringAt c (rowSet s.val t.val) f)))

/-- Peeling the next row off. -/
theorem Iss_peel (c : Dev nD) (ids : S32768.Idx → Elt F .i32) (T : S16000x3584.Idx → Elt F .i32) (s : Fin 3) (p k : ℕ) (hk : k < 128) :
    Iss c ids T s p k ⊢ iprop(bat c ids T s p k 0 ∗ (tabAt c (share s ⟨k, hk⟩) T ∗ ∃ f, ringAt c (rowSet s.val k) f)
      ∗ bigSep (pending (k + 1)) (fun t : Fin 128 => iprop(tabAt c (share s t) T ∗ ∃ f, ringAt c (rowSet s.val t.val) f))) := by
  unfold Iss
  rw [pending_succ hk, bigSep_insert (not_mem_pending_succ hk)]
  exact .rfl

/-- One row of the ring, as the kernel spells it. -/
abbrev dstM (off : Fin 3 → ℕ) (h : ∀ a, off a + S1x1x3584.size a ≤ S3x128x3584.size a) : Memref sig .tc .vmem S1x3584 .i32 :=
  ((Memref.whole cc0_scratch0).slice (Rect.unit (s := S3x128x3584) off S1x1x3584.size h) (fun _ => rfl)).squeeze S1x3584 squeezes_S1x1x3584_S1x3584
/-- One row of the table, as the kernel spells it. -/
abbrev srcM (off : Fin 2 → ℕ) (h : ∀ a, off a + S1x3584.size a ≤ S16000x3584.size a) : Memref sig .tc .hbm S1x3584 .i32 :=
  (Memref.whole main_v3).slice (Rect.unit (s := S16000x3584) off S1x3584.size h) (fun _ => rfl)

/-- Where index `x` of a row's view sits in the ring. -/
theorem dst_emb (off : Fin 3 → ℕ) (h) (x : S1x3584.Idx) :
    (((dstM off h).view.emb x : S3x128x3584.Idx) 0).val = off 0 ∧ (((dstM off h).view.emb x : S3x128x3584.Idx) 1).val = off 1
      ∧ (((dstM off h).view.emb x : S3x128x3584.Idx) 2).val = off 2 + (x 1).val := by
  have e : ((dstM off h).view.emb x : S3x128x3584.Idx)
      = (Rect.unit (s := S3x128x3584) off S1x1x3584.size h).emb (Fin.cons (⟨0, Nat.one_pos⟩ : Fin 1) x) := by
    show (((View.whole cc0_scratch0).slice _).reshape S1x3584 _).emb x = _
    rw [View.emb_reshape, View.emb_slice, View.emb_whole]
    show (Rect.unit (s := S3x128x3584) off S1x1x3584.size h).emb (Shape.reshapeEquiv _ x) = _
    exact congrArg _ (Shape.reshapeEquiv_cons_one squeezes_S1x1x3584_S1x3584.numel_eq x)
  have h0 : (x 0).val = 0 := by have : (x 0).val < 1 := (x 0).isLt; omega
  rw [e]
  refine ⟨?_, ?_, ?_⟩
  · show off 0 + 1 * 0 = _; omega
  · show off 1 + 1 * (x 0).val = _; omega
  · show off 2 + 1 * (x 1).val = _; omega

/-- Where index `x` of a table row's view sits in the table. -/
theorem src_emb (off : Fin 2 → ℕ) (h) (x : S1x3584.Idx) :
    (((srcM off h).view.emb x : S16000x3584.Idx) 0).val = off 0 ∧ (((srcM off h).view.emb x : S16000x3584.Idx) 1).val = off 1 + (x 1).val := by
  have h0 : (x 0).val = 0 := by have : (x 0).val < 1 := (x 0).isLt; omega
  refine ⟨?_, ?_⟩
  · show off 0 + 1 * (x 0).val = _; omega
  · show off 1 + 1 * (x 1).val = _; omega

/-- A row's view covers its row of the ring, no more. -/
theorem dst_sub (off : Fin 3 → ℕ) (h) (s t : ℕ) (e : off = ![s, t, 0]) : (dstM off h).view.set ⊆ rowSet s t := by
  intro y hy
  obtain ⟨x, -, rfl⟩ := Finset.mem_map.mp hy
  have := dst_emb off h x
  subst e
  exact Finset.mem_filter.mpr ⟨Finset.mem_univ _, this.1, this.2.1⟩

/-- What the landed row holds, on its row: the words of the gather. -/
theorem landed (off : Fin 3 → ℕ) (h) (s t : ℕ) (e : off = ![s, t, 0]) (off' : Fin 2 → ℕ) (h') (w : BitVec 32)
    (e' : off' = ![(w >>> 2).toNat, 0]) (ids : S32768.Idx → Elt F .i32) (T : S16000x3584.Idx → Elt F .i32) (p : ℕ)
    (hw : ids (tokIx (128 * p + t)) = w) (fd : S3x128x3584.Idx → Elt F .i32) :
    ∀ y ∈ rowSet s t, (dstM off h).view.write (Elt F) fd ((srcM off' h').view.read (Elt F) T) Finset.univ y = gath ids T p y := by
  intro y hy
  have hy := (Finset.mem_filter.mp hy).2
  let x : S1x3584.Idx := fun a => match a with | ⟨0, _⟩ => ⟨0, Nat.one_pos⟩ | ⟨1, _⟩ => y 2
  have hx : y = (dstM off h).view.emb x := by
    have := dst_emb off h x
    subst e
    funext a
    apply Fin.ext
    match a with
    | ⟨0, _⟩ => exact hy.1.trans this.1.symm
    | ⟨1, _⟩ => exact hy.2.trans this.2.1.symm
    | ⟨2, _⟩ => exact ((this.2.2).trans (by show 0 + (y 2).val = _; simp)).symm
  have hs := src_emb off' h' x
  have hb : (w >>> 2).toNat < 16000 := by
    have := h' 0; subst e'; have h2 : (w >>> 2).toNat + 1 ≤ 16000 := this; omega
  have hz : (srcM off' h').view.emb x = tabIx (qrow w) (y 2) := by
    subst e'
    funext a
    apply Fin.ext
    match a with
    | ⟨0, _⟩ => exact hs.1.trans (Nat.mod_eq_of_lt hb).symm
    | ⟨1, _⟩ => exact hs.2.trans (by show 0 + (y 2).val = _; simp [tabIx])
  conv_lhs => rw [hx]
  rw [View.write_emb_of_mem _ _ (Finset.mem_univ _)]
  show T ((srcM off' h').view.emb x) = _
  rw [hz]
  unfold gath
  rw [hy.2, hw]

/-- The semaphore of the slot, as the kernel spells it. -/
theorem sem_eq (off : Fin 1 → ℕ) (h) (s : Fin 3) (e : off = ![s.val]) :
    ((cc0_scratch4.slice (Rect.unit (s := S3) off S1.size h)).squeeze S_ squeezes_S1_S_).sem = semOf s := by
  subst e
  apply Fin.ext
  show 8 + (S3.rowMajor ((Rect.unit (s := S3) ![s.val] S1.size h).emb (Shape.reshapeEquiv squeezes_S1_S_.numel_eq fun i => i.elim0))).val = 8 + s.val
  rw [Shape.rowMajor_val_one]
  have : ((Shape.reshapeEquiv squeezes_S1_S_.numel_eq fun i : Fin 0 => i.elim0 : S1.Idx) 0).val < 1 := Fin.isLt _
  show 8 + (s.val + 1 * ((Shape.reshapeEquiv squeezes_S1_S_.numel_eq fun i : Fin 0 => i.elim0 : S1.Idx) 0).val) = _
  omega

/-- ISSUING ONE ROW: the next row's transfer, from the table row the token's word names into row `k` of slot `s`. -/
theorem issue (c : Dev nD) (bd : Option (Variants.none).V) (ids : S32768.Idx → Elt F .i32) (T : S16000x3584.Idx → Elt F .i32) (s : Fin 3) (p k : ℕ) (hk : k < 128)
    (off : Fin 3 → ℕ) (h) (e : off = ![s.val, k, 0]) (off' : Fin 2 → ℕ) (h') (w : BitVec 32) (e' : off' = ![(w >>> 2).toNat, 0])
    (hw : ids (tokIx (128 * p + k)) = w) (offs : Fin 1 → ℕ) (hs) (es : offs = ![s.val])
    {α : Type} {Q : α → sProp 𝕄} {K : PUnit → Prog (TpuEff nD τ sig (Elt F) Λ₀ .tc) α}
    {hsrc : (srcM off' h').view.WordExact} {hdst : (dstM off h).view.WordExact}
    {hsem : DmaTarget.Typed (nD := nD) (τ := τ) (p := Proc.tc) Space.hbm (.dma ((cc0_scratch4.slice (Rect.unit (s := S3) offs S1.size hs)).squeeze S_ squeezes_S1_S_).sem) (.here (dstM off h))} :
    Iss c ids T s p k
      ⊢ iprop((Iss c ids T s p (k + 1) -∗ wp frame (wpE (defs₀ (F := F)) Variants.none (c : Thread nD τ) bd) Set.univ (K ⟨⟩) Q)
          -∗ wp frame (wpE (defs₀ (F := F)) Variants.none (c : Thread nD τ) bd) Set.univ
            (.op (.enqueueDma (srcM off' h') (.here (dstM off h)) (.dma ((cc0_scratch4.slice (Rect.unit (s := S3) offs S1.size hs)).squeeze S_ squeezes_S1_S_).sem) hsrc hdst hsem) K) Q) := by
  revert hsem
  rw [sem_eq offs hs s es]
  intro hsem
  refine (Iss_peel c ids T s p k hk).trans ?_
  unfold bat Batch
  iintro ⟨⟨%γ, %γ₀, %κ, #Hinv, HI, H0, Hcred⟩, ⟨Ht, %fd, Hr⟩, Hrest⟩ Hk
  ihave HI' := (show bigSep (pending k) (fun t => count (countersEmb (U := Pipeline.UD sig nD τ)) (γ t) 0) ⊢ iprop(count (countersEmb (U := Pipeline.UD sig nD τ)) (γ ⟨k, hk⟩) 0 ∗ bigSep (pending (k + 1)) (fun t => count (countersEmb (U := Pipeline.UD sig nD τ)) (γ t) 0) : sProp 𝕄)
    from Entails.of_eq (by rw [pending_succ hk, bigSep_insert (not_mem_pending_succ hk)]; rfl)) $$ HI
  icases HI' with ⟨Hc, HI⟩
  ihave Ht' := (pointsTo_split_subset (Finset.subset_univ (srcM off' h').view.set)).1 $$ Ht
  icases Ht' with ⟨Hsrc, Hput⟩
  iapply (wp_enqueueDmaAs Variants.none (c : Thread nD τ) bd Set.univ () NN rfl) $$ [Hsrc Hr] [Hc Hput]
  · isplitl [Hsrc]; · iexact Hsrc
    iapply (pointsTo_writeUpdate (c : Thread nD τ) (dst_sub off h s.val k e)) $$ Hr
  · iapply (batch_creditUpdate_with (countersEmb (U := Pipeline.UD sig nD τ)) (D := D c ids T s p) ⟨k, hk⟩ (put := (Memref.whole main_v3).view.loc (c : Thread nD τ) ↦[Finset.univ \ (srcM off' h').view.set]{share s ⟨k, hk⟩} T) ?_)
    · unfold D
      iintro ⟨Hput, Hr, Hs⟩
      isplitl [Hr]
      · iapply (Entails.of_eq (pointsTo_congr (ℓ := (Memref.whole cc0_scratch0).view.loc (c : Thread nD τ)) (q := fullShare)
          (landed off h s.val k e off' h' w e' ids T p hw fd)))
        iexact Hr
      iapply (pointsTo_split_subset (Finset.subset_univ (srcM off' h').view.set)).2
      isplitl [Hs]; · iexact Hs
      iexact Hput
    isplitr; · iexact Hinv
    isplitl [Hc]; · iexact Hc
    iexact Hput
  iintro Hcred'
  iapply Hk
  unfold Iss bat Batch
  isplitr [Hrest]
  · iexists γ, γ₀, κ
    isplitr; · iexact Hinv
    isplitl [HI]; · iexact HI
    isplitl [H0]; · iexact H0
    rw [show (k + 1) * NN - 0 = (k * NN - 0) + NN by rw [Nat.succ_mul]; omega, ← tallyAt_add]
    icombine Hcred Hcred' as H
    iexact H
  iexact Hrest

end Cert.Kernel.Own
end
-- ==== Proof.K.Content.lean ====
module
public import proofs.«01_k».proof.Proof.K.Ring
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-! What one grid point computes, as functions of the buffers it reads: the shift words, the zero points, the scales
(each a 128×128 array constant along its rows), the ring slot with the fetched words, and the norm weights. -/

/-- Sixteen rows of a 128×128 array. -/
def tile2 {e : EltTy} (X : S128x128.Idx → Elt F e) (k : ℕ) : S16x128.Idx → Elt F e :=
  fun x => X (ix2 (Fin.ofNat 128 (16 * k + (x 0).val)) (x 1))

/-- A 16×128 tile of slot `s` of the ring. -/
def tileW (W : S3x128x3584.Idx → Elt F .i32) (s k j : ℕ) : S1x16x128.Idx → Elt F .i32 :=
  fun x => W (ix3 (Fin.ofNat 3 s) (Fin.ofNat 128 (16 * k + (x 1).val)) (Fin.ofNat 3584 (128 * j + (x 2).val)))

/-- 128 weights. -/
def tileG (g : S1x3584.Idx → Elt F .f32) (j : ℕ) : S1x128.Idx → Elt F .f32 :=
  fun x => g (ix2 (0 : Fin 1) (Fin.ofNat 3584 (128 * j + (x 1).val)))

/-- The sum of squares after tiles `0 … n`. -/
def accC (sh : Vec F S16x128 .i32) (zr sc : Vec F S16x128 .bf16) (w : ℕ → Vec F S1x16x128 .i32) : ℕ → FVec F S16x128 .f32
  | 0 => k0_pay2 sh zr sc (w 0)
  | n + 1 => addf (accC sh zr sc w n) (mulf (extf .f32 (k0_pay1 sh zr sc (w (n + 1))) bitsLt_bf16_f32)
      (extf .f32 (k0_pay1 sh zr sc (w (n + 1))) bitsLt_bf16_f32))

/-- The inverse root mean square of sixteen rows. -/
def rmsC (sh : Vec F S16x128 .i32) (zr sc : Vec F S16x128 .bf16) (w : ℕ → Vec F S1x16x128 .i32) : FVec F S16x128 .f32 :=
  k0_pay38 sh zr sc (accC sh zr sc w 24) (k0_pay1 sh zr sc (w 25)) (w 26) (w 27)

/-- The dequantized rows of the point's block. -/
def embV (sh : S128x128.Idx → Elt F .i32) (zr sc : S128x128.Idx → Elt F .bf16) (W : S3x128x3584.Idx → Elt F .i32) (s : ℕ) :
    S128x3584.Idx → Elt F .bf16 :=
  fun y => k0_pay1 (tile2 sh ((y 0).val / 16)) (tile2 zr ((y 0).val / 16)) (tile2 sc ((y 0).val / 16))
    (tileW W s ((y 0).val / 16) ((y 1).val / 128)) (ix2 (Fin.ofNat 16 (y 0).val) (Fin.ofNat 128 (y 1).val))

/-- The normalized rows of the point's block. -/
def outV (sh : S128x128.Idx → Elt F .i32) (zr sc : S128x128.Idx → Elt F .bf16) (W : S3x128x3584.Idx → Elt F .i32) (s : ℕ)
    (g : S1x3584.Idx → Elt F .f32) : S128x3584.Idx → Elt F .bf16 :=
  fun y => k0_pay41
    (k0_pay1 (tile2 sh ((y 0).val / 16)) (tile2 zr ((y 0).val / 16)) (tile2 sc ((y 0).val / 16))
      (tileW W s ((y 0).val / 16) ((y 1).val / 128)))
    (rmsC (tile2 sh ((y 0).val / 16)) (tile2 zr ((y 0).val / 16)) (tile2 sc ((y 0).val / 16)) (tileW W s ((y 0).val / 16)))
    (tileG g ((y 1).val / 128)) (ix2 (Fin.ofNat 16 (y 0).val) (Fin.ofNat 128 (y 1).val))

theorem read2 {e : EltTy} {off : Fin S128x128.rank → ℕ} {h} (k : ℕ) (hk : k < 8) (ho : off = ![16 * k, 0]) (m : Memref sig .tc .vmem S128x128 e)
    (f : m.view.ty.Contents (Elt F)) :
    View.readAt (Elt F) m.view (Rect.unit (s := S128x128) off S16x128.size h).toLoadRect f = tile2 (m.view.read (Elt F) f) k := by
  subst ho
  funext x
  refine congrArg (m.view.read (Elt F) f) (funext fun a => Fin.ext ?_)
  revert a
  have h0 := (x 0).isLt
  have h0' : (x 0).val < 16 := h0
  refine Fin.forall_fin_two.mpr ⟨?_, ?_⟩
  · show 16 * k + 1 * (x 0).val = (16 * k + (x 0).val) % 128
    omega
  · show 0 + 1 * (x 1).val = (x 1).val
    omega

theorem readW {off : Fin S3x128x3584.rank → ℕ} {h} (s k j : ℕ) (hs : s < 3) (hk : k < 8) (hj : j < 28) (ho : off = ![s, 16 * k, 128 * j])
    (W : S3x128x3584.Idx → Elt F .i32) :
    View.readAt (Elt F) (Memref.whole cc0_scratch0).view (Rect.unit (s := S3x128x3584) off S1x16x128.size h).toLoadRect W = tileW W s k j := by
  subst ho
  funext x
  refine congrArg W (funext fun a => Fin.ext ?_)
  have h0 : (x 0).val < 1 := (x 0).isLt
  have h1 : (x 1).val < 16 := (x 1).isLt
  have h2 : (x 2).val < 128 := (x 2).isLt
  match a with
  | ⟨0, _⟩ => show s + 1 * (x 0).val = s % 3; omega
  | ⟨1, _⟩ => show 16 * k + 1 * (x 1).val = (16 * k + (x 1).val) % 128; omega
  | ⟨2, _⟩ => show 128 * j + 1 * (x 2).val = (128 * j + (x 2).val) % 3584; omega

theorem readG (j : ℕ) (hj : j < 28) (o : ℕ) (ho : o = 128 * j) {h : ∀ a, (![0, o] : Fin 2 → ℕ) a + S1x128.size a ≤ S1x3584.size a} (m : Memref sig .tc .vmem S1x3584 .f32) (f : m.view.ty.Contents (Elt F)) :
    View.readAt (Elt F) m.view (Rect.unit (s := S1x3584) ![0, o] S1x128.size h).toLoadRect f = tileG (m.view.read (Elt F) f) j := by
  subst ho
  funext x
  refine congrArg (m.view.read (Elt F) f) (funext fun a => Fin.ext ?_)
  have h0 : (x 0).val < 1 := (x 0).isLt
  have h1 : (x 1).val < 128 := (x 1).isLt
  match a with
  | ⟨0, _⟩ => show 0 + 1 * (x 0).val = 0; omega
  | ⟨1, _⟩ => show 128 * j + 1 * (x 1).val = (128 * j + (x 1).val) % 3584; omega

/-- One more tile of sixteen rows is written: if the tiles before it read `G`, so do these. -/
theorem tile_step (m : Memref sig .tc .vmem S128x3584 .bf16) (f : m.view.ty.Contents (Elt F)) (G : S128x3584.Idx → Elt F .bf16) (k : ℕ)
    (hk : k < 8) (j : ℕ) (hj : j < 28) {L : List (View.Piece (Elt F) S128x3584 .bf16)} {off : Fin S128x3584.rank → ℕ} {h}
    {w : S16x128.Idx → Elt F .bf16} (ho : off = ![16 * k, 128 * j])
    (hw : ∀ x : S16x128.Idx, w x = G (ix2 (Fin.ofNat 128 (16 * k + (x 0).val)) (Fin.ofNat 3584 (128 * j + (x 1).val))))
    (hL : ∀ y : S128x3584.Idx, m.view.read (Elt F) (m.view.writes (Elt F) f L) y
      = if (y 0).val / 16 = k ∧ (y 1).val < 128 * j then G y else m.view.read (Elt F) f y) (y : S128x3584.Idx) :
    m.view.read (Elt F) (m.view.writes (Elt F) f ((⟨Rect.unit (s := S128x3584) off S16x128.size h, w⟩ : View.Piece (Elt F) S128x3584 .bf16) :: L)) y
      = if (y 0).val / 16 = k ∧ (y 1).val < 128 * (j + 1) then G y else m.view.read (Elt F) f y := by
  subst ho
  have hy0 : (y 0).val < 128 := (y 0).isLt
  have hy1 : (y 1).val < 3584 := (y 1).isLt
  by_cases hc : (y 0).val / 16 = k ∧ (y 1).val / 128 = j
  · rw [if_pos (by omega)]
    refine (View.read_writes_cons_unit_of_mem (v := m.view) (f := f) h w L y
      (ix2 (Fin.ofNat 16 (y 0).val) (Fin.ofNat 128 (y 1).val)) rfl ?_).trans ?_
    · refine Fin.forall_fin_two.mpr ⟨?_, ?_⟩
      · show (y 0).val = 16 * k + (y 0).val % 16
        omega
      · show (y 1).val = 128 * j + (y 1).val % 128
        omega
    · rw [hw]
      refine congrArg G (funext fun a => Fin.ext ?_)
      revert a
      refine Fin.forall_fin_two.mpr ⟨?_, ?_⟩
      · show (16 * k + (y 0).val % 16) % 128 = (y 0).val
        omega
      · show (128 * j + (y 1).val % 128) % 3584 = (y 1).val
        omega
  · have hno : m.view.read (Elt F) (m.view.writes (Elt F) f
        ((⟨Rect.unit (s := S128x3584) ![16 * k, 128 * j] S16x128.size h, w⟩ : View.Piece (Elt F) S128x3584 .bf16) :: L)) y
          = m.view.read (Elt F) (m.view.writes (Elt F) f L) y := by
      by_cases h0 : (y 0).val / 16 = k
      · refine View.read_writes_cons_unit_of_not_mem (v := m.view) (f := f) h w L y rfl (1 : Fin 2) ?_
        show (y 1).val < 128 * j ∨ 128 * j + 128 ≤ (y 1).val
        omega
      · refine View.read_writes_cons_unit_of_not_mem (v := m.view) (f := f) h w L y rfl (0 : Fin 2) ?_
        show (y 0).val < 16 * k ∨ 16 * k + 16 ≤ (y 0).val
        omega
    rw [hno, hL]
    refine if_congr ?_ rfl rfl
    omega

/-- No tile is written yet. -/
theorem tile_none (m : Memref sig .tc .vmem S128x3584 .bf16) (f : m.view.ty.Contents (Elt F)) (G : S128x3584.Idx → Elt F .bf16) (k : ℕ)
    (y : S128x3584.Idx) : m.view.read (Elt F) (m.view.writes (Elt F) f []) y
      = if (y 0).val / 16 = k ∧ (y 1).val < 128 * 0 then G y else m.view.read (Elt F) f y := by
  rw [if_neg (by omega)]
  rfl

theorem tile_idx (k j : ℕ) (hk : k < 8) (hj : j < 28) (x : S16x128.Idx) :
    (16 * k + (x 0).val) % 128 / 16 = k ∧ (128 * j + (x 1).val) % 3584 / 128 = j
      ∧ ix2 (Fin.ofNat 16 ((16 * k + (x 0).val) % 128)) (Fin.ofNat 128 ((128 * j + (x 1).val) % 3584)) = x := by
  have h0 : (x 0).val < 16 := (x 0).isLt
  have h1 : (x 1).val < 128 := (x 1).isLt
  refine ⟨by omega, by omega, funext fun a => Fin.ext ?_⟩
  revert a
  refine Fin.forall_fin_two.mpr ⟨?_, ?_⟩
  · show (16 * k + (x 0).val) % 128 % 16 = (x 0).val
    omega
  · show (128 * j + (x 1).val) % 3584 % 128 = (x 1).val
    omega

theorem embV_tile (sh : S128x128.Idx → Elt F .i32) (zr sc : S128x128.Idx → Elt F .bf16) (W : S3x128x3584.Idx → Elt F .i32) (s k j : ℕ)
    (hk : k < 8) (hj : j < 28) (x : S16x128.Idx) :
    embV sh zr sc W s (ix2 (Fin.ofNat 128 (16 * k + (x 0).val)) (Fin.ofNat 3584 (128 * j + (x 1).val)))
      = k0_pay1 (tile2 sh k) (tile2 zr k) (tile2 sc k) (tileW W s k j) x := by
  obtain ⟨e0, e1, e2⟩ := tile_idx k j hk hj x
  show k0_pay1 (tile2 sh ((16 * k + (x 0).val) % 128 / 16)) (tile2 zr ((16 * k + (x 0).val) % 128 / 16)) (tile2 sc ((16 * k + (x 0).val) % 128 / 16))
    (tileW W s ((16 * k + (x 0).val) % 128 / 16) ((128 * j + (x 1).val) % 3584 / 128))
    (ix2 (Fin.ofNat 16 ((16 * k + (x 0).val) % 128)) (Fin.ofNat 128 ((128 * j + (x 1).val) % 3584))) = _
  rw [e0, e1, e2]

theorem outV_tile (sh : S128x128.Idx → Elt F .i32) (zr sc : S128x128.Idx → Elt F .bf16) (W : S3x128x3584.Idx → Elt F .i32) (s : ℕ)
    (g : S1x3584.Idx → Elt F .f32) (k j : ℕ) (hk : k < 8) (hj : j < 28) (x : S16x128.Idx) :
    outV sh zr sc W s g (ix2 (Fin.ofNat 128 (16 * k + (x 0).val)) (Fin.ofNat 3584 (128 * j + (x 1).val)))
      = k0_pay41 (k0_pay1 (tile2 sh k) (tile2 zr k) (tile2 sc k) (tileW W s k j))
          (rmsC (tile2 sh k) (tile2 zr k) (tile2 sc k) (tileW W s k)) (tileG g j) x := by
  obtain ⟨e0, e1, e2⟩ := tile_idx k j hk hj x
  show k0_pay41 (k0_pay1 (tile2 sh ((16 * k + (x 0).val) % 128 / 16)) (tile2 zr ((16 * k + (x 0).val) % 128 / 16))
      (tile2 sc ((16 * k + (x 0).val) % 128 / 16)) (tileW W s ((16 * k + (x 0).val) % 128 / 16) ((128 * j + (x 1).val) % 3584 / 128)))
    (rmsC (tile2 sh ((16 * k + (x 0).val) % 128 / 16)) (tile2 zr ((16 * k + (x 0).val) % 128 / 16)) (tile2 sc ((16 * k + (x 0).val) % 128 / 16))
      (tileW W s ((16 * k + (x 0).val) % 128 / 16))) (tileG g ((128 * j + (x 1).val) % 3584 / 128))
    (ix2 (Fin.ofNat 16 ((16 * k + (x 0).val) % 128)) (Fin.ofNat 128 ((128 * j + (x 1).val) % 3584))) = _
  rw [e0, e1, e2]
end Cert.Kernel.Own
end
-- ==== Proof.K.Issue.lean ====
module
public import proofs.«01_k».proof.Proof.K.Content
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-- The table of token ids at share `q`. -/
abbrev idsAt (c : Dev nD) (q : PosShare TreeShare) (ids : S32768.Idx → Elt F .i32) : sProp 𝕄 :=
  (Memref.whole main_v0).view.loc (c : Thread nD τ) ↦{q} ids

theorem src_inb (w : BitVec 32) (hw : w.toNat < 64000) : ∀ a, (![(w >>> 2).toNat, 0] : Fin 2 → ℕ) a + S1x3584.size a ≤ S16000x3584.size a := by
  intro a
  match a with
  | ⟨0, _⟩ => show (w >>> 2).toNat + 1 ≤ 16000; rw [BitVec.toNat_ushiftRight, Nat.shiftRight_eq_div_pow]; omega
  | ⟨1, _⟩ => exact Nat.le_refl _

theorem read_tok (ids : S32768.Idx → Elt F .i32) (off : Fin 1 → ℕ) (h) (x : S1.Idx) (m n : ℕ) (e : off = ![m]) (hmn : n = m) (hn : n < 32768) :
    ids (tokIx n) = View.readAt (Elt F) (Memref.whole main_v0).view (Rect.unit (s := S32768) off S1.size h).toLoadRect ids x := by
  subst e hmn
  refine congrArg ids (funext fun a => Fin.ext ?_)
  match a with
  | ⟨0, _⟩ =>
    have : (x 0).val < 1 := (x 0).isLt
    show n % 32768 = n + 1 * (x 0).val
    omega

/-- One trip of the first prologue loop issues sixteen rows of block 0 into slot 0. -/
theorem trip1 (c : Dev nD) (i : grid0.Coords) (h1 : k0_cond1 i = 1#1) (q : PosShare TreeShare) (ids : S32768.Idx → Elt F .i32)
    (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (k : Fin k0_t1_loop.trips) :
    iprop(Iss c ids T 0 0 (16 * k.val) ∗ idsAt c q ids)
    ⊢ wp frame (wpE (defs₀ (F := F)) Variants.none (c : Thread nD τ) none) Set.univ
       (k0_t1_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 h1 k ())
       (fun _ => iprop(Iss c ids T 0 0 (16 * k.val + 16) ∗ idsAt c q ids)) := by
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨HI, Hid⟩
  have hk : k.val < 8 := lt_of_lt_of_eq k.isLt (by decide +kernel)
  have hr : ∀ off h (x : S1.Idx), (View.readAt (Elt F) (Memref.whole main_v0).view (Rect.unit (s := S32768) off S1.size h).toLoadRect ids x).toNat < 64000 :=
    fun off h x => hid _
  sl_exec (disch := exact fun _ => src_inb _ (hr _ _ _))
  iapply (issue c none ids T 0 (0) (16 * k.val) (by omega) _ _ (k0_off2_eq k) _ _ _ rfl
    (read_tok _ _ _ _ _ _ (k0_off1_eq k) (by omega) (by omega)) _ _ (rfl)) $$ HI
  iintro HI
  sl_exec (disch := exact fun _ => src_inb _ (hr _ _ _))
  iapply (issue c none ids T 0 (0) (16 * k.val + 1) (by omega) _ _ (k0_off5_eq k) _ _ _ rfl
    (read_tok _ _ _ _ _ _ (k0_off4_eq k) (by omega) (by omega)) _ _ (rfl)) $$ HI
  iintro HI
  sl_exec (disch := exact fun _ => src_inb _ (hr _ _ _))
  iapply (issue c none ids T 0 (0) (16 * k.val + 2) (by omega) _ _ (k0_off8_eq k) _ _ _ rfl
    (read_tok _ _ _ _ _ _ (k0_off7_eq k) (by omega) (by omega)) _ _ (rfl)) $$ HI
  iintro HI
  sl_exec (disch := exact fun _ => src_inb _ (hr _ _ _))
  iapply (issue c none ids T 0 (0) (16 * k.val + 3) (by omega) _ _ (k0_off11_eq k) _ _ _ rfl
    (read_tok _ _ _ _ _ _ (k0_off10_eq k) (by omega) (by omega)) _ _ (rfl)) $$ HI
  iintro HI
  sl_exec (disch := exact fun _ => src_inb _ (hr _ _ _))
  iapply (issue c none ids T 0 (0) (16 * k.val + 4) (by omega) _ _ (k0_off14_eq k) _ _ _ rfl
    (read_tok _ _ _ _ _ _ (k0_off13_eq k) (by omega) (by omega)) _ _ (rfl)) $$ HI
  iintro HI
  sl_exec (disch := exact fun _ => src_inb _ (hr _ _ _))
  iapply (issue c none ids T 0 (0) (16 * k.val + 5) (by omega) _ _ (k0_off17_eq k) _ _ _ rfl
    (read_tok _ _ _ _ _ _ (k0_off16_eq k) (by omega) (by omega)) _ _ (rfl)) $$ HI
  iintro HI
  sl_exec (disch := exact fun _ => src_inb _ (hr _ _ _))
  iapply (issue c none ids T 0 (0) (16 * k.val + 6) (by omega) _ _ (k0_off20_eq k) _ _ _ rfl
    (read_tok _ _ _ _ _ _ (k0_off19_eq k) (by omega) (by omega)) _ _ (rfl)) $$ HI
  iintro HI
  sl_exec (disch := exact fun _ => src_inb _ (hr _ _ _))
  iapply (issue c none ids T 0 (0) (16 * k.val + 7) (by omega) _ _ (k0_off23_eq k) _ _ _ rfl
    (read_tok _ _ _ _ _ _ (k0_off22_eq k) (by omega) (by omega)) _ _ (rfl)) $$ HI
  iintro HI
  sl_exec (disch := exact fun _ => src_inb _ (hr _ _ _))
  iapply (issue c none ids T 0 (0) (16 * k.val + 8) (by omega) _ _ (k0_off26_eq k) _ _ _ rfl
    (read_tok _ _ _ _ _ _ (k0_off25_eq k) (by omega) (by omega)) _ _ (rfl)) $$ HI
  iintro HI
  sl_exec (disch := exact fun _ => src_inb _ (hr _ _ _))
  iapply (issue c none ids T 0 (0) (16 * k.val + 9) (by omega) _ _ (k0_off29_eq k) _ _ _ rfl
    (read_tok _ _ _ _ _ _ (k0_off28_eq k) (by omega) (by omega)) _ _ (rfl)) $$ HI
  iintro HI
  sl_exec (disch := exact fun _ => src_inb _ (hr _ _ _))
  iapply (issue c none ids T 0 (0) (16 * k.val + 10) (by omega) _ _ (k0_off32_eq k) _ _ _ rfl
    (read_tok _ _ _ _ _ _ (k0_off31_eq k) (by omega) (by omega)) _ _ (rfl)) $$ HI
  iintro HI
  sl_exec (disch := exact fun _ => src_inb _ (hr _ _ _))
  iapply (issue c none ids T 0 (0) (16 * k.val + 11) (by omega) _ _ (k0_off35_eq k) _ _ _ rfl
    (read_tok _ _ _ _ _ _ (k0_off34_eq k) (by omega) (by omega)) _ _ (rfl)) $$ HI
  iintro HI
  sl_exec (disch := exact fun _ => src_inb _ (hr _ _ _))
  iapply (issue c none ids T 0 (0) (16 * k.val + 12) (by omega) _ _ (k0_off38_eq k) _ _ _ rfl
    (read_tok _ _ _ _ _ _ (k0_off37_eq k) (by omega) (by omega)) _ _ (rfl)) $$ HI
  iintro HI
  sl_exec (disch := exact fun _ => src_inb _ (hr _ _ _))
  iapply (issue c none ids T 0 (0) (16 * k.val + 13) (by omega) _ _ (k0_off41_eq k) _ _ _ rfl
    (read_tok _ _ _ _ _ _ (k0_off40_eq k) (by omega) (by omega)) _ _ (rfl)) $$ HI
  iintro HI
  sl_exec (disch := exact fun _ => src_inb _ (hr _ _ _))
  iapply (issue c none ids T 0 (0) (16 * k.val + 14) (by omega) _ _ (k0_off44_eq k) _ _ _ rfl
    (read_tok _ _ _ _ _ _ (k0_off43_eq k) (by omega) (by omega)) _ _ (rfl)) $$ HI
  iintro HI
  sl_exec (disch := exact fun _ => src_inb _ (hr _ _ _))
  iapply (issue c none ids T 0 (0) (16 * k.val + 15) (by omega) _ _ (k0_off47_eq k) _ _ _ rfl
    (read_tok _ _ _ _ _ _ (k0_off46_eq k) (by omega) (by omega)) _ _ (rfl)) $$ HI
  iintro HI
  sl_exec
  sl_step
  isplitl [HI]; · iexact HI
  iexact Hid

/-- One trip of the second prologue loop issues sixteen rows of block 1 into slot 1. -/
theorem trip2 (c : Dev nD) (i : grid0.Coords) (h1 : k0_cond1 i = 1#1) (q : PosShare TreeShare) (ids : S32768.Idx → Elt F .i32)
    (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (k : Fin k0_t2_loop.trips) :
    iprop(Iss c ids T 1 1 (16 * k.val) ∗ idsAt c q ids)
    ⊢ wp frame (wpE (defs₀ (F := F)) Variants.none (c : Thread nD τ) none) Set.univ
       (k0_t2_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 h1 k ())
       (fun _ => iprop(Iss c ids T 1 1 (16 * k.val + 16) ∗ idsAt c q ids)) := by
  unfold k0_t2_body
  simp only [k0_part6_eq_skeleton, k0_part7_eq_skeleton, k0_part8_eq_skeleton, k0_part9_eq_skeleton, k0_part10_eq_skeleton]
  unfold k0_part6_skel k0_part7_skel k0_part8_skel k0_part9_skel k0_part10_skel
  iintro ⟨HI, Hid⟩
  have hk : k.val < 8 := lt_of_lt_of_eq k.isLt (by decide +kernel)
  have hr : ∀ off h (x : S1.Idx), (View.readAt (Elt F) (Memref.whole main_v0).view (Rect.unit (s := S32768) off S1.size h).toLoadRect ids x).toNat < 64000 :=
    fun off h x => hid _
  sl_exec (disch := exact fun _ => src_inb _ (hr _ _ _))
  iapply (issue c none ids T 1 (1) (16 * k.val) (by omega) _ _ (k0_off50_eq k) _ _ _ rfl
    (read_tok _ _ _ _ _ _ (k0_off49_eq k) (by omega) (by omega)) _ _ (rfl)) $$ HI
  iintro HI
  sl_exec (disch := exact fun _ => src_inb _ (hr _ _ _))
  iapply (issue c none ids T 1 (1) (16 * k.val + 1) (by omega) _ _ (k0_off53_eq k) _ _ _ rfl
    (read_tok _ _ _ _ _ _ (k0_off52_eq k) (by omega) (by omega)) _ _ (rfl)) $$ HI
  iintro HI
  sl_exec (disch := exact fun _ => src_inb _ (hr _ _ _))
  iapply (issue c none ids T 1 (1) (16 * k.val + 2) (by omega) _ _ (k0_off56_eq k) _ _ _ rfl
    (read_tok _ _ _ _ _ _ (k0_off55_eq k) (by omega) (by omega)) _ _ (rfl)) $$ HI
  iintro HI
  sl_exec (disch := exact fun _ => src_inb _ (hr _ _ _))
  iapply (issue c none ids T 1 (1) (16 * k.val + 3) (by omega) _ _ (k0_off59_eq k) _ _ _ rfl
    (read_tok _ _ _ _ _ _ (k0_off58_eq k) (by omega) (by omega)) _ _ (rfl)) $$ HI
  iintro HI
  sl_exec (disch := exact fun _ => src_inb _ (hr _ _ _))
  iapply (issue c none ids T 1 (1) (16 * k.val + 4) (by omega) _ _ (k0_off62_eq k) _ _ _ rfl
    (read_tok _ _ _ _ _ _ (k0_off61_eq k) (by omega) (by omega)) _ _ (rfl)) $$ HI
  iintro HI
  sl_exec (disch := exact fun _ => src_inb _ (hr _ _ _))
  iapply (issue c none ids T 1 (1) (16 * k.val + 5) (by omega) _ _ (k0_off65_eq k) _ _ _ rfl
    (read_tok _ _ _ _ _ _ (k0_off64_eq k) (by omega) (by omega)) _ _ (rfl)) $$ HI
  iintro HI
  sl_exec (disch := exact fun _ => src_inb _ (hr _ _ _))
  iapply (issue c none ids T 1 (1) (16 * k.val + 6) (by omega) _ _ (k0_off68_eq k) _ _ _ rfl
    (read_tok _ _ _ _ _ _ (k0_off67_eq k) (by omega) (by omega)) _ _ (rfl)) $$ HI
  iintro HI
  sl_exec (disch := exact fun _ => src_inb _ (hr _ _ _))
  iapply (issue c none ids T 1 (1) (16 * k.val + 7) (by omega) _ _ (k0_off71_eq k) _ _ _ rfl
    (read_tok _ _ _ _ _ _ (k0_off70_eq k) (by omega) (by omega)) _ _ (rfl)) $$ HI
  iintro HI
  sl_exec (disch := exact fun _ => src_inb _ (hr _ _ _))
  iapply (issue c none ids T 1 (1) (16 * k.val + 8) (by omega) _ _ (k0_off74_eq k) _ _ _ rfl
    (read_tok _ _ _ _ _ _ (k0_off73_eq k) (by omega) (by omega)) _ _ (rfl)) $$ HI
  iintro HI
  sl_exec (disch := exact fun _ => src_inb _ (hr _ _ _))
  iapply (issue c none ids T 1 (1) (16 * k.val + 9) (by omega) _ _ (k0_off77_eq k) _ _ _ rfl
    (read_tok _ _ _ _ _ _ (k0_off76_eq k) (by omega) (by omega)) _ _ (rfl)) $$ HI
  iintro HI
  sl_exec (disch := exact fun _ => src_inb _ (hr _ _ _))
  iapply (issue c none ids T 1 (1) (16 * k.val + 10) (by omega) _ _ (k0_off80_eq k) _ _ _ rfl
    (read_tok _ _ _ _ _ _ (k0_off79_eq k) (by omega) (by omega)) _ _ (rfl)) $$ HI
  iintro HI
  sl_exec (disch := exact fun _ => src_inb _ (hr _ _ _))
  iapply (issue c none ids T 1 (1) (16 * k.val + 11) (by omega) _ _ (k0_off83_eq k) _ _ _ rfl
    (read_tok _ _ _ _ _ _ (k0_off82_eq k) (by omega) (by omega)) _ _ (rfl)) $$ HI
  iintro HI
  sl_exec (disch := exact fun _ => src_inb _ (hr _ _ _))
  iapply (issue c none ids T 1 (1) (16 * k.val + 12) (by omega) _ _ (k0_off86_eq k) _ _ _ rfl
    (read_tok _ _ _ _ _ _ (k0_off85_eq k) (by omega) (by omega)) _ _ (rfl)) $$ HI
  iintro HI
  sl_exec (disch := exact fun _ => src_inb _ (hr _ _ _))
  iapply (issue c none ids T 1 (1) (16 * k.val + 13) (by omega) _ _ (k0_off89_eq k) _ _ _ rfl
    (read_tok _ _ _ _ _ _ (k0_off88_eq k) (by omega) (by omega)) _ _ (rfl)) $$ HI
  iintro HI
  sl_exec (disch := exact fun _ => src_inb _ (hr _ _ _))
  iapply (issue c none ids T 1 (1) (16 * k.val + 14) (by omega) _ _ (k0_off92_eq k) _ _ _ rfl
    (read_tok _ _ _ _ _ _ (k0_off91_eq k) (by omega) (by omega)) _ _ (rfl)) $$ HI
  iintro HI
  sl_exec (disch := exact fun _ => src_inb _ (hr _ _ _))
  iapply (issue c none ids T 1 (1) (16 * k.val + 15) (by omega) _ _ (k0_off95_eq k) _ _ _ rfl
    (read_tok _ _ _ _ _ _ (k0_off94_eq k) (by omega) (by omega)) _ _ (rfl)) $$ HI
  iintro HI
  sl_exec
  sl_step
  isplitl [HI]; · iexact HI
  iexact Hid

end Cert.Kernel.Own
end
-- ==== Proof.K.Slots.lean ====
module
public import proofs.«01_k».proof.Proof.K.Issue
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-! The slots of the ring at rest and in flight, and the loop that waits for one slot's 128 rows. -/

/-- The elements of slot `s`. -/
def slotSet (s : ℕ) : Finset S3x128x3584.Idx := Finset.univ.filter fun y => (y 0).val = s

/-- The share of the table dealt to slot `s`. -/
def slotShare (s : Fin 3) : PosShare TreeShare := ShareLeaves.leaf 2 fullShare ⟨s.val, by omega⟩

/-- A slot at rest: its rows of the ring at some contents, its share of the table, its semaphore at zero. -/
def Free (c : Dev nD) (T : S16000x3584.Idx → Elt F .i32) (s : Fin 3) : sProp 𝕄 :=
  iprop((∃ f, ringAt c (slotSet s.val) f) ∗ tabAt c (slotShare s) T ∗ semVal ((c : Thread nD τ), .dma (semOf s)) 0)

/-- A slot whose 128 rows are all on their way, bringing block `p`. -/
def Fly (c : Dev nD) (ids : S32768.Idx → Elt F .i32) (T : S16000x3584.Idx → Elt F .i32) (s : Fin 3) (p : ℕ) : sProp 𝕄 := bat c ids T s p 128 0

theorem rows_disjoint (s : ℕ) : ∀ b b' : Fin 128, b ≠ b' → Disjoint (rowSet s b.val) (rowSet s b'.val) := by
  intro b b' hb
  rw [Finset.disjoint_left]
  intro y hy hy'
  have h1 := (Finset.mem_filter.mp hy).2.2
  have h2 := (Finset.mem_filter.mp hy').2.2
  exact hb (Fin.ext (h1.symm.trans h2))

theorem rows_cover (s : ℕ) : (Finset.univ : Finset (Fin 128)).biUnion (fun t => rowSet s t.val) = slotSet s := by
  ext y
  constructor
  · intro hy
    obtain ⟨t, -, ht⟩ := Finset.mem_biUnion.mp hy
    exact Finset.mem_filter.mpr ⟨Finset.mem_univ _, (Finset.mem_filter.mp ht).2.1⟩
  · intro hy
    exact Finset.mem_biUnion.mpr ⟨⟨(y 1).val, (y 1).isLt⟩, Finset.mem_univ _,
      Finset.mem_filter.mpr ⟨Finset.mem_univ _, (Finset.mem_filter.mp hy).2, rfl⟩⟩

theorem ring_rows (c : Dev nD) (s : ℕ) (f : S3x128x3584.Idx → Elt F .i32) :
    (ringAt c (slotSet s) f : sProp 𝕄) = bigSep Finset.univ fun t : Fin 128 => ringAt c (rowSet s t.val) f :=
  Ring.pointsTo_sub_blocks (ℓ := (Memref.whole cc0_scratch0).view.loc (c : Thread nD τ)) (fun t : Fin 128 => rowSet s t.val) (rows_disjoint s) (slotSet s) (rows_cover s) f

theorem tab_rows (c : Dev nD) (s : Fin 3) (T : S16000x3584.Idx → Elt F .i32) :
    (tabAt c (slotShare s) T : sProp 𝕄) = bigSep Finset.univ fun t : Fin 128 => tabAt c (share s t) T :=
  ShareLeaves.pointsTo_leaves (ℓ := (Memref.whole main_v3).view.loc (c : Thread nD τ)) Finset.univ T 7 (slotShare s)

theorem rows_split (c : Dev nD) (T : S16000x3584.Idx → Elt F .i32) (s : Fin 3) (f : S3x128x3584.Idx → Elt F .i32) :
    iprop(tabAt c (slotShare s) T ∗ ringAt c (slotSet s.val) f)
      ⊢ (bigSep Finset.univ fun t : Fin 128 => iprop(tabAt c (share s t) T ∗ ∃ f, ringAt c (rowSet s.val t.val) f) : sProp 𝕄) := by
  rw [ring_rows, tab_rows, ← bigSep_sep']
  refine bigSep_mono fun t _ => ?_
  show iprop(tabAt c (share s t) T ∗ ringAt c (rowSet s.val t.val) f) ⊢ (iprop(tabAt c (share s t) T ∗ ∃ f, ringAt c (rowSet s.val t.val) f) : sProp 𝕄)
  iintro ⟨H1, H2⟩
  isplitl [H1]; · iexact H1
  iexists f; iexact H2

/-- A slot at rest may start fetching. -/
theorem free_iss (c : Dev nD) (ids : S32768.Idx → Elt F .i32) (T : S16000x3584.Idx → Elt F .i32) (s : Fin 3) (p : ℕ) :
    Free c T s ⊢ iprop(|={Set.univ}=> Iss c ids T s p 0) := by
  unfold Free
  iintro ⟨⟨%f, Hr⟩, Ht, Hc⟩
  imod (Transfers.batch_alloc' (Lvl := ℕ) (countersEmb (U := Pipeline.UD sig nD τ)) (c : Thread nD τ) () NN (D c ids T s p) (sm := .dma (semOf s)) (E := Set.univ)) $$ Hc with HB
  imodintro
  unfold Iss bat
  isplitl [HB]; · iexact HB
  rw [pending_zero]
  iapply (rows_split c T s f) $$ [Ht Hr]
  isplitl [Ht]; · iexact Ht
  iexact Hr

/-- All rows issued. -/
theorem iss_fly (c : Dev nD) (ids : S32768.Idx → Elt F .i32) (T : S16000x3584.Idx → Elt F .i32) (s : Fin 3) (p : ℕ) :
    Iss c ids T s p 128 ⊢ Fly c ids T s p := by
  unfold Iss Fly
  iintro ⟨H, -⟩
  iexact H

/-- All rows delivered. -/
theorem delivered (c : Dev nD) (ids : S32768.Idx → Elt F .i32) (T : S16000x3584.Idx → Elt F .i32) (s : Fin 3) (p : ℕ) :
    bigSep Finset.univ (D c ids T s p) ⊢ iprop(ringAt c (slotSet s.val) (gath ids T p) ∗ tabAt c (slotShare s) T) := by
  rw [ring_rows, tab_rows]
  rw [← bigSep_sep']
  exact .rfl

/-- Slot `s` of the ring. -/
abbrev slotR (s : ℕ) (h : ∀ a, (![s, 0, 0] : Fin 3 → ℕ) a + (![1, 128, 3584] : Fin 3 → ℕ) a ≤ S3x128x3584.size a) : Rect S3x128x3584 :=
  Rect.unit ![s, 0, 0] ![1, 128, 3584] h

/-- A memref's whole buffer at `f`. -/
abbrev wholeAt (c : Dev nD) {cs : CoreSpace} {s : Shape} {e : EltTy} (m : Memref sig .tc cs s e) (f : Buf (Elt F) (m.view.loc (c : Thread nD τ))) :
    sProp 𝕄 :=
  m.view.loc (c : Thread nD τ) ↦{fullShare} f

/-- Slot `s` of the ring at `f`. -/
abbrev slotAt (c : Dev nD) (s : ℕ) (h : ∀ a, (![s, 0, 0] : Fin 3 → ℕ) a + (![1, 128, 3584] : Fin 3 → ℕ) a ≤ S3x128x3584.size a)
    (f : S3x128x3584.Idx → Elt F .i32) : sProp 𝕄 :=
  (Memref.whole cc0_scratch0).view.loc (c : Thread nD τ) ↦[(Memref.whole cc0_scratch0).view.setOn (slotR s h).set]{fullShare} f

theorem slotR_inb (s : Fin 3) : ∀ a, (![s.val, 0, 0] : Fin 3 → ℕ) a + (![1, 128, 3584] : Fin 3 → ℕ) a ≤ S3x128x3584.size a := by
  intro a
  have := s.isLt
  match a with
  | ⟨0, _⟩ => show s.val + 1 ≤ 3; omega
  | ⟨1, _⟩ => exact Nat.le_refl _
  | ⟨2, _⟩ => exact Nat.le_refl _

theorem slot_set (s : ℕ) (h) : (Memref.whole cc0_scratch0).view.setOn (slotR s h).set = slotSet s := by
  ext y
  show y ∈ ((slotR s h).set.map (Function.Embedding.refl _)) ↔ _
  rw [Finset.map_refl, Rect.mem_set_unit]
  constructor
  · intro hy
    have := hy 0
    refine Finset.mem_filter.mpr ⟨Finset.mem_univ _, ?_⟩
    have h1 : s ≤ (y 0).val := this.1
    have h2 : (y 0).val < s + 1 := this.2
    omega
  · intro hy a
    have h0 := (Finset.mem_filter.mp hy).2
    match a with
    | ⟨0, _⟩ => exact ⟨show s ≤ (y 0).val by omega, show (y 0).val < s + 1 by omega⟩
    | ⟨1, _⟩ => exact ⟨Nat.zero_le _, by show (y 1).val < 0 + 128; have := (y 1).isLt; have h : (y 1).val < 128 := this; omega⟩
    | ⟨2, _⟩ => exact ⟨Nat.zero_le _, by show (y 2).val < 0 + 3584; have := (y 2).isLt; have h : (y 2).val < 3584 := this; omega⟩

theorem slot_eq (c : Dev nD) (s : ℕ) (h) (f : S3x128x3584.Idx → Elt F .i32) : (slotAt c s h f : sProp 𝕄) = ringAt c (slotSet s) f := by
  unfold slotAt ringAt
  rw [slot_set]

/-- The slot whose block is computed. -/
abbrev curSlot (i : grid0.Coords) : Fin 3 := ⟨(i 0).val % 3, Nat.mod_lt _ (by omega)⟩

/-- Before wait `k`: before the last, the batch with `k` rows' units consumed; after it, the cell at zero and all deliveries. -/
def waitInv (c : Dev nD) (ids : S32768.Idx → Elt F .i32) (T : S16000x3584.Idx → Elt F .i32) (s : Fin 3) (p k : ℕ) (_ : Unit) : sProp 𝕄 :=
  iprop((∃ W, owes (c : Thread nD τ) 0 W)
    ∗ (if k < 128 then bat c ids T s p 128 (k * NN)
       else iprop(semVal ((c : Thread nD τ), .dma (semOf s)) 0 ∗ bigSep Finset.univ (D c ids T s p))))

theorem wait_step (c : Dev nD) (i : grid0.Coords) (ids : S32768.Idx → Elt F .i32) (T : S16000x3584.Idx → Elt F .i32) (p : ℕ)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (k : Fin k0_t3_loop.trips) :
    waitInv c ids T (curSlot i) p k.val ()
    ⊢ wp frame (wpE (defs₀ (F := F)) Variants.none (c : Thread nD τ) none) Set.univ
       (k0_t3_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 k ())
       (waitInv c ids T (curSlot i) p (k.val + 1)) := by
  have hk : k.val < 128 := lt_of_lt_of_eq k.isLt (by decide +kernel)
  have hs := sem_eq (k0_off97 i) (k0_off97_inb i) (curSlot i) (k0_off97_eq i)
  unfold waitInv k0_t3_body bat
  simp only [← hs]
  simp only [if_pos hk]
  rcases Nat.lt_or_ge (k.val + 1) 128 with h1 | h1
  · simp only [if_pos h1]
    iintro ⟨⟨%W, HO⟩, HB⟩
    sl_exec
    sl_step
    isplitl [HO]; · iexists _; iexact HO
    rw [show (k.val + 1) * NN = k.val * NN + NN from Nat.succ_mul _ _]
    iexact HB
  · simp only [if_neg (Nat.not_lt.mpr h1)]
    iintro ⟨⟨%W, HO⟩, HB⟩
    sl_exec
    sl_step
    isplitl [HO]; · iexists _; iexact HO
    isplitl [HB]; · iexact HB
    iexact HB_all
end Cert.Kernel.Own
end
-- ==== Proof.K.Trip.lean ====
module
public import proofs.«01_k».proof.Proof.K.Slots
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-- The slot that block `i + 2` is fetched into. -/
abbrev nextSlot (i : grid0.Coords) : Fin 3 := ⟨((i 0).val + 2) % 3, Nat.mod_lt _ (by omega)⟩

/-- One trip of the main loop when no block is left to fetch: sixteen rows of both results. -/
theorem tripN (c : Dev nD) (i : grid0.Coords) (h2 : ¬ k0_cond2 i = 1#1)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (hs) (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(slotAt c ((i 0).val % 3) hs W ∗ wholeAt c (Memref.whole cc0_scratch3) sh ∗ wholeAt c (Memref.whole cc0_scratch2) zr
      ∗ wholeAt c (Memref.whole cc0_scratch1) sc ∗ wholeAt c arg4 wt ∗ wholeAt c arg6 f6 ∗ wholeAt c arg7 f7)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(slotAt c ((i 0).val % 3) hs W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k.val then outV sh zr sc W ((i 0).val % 3) (arg4.view.read (Elt F) wt) y
            else arg6.view.read (Elt F) f6 y⌝ ∗ wholeAt c arg6 f6')
      ∗ (∃ f7', ⌜∀ y, arg7.view.read (Elt F) f7' y = if (y 0).val / 16 = k.val then embV sh zr sc W ((i 0).val % 3) y
            else arg7.view.read (Elt F) f7 y⌝ ∗ wholeAt c arg7 f7'))) := by
  unfold k0_t4_body
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  have hk : k.val < 8 := lt_of_lt_of_eq k.isLt (by decide +kernel)

  have hsh := fun h => read2 (off := k0_off163 k) (h := h) k.val hk (k0_off163_eq k) (Memref.whole cc0_scratch3) sh
  have hzr := fun h => read2 (off := k0_off163 k) (h := h) k.val hk (k0_off163_eq k) (Memref.whole cc0_scratch2) zr
  have hsc := fun h => read2 (off := k0_off163 k) (h := h) k.val hk (k0_off163_eq k) (Memref.whole cc0_scratch1) sc
  have hw0 := fun h => readW (off := k0_off164 i k) (h := h) ((i 0).val % 3) k.val 0 (Nat.mod_lt _ (by omega)) hk (by omega) (k0_off164_eq i k) W
  have hw1 := fun h => readW (off := k0_off166 i k) (h := h) ((i 0).val % 3) k.val 1 (Nat.mod_lt _ (by omega)) hk (by omega) (k0_off166_eq i k) W
  have hw2 := fun h => readW (off := k0_off168 i k) (h := h) ((i 0).val % 3) k.val 2 (Nat.mod_lt _ (by omega)) hk (by omega) (k0_off168_eq i k) W
  have hw3 := fun h => readW (off := k0_off170 i k) (h := h) ((i 0).val % 3) k.val 3 (Nat.mod_lt _ (by omega)) hk (by omega) (k0_off170_eq i k) W
  have hw4 := fun h => readW (off := k0_off172 i k) (h := h) ((i 0).val % 3) k.val 4 (Nat.mod_lt _ (by omega)) hk (by omega) (k0_off172_eq i k) W
  have hw5 := fun h => readW (off := k0_off174 i k) (h := h) ((i 0).val % 3) k.val 5 (Nat.mod_lt _ (by omega)) hk (by omega) (k0_off174_eq i k) W
  have hw6 := fun h => readW (off := k0_off176 i k) (h := h) ((i 0).val % 3) k.val 6 (Nat.mod_lt _ (by omega)) hk (by omega) (k0_off176_eq i k) W
  have hw7 := fun h => readW (off := k0_off178 i k) (h := h) ((i 0).val % 3) k.val 7 (Nat.mod_lt _ (by omega)) hk (by omega) (k0_off178_eq i k) W
  have hw8 := fun h => readW (off := k0_off180 i k) (h := h) ((i 0).val % 3) k.val 8 (Nat.mod_lt _ (by omega)) hk (by omega) (k0_off180_eq i k) W
  have hw9 := fun h => readW (off := k0_off182 i k) (h := h) ((i 0).val % 3) k.val 9 (Nat.mod_lt _ (by omega)) hk (by omega) (k0_off182_eq i k) W
  have hw10 := fun h => readW (off := k0_off184 i k) (h := h) ((i 0).val % 3) k.val 10 (Nat.mod_lt _ (by omega)) hk (by omega) (k0_off184_eq i k) W
  have hw11 := fun h => readW (off := k0_off186 i k) (h := h) ((i 0).val % 3) k.val 11 (Nat.mod_lt _ (by omega)) hk (by omega) (k0_off186_eq i k) W
  have hw12 := fun h => readW (off := k0_off188 i k) (h := h) ((i 0).val % 3) k.val 12 (Nat.mod_lt _ (by omega)) hk (by omega) (k0_off188_eq i k) W
  have hw13 := fun h => readW (off := k0_off190 i k) (h := h) ((i 0).val % 3) k.val 13 (Nat.mod_lt _ (by omega)) hk (by omega) (k0_off190_eq i k) W
  have hw14 := fun h => readW (off := k0_off192 i k) (h := h) ((i 0).val % 3) k.val 14 (Nat.mod_lt _ (by omega)) hk (by omega) (k0_off192_eq i k) W
  have hw15 := fun h => readW (off := k0_off194 i k) (h := h) ((i 0).val % 3) k.val 15 (Nat.mod_lt _ (by omega)) hk (by omega) (k0_off194_eq i k) W
  have hw16 := fun h => readW (off := k0_off196 i k) (h := h) ((i 0).val % 3) k.val 16 (Nat.mod_lt _ (by omega)) hk (by omega) (k0_off196_eq i k) W
  have hw17 := fun h => readW (off := k0_off198 i k) (h := h) ((i 0).val % 3) k.val 17 (Nat.mod_lt _ (by omega)) hk (by omega) (k0_off198_eq i k) W
  have hw18 := fun h => readW (off := k0_off200 i k) (h := h) ((i 0).val % 3) k.val 18 (Nat.mod_lt _ (by omega)) hk (by omega) (k0_off200_eq i k) W
  have hw19 := fun h => readW (off := k0_off202 i k) (h := h) ((i 0).val % 3) k.val 19 (Nat.mod_lt _ (by omega)) hk (by omega) (k0_off202_eq i k) W
  have hw20 := fun h => readW (off := k0_off204 i k) (h := h) ((i 0).val % 3) k.val 20 (Nat.mod_lt _ (by omega)) hk (by omega) (k0_off204_eq i k) W
  have hw21 := fun h => readW (off := k0_off206 i k) (h := h) ((i 0).val % 3) k.val 21 (Nat.mod_lt _ (by omega)) hk (by omega) (k0_off206_eq i k) W
  have hw22 := fun h => readW (off := k0_off208 i k) (h := h) ((i 0).val % 3) k.val 22 (Nat.mod_lt _ (by omega)) hk (by omega) (k0_off208_eq i k) W
  have hw23 := fun h => readW (off := k0_off210 i k) (h := h) ((i 0).val % 3) k.val 23 (Nat.mod_lt _ (by omega)) hk (by omega) (k0_off210_eq i k) W
  have hw24 := fun h => readW (off := k0_off212 i k) (h := h) ((i 0).val % 3) k.val 24 (Nat.mod_lt _ (by omega)) hk (by omega) (k0_off212_eq i k) W
  have hw25 := fun h => readW (off := k0_off214 i k) (h := h) ((i 0).val % 3) k.val 25 (Nat.mod_lt _ (by omega)) hk (by omega) (k0_off214_eq i k) W
  have hw26 := fun h => readW (off := k0_off216 i k) (h := h) ((i 0).val % 3) k.val 26 (Nat.mod_lt _ (by omega)) hk (by omega) (k0_off216_eq i k) W
  have hw27 := fun h => readW (off := k0_off218 i k) (h := h) ((i 0).val % 3) k.val 27 (Nat.mod_lt _ (by omega)) hk (by omega) (k0_off218_eq i k) W
  have hg0 := fun h => readG 0 (by omega) 0 rfl arg4 wt (h := h)
  have hg1 := fun h => readG 1 (by omega) 128 rfl arg4 wt (h := h)
  have hg2 := fun h => readG 2 (by omega) 256 rfl arg4 wt (h := h)
  have hg3 := fun h => readG 3 (by omega) 384 rfl arg4 wt (h := h)
  have hg4 := fun h => readG 4 (by omega) 512 rfl arg4 wt (h := h)
  have hg5 := fun h => readG 5 (by omega) 640 rfl arg4 wt (h := h)
  have hg6 := fun h => readG 6 (by omega) 768 rfl arg4 wt (h := h)
  have hg7 := fun h => readG 7 (by omega) 896 rfl arg4 wt (h := h)
  have hg8 := fun h => readG 8 (by omega) 1024 rfl arg4 wt (h := h)
  have hg9 := fun h => readG 9 (by omega) 1152 rfl arg4 wt (h := h)
  have hg10 := fun h => readG 10 (by omega) 1280 rfl arg4 wt (h := h)
  have hg11 := fun h => readG 11 (by omega) 1408 rfl arg4 wt (h := h)
  have hg12 := fun h => readG 12 (by omega) 1536 rfl arg4 wt (h := h)
  have hg13 := fun h => readG 13 (by omega) 1664 rfl arg4 wt (h := h)
  have hg14 := fun h => readG 14 (by omega) 1792 rfl arg4 wt (h := h)
  have hg15 := fun h => readG 15 (by omega) 1920 rfl arg4 wt (h := h)
  have hg16 := fun h => readG 16 (by omega) 2048 rfl arg4 wt (h := h)
  have hg17 := fun h => readG 17 (by omega) 2176 rfl arg4 wt (h := h)
  have hg18 := fun h => readG 18 (by omega) 2304 rfl arg4 wt (h := h)
  have hg19 := fun h => readG 19 (by omega) 2432 rfl arg4 wt (h := h)
  have hg20 := fun h => readG 20 (by omega) 2560 rfl arg4 wt (h := h)
  have hg21 := fun h => readG 21 (by omega) 2688 rfl arg4 wt (h := h)
  have hg22 := fun h => readG 22 (by omega) 2816 rfl arg4 wt (h := h)
  have hg23 := fun h => readG 23 (by omega) 2944 rfl arg4 wt (h := h)
  have hg24 := fun h => readG 24 (by omega) 3072 rfl arg4 wt (h := h)
  have hg25 := fun h => readG 25 (by omega) 3200 rfl arg4 wt (h := h)
  have hg26 := fun h => readG 26 (by omega) 3328 rfl arg4 wt (h := h)
  have hg27 := fun h => readG 27 (by omega) 3456 rfl arg4 wt (h := h)
  iintro ⟨Hr, Hsh, Hzr, Hsc, Hw, H6, H7⟩
  sl_exec
  simp only [hsh, hzr, hsc, hw0, hw1, hw2, hw3, hw4, hw5, hw6, hw7, hw8, hw9, hw10, hw11, hw12, hw13, hw14, hw15, hw16, hw17, hw18, hw19, hw20, hw21, hw22, hw23, hw24, hw25, hw26, hw27, hg0, hg1, hg2, hg3, hg4, hg5, hg6, hg7, hg8, hg9, hg10, hg11, hg12, hg13, hg14, hg15, hg16, hg17, hg18, hg19, hg20, hg21, hg22, hg23, hg24, hg25, hg26, hg27]
  sl_step
  isplitl [Hr]; · iexact Hr
  isplitl [Hsh]; · iexact Hsh
  isplitl [Hzr]; · iexact Hzr
  isplitl [Hsc]; · iexact Hsc
  isplitl [Hw]; · iexact Hw
  isplitl [H6]
  · iexists _
    isplitr [H6]
    swap
    · iexact H6
    ipureintro
    intro y
    refine Eq.trans (b := if (y 0).val / 16 = k.val ∧ (y 1).val < 128 * (27 + 1) then outV sh zr sc W ((i 0).val % 3) (arg4.view.read (Elt F) wt) y else arg6.view.read (Elt F) f6 y) ?_
      (if_congr (and_iff_left (show (y 1).val < 3584 from (y 1).isLt)) rfl rfl)
    exact (tile_step arg6 f6 _ k.val hk 27 (by omega) (k0_off219_eq k)
      (fun x => (outV_tile sh zr sc W ((i 0).val % 3) (arg4.view.read (Elt F) wt) k.val 27 hk (by omega) x).symm) (tile_step arg6 f6 _ k.val hk 26 (by omega) (k0_off217_eq k)
      (fun x => (outV_tile sh zr sc W ((i 0).val % 3) (arg4.view.read (Elt F) wt) k.val 26 hk (by omega) x).symm) (tile_step arg6 f6 _ k.val hk 25 (by omega) (k0_off215_eq k)
      (fun x => (outV_tile sh zr sc W ((i 0).val % 3) (arg4.view.read (Elt F) wt) k.val 25 hk (by omega) x).symm) (tile_step arg6 f6 _ k.val hk 24 (by omega) (k0_off213_eq k)
      (fun x => (outV_tile sh zr sc W ((i 0).val % 3) (arg4.view.read (Elt F) wt) k.val 24 hk (by omega) x).symm) (tile_step arg6 f6 _ k.val hk 23 (by omega) (k0_off211_eq k)
      (fun x => (outV_tile sh zr sc W ((i 0).val % 3) (arg4.view.read (Elt F) wt) k.val 23 hk (by omega) x).symm) (tile_step arg6 f6 _ k.val hk 22 (by omega) (k0_off209_eq k)
      (fun x => (outV_tile sh zr sc W ((i 0).val % 3) (arg4.view.read (Elt F) wt) k.val 22 hk (by omega) x).symm) (tile_step arg6 f6 _ k.val hk 21 (by omega) (k0_off207_eq k)
      (fun x => (outV_tile sh zr sc W ((i 0).val % 3) (arg4.view.read (Elt F) wt) k.val 21 hk (by omega) x).symm) (tile_step arg6 f6 _ k.val hk 20 (by omega) (k0_off205_eq k)
      (fun x => (outV_tile sh zr sc W ((i 0).val % 3) (arg4.view.read (Elt F) wt) k.val 20 hk (by omega) x).symm) (tile_step arg6 f6 _ k.val hk 19 (by omega) (k0_off203_eq k)
      (fun x => (outV_tile sh zr sc W ((i 0).val % 3) (arg4.view.read (Elt F) wt) k.val 19 hk (by omega) x).symm) (tile_step arg6 f6 _ k.val hk 18 (by omega) (k0_off201_eq k)
      (fun x => (outV_tile sh zr sc W ((i 0).val % 3) (arg4.view.read (Elt F) wt) k.val 18 hk (by omega) x).symm) (tile_step arg6 f6 _ k.val hk 17 (by omega) (k0_off199_eq k)
      (fun x => (outV_tile sh zr sc W ((i 0).val % 3) (arg4.view.read (Elt F) wt) k.val 17 hk (by omega) x).symm) (tile_step arg6 f6 _ k.val hk 16 (by omega) (k0_off197_eq k)
      (fun x => (outV_tile sh zr sc W ((i 0).val % 3) (arg4.view.read (Elt F) wt) k.val 16 hk (by omega) x).symm) (tile_step arg6 f6 _ k.val hk 15 (by omega) (k0_off195_eq k)
      (fun x => (outV_tile sh zr sc W ((i 0).val % 3) (arg4.view.read (Elt F) wt) k.val 15 hk (by omega) x).symm) (tile_step arg6 f6 _ k.val hk 14 (by omega) (k0_off193_eq k)
      (fun x => (outV_tile sh zr sc W ((i 0).val % 3) (arg4.view.read (Elt F) wt) k.val 14 hk (by omega) x).symm) (tile_step arg6 f6 _ k.val hk 13 (by omega) (k0_off191_eq k)
      (fun x => (outV_tile sh zr sc W ((i 0).val % 3) (arg4.view.read (Elt F) wt) k.val 13 hk (by omega) x).symm) (tile_step arg6 f6 _ k.val hk 12 (by omega) (k0_off189_eq k)
      (fun x => (outV_tile sh zr sc W ((i 0).val % 3) (arg4.view.read (Elt F) wt) k.val 12 hk (by omega) x).symm) (tile_step arg6 f6 _ k.val hk 11 (by omega) (k0_off187_eq k)
      (fun x => (outV_tile sh zr sc W ((i 0).val % 3) (arg4.view.read (Elt F) wt) k.val 11 hk (by omega) x).symm) (tile_step arg6 f6 _ k.val hk 10 (by omega) (k0_off185_eq k)
      (fun x => (outV_tile sh zr sc W ((i 0).val % 3) (arg4.view.read (Elt F) wt) k.val 10 hk (by omega) x).symm) (tile_step arg6 f6 _ k.val hk 9 (by omega) (k0_off183_eq k)
      (fun x => (outV_tile sh zr sc W ((i 0).val % 3) (arg4.view.read (Elt F) wt) k.val 9 hk (by omega) x).symm) (tile_step arg6 f6 _ k.val hk 8 (by omega) (k0_off181_eq k)
      (fun x => (outV_tile sh zr sc W ((i 0).val % 3) (arg4.view.read (Elt F) wt) k.val 8 hk (by omega) x).symm) (tile_step arg6 f6 _ k.val hk 7 (by omega) (k0_off179_eq k)
      (fun x => (outV_tile sh zr sc W ((i 0).val % 3) (arg4.view.read (Elt F) wt) k.val 7 hk (by omega) x).symm) (tile_step arg6 f6 _ k.val hk 6 (by omega) (k0_off177_eq k)
      (fun x => (outV_tile sh zr sc W ((i 0).val % 3) (arg4.view.read (Elt F) wt) k.val 6 hk (by omega) x).symm) (tile_step arg6 f6 _ k.val hk 5 (by omega) (k0_off175_eq k)
      (fun x => (outV_tile sh zr sc W ((i 0).val % 3) (arg4.view.read (Elt F) wt) k.val 5 hk (by omega) x).symm) (tile_step arg6 f6 _ k.val hk 4 (by omega) (k0_off173_eq k)
      (fun x => (outV_tile sh zr sc W ((i 0).val % 3) (arg4.view.read (Elt F) wt) k.val 4 hk (by omega) x).symm) (tile_step arg6 f6 _ k.val hk 3 (by omega) (k0_off171_eq k)
      (fun x => (outV_tile sh zr sc W ((i 0).val % 3) (arg4.view.read (Elt F) wt) k.val 3 hk (by omega) x).symm) (tile_step arg6 f6 _ k.val hk 2 (by omega) (k0_off169_eq k)
      (fun x => (outV_tile sh zr sc W ((i 0).val % 3) (arg4.view.read (Elt F) wt) k.val 2 hk (by omega) x).symm) (tile_step arg6 f6 _ k.val hk 1 (by omega) (k0_off167_eq k)
      (fun x => (outV_tile sh zr sc W ((i 0).val % 3) (arg4.view.read (Elt F) wt) k.val 1 hk (by omega) x).symm) (tile_step arg6 f6 _ k.val hk 0 (by omega) (k0_off165_eq k)
      (fun x => (outV_tile sh zr sc W ((i 0).val % 3) (arg4.view.read (Elt F) wt) k.val 0 hk (by omega) x).symm) (tile_none arg6 f6 _ k.val))))))))))))))))))))))))))))) y
  · iexists _
    isplitr [H7]
    swap
    · iexact H7
    ipureintro
    intro y
    refine Eq.trans (b := if (y 0).val / 16 = k.val ∧ (y 1).val < 128 * (27 + 1) then embV sh zr sc W ((i 0).val % 3) y else arg7.view.read (Elt F) f7 y) ?_
      (if_congr (and_iff_left (show (y 1).val < 3584 from (y 1).isLt)) rfl rfl)
    exact (tile_step arg7 f7 _ k.val hk 27 (by omega) (k0_off219_eq k)
      (fun x => (embV_tile sh zr sc W ((i 0).val % 3) k.val 27 hk (by omega) x).symm) (tile_step arg7 f7 _ k.val hk 26 (by omega) (k0_off217_eq k)
      (fun x => (embV_tile sh zr sc W ((i 0).val % 3) k.val 26 hk (by omega) x).symm) (tile_step arg7 f7 _ k.val hk 25 (by omega) (k0_off215_eq k)
      (fun x => (embV_tile sh zr sc W ((i 0).val % 3) k.val 25 hk (by omega) x).symm) (tile_step arg7 f7 _ k.val hk 24 (by omega) (k0_off213_eq k)
      (fun x => (embV_tile sh zr sc W ((i 0).val % 3) k.val 24 hk (by omega) x).symm) (tile_step arg7 f7 _ k.val hk 23 (by omega) (k0_off211_eq k)
      (fun x => (embV_tile sh zr sc W ((i 0).val % 3) k.val 23 hk (by omega) x).symm) (tile_step arg7 f7 _ k.val hk 22 (by omega) (k0_off209_eq k)
      (fun x => (embV_tile sh zr sc W ((i 0).val % 3) k.val 22 hk (by omega) x).symm) (tile_step arg7 f7 _ k.val hk 21 (by omega) (k0_off207_eq k)
      (fun x => (embV_tile sh zr sc W ((i 0).val % 3) k.val 21 hk (by omega) x).symm) (tile_step arg7 f7 _ k.val hk 20 (by omega) (k0_off205_eq k)
      (fun x => (embV_tile sh zr sc W ((i 0).val % 3) k.val 20 hk (by omega) x).symm) (tile_step arg7 f7 _ k.val hk 19 (by omega) (k0_off203_eq k)
      (fun x => (embV_tile sh zr sc W ((i 0).val % 3) k.val 19 hk (by omega) x).symm) (tile_step arg7 f7 _ k.val hk 18 (by omega) (k0_off201_eq k)
      (fun x => (embV_tile sh zr sc W ((i 0).val % 3) k.val 18 hk (by omega) x).symm) (tile_step arg7 f7 _ k.val hk 17 (by omega) (k0_off199_eq k)
      (fun x => (embV_tile sh zr sc W ((i 0).val % 3) k.val 17 hk (by omega) x).symm) (tile_step arg7 f7 _ k.val hk 16 (by omega) (k0_off197_eq k)
      (fun x => (embV_tile sh zr sc W ((i 0).val % 3) k.val 16 hk (by omega) x).symm) (tile_step arg7 f7 _ k.val hk 15 (by omega) (k0_off195_eq k)
      (fun x => (embV_tile sh zr sc W ((i 0).val % 3) k.val 15 hk (by omega) x).symm) (tile_step arg7 f7 _ k.val hk 14 (by omega) (k0_off193_eq k)
      (fun x => (embV_tile sh zr sc W ((i 0).val % 3) k.val 14 hk (by omega) x).symm) (tile_step arg7 f7 _ k.val hk 13 (by omega) (k0_off191_eq k)
      (fun x => (embV_tile sh zr sc W ((i 0).val % 3) k.val 13 hk (by omega) x).symm) (tile_step arg7 f7 _ k.val hk 12 (by omega) (k0_off189_eq k)
      (fun x => (embV_tile sh zr sc W ((i 0).val % 3) k.val 12 hk (by omega) x).symm) (tile_step arg7 f7 _ k.val hk 11 (by omega) (k0_off187_eq k)
      (fun x => (embV_tile sh zr sc W ((i 0).val % 3) k.val 11 hk (by omega) x).symm) (tile_step arg7 f7 _ k.val hk 10 (by omega) (k0_off185_eq k)
      (fun x => (embV_tile sh zr sc W ((i 0).val % 3) k.val 10 hk (by omega) x).symm) (tile_step arg7 f7 _ k.val hk 9 (by omega) (k0_off183_eq k)
      (fun x => (embV_tile sh zr sc W ((i 0).val % 3) k.val 9 hk (by omega) x).symm) (tile_step arg7 f7 _ k.val hk 8 (by omega) (k0_off181_eq k)
      (fun x => (embV_tile sh zr sc W ((i 0).val % 3) k.val 8 hk (by omega) x).symm) (tile_step arg7 f7 _ k.val hk 7 (by omega) (k0_off179_eq k)
      (fun x => (embV_tile sh zr sc W ((i 0).val % 3) k.val 7 hk (by omega) x).symm) (tile_step arg7 f7 _ k.val hk 6 (by omega) (k0_off177_eq k)
      (fun x => (embV_tile sh zr sc W ((i 0).val % 3) k.val 6 hk (by omega) x).symm) (tile_step arg7 f7 _ k.val hk 5 (by omega) (k0_off175_eq k)
      (fun x => (embV_tile sh zr sc W ((i 0).val % 3) k.val 5 hk (by omega) x).symm) (tile_step arg7 f7 _ k.val hk 4 (by omega) (k0_off173_eq k)
      (fun x => (embV_tile sh zr sc W ((i 0).val % 3) k.val 4 hk (by omega) x).symm) (tile_step arg7 f7 _ k.val hk 3 (by omega) (k0_off171_eq k)
      (fun x => (embV_tile sh zr sc W ((i 0).val % 3) k.val 3 hk (by omega) x).symm) (tile_step arg7 f7 _ k.val hk 2 (by omega) (k0_off169_eq k)
      (fun x => (embV_tile sh zr sc W ((i 0).val % 3) k.val 2 hk (by omega) x).symm) (tile_step arg7 f7 _ k.val hk 1 (by omega) (k0_off167_eq k)
      (fun x => (embV_tile sh zr sc W ((i 0).val % 3) k.val 1 hk (by omega) x).symm) (tile_step arg7 f7 _ k.val hk 0 (by omega) (k0_off165_eq k)
      (fun x => (embV_tile sh zr sc W ((i 0).val % 3) k.val 0 hk (by omega) x).symm) (tile_none arg7 f7 _ k.val))))))))))))))))))))))))))))) y
/-- One trip of the main loop: sixteen rows of block `i + 2` are issued, sixteen rows of both results are computed. -/
theorem tripI (c : Dev nD) (i : grid0.Coords) (h2 : k0_cond2 i = 1#1) (hi : (i 0).val + 2 < 256) (q : PosShare TreeShare)
    (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (hs) (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(Iss c ids T (nextSlot i) ((i 0).val + 2) (16 * k.val) ∗ idsAt c q ids ∗ slotAt c ((i 0).val % 3) hs W ∗ wholeAt c (Memref.whole cc0_scratch3) sh ∗ wholeAt c (Memref.whole cc0_scratch2) zr
      ∗ wholeAt c (Memref.whole cc0_scratch1) sc ∗ wholeAt c arg4 wt ∗ wholeAt c arg6 f6 ∗ wholeAt c arg7 f7)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(Iss c ids T (nextSlot i) ((i 0).val + 2) (16 * k.val + 16) ∗ idsAt c q ids ∗ slotAt c ((i 0).val % 3) hs W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k.val then outV sh zr sc W ((i 0).val % 3) (arg4.view.read (Elt F) wt) y
            else arg6.view.read (Elt F) f6 y⌝ ∗ wholeAt c arg6 f6')
      ∗ (∃ f7', ⌜∀ y, arg7.view.read (Elt F) f7' y = if (y 0).val / 16 = k.val then embV sh zr sc W ((i 0).val % 3) y
            else arg7.view.read (Elt F) f7 y⌝ ∗ wholeAt c arg7 f7'))) := by
  unfold k0_t4_body
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  simp only [k0_part11_eq_skeleton, k0_part12_eq_skeleton, k0_part13_eq_skeleton, k0_part14_eq_skeleton, k0_part15_eq_skeleton]
  unfold k0_part11_skel k0_part12_skel k0_part13_skel k0_part14_skel k0_part15_skel
  have hk : k.val < 8 := lt_of_lt_of_eq k.isLt (by decide +kernel)

  have hsh := fun h => read2 (off := k0_off163 k) (h := h) k.val hk (k0_off163_eq k) (Memref.whole cc0_scratch3) sh
  have hzr := fun h => read2 (off := k0_off163 k) (h := h) k.val hk (k0_off163_eq k) (Memref.whole cc0_scratch2) zr
  have hsc := fun h => read2 (off := k0_off163 k) (h := h) k.val hk (k0_off163_eq k) (Memref.whole cc0_scratch1) sc
  have hw0 := fun h => readW (off := k0_off164 i k) (h := h) ((i 0).val % 3) k.val 0 (Nat.mod_lt _ (by omega)) hk (by omega) (k0_off164_eq i k) W
  have hw1 := fun h => readW (off := k0_off166 i k) (h := h) ((i 0).val % 3) k.val 1 (Nat.mod_lt _ (by omega)) hk (by omega) (k0_off166_eq i k) W
  have hw2 := fun h => readW (off := k0_off168 i k) (h := h) ((i 0).val % 3) k.val 2 (Nat.mod_lt _ (by omega)) hk (by omega) (k0_off168_eq i k) W
  have hw3 := fun h => readW (off := k0_off170 i k) (h := h) ((i 0).val % 3) k.val 3 (Nat.mod_lt _ (by omega)) hk (by omega) (k0_off170_eq i k) W
  have hw4 := fun h => readW (off := k0_off172 i k) (h := h) ((i 0).val % 3) k.val 4 (Nat.mod_lt _ (by omega)) hk (by omega) (k0_off172_eq i k) W
  have hw5 := fun h => readW (off := k0_off174 i k) (h := h) ((i 0).val % 3) k.val 5 (Nat.mod_lt _ (by omega)) hk (by omega) (k0_off174_eq i k) W
  have hw6 := fun h => readW (off := k0_off176 i k) (h := h) ((i 0).val % 3) k.val 6 (Nat.mod_lt _ (by omega)) hk (by omega) (k0_off176_eq i k) W
  have hw7 := fun h => readW (off := k0_off178 i k) (h := h) ((i 0).val % 3) k.val 7 (Nat.mod_lt _ (by omega)) hk (by omega) (k0_off178_eq i k) W
  have hw8 := fun h => readW (off := k0_off180 i k) (h := h) ((i 0).val % 3) k.val 8 (Nat.mod_lt _ (by omega)) hk (by omega) (k0_off180_eq i k) W
  have hw9 := fun h => readW (off := k0_off182 i k) (h := h) ((i 0).val % 3) k.val 9 (Nat.mod_lt _ (by omega)) hk (by omega) (k0_off182_eq i k) W
  have hw10 := fun h => readW (off := k0_off184 i k) (h := h) ((i 0).val % 3) k.val 10 (Nat.mod_lt _ (by omega)) hk (by omega) (k0_off184_eq i k) W
  have hw11 := fun h => readW (off := k0_off186 i k) (h := h) ((i 0).val % 3) k.val 11 (Nat.mod_lt _ (by omega)) hk (by omega) (k0_off186_eq i k) W
  have hw12 := fun h => readW (off := k0_off188 i k) (h := h) ((i 0).val % 3) k.val 12 (Nat.mod_lt _ (by omega)) hk (by omega) (k0_off188_eq i k) W
  have hw13 := fun h => readW (off := k0_off190 i k) (h := h) ((i 0).val % 3) k.val 13 (Nat.mod_lt _ (by omega)) hk (by omega) (k0_off190_eq i k) W
  have hw14 := fun h => readW (off := k0_off192 i k) (h := h) ((i 0).val % 3) k.val 14 (Nat.mod_lt _ (by omega)) hk (by omega) (k0_off192_eq i k) W
  have hw15 := fun h => readW (off := k0_off194 i k) (h := h) ((i 0).val % 3) k.val 15 (Nat.mod_lt _ (by omega)) hk (by omega) (k0_off194_eq i k) W
  have hw16 := fun h => readW (off := k0_off196 i k) (h := h) ((i 0).val % 3) k.val 16 (Nat.mod_lt _ (by omega)) hk (by omega) (k0_off196_eq i k) W
  have hw17 := fun h => readW (off := k0_off198 i k) (h := h) ((i 0).val % 3) k.val 17 (Nat.mod_lt _ (by omega)) hk (by omega) (k0_off198_eq i k) W
  have hw18 := fun h => readW (off := k0_off200 i k) (h := h) ((i 0).val % 3) k.val 18 (Nat.mod_lt _ (by omega)) hk (by omega) (k0_off200_eq i k) W
  have hw19 := fun h => readW (off := k0_off202 i k) (h := h) ((i 0).val % 3) k.val 19 (Nat.mod_lt _ (by omega)) hk (by omega) (k0_off202_eq i k) W
  have hw20 := fun h => readW (off := k0_off204 i k) (h := h) ((i 0).val % 3) k.val 20 (Nat.mod_lt _ (by omega)) hk (by omega) (k0_off204_eq i k) W
  have hw21 := fun h => readW (off := k0_off206 i k) (h := h) ((i 0).val % 3) k.val 21 (Nat.mod_lt _ (by omega)) hk (by omega) (k0_off206_eq i k) W
  have hw22 := fun h => readW (off := k0_off208 i k) (h := h) ((i 0).val % 3) k.val 22 (Nat.mod_lt _ (by omega)) hk (by omega) (k0_off208_eq i k) W
  have hw23 := fun h => readW (off := k0_off210 i k) (h := h) ((i 0).val % 3) k.val 23 (Nat.mod_lt _ (by omega)) hk (by omega) (k0_off210_eq i k) W
  have hw24 := fun h => readW (off := k0_off212 i k) (h := h) ((i 0).val % 3) k.val 24 (Nat.mod_lt _ (by omega)) hk (by omega) (k0_off212_eq i k) W
  have hw25 := fun h => readW (off := k0_off214 i k) (h := h) ((i 0).val % 3) k.val 25 (Nat.mod_lt _ (by omega)) hk (by omega) (k0_off214_eq i k) W
  have hw26 := fun h => readW (off := k0_off216 i k) (h := h) ((i 0).val % 3) k.val 26 (Nat.mod_lt _ (by omega)) hk (by omega) (k0_off216_eq i k) W
  have hw27 := fun h => readW (off := k0_off218 i k) (h := h) ((i 0).val % 3) k.val 27 (Nat.mod_lt _ (by omega)) hk (by omega) (k0_off218_eq i k) W
  have hg0 := fun h => readG 0 (by omega) 0 rfl arg4 wt (h := h)
  have hg1 := fun h => readG 1 (by omega) 128 rfl arg4 wt (h := h)
  have hg2 := fun h => readG 2 (by omega) 256 rfl arg4 wt (h := h)
  have hg3 := fun h => readG 3 (by omega) 384 rfl arg4 wt (h := h)
  have hg4 := fun h => readG 4 (by omega) 512 rfl arg4 wt (h := h)
  have hg5 := fun h => readG 5 (by omega) 640 rfl arg4 wt (h := h)
  have hg6 := fun h => readG 6 (by omega) 768 rfl arg4 wt (h := h)
  have hg7 := fun h => readG 7 (by omega) 896 rfl arg4 wt (h := h)
  have hg8 := fun h => readG 8 (by omega) 1024 rfl arg4 wt (h := h)
  have hg9 := fun h => readG 9 (by omega) 1152 rfl arg4 wt (h := h)
  have hg10 := fun h => readG 10 (by omega) 1280 rfl arg4 wt (h := h)
  have hg11 := fun h => readG 11 (by omega) 1408 rfl arg4 wt (h := h)
  have hg12 := fun h => readG 12 (by omega) 1536 rfl arg4 wt (h := h)
  have hg13 := fun h => readG 13 (by omega) 1664 rfl arg4 wt (h := h)
  have hg14 := fun h => readG 14 (by omega) 1792 rfl arg4 wt (h := h)
  have hg15 := fun h => readG 15 (by omega) 1920 rfl arg4 wt (h := h)
  have hg16 := fun h => readG 16 (by omega) 2048 rfl arg4 wt (h := h)
  have hg17 := fun h => readG 17 (by omega) 2176 rfl arg4 wt (h := h)
  have hg18 := fun h => readG 18 (by omega) 2304 rfl arg4 wt (h := h)
  have hg19 := fun h => readG 19 (by omega) 2432 rfl arg4 wt (h := h)
  have hg20 := fun h => readG 20 (by omega) 2560 rfl arg4 wt (h := h)
  have hg21 := fun h => readG 21 (by omega) 2688 rfl arg4 wt (h := h)
  have hg22 := fun h => readG 22 (by omega) 2816 rfl arg4 wt (h := h)
  have hg23 := fun h => readG 23 (by omega) 2944 rfl arg4 wt (h := h)
  have hg24 := fun h => readG 24 (by omega) 3072 rfl arg4 wt (h := h)
  have hg25 := fun h => readG 25 (by omega) 3200 rfl arg4 wt (h := h)
  have hg26 := fun h => readG 26 (by omega) 3328 rfl arg4 wt (h := h)
  have hg27 := fun h => readG 27 (by omega) 3456 rfl arg4 wt (h := h)
  have hr : ∀ off h (x : S1.Idx), (View.readAt (Elt F) (Memref.whole main_v0).view (Rect.unit (s := S32768) off S1.size h).toLoadRect ids x).toNat < 64000 :=
    fun off h x => hid _
  iintro ⟨HI, Hid, Hr, Hsh, Hzr, Hsc, Hw, H6, H7⟩
  sl_exec (disch := exact fun _ => src_inb _ (hr _ _ _))
  iapply (issue c none ids T (nextSlot i) ((i 0).val + 2) (16 * k.val) (by omega) _ _ (k0_off101_eq i k) _ _ _ rfl
    (read_tok _ _ _ _ _ _ (k0_off99_eq i k) (by omega) (by omega)) _ _ (k0_off100_eq i)) $$ HI
  iintro HI
  sl_exec (disch := exact fun _ => src_inb _ (hr _ _ _))
  iapply (issue c none ids T (nextSlot i) ((i 0).val + 2) (16 * k.val + 1) (by omega) _ _ (k0_off105_eq i k) _ _ _ rfl
    (read_tok _ _ _ _ _ _ (k0_off103_eq i k) (by omega) (by omega)) _ _ (k0_off104_eq i)) $$ HI
  iintro HI
  sl_exec (disch := exact fun _ => src_inb _ (hr _ _ _))
  iapply (issue c none ids T (nextSlot i) ((i 0).val + 2) (16 * k.val + 2) (by omega) _ _ (k0_off109_eq i k) _ _ _ rfl
    (read_tok _ _ _ _ _ _ (k0_off107_eq i k) (by omega) (by omega)) _ _ (k0_off108_eq i)) $$ HI
  iintro HI
  sl_exec (disch := exact fun _ => src_inb _ (hr _ _ _))
  iapply (issue c none ids T (nextSlot i) ((i 0).val + 2) (16 * k.val + 3) (by omega) _ _ (k0_off113_eq i k) _ _ _ rfl
    (read_tok _ _ _ _ _ _ (k0_off111_eq i k) (by omega) (by omega)) _ _ (k0_off112_eq i)) $$ HI
  iintro HI
  sl_exec (disch := exact fun _ => src_inb _ (hr _ _ _))
  iapply (issue c none ids T (nextSlot i) ((i 0).val + 2) (16 * k.val + 4) (by omega) _ _ (k0_off117_eq i k) _ _ _ rfl
    (read_tok _ _ _ _ _ _ (k0_off115_eq i k) (by omega) (by omega)) _ _ (k0_off116_eq i)) $$ HI
  iintro HI
  sl_exec (disch := exact fun _ => src_inb _ (hr _ _ _))
  iapply (issue c none ids T (nextSlot i) ((i 0).val + 2) (16 * k.val + 5) (by omega) _ _ (k0_off121_eq i k) _ _ _ rfl
    (read_tok _ _ _ _ _ _ (k0_off119_eq i k) (by omega) (by omega)) _ _ (k0_off120_eq i)) $$ HI
  iintro HI
  sl_exec (disch := exact fun _ => src_inb _ (hr _ _ _))
  iapply (issue c none ids T (nextSlot i) ((i 0).val + 2) (16 * k.val + 6) (by omega) _ _ (k0_off125_eq i k) _ _ _ rfl
    (read_tok _ _ _ _ _ _ (k0_off123_eq i k) (by omega) (by omega)) _ _ (k0_off124_eq i)) $$ HI
  iintro HI
  sl_exec (disch := exact fun _ => src_inb _ (hr _ _ _))
  iapply (issue c none ids T (nextSlot i) ((i 0).val + 2) (16 * k.val + 7) (by omega) _ _ (k0_off129_eq i k) _ _ _ rfl
    (read_tok _ _ _ _ _ _ (k0_off127_eq i k) (by omega) (by omega)) _ _ (k0_off128_eq i)) $$ HI
  iintro HI
  sl_exec (disch := exact fun _ => src_inb _ (hr _ _ _))
  iapply (issue c none ids T (nextSlot i) ((i 0).val + 2) (16 * k.val + 8) (by omega) _ _ (k0_off133_eq i k) _ _ _ rfl
    (read_tok _ _ _ _ _ _ (k0_off131_eq i k) (by omega) (by omega)) _ _ (k0_off132_eq i)) $$ HI
  iintro HI
  sl_exec (disch := exact fun _ => src_inb _ (hr _ _ _))
  iapply (issue c none ids T (nextSlot i) ((i 0).val + 2) (16 * k.val + 9) (by omega) _ _ (k0_off137_eq i k) _ _ _ rfl
    (read_tok _ _ _ _ _ _ (k0_off135_eq i k) (by omega) (by omega)) _ _ (k0_off136_eq i)) $$ HI
  iintro HI
  sl_exec (disch := exact fun _ => src_inb _ (hr _ _ _))
  iapply (issue c none ids T (nextSlot i) ((i 0).val + 2) (16 * k.val + 10) (by omega) _ _ (k0_off141_eq i k) _ _ _ rfl
    (read_tok _ _ _ _ _ _ (k0_off139_eq i k) (by omega) (by omega)) _ _ (k0_off140_eq i)) $$ HI
  iintro HI
  sl_exec (disch := exact fun _ => src_inb _ (hr _ _ _))
  iapply (issue c none ids T (nextSlot i) ((i 0).val + 2) (16 * k.val + 11) (by omega) _ _ (k0_off145_eq i k) _ _ _ rfl
    (read_tok _ _ _ _ _ _ (k0_off143_eq i k) (by omega) (by omega)) _ _ (k0_off144_eq i)) $$ HI
  iintro HI
  sl_exec (disch := exact fun _ => src_inb _ (hr _ _ _))
  iapply (issue c none ids T (nextSlot i) ((i 0).val + 2) (16 * k.val + 12) (by omega) _ _ (k0_off149_eq i k) _ _ _ rfl
    (read_tok _ _ _ _ _ _ (k0_off147_eq i k) (by omega) (by omega)) _ _ (k0_off148_eq i)) $$ HI
  iintro HI
  sl_exec (disch := exact fun _ => src_inb _ (hr _ _ _))
  iapply (issue c none ids T (nextSlot i) ((i 0).val + 2) (16 * k.val + 13) (by omega) _ _ (k0_off153_eq i k) _ _ _ rfl
    (read_tok _ _ _ _ _ _ (k0_off151_eq i k) (by omega) (by omega)) _ _ (k0_off152_eq i)) $$ HI
  iintro HI
  sl_exec (disch := exact fun _ => src_inb _ (hr _ _ _))
  iapply (issue c none ids T (nextSlot i) ((i 0).val + 2) (16 * k.val + 14) (by omega) _ _ (k0_off157_eq i k) _ _ _ rfl
    (read_tok _ _ _ _ _ _ (k0_off155_eq i k) (by omega) (by omega)) _ _ (k0_off156_eq i)) $$ HI
  iintro HI
  sl_exec (disch := exact fun _ => src_inb _ (hr _ _ _))
  iapply (issue c none ids T (nextSlot i) ((i 0).val + 2) (16 * k.val + 15) (by omega) _ _ (k0_off161_eq i k) _ _ _ rfl
    (read_tok _ _ _ _ _ _ (k0_off159_eq i k) (by omega) (by omega)) _ _ (k0_off160_eq i)) $$ HI
  iintro HI
  sl_exec
  simp only [hsh, hzr, hsc, hw0, hw1, hw2, hw3, hw4, hw5, hw6, hw7, hw8, hw9, hw10, hw11, hw12, hw13, hw14, hw15, hw16, hw17, hw18, hw19, hw20, hw21, hw22, hw23, hw24, hw25, hw26, hw27, hg0, hg1, hg2, hg3, hg4, hg5, hg6, hg7, hg8, hg9, hg10, hg11, hg12, hg13, hg14, hg15, hg16, hg17, hg18, hg19, hg20, hg21, hg22, hg23, hg24, hg25, hg26, hg27]
  sl_step
  isplitl [HI]; · iexact HI
  isplitl [Hid]; · iexact Hid
  isplitl [Hr]; · iexact Hr
  isplitl [Hsh]; · iexact Hsh
  isplitl [Hzr]; · iexact Hzr
  isplitl [Hsc]; · iexact Hsc
  isplitl [Hw]; · iexact Hw
  isplitl [H6]
  · iexists _
    isplitr [H6]
    swap
    · iexact H6
    ipureintro
    intro y
    refine Eq.trans (b := if (y 0).val / 16 = k.val ∧ (y 1).val < 128 * (27 + 1) then outV sh zr sc W ((i 0).val % 3) (arg4.view.read (Elt F) wt) y else arg6.view.read (Elt F) f6 y) ?_
      (if_congr (and_iff_left (show (y 1).val < 3584 from (y 1).isLt)) rfl rfl)
    exact (tile_step arg6 f6 _ k.val hk 27 (by omega) (k0_off219_eq k)
      (fun x => (outV_tile sh zr sc W ((i 0).val % 3) (arg4.view.read (Elt F) wt) k.val 27 hk (by omega) x).symm) (tile_step arg6 f6 _ k.val hk 26 (by omega) (k0_off217_eq k)
      (fun x => (outV_tile sh zr sc W ((i 0).val % 3) (arg4.view.read (Elt F) wt) k.val 26 hk (by omega) x).symm) (tile_step arg6 f6 _ k.val hk 25 (by omega) (k0_off215_eq k)
      (fun x => (outV_tile sh zr sc W ((i 0).val % 3) (arg4.view.read (Elt F) wt) k.val 25 hk (by omega) x).symm) (tile_step arg6 f6 _ k.val hk 24 (by omega) (k0_off213_eq k)
      (fun x => (outV_tile sh zr sc W ((i 0).val % 3) (arg4.view.read (Elt F) wt) k.val 24 hk (by omega) x).symm) (tile_step arg6 f6 _ k.val hk 23 (by omega) (k0_off211_eq k)
      (fun x => (outV_tile sh zr sc W ((i 0).val % 3) (arg4.view.read (Elt F) wt) k.val 23 hk (by omega) x).symm) (tile_step arg6 f6 _ k.val hk 22 (by omega) (k0_off209_eq k)
      (fun x => (outV_tile sh zr sc W ((i 0).val % 3) (arg4.view.read (Elt F) wt) k.val 22 hk (by omega) x).symm) (tile_step arg6 f6 _ k.val hk 21 (by omega) (k0_off207_eq k)
      (fun x => (outV_tile sh zr sc W ((i 0).val % 3) (arg4.view.read (Elt F) wt) k.val 21 hk (by omega) x).symm) (tile_step arg6 f6 _ k.val hk 20 (by omega) (k0_off205_eq k)
      (fun x => (outV_tile sh zr sc W ((i 0).val % 3) (arg4.view.read (Elt F) wt) k.val 20 hk (by omega) x).symm) (tile_step arg6 f6 _ k.val hk 19 (by omega) (k0_off203_eq k)
      (fun x => (outV_tile sh zr sc W ((i 0).val % 3) (arg4.view.read (Elt F) wt) k.val 19 hk (by omega) x).symm) (tile_step arg6 f6 _ k.val hk 18 (by omega) (k0_off201_eq k)
      (fun x => (outV_tile sh zr sc W ((i 0).val % 3) (arg4.view.read (Elt F) wt) k.val 18 hk (by omega) x).symm) (tile_step arg6 f6 _ k.val hk 17 (by omega) (k0_off199_eq k)
      (fun x => (outV_tile sh zr sc W ((i 0).val % 3) (arg4.view.read (Elt F) wt) k.val 17 hk (by omega) x).symm) (tile_step arg6 f6 _ k.val hk 16 (by omega) (k0_off197_eq k)
      (fun x => (outV_tile sh zr sc W ((i 0).val % 3) (arg4.view.read (Elt F) wt) k.val 16 hk (by omega) x).symm) (tile_step arg6 f6 _ k.val hk 15 (by omega) (k0_off195_eq k)
      (fun x => (outV_tile sh zr sc W ((i 0).val % 3) (arg4.view.read (Elt F) wt) k.val 15 hk (by omega) x).symm) (tile_step arg6 f6 _ k.val hk 14 (by omega) (k0_off193_eq k)
      (fun x => (outV_tile sh zr sc W ((i 0).val % 3) (arg4.view.read (Elt F) wt) k.val 14 hk (by omega) x).symm) (tile_step arg6 f6 _ k.val hk 13 (by omega) (k0_off191_eq k)
      (fun x => (outV_tile sh zr sc W ((i 0).val % 3) (arg4.view.read (Elt F) wt) k.val 13 hk (by omega) x).symm) (tile_step arg6 f6 _ k.val hk 12 (by omega) (k0_off189_eq k)
      (fun x => (outV_tile sh zr sc W ((i 0).val % 3) (arg4.view.read (Elt F) wt) k.val 12 hk (by omega) x).symm) (tile_step arg6 f6 _ k.val hk 11 (by omega) (k0_off187_eq k)
      (fun x => (outV_tile sh zr sc W ((i 0).val % 3) (arg4.view.read (Elt F) wt) k.val 11 hk (by omega) x).symm) (tile_step arg6 f6 _ k.val hk 10 (by omega) (k0_off185_eq k)
      (fun x => (outV_tile sh zr sc W ((i 0).val % 3) (arg4.view.read (Elt F) wt) k.val 10 hk (by omega) x).symm) (tile_step arg6 f6 _ k.val hk 9 (by omega) (k0_off183_eq k)
      (fun x => (outV_tile sh zr sc W ((i 0).val % 3) (arg4.view.read (Elt F) wt) k.val 9 hk (by omega) x).symm) (tile_step arg6 f6 _ k.val hk 8 (by omega) (k0_off181_eq k)
      (fun x => (outV_tile sh zr sc W ((i 0).val % 3) (arg4.view.read (Elt F) wt) k.val 8 hk (by omega) x).symm) (tile_step arg6 f6 _ k.val hk 7 (by omega) (k0_off179_eq k)
      (fun x => (outV_tile sh zr sc W ((i 0).val % 3) (arg4.view.read (Elt F) wt) k.val 7 hk (by omega) x).symm) (tile_step arg6 f6 _ k.val hk 6 (by omega) (k0_off177_eq k)
      (fun x => (outV_tile sh zr sc W ((i 0).val % 3) (arg4.view.read (Elt F) wt) k.val 6 hk (by omega) x).symm) (tile_step arg6 f6 _ k.val hk 5 (by omega) (k0_off175_eq k)
      (fun x => (outV_tile sh zr sc W ((i 0).val % 3) (arg4.view.read (Elt F) wt) k.val 5 hk (by omega) x).symm) (tile_step arg6 f6 _ k.val hk 4 (by omega) (k0_off173_eq k)
      (fun x => (outV_tile sh zr sc W ((i 0).val % 3) (arg4.view.read (Elt F) wt) k.val 4 hk (by omega) x).symm) (tile_step arg6 f6 _ k.val hk 3 (by omega) (k0_off171_eq k)
      (fun x => (outV_tile sh zr sc W ((i 0).val % 3) (arg4.view.read (Elt F) wt) k.val 3 hk (by omega) x).symm) (tile_step arg6 f6 _ k.val hk 2 (by omega) (k0_off169_eq k)
      (fun x => (outV_tile sh zr sc W ((i 0).val % 3) (arg4.view.read (Elt F) wt) k.val 2 hk (by omega) x).symm) (tile_step arg6 f6 _ k.val hk 1 (by omega) (k0_off167_eq k)
      (fun x => (outV_tile sh zr sc W ((i 0).val % 3) (arg4.view.read (Elt F) wt) k.val 1 hk (by omega) x).symm) (tile_step arg6 f6 _ k.val hk 0 (by omega) (k0_off165_eq k)
      (fun x => (outV_tile sh zr sc W ((i 0).val % 3) (arg4.view.read (Elt F) wt) k.val 0 hk (by omega) x).symm) (tile_none arg6 f6 _ k.val))))))))))))))))))))))))))))) y
  · iexists _
    isplitr [H7]
    swap
    · iexact H7
    ipureintro
    intro y
    refine Eq.trans (b := if (y 0).val / 16 = k.val ∧ (y 1).val < 128 * (27 + 1) then embV sh zr sc W ((i 0).val % 3) y else arg7.view.read (Elt F) f7 y) ?_
      (if_congr (and_iff_left (show (y 1).val < 3584 from (y 1).isLt)) rfl rfl)
    exact (tile_step arg7 f7 _ k.val hk 27 (by omega) (k0_off219_eq k)
      (fun x => (embV_tile sh zr sc W ((i 0).val % 3) k.val 27 hk (by omega) x).symm) (tile_step arg7 f7 _ k.val hk 26 (by omega) (k0_off217_eq k)
      (fun x => (embV_tile sh zr sc W ((i 0).val % 3) k.val 26 hk (by omega) x).symm) (tile_step arg7 f7 _ k.val hk 25 (by omega) (k0_off215_eq k)
      (fun x => (embV_tile sh zr sc W ((i 0).val % 3) k.val 25 hk (by omega) x).symm) (tile_step arg7 f7 _ k.val hk 24 (by omega) (k0_off213_eq k)
      (fun x => (embV_tile sh zr sc W ((i 0).val % 3) k.val 24 hk (by omega) x).symm) (tile_step arg7 f7 _ k.val hk 23 (by omega) (k0_off211_eq k)
      (fun x => (embV_tile sh zr sc W ((i 0).val % 3) k.val 23 hk (by omega) x).symm) (tile_step arg7 f7 _ k.val hk 22 (by omega) (k0_off209_eq k)
      (fun x => (embV_tile sh zr sc W ((i 0).val % 3) k.val 22 hk (by omega) x).symm) (tile_step arg7 f7 _ k.val hk 21 (by omega) (k0_off207_eq k)
      (fun x => (embV_tile sh zr sc W ((i 0).val % 3) k.val 21 hk (by omega) x).symm) (tile_step arg7 f7 _ k.val hk 20 (by omega) (k0_off205_eq k)
      (fun x => (embV_tile sh zr sc W ((i 0).val % 3) k.val 20 hk (by omega) x).symm) (tile_step arg7 f7 _ k.val hk 19 (by omega) (k0_off203_eq k)
      (fun x => (embV_tile sh zr sc W ((i 0).val % 3) k.val 19 hk (by omega) x).symm) (tile_step arg7 f7 _ k.val hk 18 (by omega) (k0_off201_eq k)
      (fun x => (embV_tile sh zr sc W ((i 0).val % 3) k.val 18 hk (by omega) x).symm) (tile_step arg7 f7 _ k.val hk 17 (by omega) (k0_off199_eq k)
      (fun x => (embV_tile sh zr sc W ((i 0).val % 3) k.val 17 hk (by omega) x).symm) (tile_step arg7 f7 _ k.val hk 16 (by omega) (k0_off197_eq k)
      (fun x => (embV_tile sh zr sc W ((i 0).val % 3) k.val 16 hk (by omega) x).symm) (tile_step arg7 f7 _ k.val hk 15 (by omega) (k0_off195_eq k)
      (fun x => (embV_tile sh zr sc W ((i 0).val % 3) k.val 15 hk (by omega) x).symm) (tile_step arg7 f7 _ k.val hk 14 (by omega) (k0_off193_eq k)
      (fun x => (embV_tile sh zr sc W ((i 0).val % 3) k.val 14 hk (by omega) x).symm) (tile_step arg7 f7 _ k.val hk 13 (by omega) (k0_off191_eq k)
      (fun x => (embV_tile sh zr sc W ((i 0).val % 3) k.val 13 hk (by omega) x).symm) (tile_step arg7 f7 _ k.val hk 12 (by omega) (k0_off189_eq k)
      (fun x => (embV_tile sh zr sc W ((i 0).val % 3) k.val 12 hk (by omega) x).symm) (tile_step arg7 f7 _ k.val hk 11 (by omega) (k0_off187_eq k)
      (fun x => (embV_tile sh zr sc W ((i 0).val % 3) k.val 11 hk (by omega) x).symm) (tile_step arg7 f7 _ k.val hk 10 (by omega) (k0_off185_eq k)
      (fun x => (embV_tile sh zr sc W ((i 0).val % 3) k.val 10 hk (by omega) x).symm) (tile_step arg7 f7 _ k.val hk 9 (by omega) (k0_off183_eq k)
      (fun x => (embV_tile sh zr sc W ((i 0).val % 3) k.val 9 hk (by omega) x).symm) (tile_step arg7 f7 _ k.val hk 8 (by omega) (k0_off181_eq k)
      (fun x => (embV_tile sh zr sc W ((i 0).val % 3) k.val 8 hk (by omega) x).symm) (tile_step arg7 f7 _ k.val hk 7 (by omega) (k0_off179_eq k)
      (fun x => (embV_tile sh zr sc W ((i 0).val % 3) k.val 7 hk (by omega) x).symm) (tile_step arg7 f7 _ k.val hk 6 (by omega) (k0_off177_eq k)
      (fun x => (embV_tile sh zr sc W ((i 0).val % 3) k.val 6 hk (by omega) x).symm) (tile_step arg7 f7 _ k.val hk 5 (by omega) (k0_off175_eq k)
      (fun x => (embV_tile sh zr sc W ((i 0).val % 3) k.val 5 hk (by omega) x).symm) (tile_step arg7 f7 _ k.val hk 4 (by omega) (k0_off173_eq k)
      (fun x => (embV_tile sh zr sc W ((i 0).val % 3) k.val 4 hk (by omega) x).symm) (tile_step arg7 f7 _ k.val hk 3 (by omega) (k0_off171_eq k)
      (fun x => (embV_tile sh zr sc W ((i 0).val % 3) k.val 3 hk (by omega) x).symm) (tile_step arg7 f7 _ k.val hk 2 (by omega) (k0_off169_eq k)
      (fun x => (embV_tile sh zr sc W ((i 0).val % 3) k.val 2 hk (by omega) x).symm) (tile_step arg7 f7 _ k.val hk 1 (by omega) (k0_off167_eq k)
      (fun x => (embV_tile sh zr sc W ((i 0).val % 3) k.val 1 hk (by omega) x).symm) (tile_step arg7 f7 _ k.val hk 0 (by omega) (k0_off165_eq k)
      (fun x => (embV_tile sh zr sc W ((i 0).val % 3) k.val 0 hk (by omega) x).symm) (tile_none arg7 f7 _ k.val))))))))))))))))))))))))))))) y
end Cert.Kernel.Own
end
-- ==== Proof.K.Body.lean ====
module
public import proofs.«01_k».proof.Proof.K.Trip
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-! The whole point: the prologue (at the first point only), the per-token scales, zero points and shifts, the wait for the
point's rows, the main loop. -/

/-- The scales of the block's tokens, constant along each row. -/
def scM (x2 : S1x1x128.Idx → Elt F .i32) (x3 : S512x256.Idx → Elt F .bf16) : S128x128.Idx → Elt F .bf16 :=
  k0_pay84 (k0_pay74 x2) (iota .tc S128x128 32 [1] iota_S128x128_d1_w32) (k0_pay75 x2) (k0_pay76 x2) (k0_pay77 x2) (k0_pay78 x2)
    (k0_pay79 (F := F)) (k0_pay80 (F := F)) x3

/-- The zero points of the block's tokens, constant along each row. -/
def zrM (x2 : S1x1x128.Idx → Elt F .i32) (x3 : S512x256.Idx → Elt F .bf16) : S128x128.Idx → Elt F .bf16 :=
  k0_pay85 (k0_pay74 x2) (iota .tc S128x128 32 [1] iota_S128x128_d1_w32) (k0_pay75 x2) (k0_pay76 x2) (k0_pay77 x2) (k0_pay78 x2)
    (k0_pay79 (F := F)) (k0_pay80 (F := F)) x3

/-- The shifts of the block's tokens, constant along each row. -/
def shM (x2 : S1x1x128.Idx → Elt F .i32) : S128x128.Idx → Elt F .i32 := k0_pay86 (k0_pay72 x2)

/-- The first `16 k` rows read `G`, the others still read `f₀`. -/
def rowsDone (c : Dev nD) (m : Memref sig .tc .vmem S128x3584 .bf16) (f₀ : Buf (Elt F) (m.view.loc (c : Thread nD τ)))
    (G : S128x3584.Idx → Elt F .bf16) (k : ℕ) : sProp 𝕄 :=
  iprop(∃ f', ⌜∀ y : S128x3584.Idx, m.view.read (Elt F) f' y = if (y 0).val < 16 * k then G y else m.view.read (Elt F) f₀ y⌝ ∗ wholeAt c m f')

/-- What the main loop reads. -/
def reads (c : Dev nD) (i : grid0.Coords) (arg4 : Memref sig .tc .vmem S1x3584 .f32) (W : S3x128x3584.Idx → Elt F .i32)
    (sh : S128x128.Idx → Elt F .i32) (zr sc : S128x128.Idx → Elt F .bf16) (wt : Buf (Elt F) (arg4.view.loc (c : Thread nD τ))) : sProp 𝕄 :=
  iprop(slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt)

theorem rows_step (m : Memref sig .tc .vmem S128x3584 .bf16) (f₀ f f' : m.view.ty.Contents (Elt F))
    (G : S128x3584.Idx → Elt F .bf16) (k : ℕ)
    (hf : ∀ y : S128x3584.Idx, m.view.read (Elt F) f y = if (y 0).val < 16 * k then G y else m.view.read (Elt F) f₀ y)
    (hf' : ∀ y : S128x3584.Idx, m.view.read (Elt F) f' y = if (y 0).val / 16 = k then G y else m.view.read (Elt F) f y) (y : S128x3584.Idx) :
    m.view.read (Elt F) f' y = if (y 0).val < 16 * (k + 1) then G y else m.view.read (Elt F) f₀ y := by
  rw [hf' y, hf y]
  by_cases h1 : (y 0).val / 16 = k
  · rw [if_pos h1, if_pos (by omega)]
  · rw [if_neg h1]
    refine if_congr ?_ rfl rfl
    omega

theorem postN (c : Dev nD) (i : grid0.Coords) (arg4 : Memref sig .tc .vmem S1x3584 .f32)
    (arg6 arg7 : Memref sig .tc .vmem S128x3584 .bf16)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (g6 : Buf (Elt F) (arg6.view.loc (c : Thread nD τ))) (g7 : Buf (Elt F) (arg7.view.loc (c : Thread nD τ))) (k : ℕ)
    (e6 : ∀ y : S128x3584.Idx, arg6.view.read (Elt F) g6 y
      = if (y 0).val < 16 * k then outV sh zr sc W ((i 0).val % 3) (arg4.view.read (Elt F) wt) y else arg6.view.read (Elt F) f6 y)
    (e7 : ∀ y : S128x3584.Idx, arg7.view.read (Elt F) g7 y
      = if (y 0).val < 16 * k then embV sh zr sc W ((i 0).val % 3) y else arg7.view.read (Elt F) f7 y) (_ : Unit) :
    iprop(slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k then outV sh zr sc W ((i 0).val % 3) (arg4.view.read (Elt F) wt) y
            else arg6.view.read (Elt F) g6 y⌝ ∗ wholeAt c arg6 f6')
      ∗ (∃ f7', ⌜∀ y, arg7.view.read (Elt F) f7' y = if (y 0).val / 16 = k then embV sh zr sc W ((i 0).val % 3) y
            else arg7.view.read (Elt F) g7 y⌝ ∗ wholeAt c arg7 f7'))
    ⊢ (iprop((slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt)
      ∗ (∃ f', ⌜∀ y : S128x3584.Idx, arg6.view.read (Elt F) f' y
        = if (y 0).val < 16 * (k + 1) then outV sh zr sc W ((i 0).val % 3) (arg4.view.read (Elt F) wt) y else arg6.view.read (Elt F) f6 y⌝ ∗ wholeAt c arg6 f')
      ∗ (∃ f', ⌜∀ y : S128x3584.Idx, arg7.view.read (Elt F) f' y
        = if (y 0).val < 16 * (k + 1) then embV sh zr sc W ((i 0).val % 3) y else arg7.view.read (Elt F) f7 y⌝ ∗ wholeAt c arg7 f')) : sProp 𝕄) := by
  iintro ⟨Hr, Hsh, Hzr, Hsc, Hw, ⟨%h6, %d6, H6⟩, %h7, %d7, H7⟩
  isplitl [Hr Hsh Hzr Hsc Hw]
  · isplitl [Hr]; · iexact Hr
    isplitl [Hsh]; · iexact Hsh
    isplitl [Hzr]; · iexact Hzr
    isplitl [Hsc]; · iexact Hsc
    iexact Hw
  isplitl [H6]
  · iexists h6
    isplitr
    · ipureintro; exact rows_step arg6 f6 g6 h6 _ k e6 d6
    · iexact H6
  · iexists h7
    isplitr
    · ipureintro; exact rows_step arg7 f7 g7 h7 _ k e7 d7
    · iexact H7

theorem stepN (c : Dev nD) (i : grid0.Coords) (h2 : ¬ k0_cond2 i = 1#1)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(reads c i arg4 W sh zr sc wt
      ∗ rowsDone c arg6 f6 (outV sh zr sc W ((i 0).val % 3) (arg4.view.read (Elt F) wt)) k.val
      ∗ rowsDone c arg7 f7 (embV sh zr sc W ((i 0).val % 3)) k.val)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(reads c i arg4 W sh zr sc wt
      ∗ rowsDone c arg6 f6 (outV sh zr sc W ((i 0).val % 3) (arg4.view.read (Elt F) wt)) (k.val + 1)
      ∗ rowsDone c arg7 f7 (embV sh zr sc W ((i 0).val % 3)) (k.val + 1))) := by
  unfold reads rowsDone
  iintro ⟨⟨Hr, Hsh, Hzr, Hsc, Hw⟩, ⟨%g6, %e6, H6⟩, %g7, %e7, H7⟩
  iapply (wp_mono frame _ _ (postN c i arg4 arg6 arg7 W sh zr sc wt f6 f7 g6 g7 k.val e6 e7))
  iapply (tripN c i h2 arg2 harg2 arg3 harg3 arg4 harg4 arg6 harg6 arg7 harg7 v74 v76 (slotR_inb (curSlot i)) W sh zr sc wt g6 g7 k)
  isplitl [Hr]; · iexact Hr
  isplitl [Hsh]; · iexact Hsh
  isplitl [Hzr]; · iexact Hzr
  isplitl [Hsc]; · iexact Hsc
  isplitl [Hw]; · iexact Hw
  isplitl [H6]; · iexact H6
  iexact H7

theorem postI (c : Dev nD) (i : grid0.Coords) (arg4 : Memref sig .tc .vmem S1x3584 .f32)
    (arg6 arg7 : Memref sig .tc .vmem S128x3584 .bf16) (q : PosShare TreeShare)
    (ids : S32768.Idx → Elt F .i32) (T : S16000x3584.Idx → Elt F .i32)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (g6 : Buf (Elt F) (arg6.view.loc (c : Thread nD τ))) (g7 : Buf (Elt F) (arg7.view.loc (c : Thread nD τ))) (k : ℕ)
    (e6 : ∀ y : S128x3584.Idx, arg6.view.read (Elt F) g6 y
      = if (y 0).val < 16 * k then outV sh zr sc W ((i 0).val % 3) (arg4.view.read (Elt F) wt) y else arg6.view.read (Elt F) f6 y)
    (e7 : ∀ y : S128x3584.Idx, arg7.view.read (Elt F) g7 y
      = if (y 0).val < 16 * k then embV sh zr sc W ((i 0).val % 3) y else arg7.view.read (Elt F) f7 y) (_ : Unit) :
    iprop(Iss c ids T (nextSlot i) ((i 0).val + 2) (16 * k + 16) ∗ idsAt c q ids ∗ slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k then outV sh zr sc W ((i 0).val % 3) (arg4.view.read (Elt F) wt) y
            else arg6.view.read (Elt F) g6 y⌝ ∗ wholeAt c arg6 f6')
      ∗ (∃ f7', ⌜∀ y, arg7.view.read (Elt F) f7' y = if (y 0).val / 16 = k then embV sh zr sc W ((i 0).val % 3) y
            else arg7.view.read (Elt F) g7 y⌝ ∗ wholeAt c arg7 f7'))
    ⊢ (iprop(Iss c ids T (nextSlot i) ((i 0).val + 2) (16 * k + 16) ∗ idsAt c q ids ∗ (slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt)
      ∗ (∃ f', ⌜∀ y : S128x3584.Idx, arg6.view.read (Elt F) f' y
        = if (y 0).val < 16 * (k + 1) then outV sh zr sc W ((i 0).val % 3) (arg4.view.read (Elt F) wt) y else arg6.view.read (Elt F) f6 y⌝ ∗ wholeAt c arg6 f')
      ∗ (∃ f', ⌜∀ y : S128x3584.Idx, arg7.view.read (Elt F) f' y
        = if (y 0).val < 16 * (k + 1) then embV sh zr sc W ((i 0).val % 3) y else arg7.view.read (Elt F) f7 y⌝ ∗ wholeAt c arg7 f')) : sProp 𝕄) := by
  iintro ⟨HI, Hid, Hr, Hsh, Hzr, Hsc, Hw, ⟨%h6, %d6, H6⟩, %h7, %d7, H7⟩
  isplitl [HI]; · iexact HI
  isplitl [Hid]; · iexact Hid
  isplitl [Hr Hsh Hzr Hsc Hw]
  · isplitl [Hr]; · iexact Hr
    isplitl [Hsh]; · iexact Hsh
    isplitl [Hzr]; · iexact Hzr
    isplitl [Hsc]; · iexact Hsc
    iexact Hw
  isplitl [H6]
  · iexists h6
    isplitr
    · ipureintro; exact rows_step arg6 f6 g6 h6 _ k e6 d6
    · iexact H6
  · iexists h7
    isplitr
    · ipureintro; exact rows_step arg7 f7 g7 h7 _ k e7 d7
    · iexact H7

theorem stepI (c : Dev nD) (i : grid0.Coords) (h2 : k0_cond2 i = 1#1) (hi : (i 0).val + 2 < 256) (q : PosShare TreeShare)
    (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(Iss c ids T (nextSlot i) ((i 0).val + 2) (16 * k.val) ∗ idsAt c q ids ∗ reads c i arg4 W sh zr sc wt
      ∗ rowsDone c arg6 f6 (outV sh zr sc W ((i 0).val % 3) (arg4.view.read (Elt F) wt)) k.val
      ∗ rowsDone c arg7 f7 (embV sh zr sc W ((i 0).val % 3)) k.val)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(Iss c ids T (nextSlot i) ((i 0).val + 2) (16 * k.val + 16) ∗ idsAt c q ids ∗ reads c i arg4 W sh zr sc wt
      ∗ rowsDone c arg6 f6 (outV sh zr sc W ((i 0).val % 3) (arg4.view.read (Elt F) wt)) (k.val + 1)
      ∗ rowsDone c arg7 f7 (embV sh zr sc W ((i 0).val % 3)) (k.val + 1))) := by
  unfold reads rowsDone
  iintro ⟨HI, Hid, ⟨Hr, Hsh, Hzr, Hsc, Hw⟩, ⟨%g6, %e6, H6⟩, %g7, %e7, H7⟩
  iapply (wp_mono frame _ _ (postI c i arg4 arg6 arg7 q ids T W sh zr sc wt f6 f7 g6 g7 k.val e6 e7))
  iapply (tripI c i h2 hi q ids T hid arg2 harg2 arg3 harg3 arg4 harg4 arg6 harg6 arg7 harg7 v74 v76 (slotR_inb (curSlot i)) W sh zr sc wt g6 g7 k)
  isplitl [HI]; · iexact HI
  isplitl [Hid]; · iexact Hid
  isplitl [Hr]; · iexact Hr
  isplitl [Hsh]; · iexact Hsh
  isplitl [Hzr]; · iexact Hzr
  isplitl [Hsc]; · iexact Hsc
  isplitl [Hw]; · iexact Hw
  isplitl [H6]; · iexact H6
  iexact H7

end Cert.Kernel.Own
end
-- ==== Proof.K.Point.lean ====
module
public import proofs.«01_k».proof.Proof.K.Body
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

theorem read_full2 {e : EltTy} {sp : CoreSpace} {n0 n1 : ℕ} (m : Memref sig .tc sp ⟨2, ![n0, n1]⟩ e) (f : m.view.ty.Contents (Elt F))
    {h : ∀ a, (![0, 0] : Fin 2 → ℕ) a + (![n0, n1] : Fin 2 → ℕ) a ≤ (⟨2, ![n0, n1]⟩ : Shape).size a} :
    View.readAt (Elt F) m.view (Rect.unit (s := ⟨2, ![n0, n1]⟩) ![0, 0] ![n0, n1] h).toLoadRect f = m.view.read (Elt F) f := by
  funext x
  refine congrArg (m.view.read (Elt F) f) (funext fun a => Fin.ext ?_)
  match a with
  | ⟨0, _⟩ => show 0 + 1 * (x 0).val = (x 0).val; omega
  | ⟨1, _⟩ => show 0 + 1 * (x 1).val = (x 1).val; omega

theorem read_full3 {e : EltTy} {sp : CoreSpace} {n0 n1 n2 : ℕ} (m : Memref sig .tc sp ⟨3, ![n0, n1, n2]⟩ e) (f : m.view.ty.Contents (Elt F))
    {h : ∀ a, (![0, 0, 0] : Fin 3 → ℕ) a + (![n0, n1, n2] : Fin 3 → ℕ) a ≤ (⟨3, ![n0, n1, n2]⟩ : Shape).size a} :
    View.readAt (Elt F) m.view (Rect.unit (s := ⟨3, ![n0, n1, n2]⟩) ![0, 0, 0] ![n0, n1, n2] h).toLoadRect f = m.view.read (Elt F) f := by
  funext x
  refine congrArg (m.view.read (Elt F) f) (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem z2 : (![0, 0] : Fin 2 → ℕ) = fun _ => 0 := funext (Fin.forall_fin_two.mpr ⟨rfl, rfl⟩)

theorem written1 (c : Dev nD) (f : S128x128.Idx → Elt F .bf16) (w w' : S128x128.Idx → Elt F .bf16) (hw : w = w') :
    wholeAt c (Memref.whole cc0_scratch1) ((Memref.whole cc0_scratch1).view.writes (Elt F) f
      [⟨Rect.unit (s := S128x128) ![0, 0] S128x128.size inb_S128x128_S128x128_0_0, w⟩]) ⊢ (wholeAt c (Memref.whole cc0_scratch1) w' : sProp 𝕄) :=
  Entails.of_eq (congrArg (fun f => wholeAt c (Memref.whole cc0_scratch1) f)
    ((Memref.write_access_unit_zero_univ (Elt F) cc0_scratch1 z2 inb_S128x128_S128x128_0_0 _ _).trans hw))

theorem written2 (c : Dev nD) (f : S128x128.Idx → Elt F .bf16) (w w' : S128x128.Idx → Elt F .bf16) (hw : w = w') :
    wholeAt c (Memref.whole cc0_scratch2) ((Memref.whole cc0_scratch2).view.writes (Elt F) f
      [⟨Rect.unit (s := S128x128) ![0, 0] S128x128.size inb_S128x128_S128x128_0_0, w⟩]) ⊢ (wholeAt c (Memref.whole cc0_scratch2) w' : sProp 𝕄) :=
  Entails.of_eq (congrArg (fun f => wholeAt c (Memref.whole cc0_scratch2) f)
    ((Memref.write_access_unit_zero_univ (Elt F) cc0_scratch2 z2 inb_S128x128_S128x128_0_0 _ _).trans hw))

theorem written3 (c : Dev nD) (f : S128x128.Idx → Elt F .i32) (w w' : S128x128.Idx → Elt F .i32) (hw : w = w') :
    wholeAt c (Memref.whole cc0_scratch3) ((Memref.whole cc0_scratch3).view.writes (Elt F) f
      [⟨Rect.unit (s := S128x128) ![0, 0] S128x128.size inb_S128x128_S128x128_0_0, w⟩]) ⊢ (wholeAt c (Memref.whole cc0_scratch3) w' : sProp 𝕄) :=
  Entails.of_eq (congrArg (fun f => wholeAt c (Memref.whole cc0_scratch3) f)
    ((Memref.write_access_unit_zero_univ (Elt F) cc0_scratch3 z2 inb_S128x128_S128x128_0_0 _ _).trans hw))

/-- The state before the first wait. -/
theorem wait_start (c : Dev nD) (ids : S32768.Idx → Elt F .i32) (T : S16000x3584.Idx → Elt F .i32) (s : Fin 3) (p : ℕ) (u : Unit) :
    iprop((∃ W, owes (c : Thread nD τ) 0 W) ∗ Fly c ids T s p) ⊢ waitInv c ids T s p 0 u := by
  unfold waitInv Fly
  rw [if_pos (by omega), Nat.zero_mul]

/-- The state after the last wait: the slot holds its block's words. -/
theorem wait_end (c : Dev nD) (i : grid0.Coords) (ids : S32768.Idx → Elt F .i32) (T : S16000x3584.Idx → Elt F .i32) (p n : ℕ) (hn : n = 128) (u : Unit) :
    waitInv c ids T (curSlot i) p n u ⊢ iprop((∃ W, owes (c : Thread nD τ) 0 W) ∗ semVal ((c : Thread nD τ), .dma (semOf (curSlot i))) 0
      ∗ slotAt c ((i 0).val % 3) (slotR_inb (curSlot i)) (gath ids T p) ∗ tabAt c (slotShare (curSlot i)) T) := by
  subst hn
  unfold waitInv
  rw [if_neg (by omega), slot_eq]
  iintro ⟨HO, HS, HD⟩
  isplitl [HO]; · iexact HO
  isplitl [HS]; · iexact HS
  iapply (delivered c ids T (curSlot i) p)
  iexact HD

/-- A consumed slot is free again. -/
theorem free_back (c : Dev nD) (i : grid0.Coords) (T : S16000x3584.Idx → Elt F .i32) (f : S3x128x3584.Idx → Elt F .i32) :
    iprop(semVal ((c : Thread nD τ), .dma (semOf (curSlot i))) 0
      ∗ slotAt c ((i 0).val % 3) (slotR_inb (curSlot i)) f ∗ tabAt c (slotShare (curSlot i)) T) ⊢ Free c T (curSlot i) := by
  unfold Free
  rw [slot_eq]
  iintro ⟨HS, HR, HT⟩
  isplitl [HR]; · iexists f; iexact HR
  isplitl [HT]; · iexact HT
  iexact HS

theorem rows_start (c : Dev nD) (m : Memref sig .tc .vmem S128x3584 .bf16) (f : Buf (Elt F) (m.view.loc (c : Thread nD τ)))
    (G : S128x3584.Idx → Elt F .bf16) : wholeAt c m f ⊢ rowsDone c m f G 0 := by
  unfold rowsDone
  iintro H
  iexists f
  isplitr
  · ipureintro; intro y; rw [if_neg (by omega)]
  · iexact H

theorem rows_end (c : Dev nD) (m : Memref sig .tc .vmem S128x3584 .bf16) (f : Buf (Elt F) (m.view.loc (c : Thread nD τ)))
    (G : S128x3584.Idx → Elt F .bf16) (n : ℕ) (hn : n = 8) :
    rowsDone c m f G n ⊢ iprop(∃ f', ⌜m.view.read (Elt F) f' = G⌝ ∗ wholeAt c m f') := by
  subst hn
  unfold rowsDone
  iintro ⟨%f', %e, H⟩
  iexists f'
  isplitr
  · ipureintro; funext y
    rw [e y, if_pos]
    have : (y 0).val < 128 := (y 0).isLt
    omega
  · iexact H

theorem trips_main : Scf.trips k0_t4_loop.lb k0_t4_loop.ub k0_t4_loop.st = 8 := by decide +kernel
theorem trips_wait : Scf.trips k0_t3_loop.lb k0_t3_loop.ub k0_t3_loop.st = 128 := by decide +kernel

theorem trips_0 : Scf.trips k0_t1_loop.lb k0_t1_loop.ub k0_t1_loop.st = 8 := by decide +kernel
theorem trips_1 : Scf.trips k0_t2_loop.lb k0_t2_loop.ub k0_t2_loop.st = 8 := by decide +kernel

/-- A grid point of the last two: nothing is issued. -/
theorem ptEnd (c : Dev nD) (i : grid0.Coords) (h1 : ¬ k0_cond1 i = 1#1) (h2 : ¬ k0_cond2 i = 1#1) (ids : S32768.Idx → Elt F .i32) (T : S16000x3584.Idx → Elt F .i32)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Fly c ids T (curSlot i) (i 0).val ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Free c T (curSlot i) ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  rw [cc0_embed_rmsnorm_eq_skeleton]
  unfold cc0_embed_rmsnorm_skel
  simp only [k0_part32_eq_skeleton, k0_part33_eq_skeleton]
  unfold k0_part32_skel k0_part33_skel
  iintro ⟨HF, ⟨%W, HO⟩, H1, H2, H3, Hg2, Hg3, Hg4, H6, H7⟩
  sl_exec
  have r2 := read_full3 (F := F) arg2 g2 (h := inb_S1x1x128_S1x1x128_0_0_0)
  have r3 := read_full2 (F := F) arg3 g3 (h := inb_S512x256_S512x256_0_0)
  ihave H1 := (show wholeAt c (Memref.whole cc0_scratch1) ((Memref.whole cc0_scratch1).view.writes (Elt F) (Memref.whole cc0_scratch1).view.junk
    (ptEnd.sl.H1_1 c i arg2 arg3 g2 g3)) ⊢ _ from written1 c (Memref.whole cc0_scratch1).view.junk (scM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (scM (arg2.view.read (Elt F) g2) (arg3.view.read (Elt F) g3)) (by rw [r2, r3])) $$ H1
  ihave H2 := (show wholeAt c (Memref.whole cc0_scratch2) ((Memref.whole cc0_scratch2).view.writes (Elt F) (Memref.whole cc0_scratch2).view.junk
    (ptEnd.sl.H2_1 c i arg2 arg3 g2 g3)) ⊢ _ from written2 c (Memref.whole cc0_scratch2).view.junk (zrM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (zrM (arg2.view.read (Elt F) g2) (arg3.view.read (Elt F) g3)) (by rw [r2, r3])) $$ H2
  ihave H3 := (show wholeAt c (Memref.whole cc0_scratch3) ((Memref.whole cc0_scratch3).view.writes (Elt F) (Memref.whole cc0_scratch3).view.junk
    (ptEnd.sl.H3_1 c i arg2 g2)) ⊢ _ from written3 c (Memref.whole cc0_scratch3).view.junk (shM (View.readAt (Elt F) arg2.view (Rect.unit (s := S1x1x128) ![0, 0, 0] S1x1x128.size inb_S1x1x128_S1x1x128_0_0_0).toLoadRect g2)) (shM (arg2.view.read (Elt F) g2)) (by rw [r2])) $$ H3
  sl_for (waitInv c ids T (curSlot i) (i 0).val) $$ [HO HF]
  · intro k acc
    exact wait_step c i ids T (i 0).val arg2 harg2 arg3 harg3 arg4 harg4 arg6 harg6 arg7 harg7 k
  · iapply (wait_start c ids T (curSlot i) (i 0).val _)
    isplitl [HO]; · iexists _; iexact HO
    iexact HF
  iintro %acc HI
  ihave HI := (wait_end c i ids T (i 0).val _ trips_wait acc) $$ HI
  icases HI with ⟨HO, HS, HR, HT⟩
  ihave H6 := (rows_start c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))) $$ H6
  ihave H7 := (rows_start c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))) $$ H7
  ihave HW := (show iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) ⊢ reads c i arg4 (gath ids T (i 0).val) (shM (arg2.view.read (Elt F) g2)) (zrM (arg2.view.read (Elt F) g2) (arg3.view.read (Elt F) g3)) (scM (arg2.view.read (Elt F) g2) (arg3.view.read (Elt F) g3)) g4 from by unfold reads; exact .rfl) $$ [HR H3 H2 H1 Hg4]
  · isplitl [HR]; · iexact HR
    isplitl [H3]; · iexact H3
    isplitl [H2]; · iexact H2
    isplitl [H1]; · iexact H1
    iexact Hg4
  sl_exec
  sl_for (fun k _ => iprop(reads c i arg4 (gath ids T (i 0).val) (shM (arg2.view.read (Elt F) g2)) (zrM (arg2.view.read (Elt F) g2) (arg3.view.read (Elt F) g3)) (scM (arg2.view.read (Elt F) g2) (arg3.view.read (Elt F) g3)) g4 ∗ rowsDone c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) k ∗ rowsDone c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) k)) $$ [HW H6 H7]
  · intro k acc
    exact stepN c i h2 arg2 harg2 arg3 harg3 arg4 harg4 arg6 harg6 arg7 harg7 _ _ (gath ids T (i 0).val) (shM (arg2.view.read (Elt F) g2)) (zrM (arg2.view.read (Elt F) g2) (arg3.view.read (Elt F) g3)) (scM (arg2.view.read (Elt F) g2) (arg3.view.read (Elt F) g3)) g4 f6 f7 k
  · isplitl [HW]; · iexact HW
    isplitl [H6]; · iexact H6
    iexact H7
  iintro %acc2 ⟨HW, H6, H7⟩
  ihave H6 := (rows_end c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) _ trips_main) $$ H6
  ihave H7 := (rows_end c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) _ trips_main) $$ H7
  ihave HW := (show reads c i arg4 (gath ids T (i 0).val) (shM (arg2.view.read (Elt F) g2)) (zrM (arg2.view.read (Elt F) g2) (arg3.view.read (Elt F) g3)) (scM (arg2.view.read (Elt F) g2) (arg3.view.read (Elt F) g3)) g4 ⊢ iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) from by unfold reads; exact .rfl) $$ HW
  icases HW with ⟨HR, H3, H2, H1, Hg4⟩
  sl_exec
  sl_step
  isplitl [HS HR HT]
  · iapply (free_back c i T (gath ids T (i 0).val))
    isplitl [HS]; · iexact HS
    isplitl [HR]; · iexact HR
    iexact HT
  isplitl [HO]; · iexact HO
  isplitl [H1]; · iexists _; iexact H1
  isplitl [H2]; · iexists _; iexact H2
  isplitl [H3]; · iexists _; iexact H3
  isplitl [Hg2]; · iexact Hg2
  isplitl [Hg3]; · iexact Hg3
  isplitl [Hg4]; · iexact Hg4
  isplitl [H6]; · iexact H6
  iexact H7

/-- A grid point that issues the block two points ahead. -/
theorem ptMid (c : Dev nD) (i : grid0.Coords) (h1 : ¬ k0_cond1 i = 1#1) (h2 : k0_cond2 i = 1#1) (hi : (i 0).val + 2 < 256) (q : PosShare TreeShare) (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Fly c ids T (curSlot i) (i 0).val ∗ Free c T (nextSlot i) ∗ idsAt c q ids ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Free c T (curSlot i) ∗ Fly c ids T (nextSlot i) ((i 0).val + 2) ∗ idsAt c q ids ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  rw [cc0_embed_rmsnorm_eq_skeleton]
  unfold cc0_embed_rmsnorm_skel
  simp only [k0_part32_eq_skeleton, k0_part33_eq_skeleton]
  unfold k0_part32_skel k0_part33_skel
  iintro ⟨HF, HN, Hid, ⟨%W, HO⟩, H1, H2, H3, Hg2, Hg3, Hg4, H6, H7⟩
  sl_exec
  have r2 := read_full3 (F := F) arg2 g2 (h := inb_S1x1x128_S1x1x128_0_0_0)
  have r3 := read_full2 (F := F) arg3 g3 (h := inb_S512x256_S512x256_0_0)
  ihave H1 := (show wholeAt c (Memref.whole cc0_scratch1) ((Memref.whole cc0_scratch1).view.writes (Elt F) (Memref.whole cc0_scratch1).view.junk
    (ptMid.sl.H1_1 c i arg2 arg3 g2 g3)) ⊢ _ from written1 c (Memref.whole cc0_scratch1).view.junk (scM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (scM (arg2.view.read (Elt F) g2) (arg3.view.read (Elt F) g3)) (by rw [r2, r3])) $$ H1
  ihave H2 := (show wholeAt c (Memref.whole cc0_scratch2) ((Memref.whole cc0_scratch2).view.writes (Elt F) (Memref.whole cc0_scratch2).view.junk
    (ptMid.sl.H2_1 c i arg2 arg3 g2 g3)) ⊢ _ from written2 c (Memref.whole cc0_scratch2).view.junk (zrM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (zrM (arg2.view.read (Elt F) g2) (arg3.view.read (Elt F) g3)) (by rw [r2, r3])) $$ H2
  ihave H3 := (show wholeAt c (Memref.whole cc0_scratch3) ((Memref.whole cc0_scratch3).view.writes (Elt F) (Memref.whole cc0_scratch3).view.junk
    (ptMid.sl.H3_1 c i arg2 g2)) ⊢ _ from written3 c (Memref.whole cc0_scratch3).view.junk (shM (View.readAt (Elt F) arg2.view (Rect.unit (s := S1x1x128) ![0, 0, 0] S1x1x128.size inb_S1x1x128_S1x1x128_0_0_0).toLoadRect g2)) (shM (arg2.view.read (Elt F) g2)) (by rw [r2])) $$ H3
  sl_for (waitInv c ids T (curSlot i) (i 0).val) $$ [HO HF]
  · intro k acc
    exact wait_step c i ids T (i 0).val arg2 harg2 arg3 harg3 arg4 harg4 arg6 harg6 arg7 harg7 k
  · iapply (wait_start c ids T (curSlot i) (i 0).val _)
    isplitl [HO]; · iexists _; iexact HO
    iexact HF
  iintro %acc HI
  ihave HI := (wait_end c i ids T (i 0).val _ trips_wait acc) $$ HI
  icases HI with ⟨HO, HS, HR, HT⟩
  ihave H6 := (rows_start c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))) $$ H6
  ihave H7 := (rows_start c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))) $$ H7
  ihave HW := (show iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) ⊢ reads c i arg4 (gath ids T (i 0).val) (shM (arg2.view.read (Elt F) g2)) (zrM (arg2.view.read (Elt F) g2) (arg3.view.read (Elt F) g3)) (scM (arg2.view.read (Elt F) g2) (arg3.view.read (Elt F) g3)) g4 from by unfold reads; exact .rfl) $$ [HR H3 H2 H1 Hg4]
  · isplitl [HR]; · iexact HR
    isplitl [H3]; · iexact H3
    isplitl [H2]; · iexact H2
    isplitl [H1]; · iexact H1
    iexact Hg4
  imod (free_iss c ids T (nextSlot i) ((i 0).val + 2)) $$ HN with HN
  sl_exec
  sl_for (fun k _ => iprop(Iss c ids T (nextSlot i) ((i 0).val + 2) (16 * k) ∗ idsAt c q ids ∗ reads c i arg4 (gath ids T (i 0).val) (shM (arg2.view.read (Elt F) g2)) (zrM (arg2.view.read (Elt F) g2) (arg3.view.read (Elt F) g3)) (scM (arg2.view.read (Elt F) g2) (arg3.view.read (Elt F) g3)) g4 ∗ rowsDone c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) k ∗ rowsDone c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) k)) $$ [HN Hid HW H6 H7]
  · intro k acc
    exact stepI c i h2 hi q ids T hid arg2 harg2 arg3 harg3 arg4 harg4 arg6 harg6 arg7 harg7 _ _ (gath ids T (i 0).val) (shM (arg2.view.read (Elt F) g2)) (zrM (arg2.view.read (Elt F) g2) (arg3.view.read (Elt F) g3)) (scM (arg2.view.read (Elt F) g2) (arg3.view.read (Elt F) g3)) g4 f6 f7 k
  · isplitl [HN]; · iexact HN
    isplitl [Hid]; · iexact Hid
    isplitl [HW]; · iexact HW
    isplitl [H6]; · iexact H6
    iexact H7
  iintro %acc2 ⟨HN, Hid, HW, H6, H7⟩
  ihave HN := (show Iss c ids T (nextSlot i) ((i 0).val + 2) (16 * Scf.trips k0_t4_loop.lb k0_t4_loop.ub k0_t4_loop.st) ⊢ Fly c ids T (nextSlot i) ((i 0).val + 2) from by rw [trips_main]; exact iss_fly c ids T (nextSlot i) ((i 0).val + 2)) $$ HN
  ihave H6 := (rows_end c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) _ trips_main) $$ H6
  ihave H7 := (rows_end c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) _ trips_main) $$ H7
  ihave HW := (show reads c i arg4 (gath ids T (i 0).val) (shM (arg2.view.read (Elt F) g2)) (zrM (arg2.view.read (Elt F) g2) (arg3.view.read (Elt F) g3)) (scM (arg2.view.read (Elt F) g2) (arg3.view.read (Elt F) g3)) g4 ⊢ iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) from by unfold reads; exact .rfl) $$ HW
  icases HW with ⟨HR, H3, H2, H1, Hg4⟩
  sl_exec
  sl_step
  isplitl [HS HR HT]
  · iapply (free_back c i T (gath ids T (i 0).val))
    isplitl [HS]; · iexact HS
    isplitl [HR]; · iexact HR
    iexact HT
  isplitl [HN]; · iexact HN
  isplitl [Hid]; · iexact Hid
  isplitl [HO]; · iexact HO
  isplitl [H1]; · iexists _; iexact H1
  isplitl [H2]; · iexists _; iexact H2
  isplitl [H3]; · iexists _; iexact H3
  isplitl [Hg2]; · iexact Hg2
  isplitl [Hg3]; · iexact Hg3
  isplitl [Hg4]; · iexact Hg4
  isplitl [H6]; · iexact H6
  iexact H7

/-- The first grid point: it issues blocks 0 and 1 itself, and block 2 in its main loop. -/
theorem ptZero (c : Dev nD) (i : grid0.Coords) (h1 : k0_cond1 i = 1#1) (h2 : k0_cond2 i = 1#1) (h0 : (i 0).val = 0) (hi : (i 0).val + 2 < 256) (q : PosShare TreeShare) (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Free c T 0 ∗ Free c T 1 ∗ Free c T (nextSlot i) ∗ idsAt c q ids ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Free c T (curSlot i) ∗ Fly c ids T 1 1 ∗ Fly c ids T (nextSlot i) ((i 0).val + 2) ∗ idsAt c q ids ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  rw [cc0_embed_rmsnorm_eq_skeleton]
  unfold cc0_embed_rmsnorm_skel
  simp only [k0_part32_eq_skeleton, k0_part33_eq_skeleton]
  unfold k0_part32_skel k0_part33_skel
  simp only [dif_pos h1, bind_assoc]
  iintro ⟨HA, HB, HN, Hid, ⟨%W, HO⟩, H1, H2, H3, Hg2, Hg3, Hg4, H6, H7⟩
  imod (free_iss c ids T 0 0) $$ HA with HA
  sl_for (fun k _ => iprop(Iss c ids T 0 0 (16 * k) ∗ idsAt c q ids)) $$ [HA Hid]
  · intro k acc
    exact trip1 c i h1 q ids T hid arg2 harg2 arg3 harg3 arg4 harg4 arg6 harg6 arg7 harg7 k
  · isplitl [HA]; · iexact HA
    iexact Hid
  iintro %acc0 ⟨HA, Hid⟩
  ihave HA := (show Iss c ids T 0 0 (16 * Scf.trips k0_t1_loop.lb k0_t1_loop.ub k0_t1_loop.st) ⊢ Fly c ids T 0 0 from by rw [trips_0]; exact iss_fly c ids T 0 0) $$ HA
  sl_exec
  imod (free_iss c ids T 1 1) $$ HB with HB
  sl_for (fun k _ => iprop(Iss c ids T 1 1 (16 * k) ∗ idsAt c q ids)) $$ [HB Hid]
  · intro k acc
    exact trip2 c i h1 q ids T hid arg2 harg2 arg3 harg3 arg4 harg4 arg6 harg6 arg7 harg7 k
  · isplitl [HB]; · iexact HB
    iexact Hid
  iintro %acc1 ⟨HB, Hid⟩
  ihave HB := (show Iss c ids T 1 1 (16 * Scf.trips k0_t2_loop.lb k0_t2_loop.ub k0_t2_loop.st) ⊢ Fly c ids T 1 1 from by rw [trips_1]; exact iss_fly c ids T 1 1) $$ HB
  sl_exec
  have hcur : curSlot i = 0 := Fin.ext (by show (i 0).val % 3 = 0; rw [h0])
  ihave HF := (show Fly c ids T 0 0 ⊢ Fly c ids T (curSlot i) (i 0).val from by rw [hcur, h0]) $$ HA
  sl_exec
  have r2 := read_full3 (F := F) arg2 g2 (h := inb_S1x1x128_S1x1x128_0_0_0)
  have r3 := read_full2 (F := F) arg3 g3 (h := inb_S512x256_S512x256_0_0)
  ihave H1 := (show wholeAt c (Memref.whole cc0_scratch1) ((Memref.whole cc0_scratch1).view.writes (Elt F) (Memref.whole cc0_scratch1).view.junk
    (ptZero.sl.H1_1 c i arg2 arg3 g2 g3)) ⊢ _ from written1 c (Memref.whole cc0_scratch1).view.junk (scM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (scM (arg2.view.read (Elt F) g2) (arg3.view.read (Elt F) g3)) (by rw [r2, r3])) $$ H1
  ihave H2 := (show wholeAt c (Memref.whole cc0_scratch2) ((Memref.whole cc0_scratch2).view.writes (Elt F) (Memref.whole cc0_scratch2).view.junk
    (ptZero.sl.H2_1 c i arg2 arg3 g2 g3)) ⊢ _ from written2 c (Memref.whole cc0_scratch2).view.junk (zrM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (zrM (arg2.view.read (Elt F) g2) (arg3.view.read (Elt F) g3)) (by rw [r2, r3])) $$ H2
  ihave H3 := (show wholeAt c (Memref.whole cc0_scratch3) ((Memref.whole cc0_scratch3).view.writes (Elt F) (Memref.whole cc0_scratch3).view.junk
    (ptZero.sl.H3_1 c i arg2 g2)) ⊢ _ from written3 c (Memref.whole cc0_scratch3).view.junk (shM (View.readAt (Elt F) arg2.view (Rect.unit (s := S1x1x128) ![0, 0, 0] S1x1x128.size inb_S1x1x128_S1x1x128_0_0_0).toLoadRect g2)) (shM (arg2.view.read (Elt F) g2)) (by rw [r2])) $$ H3
  sl_for (waitInv c ids T (curSlot i) (i 0).val) $$ [HO HF]
  · intro k acc
    exact wait_step c i ids T (i 0).val arg2 harg2 arg3 harg3 arg4 harg4 arg6 harg6 arg7 harg7 k
  · iapply (wait_start c ids T (curSlot i) (i 0).val _)
    isplitl [HO]; · iexists _; iexact HO
    iexact HF
  iintro %acc HI
  ihave HI := (wait_end c i ids T (i 0).val _ trips_wait acc) $$ HI
  icases HI with ⟨HO, HS, HR, HT⟩
  ihave H6 := (rows_start c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))) $$ H6
  ihave H7 := (rows_start c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))) $$ H7
  ihave HW := (show iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) ⊢ reads c i arg4 (gath ids T (i 0).val) (shM (arg2.view.read (Elt F) g2)) (zrM (arg2.view.read (Elt F) g2) (arg3.view.read (Elt F) g3)) (scM (arg2.view.read (Elt F) g2) (arg3.view.read (Elt F) g3)) g4 from by unfold reads; exact .rfl) $$ [HR H3 H2 H1 Hg4]
  · isplitl [HR]; · iexact HR
    isplitl [H3]; · iexact H3
    isplitl [H2]; · iexact H2
    isplitl [H1]; · iexact H1
    iexact Hg4
  imod (free_iss c ids T (nextSlot i) ((i 0).val + 2)) $$ HN with HN
  sl_exec
  sl_for (fun k _ => iprop(Iss c ids T (nextSlot i) ((i 0).val + 2) (16 * k) ∗ idsAt c q ids ∗ reads c i arg4 (gath ids T (i 0).val) (shM (arg2.view.read (Elt F) g2)) (zrM (arg2.view.read (Elt F) g2) (arg3.view.read (Elt F) g3)) (scM (arg2.view.read (Elt F) g2) (arg3.view.read (Elt F) g3)) g4 ∗ rowsDone c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) k ∗ rowsDone c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) k)) $$ [HN Hid HW H6 H7]
  · intro k acc
    exact stepI c i h2 hi q ids T hid arg2 harg2 arg3 harg3 arg4 harg4 arg6 harg6 arg7 harg7 _ _ (gath ids T (i 0).val) (shM (arg2.view.read (Elt F) g2)) (zrM (arg2.view.read (Elt F) g2) (arg3.view.read (Elt F) g3)) (scM (arg2.view.read (Elt F) g2) (arg3.view.read (Elt F) g3)) g4 f6 f7 k
  · isplitl [HN]; · iexact HN
    isplitl [Hid]; · iexact Hid
    isplitl [HW]; · iexact HW
    isplitl [H6]; · iexact H6
    iexact H7
  iintro %acc2 ⟨HN, Hid, HW, H6, H7⟩
  ihave HN := (show Iss c ids T (nextSlot i) ((i 0).val + 2) (16 * Scf.trips k0_t4_loop.lb k0_t4_loop.ub k0_t4_loop.st) ⊢ Fly c ids T (nextSlot i) ((i 0).val + 2) from by rw [trips_main]; exact iss_fly c ids T (nextSlot i) ((i 0).val + 2)) $$ HN
  ihave H6 := (rows_end c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) _ trips_main) $$ H6
  ihave H7 := (rows_end c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) _ trips_main) $$ H7
  ihave HW := (show reads c i arg4 (gath ids T (i 0).val) (shM (arg2.view.read (Elt F) g2)) (zrM (arg2.view.read (Elt F) g2) (arg3.view.read (Elt F) g3)) (scM (arg2.view.read (Elt F) g2) (arg3.view.read (Elt F) g3)) g4 ⊢ iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) from by unfold reads; exact .rfl) $$ HW
  icases HW with ⟨HR, H3, H2, H1, Hg4⟩
  sl_exec
  sl_step
  isplitl [HS HR HT]
  · iapply (free_back c i T (gath ids T (i 0).val))
    isplitl [HS]; · iexact HS
    isplitl [HR]; · iexact HR
    iexact HT
  isplitl [HB]; · iexact HB
  isplitl [HN]; · iexact HN
  isplitl [Hid]; · iexact Hid
  isplitl [HO]; · iexact HO
  isplitl [H1]; · iexists _; iexact H1
  isplitl [H2]; · iexists _; iexact H2
  isplitl [H3]; · iexists _; iexact H3
  isplitl [Hg2]; · iexact Hg2
  isplitl [Hg3]; · iexact Hg3
  isplitl [Hg4]; · iexact Hg4
  isplitl [H6]; · iexact H6
  iexact H7

end Cert.Kernel.Own
end
-- ==== Proof.K.State.lean ====
/- What is held between two grid points, and what one point does to it. Before point `n` the blocks `n` and `n + 1` are on their way
   (from the second point on, and as far as the grid reaches) and the third slot of the ring is free. -/
module
public import proofs.«01_k».proof.Proof.K.Point
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-- Slot `s` before point `n`: block `p` on its way, or at rest. -/
def inflight (c : Dev nD) (ids : S32768.Idx → Elt F .i32) (T : S16000x3584.Idx → Elt F .i32) (n : ℕ) (s : Fin 3) (p : ℕ) : sProp 𝕄 :=
  if 0 < n ∧ p < 256 then Fly c ids T s p else Free c T s

/-- The slot of block `n`. -/
def slotOf (n : ℕ) : Fin 3 := ⟨n % 3, Nat.mod_lt _ (by omega)⟩

/-- The ring, the table and the cells before point `n`. -/
def Core (c : Dev nD) (ids : S32768.Idx → Elt F .i32) (T : S16000x3584.Idx → Elt F .i32) (q : PosShare TreeShare) (n : ℕ) : sProp 𝕄 :=
  iprop(inflight c ids T n (slotOf n) n ∗ inflight c ids T n (slotOf (n + 1)) (n + 1) ∗ Free c T (slotOf (n + 2)) ∗ idsAt c q ids)

theorem cond1_iff : ∀ i : grid0.Coords, k0_cond1 i = 1#1 ↔ (i 0).val = 0 := by decide +kernel
theorem cond2_iff : ∀ i : grid0.Coords, k0_cond2 i = 1#1 ↔ (i 0).val + 2 < 256 := by decide +kernel

/-- One grid point. -/
theorem point (c : Dev nD) (i : grid0.Coords) (q : PosShare TreeShare)
    (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Core c ids T q (i 0).val ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Core c ids T q ((i 0).val + 1) ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  have hlt : (i 0).val < 256 := (i 0).isLt
  have hn : slotOf ((i 0).val + 2) = nextSlot i := rfl
  have hc : slotOf ((i 0).val + 1 + 2) = curSlot i := Fin.ext (by show ((i 0).val + 1 + 2) % 3 = (i 0).val % 3; omega)
  unfold Core
  by_cases h1 : k0_cond1 i = 1#1
  · have h0 := (cond1_iff i).mp h1
    have h2 : k0_cond2 i = 1#1 := (cond2_iff i).mpr (by omega)
    have e0 : slotOf (i 0).val = 0 := Fin.ext (by show (i 0).val % 3 = 0; rw [h0])
    have e1 : slotOf ((i 0).val + 1) = 1 := Fin.ext (by show ((i 0).val + 1) % 3 = 1; rw [h0])
    have a1 : inflight c ids T (i 0).val (slotOf (i 0).val) (i 0).val = (Free c T 0 : sProp 𝕄) := by
      unfold inflight; rw [if_neg (by omega), e0]
    have a2 : inflight c ids T (i 0).val (slotOf ((i 0).val + 1)) ((i 0).val + 1) = (Free c T 1 : sProp 𝕄) := by
      unfold inflight; rw [if_neg (by omega), e1]
    have b1 : inflight c ids T ((i 0).val + 1) (slotOf ((i 0).val + 1)) ((i 0).val + 1) = (Fly c ids T 1 1 : sProp 𝕄) := by
      unfold inflight; rw [if_pos (by omega), e1, h0]
    have b2 : inflight c ids T ((i 0).val + 1) (slotOf ((i 0).val + 1 + 1)) ((i 0).val + 1 + 1) = (Fly c ids T (nextSlot i) ((i 0).val + 2) : sProp 𝕄) := by
      unfold inflight; rw [if_pos (by omega)]; rfl
    rw [a1, a2, b1, b2, hn, hc]
    refine BI.Entails.trans ?_ ((ptZero c i h1 h2 h0 (by omega) q ids T hid arg2 harg2 arg3 harg3 arg4 harg4 arg6 harg6 arg7 harg7 s1 s2 s3 g2 g3 g4 f6 f7).trans (wp_mono frame _ _ fun _ => ?_))
    · show iprop((Free c T 0 ∗ Free c T 1 ∗ Free c T (nextSlot i) ∗ idsAt c q ids) ∗ _) ⊢ (_ : sProp 𝕄)
      iintro ⟨⟨HA, HB, HN, Hid⟩, Hr⟩
      isplitl [HA]; · iexact HA
      isplitl [HB]; · iexact HB
      isplitl [HN]; · iexact HN
      isplitl [Hid]; · iexact Hid
      iexact Hr
    · show iprop(Free c T (curSlot i) ∗ Fly c ids T 1 1 ∗ Fly c ids T (nextSlot i) ((i 0).val + 2) ∗ idsAt c q ids ∗ _) ⊢ (_ : sProp 𝕄)
      iintro ⟨HA, HB, HN, Hid, Hr⟩
      isplitl [HA HB HN Hid]
      · isplitl [HB]; · iexact HB
        isplitl [HN]; · iexact HN
        isplitl [HA]; · iexact HA
        iexact Hid
      iexact Hr
  · have h0 : 0 < (i 0).val := Nat.pos_of_ne_zero fun h => h1 ((cond1_iff i).mpr h)
    have a1 : inflight c ids T (i 0).val (slotOf (i 0).val) (i 0).val = (Fly c ids T (curSlot i) (i 0).val : sProp 𝕄) := by
      unfold inflight; rw [if_pos (by omega)]; rfl
    have a2 : inflight c ids T (i 0).val (slotOf ((i 0).val + 1)) ((i 0).val + 1)
        = (inflight c ids T ((i 0).val + 1) (slotOf ((i 0).val + 1)) ((i 0).val + 1) : sProp 𝕄) := by
      unfold inflight
      by_cases h : (i 0).val + 1 < 256
      · rw [if_pos (by omega), if_pos (by omega)]
      · rw [if_neg (by omega), if_neg (by omega)]
    by_cases h2 : k0_cond2 i = 1#1
    · have hi := (cond2_iff i).mp h2
      have b2 : inflight c ids T ((i 0).val + 1) (slotOf ((i 0).val + 1 + 1)) ((i 0).val + 1 + 1) = (Fly c ids T (nextSlot i) ((i 0).val + 2) : sProp 𝕄) := by
        unfold inflight; rw [if_pos (by omega)]; rfl
      rw [a1, a2, b2, hn, hc]
      generalize inflight c ids T ((i 0).val + 1) (slotOf ((i 0).val + 1)) ((i 0).val + 1) = X
      refine BI.Entails.trans ?_ ((BIClass.sep_mono (P := X) .rfl (ptMid c i h1 h2 hi q ids T hid arg2 harg2 arg3 harg3 arg4 harg4 arg6 harg6 arg7 harg7 s1 s2 s3 g2 g3 g4 f6 f7)).trans ((wp_frame_l frame _ _).trans (wp_mono frame _ _ fun _ => ?_)))
      · show iprop((Fly c ids T (curSlot i) (i 0).val ∗ X ∗ Free c T (nextSlot i) ∗ idsAt c q ids) ∗ _) ⊢ (_ : sProp 𝕄)
        iintro ⟨⟨HA, HB, HN, Hid⟩, Hr⟩
        isplitl [HB]; · iexact HB
        isplitl [HA]; · iexact HA
        isplitl [HN]; · iexact HN
        isplitl [Hid]; · iexact Hid
        iexact Hr
      · show iprop(X ∗ Free c T (curSlot i) ∗ Fly c ids T (nextSlot i) ((i 0).val + 2) ∗ idsAt c q ids ∗ _) ⊢ (_ : sProp 𝕄)
        iintro ⟨HB, HA, HN, Hid, Hr⟩
        isplitl [HA HB HN Hid]
        · isplitl [HB]; · iexact HB
          isplitl [HN]; · iexact HN
          isplitl [HA]; · iexact HA
          iexact Hid
        iexact Hr
    · have hi := mt (cond2_iff i).mpr h2
      have b2 : inflight c ids T ((i 0).val + 1) (slotOf ((i 0).val + 1 + 1)) ((i 0).val + 1 + 1) = (Free c T (nextSlot i) : sProp 𝕄) := by
        unfold inflight; rw [if_neg (by omega)]; rfl
      rw [a1, a2, b2, hn, hc]
      generalize inflight c ids T ((i 0).val + 1) (slotOf ((i 0).val + 1)) ((i 0).val + 1) = X
      refine BI.Entails.trans ?_ ((BIClass.sep_mono (P := iprop(X ∗ Free c T (nextSlot i) ∗ idsAt c q ids)) .rfl (ptEnd c i h1 h2 ids T arg2 harg2 arg3 harg3 arg4 harg4 arg6 harg6 arg7 harg7 s1 s2 s3 g2 g3 g4 f6 f7)).trans ((wp_frame_l frame _ _).trans (wp_mono frame _ _ fun _ => ?_)))
      · show iprop((Fly c ids T (curSlot i) (i 0).val ∗ X ∗ Free c T (nextSlot i) ∗ idsAt c q ids) ∗ _) ⊢ (_ : sProp 𝕄)
        iintro ⟨⟨HA, HB, HN, Hid⟩, Hr⟩
        isplitl [HB HN Hid]
        · isplitl [HB]; · iexact HB
          isplitl [HN]; · iexact HN
          iexact Hid
        isplitl [HA]; · iexact HA
        iexact Hr
      · show iprop((X ∗ Free c T (nextSlot i) ∗ idsAt c q ids) ∗ Free c T (curSlot i) ∗ _) ⊢ (_ : sProp 𝕄)
        iintro ⟨⟨HB, HN, Hid⟩, HA, Hr⟩
        isplitl [HA HB HN Hid]
        · isplitl [HB]; · iexact HB
          isplitl [HN]; · iexact HN
          isplitl [HA]; · iexact HA
          iexact Hid
        iexact Hr

end Cert.Kernel.Own
end
-- ==== Proof.K.Enter.lean ====
module
public import proofs.«01_k».proof.Proof.K.State
public import Idealize.ShloMosaic.Lib.Pipeline.FrameBody
public import proofs.«01_k».proof.Proof.Gen.Kernel.Launch
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

/-! ## Entry and exit: the whole ring, the whole table, the cells at zero ⟷ three slots at rest and the table's fourth share -/

/-- The pipeline's own cells: the ring's three. -/
abbrev osem : Fin 3 → SemLoc sig := fun s => .dma (semOf s)
theorem ownSem : Pipeline.OwnSemFacts spec0 osem := by decide

theorem slots_disjoint : ∀ b b' : Fin 3, b ≠ b' → Disjoint (slotSet b.val) (slotSet b'.val) := by
  intro b b' hb
  rw [Finset.disjoint_left]
  intro y hy hy'
  exact hb (Fin.ext ((Finset.mem_filter.mp hy).2.symm.trans (Finset.mem_filter.mp hy').2))

theorem slots_cover : (Finset.univ : Finset (Fin 3)).biUnion (fun s => slotSet s.val) = Finset.univ := by
  ext y
  refine ⟨fun _ => Finset.mem_univ _, fun _ => Finset.mem_biUnion.mpr ⟨⟨(y 0).val, (y 0).isLt⟩, Finset.mem_univ _, Finset.mem_filter.mpr ⟨Finset.mem_univ _, rfl⟩⟩⟩

theorem ring_slots (c : Dev nD) (f : S3x128x3584.Idx → Elt F .i32) :
    (ringAt c Finset.univ f : sProp 𝕄) = iprop(ringAt c (slotSet 0) f ∗ ringAt c (slotSet 1) f ∗ ringAt c (slotSet 2) f) :=
  (Ring.pointsTo_sub_blocks (ℓ := (Memref.whole cc0_scratch0).view.loc (c : Thread nD τ)) (fun s : Fin 3 => slotSet s.val) slots_disjoint _ slots_cover f).trans
    (Ring.bigSep_fin3 _)

theorem ring_join (c : Dev nD) (f₀ : S3x128x3584.Idx → Elt F .i32) :
    iprop((∃ f, ringAt c (slotSet 0) f) ∗ (∃ f, ringAt c (slotSet 1) f) ∗ (∃ f, ringAt c (slotSet 2) f)) ⊢ (iprop(∃ f, ringAt c Finset.univ f) : sProp 𝕄) :=
  (Entails.of_eq (Ring.bigSep_fin3 (fun s : Fin 3 => (iprop(∃ f, ringAt c (slotSet s.val) f) : sProp 𝕄))).symm).trans
    (Ring.pointsTo_sub_blocks_join_exists (ℓ := (Memref.whole cc0_scratch0).view.loc (c : Thread nD τ)) (fun s : Fin 3 => slotSet s.val) slots_disjoint _ slots_cover f₀)

/-- The share of the table no slot uses. -/
def restShare : PosShare TreeShare := ShareLeaves.leaf 2 fullShare (3 : Fin 4)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem tab_slots (c : Dev nD) (T : S16000x3584.Idx → Elt F .i32) :
    (tabAt c fullShare T : sProp 𝕄) = iprop(tabAt c (slotShare 0) T ∗ tabAt c (slotShare 1) T ∗ tabAt c (slotShare 2) T ∗ tabAt c restShare T) :=
  (ShareLeaves.pointsTo_leaves (ℓ := (Memref.whole main_v3).view.loc (c : Thread nD τ)) Finset.univ T 2 fullShare).trans (bigSep_fin4 _)

/-- What is held before point `n`. -/
def Phi (c : Dev nD) (ids : S32768.Idx → Elt F .i32) (T : S16000x3584.Idx → Elt F .i32) (n : ℕ) : sProp 𝕄 :=
  iprop(Core c ids T fullShare.right n ∗ tabAt c restShare T
    ∗ (∃ s1, wholeAt c (Memref.whole cc0_scratch1) s1) ∗ (∃ s2, wholeAt c (Memref.whole cc0_scratch2) s2)
    ∗ (∃ s3, wholeAt c (Memref.whole cc0_scratch3) s3) ∗ (∃ r, prngReg c r))

theorem core_rest (c : Dev nD) (ids : S32768.Idx → Elt F .i32) (T : S16000x3584.Idx → Elt F .i32) (q : PosShare TreeShare) (n : ℕ) (hn : n = 0 ∨ n = 256) :
    (Core c ids T q n : sProp 𝕄) = iprop(Free c T (slotOf n) ∗ Free c T (slotOf (n + 1)) ∗ Free c T (slotOf (n + 2)) ∗ idsAt c q ids) := by
  unfold Core inflight
  rw [if_neg (by omega), if_neg (by omega)]

/-- Before the first point. -/
theorem enter (c : Dev nD) (ids : S32768.Idx → Elt F .i32) (T : S16000x3584.Idx → Elt F .i32) :
    iprop(((∃ f, ringAt c Finset.univ f) ∗ (∃ s1, wholeAt c (Memref.whole cc0_scratch1) s1) ∗ (∃ s2, wholeAt c (Memref.whole cc0_scratch2) s2)
        ∗ (∃ s3, wholeAt c (Memref.whole cc0_scratch3) s3))
      ∗ (∃ r, prngReg c r)
      ∗ (semVal ((c : Thread nD τ), osem 0) 0 ∗ semVal ((c : Thread nD τ), osem 1) 0 ∗ semVal ((c : Thread nD τ), osem 2) 0)
      ∗ tabAt c fullShare T ∗ idsAt c fullShare.right ids) ⊢ (Phi c ids T 0 : sProp 𝕄) := by
  unfold Phi
  rw [core_rest _ _ _ _ _ (.inl rfl), tab_slots, show slotOf 0 = 0 from rfl, show slotOf (0 + 1) = 1 from rfl, show slotOf (0 + 2) = 2 from rfl]
  unfold Free
  iintro ⟨⟨⟨%f, HR⟩, H1, H2, H3⟩, Hp, ⟨S0, S1, S2⟩, ⟨T0, T1, T2, T3⟩, Hid⟩
  ihave HR := (Entails.of_eq (ring_slots c f)) $$ HR
  icases HR with ⟨R0, R1, R2⟩
  isplitl [R0 R1 R2 S0 S1 S2 T0 T1 T2 Hid]
  · isplitl [R0 S0 T0]
    · isplitl [R0]; · iexists f; iexact R0
      isplitl [T0]; · iexact T0
      iexact S0
    isplitl [R1 S1 T1]
    · isplitl [R1]; · iexists f; iexact R1
      isplitl [T1]; · iexact T1
      iexact S1
    isplitl [R2 S2 T2]
    · isplitl [R2]; · iexists f; iexact R2
      isplitl [T2]; · iexact T2
      iexact S2
    iexact Hid
  isplitl [T3]; · iexact T3
  isplitl [H1]; · iexact H1
  isplitl [H2]; · iexact H2
  isplitl [H3]; · iexact H3
  iexact Hp

/-- After the last point. -/
theorem leave (c : Dev nD) (ids : S32768.Idx → Elt F .i32) (T : S16000x3584.Idx → Elt F .i32) (f₀ : S3x128x3584.Idx → Elt F .i32) :
    (Phi c ids T 256 : sProp 𝕄) ⊢ iprop(((∃ f, ringAt c Finset.univ f) ∗ (∃ s1, wholeAt c (Memref.whole cc0_scratch1) s1) ∗ (∃ s2, wholeAt c (Memref.whole cc0_scratch2) s2)
        ∗ (∃ s3, wholeAt c (Memref.whole cc0_scratch3) s3))
      ∗ (∃ r, prngReg c r)
      ∗ (semVal ((c : Thread nD τ), osem 0) 0 ∗ semVal ((c : Thread nD τ), osem 1) 0 ∗ semVal ((c : Thread nD τ), osem 2) 0)
      ∗ tabAt c fullShare T) := by
  unfold Phi
  rw [core_rest _ _ _ _ _ (.inr rfl), tab_slots, show slotOf 256 = 1 from rfl, show slotOf (256 + 1) = 2 from rfl, show slotOf (256 + 2) = 0 from rfl]
  unfold Free
  iintro ⟨⟨⟨R1, T1, S1⟩, ⟨R2, T2, S2⟩, ⟨R0, T0, S0⟩, Hid⟩, T3, H1, H2, H3, Hp⟩
  isplitl [R0 R1 R2 H1 H2 H3]
  · isplitl [R0 R1 R2]
    · iapply (ring_join c f₀)
      isplitl [R0]; · iexact R0
      isplitl [R1]; · iexact R1
      iexact R2
    isplitl [H1]; · iexact H1
    isplitl [H2]; · iexact H2
    iexact H3
  isplitl [Hp]; · iexact Hp
  isplitl [S0 S1 S2]
  · isplitl [S0]; · iexact S0
    isplitl [S1]; · iexact S1
    iexact S2
  isplitl [T0]; · iexact T0
  isplitl [T1]; · iexact T1
  isplitl [T2]; · iexact T2
  iexact T3

end Cert.Kernel.Own
end
-- ==== Proof.K.Run.lean ====
/- The launch: the buffers at the region's entry, the pipeline's proof data, the body at every grid point, and the run of the whole
   program. -/
module
public import proofs.«01_k».proof.Proof.K.Enter
@[expose] public section
set_option pp.maxSteps 1500
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The host operations before the region. -/
abbrev hostOps : List (List (HloOp τ sig (Elt F))) := [hostOps0, hostOps0_1, hostOps0_2, hostOps0_3, hostOps0_4]

/-- Core `c`'s buffers when the region is entered. -/
abbrev V (c : Dev nD) (b : Ref sig .tc) : Buf (Elt F) ((c : Thread nD τ).loc b) := StableHlo.after hostOps.flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main hostOps
    ⟨hostOps0_sub, hostOps0_1_sub, hostOps0_2_sub, hostOps0_3_sub, hostOps0_4_sub⟩
    (by simp only [List.Forall]; repeat' constructor) main_chain

/-- The prefetched table at entry (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The ids and the table of words, at entry. -/
def idsM (c : Dev nD) : S32768.Idx → Elt F .i32 := V m c main_v0
def tabM (c : Dev nD) : S16000x3584.Idx → Elt F .i32 := V m c main_v3

/-- Window `w`'s block at point `t`, read off its array at entry. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The three matrices one block's ids and the parameters give. -/
def x2 (c : Dev nD) (t : Fin (cfgM m).N) : S1x1x128.Idx → Elt F .i32 := iblk m c 0 t
def x3 (c : Dev nD) (t : Fin (cfgM m).N) : S512x256.Idx → Elt F .bf16 := iblk m c 1 t
def x4 (c : Dev nD) (t : Fin (cfgM m).N) : S1x3584.Idx → Elt F .f32 := iblk m c 2 t

/-- What the body leaves in the two results' blocks. -/
def outB (c : Dev nD) (t : Fin (cfgM m).N) : S128x3584.Idx → Elt F .bf16 :=
  outV (shM (x2 m c t)) (zrM (x2 m c t) (x3 m c t)) (scM (x2 m c t) (x3 m c t)) (gath (idsM m c) (tabM m c) t.val) (t.val % 3) (x4 m c t)
def embB (c : Dev nD) (t : Fin (cfgM m).N) : S128x3584.Idx → Elt F .bf16 :=
  embV (shM (x2 m c t)) (zrM (x2 m c t) (x3 m c t)) (scM (x2 m c t) (x3 m c t)) (gath (idsM m c) (tabM m c) t.val) (t.val % 3)

/-- The proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
    | ⟨4, _⟩ => embB m c t
  Φ t := Phi c (idsM m c) (tabM m c) t.val
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; rfl
theorem after_1 (c : Dev nD) (t : Fin (cfgM m).N) : (dats m 0 c).after 1 t = iblk m c 1 t := by dsimp only [dats]; rfl
theorem after_2 (c : Dev nD) (t : Fin (cfgM m).N) : (dats m 0 c).after 2 t = iblk m c 2 t := by dsimp only [dats]; rfl
theorem after_3 (c : Dev nD) (t : Fin (cfgM m).N) : (dats m 0 c).after 3 t = outB m c t := by dsimp only [dats]; rfl
theorem after_4 (c : Dev nD) (t : Fin (cfgM m).N) : (dats m 0 c).after 4 t = embB m c t := by dsimp only [dats]; rfl

theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The staging buffers at point `t`. -/
abbrev st_0 (t : Fin (cfgM m).N) := spec0_0.stage ((cfgM m).slots t 0)
abbrev st_1 (t : Fin (cfgM m).N) := spec0_1.stage ((cfgM m).slots t 1)
abbrev st_2 (t : Fin (cfgM m).N) := spec0_2.stage ((cfgM m).slots t 2)
abbrev st_3 (t : Fin (cfgM m).N) := spec0_3.stage ((cfgM m).slots t 3)
abbrev st_4 (t : Fin (cfgM m).N) := spec0_4.stage ((cfgM m).slots t 4)

/-- The body at point `t`. -/
abbrev bodyAt (t : Fin (cfgM m).N) : Prog (TpuEff nD τ sig (Elt F) Λ₀ .tc) PUnit :=
  cc0_embed_rmsnorm (grid0.coords t) (Memref.whole main_v0) (Memref.isWhole_whole _) (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (Memref.whole main_v3) (Memref.isWhole_whole _) (st_3 m t) (hstage0_3 (((cfgM m).slots t 3).cast nbuf0_3)) (st_4 m t) (hstage0_4 (((cfgM m).slots t 4).cast nbuf0_4))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4

theorem body_row (t : Fin (cfgM m).N) :
    defs₀ (F := F) .tc (cfgM m).body ((cfgM m).bodyArgs t ((cfgM m).slots t)) = bodyAt m t := by
  unfold defs₀; rw [Defs.onTc_tc]

/-- A whole memref owned is its buffer held at contents that read so. -/
theorem owns_in (c : Dev nD) {s : Shape} {e : EltTy} (a : Memref sig .tc .vmem s e) (h : a.IsWhole) (d : s.Idx → Elt F e) :
    (owns (c : Thread nD τ) a fullShare d : sProp 𝕄) ⊢ iprop(∃ g : Buf (Elt F) (a.view.loc (c : Thread nD τ)), ⌜a.view.read (Elt F) g = d⌝ ∗ wholeAt c a g) := by
  unfold owns wholeAt
  rw [h.set_eq_univ]
theorem owns_out (c : Dev nD) {s : Shape} {e : EltTy} (a : Memref sig .tc .vmem s e) (h : a.IsWhole) (d : s.Idx → Elt F e)
    (g : Buf (Elt F) (a.view.loc (c : Thread nD τ))) (hg : a.view.read (Elt F) g = d) :
    (wholeAt c a g : sProp 𝕄) ⊢ owns (c : Thread nD τ) a fullShare d := by
  unfold owns wholeAt
  rw [h.set_eq_univ]
  iintro H
  iexists g
  isplitr; · ipureintro; exact hg
  iexact H

/-- The point's coordinate. -/
theorem coord_val : ∀ t : Fin grid0.N, ((grid0.coords t) 0).val = t.val := by decide +kernel

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t))

/-- What the core owes does not change and its waits' record is not bounded. -/
theorem owes_in (c : Dev nD) (t : Fin ((cfgM m).N + 1)) :
    ((dats m 0 c).owesAt () t : sProp 𝕄) ⊢ iprop(∃ W, owes (c : Thread nD τ) 0 W) := by
  unfold Dat.owesAt Pipeline.owesWithin
  iintro ⟨%W, -, H⟩
  iexists W
  iexact H
theorem owes_out (c : Dev nD) (t : Fin ((cfgM m).N + 1)) :
    iprop(∃ W, owes (c : Thread nD τ) 0 W) ⊢ ((dats m 0 c).owesAt () t : sProp 𝕄) := by
  unfold Dat.owesAt Pipeline.owesWithin
  iintro ⟨%W, H⟩
  iexists W
  isplitr
  · ipureintro; intro x _; exact Or.inl trivial
  iexact H

theorem phi_at (c : Dev nD) (t : Fin (cfgM m).N) : (dats m 0 c).Φ t.castSucc = Phi c (idsM m c) (tabM m c) ((grid0.coords t) 0).val := by
  rw [coord_val t]; rfl
theorem phi_next (c : Dev nD) (t : Fin (cfgM m).N) : (dats m 0 c).Φ t.succ = Phi c (idsM m c) (tabM m c) (((grid0.coords t) 0).val + 1) := by
  rw [coord_val t]; rfl

/-- The body at any point. -/
theorem sound_body (hid : ∀ c y, (idsM m c y).toNat < 64000) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [phi_at, phi_next, after_0, after_1, after_2, after_3, after_4]
  unfold Phi
  iintro ⟨⟨HC, HT, ⟨%s1, H1⟩, ⟨%s2, H2⟩, ⟨%s3, H3⟩, Hp⟩, Ho, ⟨%d0, G2⟩, ⟨%d1, G3⟩, ⟨%d2, G4⟩, ⟨%d3, G6⟩, %d4, G7⟩
  ihave G2 := (show owns (c : Thread nD τ) (st_0 m t) fullShare (iblk m c 0 t) ⊢ _ from owns_in c (st_0 m t) (hstage0_0 (((cfgM m).slots t 0).cast nbuf0_0)) (x2 m c t)) $$ G2
  icases G2 with ⟨%g2, %e2, G2⟩
  ihave G3 := (show owns (c : Thread nD τ) (st_1 m t) fullShare (iblk m c 1 t) ⊢ _ from owns_in c (st_1 m t) (hstage0_1 (((cfgM m).slots t 1).cast nbuf0_1)) (x3 m c t)) $$ G3
  icases G3 with ⟨%g3, %e3, G3⟩
  ihave G4 := (show owns (c : Thread nD τ) (st_2 m t) fullShare (iblk m c 2 t) ⊢ _ from owns_in c (st_2 m t) (hstage0_2 (((cfgM m).slots t 2).cast nbuf0_2)) (x4 m c t)) $$ G4
  icases G4 with ⟨%g4, %e4, G4⟩
  ihave G6 := (show owns (c : Thread nD τ) (st_3 m t) fullShare ((dats m 0 c).before 3 t d3) ⊢ _ from owns_in c (st_3 m t) (hstage0_3 (((cfgM m).slots t 3).cast nbuf0_3)) ((dats m 0 c).before 3 t d3)) $$ G6
  icases G6 with ⟨%g6, %e6, G6⟩
  ihave G7 := (show owns (c : Thread nD τ) (st_4 m t) fullShare ((dats m 0 c).before 4 t d4) ⊢ _ from owns_in c (st_4 m t) (hstage0_4 (((cfgM m).slots t 4).cast nbuf0_4)) ((dats m 0 c).before 4 t d4)) $$ G7
  icases G7 with ⟨%g7, %e7, G7⟩
  ihave Ho := (owes_in m c t.castSucc) $$ Ho
  iapply (wp_mono frame _ _ (show ∀ _ : PUnit, iprop(iprop(tabAt c restShare (tabM m c) ∗ ∃ r, prngReg c r) ∗ Core c (idsM m c) (tabM m c) fullShare.right (((grid0.coords t) 0).val + 1) ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c (st_0 m t) g2 ∗ wholeAt c (st_1 m t) g3 ∗ wholeAt c (st_2 m t) g4
      ∗ (∃ f6', ⌜(st_3 m t).view.read (Elt F) f6' = (outV (shM ((st_0 m t).view.read (Elt F) g2)) (zrM ((st_0 m t).view.read (Elt F) g2) ((st_1 m t).view.read (Elt F) g3)) (scM ((st_0 m t).view.read (Elt F) g2) ((st_1 m t).view.read (Elt F) g3)) (gath (idsM m c) (tabM m c) ((grid0.coords t) 0).val) (((grid0.coords t) 0).val % 3) ((st_2 m t).view.read (Elt F) g4))⌝ ∗ wholeAt c (st_3 m t) f6')
      ∗ (∃ f7', ⌜(st_4 m t).view.read (Elt F) f7' = (embV (shM ((st_0 m t).view.read (Elt F) g2)) (zrM ((st_0 m t).view.read (Elt F) g2) ((st_1 m t).view.read (Elt F) g3)) (scM ((st_0 m t).view.read (Elt F) g2) ((st_1 m t).view.read (Elt F) g3)) (gath (idsM m c) (tabM m c) ((grid0.coords t) 0).val) (((grid0.coords t) 0).val % 3))⌝ ∗ wholeAt c (st_4 m t) f7')) ⊢ (_ : sProp 𝕄) from fun _ => by
    iintro ⟨⟨HT, Hp⟩, HC, Ho, H1, H2, H3, G2, G3, G4, ⟨%g6', %e6', G6⟩, %g7', %e7', G7⟩
    isplitl [HC HT H1 H2 H3 Hp]
    · isplitl [HC]; · iexact HC
      isplitl [HT]; · iexact HT
      isplitl [H1]; · iexact H1
      isplitl [H2]; · iexact H2
      isplitl [H3]; · iexact H3
      iexact Hp
    isplitl [Ho]; · iapply (owes_out m c t.succ); iexact Ho
    isplitl [G2]
    · iapply (owns_out c (st_0 m t) (hstage0_0 (((cfgM m).slots t 0).cast nbuf0_0)) _ g2 e2)
      iexact G2
    isplitl [G3]
    · iapply (owns_out c (st_1 m t) (hstage0_1 (((cfgM m).slots t 1).cast nbuf0_1)) _ g3 e3)
      iexact G3
    isplitl [G4]
    · iapply (owns_out c (st_2 m t) (hstage0_2 (((cfgM m).slots t 2).cast nbuf0_2)) _ g4 e4)
      iexact G4
    isplitl [G6]
    · iapply (owns_out c (st_3 m t) (hstage0_3 (((cfgM m).slots t 3).cast nbuf0_3)) (outB m c t) g6' (by rw [e6', e2, e3, e4, coord_val t]; rfl))
      iexact G6
    iapply (owns_out c (st_4 m t) (hstage0_4 (((cfgM m).slots t 4).cast nbuf0_4)) (embB m c t) g7' (by rw [e7', e2, e3, coord_val t]; rfl))
    iexact G7))
  iapply (wp_frame_l frame _ _)
  isplitl [HT Hp]
  · isplitl [HT]; · iexact HT
    iexact Hp
  iapply (point c (grid0.coords t) fullShare.right (idsM m c) (tabM m c) (hid c) (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (st_3 m t) (hstage0_3 (((cfgM m).slots t 3).cast nbuf0_3)) (st_4 m t) (hstage0_4 (((cfgM m).slots t 4).cast nbuf0_4))
    s1 s2 s3 g2 g3 g4 g6 g7)
  isplitl [HC]; · iexact HC
  isplitl [Ho]; · iexact Ho
  isplitl [H1]; · iexact H1
  isplitl [H2]; · iexact H2
  isplitl [H3]; · iexact H3
  isplitl [G2]; · iexact G2
  isplitl [G3]; · iexact G3
  isplitl [G4]; · iexact G4
  isplitl [G6]; · iexact G6
  iexact G7

theorem body_obligation (hid : ∀ c y, (idsM m c y).toNat < 64000) (c : Dev nD) :
    BodyObligation (dats (F := F) m 0 c) (defs₀ (F := F)) Variants.none () Set.univ := fun t => by
  rw [bigSep_W0, bigSep_W0, body_row]
  exact triple_restated (sound_body m hid c t) rfl .rfl fun _ => .rfl

end Cert.Kernel.Own
end
-- ==== Proof.K.Main.lean ====
/- The run of the whole program: the region's invariant from the launch's resources and back, the contents of the buffers the
   host operations write, and the frame. -/
module
public import proofs.«01_k».proof.Proof.K.Run
public import Idealize.ShloMosaic.Lib.StableHlo.RunRead
@[expose] public section
noncomputable section
namespace Cert.Kernel.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The buffers at the region's entry -/

theorem V_arg0 (c : Dev nD) : V m c main_arg0 = m ((c : Thread nD τ).loc main_arg0) := by
  dsimp only [V, hostOps, hostOps0, hostOps0_1, hostOps0_2, hostOps0_3, hostOps0_4, List.flatten, List.append]; after_reads_simp
theorem V_arg1 (c : Dev nD) : V m c main_arg1 = m ((c : Thread nD τ).loc main_arg1) := by
  dsimp only [V, hostOps, hostOps0, hostOps0_1, hostOps0_2, hostOps0_3, hostOps0_4, List.flatten, List.append]; after_reads_simp
theorem V_arg2 (c : Dev nD) : V m c main_arg2 = m ((c : Thread nD τ).loc main_arg2) := by
  dsimp only [V, hostOps, hostOps0, hostOps0_1, hostOps0_2, hostOps0_3, hostOps0_4, List.flatten, List.append]; after_reads_simp
theorem V_arg3 (c : Dev nD) : V m c main_arg3 = m ((c : Thread nD τ).loc main_arg3) := by
  dsimp only [V, hostOps, hostOps0, hostOps0_1, hostOps0_2, hostOps0_3, hostOps0_4, List.flatten, List.append]; after_reads_simp
theorem V_arg4 (c : Dev nD) : V m c main_arg4 = m ((c : Thread nD τ).loc main_arg4) := by
  dsimp only [V, hostOps, hostOps0, hostOps0_1, hostOps0_2, hostOps0_3, hostOps0_4, List.flatten, List.append]; after_reads_simp

/-! ## The launch -/

/-- The buffer the body's own transfers read: the table of words. -/
abbrev H : Finset (Ref sig .tc) := {main_v3}
theorem H_sub : H ⊆ Pipeline.restRefsP sig pre0 spec0 := by decide

theorem hin (c : Dev nD) : iprop(Pipeline.ΦD osem spec0 H (V m) c ∗ Pipeline.ΦT pre0 (tbl m) c) ⊢ ((dats m 0 c).Φ 0 : sProp 𝕄) := by
  refine BIBase.Entails.trans ?_ (enter c (idsM m c) (tabM m c))
  obtain rfl : c = 0 := Subsingleton.elim _ _
  rw [Pipeline.ΦD_eq, scopedRest0_eq, bigSep_singleton]
  unfold Pipeline.ownSems0 Pipeline.ΦT Pipeline.prefHeld
  rw [Ring.bigSep_fin3, show (Finset.univ : Finset (Fin 1)) = {(0 : Fin 1)} from by decide, bigSep_singleton]
  iintro ⟨⟨HR, Hp, HS, HT⟩, Hid⟩
  isplitl [HR]; · iexact HR
  isplitl [Hp]; · iexact Hp
  isplitl [HS]; · iexact HS
  isplitl [HT]; · iexact HT
  iexact Hid

theorem hout (c : Dev nD) : ((dats m 0 c).Φ (Fin.last (cfgM m).N) : sProp 𝕄) ⊢ Pipeline.ΦD osem spec0 H (V m) c := by
  refine BIBase.Entails.trans (show _ ⊢ (Phi c (idsM m c) (tabM m c) 256 : sProp 𝕄) from by
    rw [show (256 : ℕ) = (Fin.last (cfgM m).N).val from N_0.symm]; exact .rfl) ((leave c (idsM m c) (tabM m c) fun _ => (0#32 : BitVec 32)).trans ?_)
  rw [Pipeline.ΦD_eq, scopedRest0_eq, bigSep_singleton]
  unfold Pipeline.ownSems0
  rw [Ring.bigSep_fin3]
  iintro ⟨HR, Hp, HS, HT⟩
  isplitl [HR]; · iexact HR
  isplitl [Hp]; · iexact Hp
  isplitl [HS]; · iexact HS
  iexact HT

set_option backward.isDefEq.respectTransparency.types false in
set_option maxHeartbeats 800000 in
/-- Every weakly fair execution terminates, the pipeline's arrays end at what its proof data compute, every other buffer as the
    region found it, and every counter at zero. -/
theorem run_main (hid : ∀ c y, (idsM m c y).toNat < 64000) : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem defs₀ Variants.none ownSem H H_sub m ρ main
    (hbody := fun c => (body_obligation m hid c).loose) (hshare := fun c => (dats m 0 c).share_full fun _ => rfl)
    (howed := fun _ _ => rfl) (V := V m) (hmain := hmain m Variants.none) (hA := A_eq m) (hpf := V_pre m)
    (hin := hin m) (hout := hout m)

theorem mem_arg0 : main_arg0 ∈ Pipeline.restRefs sig spec0 := Pipeline.mem_restRefs_of main_arg0 (by decide) (by decide)
theorem mem_arg1 : main_arg1 ∈ Pipeline.restRefs sig spec0 := Pipeline.mem_restRefs_of main_arg1 (by decide) (by decide)
theorem mem_arg2 : main_arg2 ∈ Pipeline.restRefs sig spec0 := Pipeline.mem_restRefs_of main_arg2 (by decide) (by decide)
theorem mem_arg3 : main_arg3 ∈ Pipeline.restRefs sig spec0 := Pipeline.mem_restRefs_of main_arg3 (by decide) (by decide)
theorem mem_arg4 : main_arg4 ∈ Pipeline.restRefs sig spec0 := Pipeline.mem_restRefs_of main_arg4 (by decide) (by decide)

/-- The frame: the arguments end unchanged and every counter at zero; the results end at the pipeline's arrays. -/
theorem run_named (hid : ∀ c y, (idsM m c y).toNat < 64000) : θ_run defs (onTc (τ := τ) (main (F := F))) ⟨m, fun _ => 0, ρ⟩
    (fun r => (∀ c : Dev nD,
      r.2.mem ((c : Thread nD τ).loc main_v13_0) = (dats m 0 c).arrAt 3 (cfgM m).N
      ∧ r.2.mem ((c : Thread nD τ).loc main_v13_1) = (dats m 0 c).arrAt 4 (cfgM m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c).1 3, (h.1 c).1 4,
      ((h.1 c).2 main_arg0 (mem_arg0)).trans (V_arg0 m c),
      ((h.1 c).2 main_arg1 (mem_arg1)).trans (V_arg1 m c),
      ((h.1 c).2 main_arg2 (mem_arg2)).trans (V_arg2 m c),
      ((h.1 c).2 main_arg3 (mem_arg3)).trans (V_arg3 m c),
      ((h.1 c).2 main_arg4 (mem_arg4)).trans (V_arg4 m c)⟩, h.2⟩)
    (run_main m ρ hid)

end Cert.Kernel.Own
end
-- ==== Proof.K.Entry.lean ====
/- What the host operations leave in the buffers the region reads, and the frame under the precondition. -/
module
public import proofs.«01_k».proof.Proof.K.Main
public import proofs.«01_k».proof.Defs
@[expose] public section
noncomputable section
namespace Cert.Kernel.Own
open Cert.Kernel Cert.Kernel.Gen
open Idealize.ShloMosaic Idealize.ShloMosaic.TcCoe Idealize.ShloMosaic.Tactic
open Idealize.SL Idealize.SL.Sem
variable {F : FTy → Type} [FloatOps F]

variable (m : (ℓ : Loc nD τ sig) → Buf (Elt F) ℓ) (ρ : Dev nD → PrngReg)

theorem V_v0 (c : Dev nD) : V m c main_v0 = shapeCast S32768 (m ((c : Thread nD τ).loc main_arg0) : Vec F S8x4096 .i32) shapeCasts_S8x4096_S32768 := by
  dsimp only [V, hostOps, hostOps0, hostOps0_1, hostOps0_2, hostOps0_3, hostOps0_4, List.flatten, List.append]; after_reads_simp
  rfl
theorem V_v3 (c : Dev nD) : V m c main_v3 = Host.bitcastConvertWiden S16000x3584 32 (transpose S16000x3584x4 [0, 2, 1] (shapeCast S16000x4x3584
    (m ((c : Thread nD τ).loc main_arg1) : Vec F S64000x3584 .i8) shapeCasts_S64000x3584_S16000x4x3584) transposes_S16000x4x3584_S16000x3584x4_0_2_1) splits_S16000x3584_w32_S16000x3584x4_w8 := by
  dsimp only [V, hostOps, hostOps0, hostOps0_1, hostOps0_2, hostOps0_3, hostOps0_4, List.flatten, List.append]; after_reads_simp
  rfl
theorem V_v11 (c : Dev nD) : V m c main_v11 = shapeCast S1x3584 (extf .f32 (m ((c : Thread nD τ).loc main_arg4) : Vec F S3584 .bf16) bitsLt_bf16_f32) shapeCasts_S3584_S1x3584 := by
  dsimp only [V, hostOps, hostOps0, hostOps0_1, hostOps0_2, hostOps0_3, hostOps0_4, List.flatten, List.append]; after_reads_simp
  rfl
theorem V_v12 (c : Dev nD) : V m c main_v12 = shapeCast S256x1x128 (shapeCast S32768 (m ((c : Thread nD τ).loc main_arg0) : Vec F S8x4096 .i32) shapeCasts_S8x4096_S32768) shapeCasts_S32768_S256x1x128 := by
  dsimp only [V, hostOps, hostOps0, hostOps0_1, hostOps0_2, hostOps0_3, hostOps0_4, List.flatten, List.append]; after_reads_simp
  rfl

/-- Ids below 64000 in the argument are below 64000 in the flat list of ids. -/
theorem hid_of (h : ∀ (c : Dev nD) x, ((m ((c : Thread nD τ).loc main_arg0) : Vec F S8x4096 .i32) x).toNat < 64000) (c : Dev nD) (y : S32768.Idx) : (idsM m c y).toNat < 64000 := by
  unfold idsM
  rw [V_v0]
  exact h c _

/-- The precondition in plain words: every id is below 64000. -/
theorem ids_lt [Pre_ids_in_vocab.Facts] (a0 : Vec F S8x4096 .i32) (a1 : Vec F S64000x3584 .i8) (a2 : Vec F S64000 .f32) (a3 : Vec F S64000 .bf16) (a4 : Vec F S3584 .bf16)
    (h : Pre_ids_in_vocab.fn (F := F) a0 a1 a2 a3 a4 = fun _ => 1#1) (x : S8x4096.Idx) : (a0 x).toNat < 64000 := by
  have e : IntOp.andi (IntOp.cmpi .sge (a0 x) 0#32) (IntOp.cmpi .slt (a0 x) 64000#32) = 1#1 := congrFun h x
  generalize a0 x = b at e
  have e' : BitVec.ofBool (BitVec.sle 0#32 b) &&& BitVec.ofBool (BitVec.slt b 64000#32) = 1#1 := e
  have h1 : BitVec.sle 0#32 b = true := by
    cases hb : BitVec.sle 0#32 b
    · rw [hb] at e'; simp at e'
    · rfl
  have h2 : BitVec.slt b 64000#32 = true := by
    cases hb : BitVec.slt b 64000#32
    · rw [hb] at e'; simp at e'
    · rfl
  rw [BitVec.sle_iff_toInt_le] at h1
  rw [BitVec.slt_iff_toInt_lt] at h2
  have := b.isLt
  have hc := BitVec.toInt_eq_toNat_cond b
  rw [show (0#32 : BitVec 32).toInt = 0 from by decide] at h1
  rw [show (64000#32 : BitVec 32).toInt = 64000 from by decide] at h2
  split at hc <;> omega

/-- The frame: from any memory the precondition admits, the arguments end unchanged and every counter at zero. -/
theorem frame [Pre_ids_in_vocab.Facts] (h : ∀ c : Dev nD, Pre_ids_in_vocab.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2.2, h.2⟩)
    (run_named m ρ (hid_of m fun c x => ids_lt _ _ _ _ _ (h c) x))

end Cert.Kernel.Own
end
-- ==== Proof.KI.Pick.lean ====
/- The pick of a token's scale and zero point, the byte of its word, and the dequantized entry of one tile. -/
module
public import proofs.«01_k».proof.Proof.Gen.KernelIdeal.Skeleton
public import Idealize.ShloMosaic.Lib.Pointwise
public import Idealize.ShloMosaic.Lib.IdealHost
public import Idealize.ShloMosaic.PureOps.Ideal.Laws
@[expose] public section
noncomputable section
namespace Cert.KernelIdeal.Own
open Cert.KernelIdeal Cert.KernelIdeal.Gen
open Idealize.ShloMosaic Idealize.ShloMosaic.TcCoe

/-! ## The pick of a token's scale and zero: a one-hot row over 512 table rows, then a one-hot lane of 128 -/

/-- The ids spread over the lanes and transposed: row `r` holds the id of token `r`. -/
theorem pay72_apply {F : FTy → Type} [FloatOps F] (v : Vec F S1x1x128 .i32) (r l : Fin 128) : k0_pay72 v (ix2 r l) = v (ix3 0 0 r) := by
  pointwise [k0_pay72]

/-- A select on the equality of two words. -/
theorem hot_apply {w : ℕ} (a b : BitVec w) (x y : EReal) : Scalar.select (IntOp.cmpi .eq a b) x y = if a = b then x else y := by
  by_cases h : a = b
  · subst h; simp [Scalar.select, IntOp.cmpi]
  · rw [if_neg h, show IntOp.cmpi .eq a b = 0#1 from by rw [IntOp.cmpi, beq_eq_false_iff_ne.mpr h]; rfl]; rfl

/-- The row a token's id selects, against a row number cut in four blocks of 128. -/
theorem hi_eq (i : BitVec 32) (hi : i.toNat < 65536) (x k : ℕ) (hk : k + x < 512) :
    (IntOp.shrui .vector i 7#32 = IntOp.addi (BitVec.ofNat 32 x) (BitVec.ofNat 32 k)) = (i.toNat / 128 = x + k) := by
  have e : IntOp.shrui .vector i 7#32 = i >>> 7 := by simp [IntOp.shrui]
  rw [e]
  refine propext ⟨fun h => ?_, fun h => BitVec.eq_of_toNat_eq ?_⟩
  · have := congrArg BitVec.toNat h
    simp only [IntOp.addi, BitVec.toNat_ushiftRight, BitVec.toNat_add, BitVec.toNat_ofNat, Nat.shiftRight_eq_div_pow] at this
    omega
  · simp only [IntOp.addi, BitVec.toNat_ushiftRight, BitVec.toNat_add, BitVec.toNat_ofNat, Nat.shiftRight_eq_div_pow]
    omega

/-- The lane a token's id selects. -/
theorem lo_eq (i : BitVec 32) (x : ℕ) (hx : x < 128) :
    (IntOp.andi i 127#32 = BitVec.ofNat 32 x) = (i.toNat % 128 = x) := by
  have e : (IntOp.andi i 127#32).toNat = i.toNat % 128 := by
    simp only [IntOp.andi, BitVec.toNat_and, BitVec.toNat_ofNat]
    exact Nat.and_two_pow_sub_one_eq_mod i.toNat 7
  refine propext ⟨fun h => ?_, fun h => BitVec.eq_of_toNat_eq ?_⟩
  · rw [← e, h, BitVec.toNat_ofNat]; omega
  · rw [e, BitVec.toNat_ofNat]; omega

/-- The four blocks of the one-hot row side by side: one at the token's row, zero elsewhere. -/
theorem hot_blocks (i : BitVec 32) (hi : i.toNat < 65536) (x : Fin 512) :
    (if _h : x.val < 128 then (if IntOp.shrui .vector i 7#32 = IntOp.addi (BitVec.ofNat 32 x.val) 0#32 then (1 : EReal) else 0)
      else if _h : x.val - 128 < 128 then (if IntOp.shrui .vector i 7#32 = IntOp.addi (BitVec.ofNat 32 (x.val - 128)) 128#32 then 1 else 0)
      else if _h : x.val - 128 - 128 < 128 then (if IntOp.shrui .vector i 7#32 = IntOp.addi (BitVec.ofNat 32 (x.val - 128 - 128)) 256#32 then 1 else 0)
      else (if IntOp.shrui .vector i 7#32 = IntOp.addi (BitVec.ofNat 32 (x.val - 128 - 128 - 128)) 384#32 then 1 else 0))
      = if x = ⟨i.toNat / 128, by omega⟩ then 1 else 0 := by
  have hx := x.isLt
  have key : ∀ y k : ℕ, y + k = x.val → k + y < 512 →
      (if IntOp.shrui .vector i 7#32 = IntOp.addi (BitVec.ofNat 32 y) (BitVec.ofNat 32 k) then (1 : EReal) else 0) = if x = ⟨i.toNat / 128, by omega⟩ then 1 else 0 := by
    intro y k hyk hlt
    refine if_congr ?_ rfl rfl
    rw [hi_eq i hi y k hlt, hyk, Fin.ext_iff, eq_comm]
  split
  · exact key _ 0 (by omega) (by omega)
  split
  · exact key _ 128 (by omega) (by omega)
  split
  · exact key _ 256 (by omega) (by omega)
  · exact key _ 384 (by omega) (by omega)

/-- The product with the one-hot rows reads the row of the token. -/
theorem pay82_apply (v : Vec Ideal S1x1x128 .i32) (W : Vec Ideal S512x256 .bf16) (r : Fin 128) (l : Fin 256)
    (hi : (v (ix3 0 0 r)).toNat < 65536) :
   k0_pay82 (F := Ideal) (k0_pay75 v) (k0_pay76 v) (k0_pay77 v) (k0_pay78 v) k0_pay79 k0_pay80 W (ix2 r l)
     = W (ix2 ⟨(v (ix3 0 0 r)).toNat / 128, by omega⟩ l) := by
  pointwise [k0_pay82, k0_pay75, k0_pay76, k0_pay77, k0_pay78, k0_pay79, k0_pay80, k0_pay73, pay72_apply, hot_apply]
  refine (Finset.sum_congr rfl fun x _ => congrArg (· * W (ix2 x l)) (hot_blocks (v (ix3 0 0 r)) hi x)).trans ?_
  simp

/-- A lane select, then the sum over the lanes: the token's lane. -/
theorem lane_sum (i : BitVec 32) (f : Fin 128 → EReal) :
    ∑ x : Fin 128, Scalar.select (IntOp.cmpi .eq (IntOp.andi i 127#32) (BitVec.ofNat 32 x.val)) (f x) 0
      = f ⟨i.toNat % 128, Nat.mod_lt _ (by decide)⟩ := by
  rw [Finset.sum_eq_single (⟨i.toNat % 128, Nat.mod_lt _ (by decide)⟩ : Fin 128)]
  · rw [hot_apply, if_pos ((lo_eq i _ (Nat.mod_lt _ (by decide))).mpr rfl)]
  · intro k _ hk
    rw [hot_apply, if_neg fun h => hk (Fin.ext ((lo_eq i _ k.isLt).mp h).symm)]
  · intro h; exact absurd (Finset.mem_univ _) h

/-- The scale picked for a token, in every lane. -/
theorem pay84_apply (v : Vec Ideal S1x1x128 .i32) (W : Vec Ideal S512x256 .bf16) (r l : Fin 128) (hi : (v (ix3 0 0 r)).toNat < 65536) :
    k0_pay84 (F := Ideal) (k0_pay74 v) (iota .tc S128x128 32 [1] iota_S128x128_d1_w32) (k0_pay75 v) (k0_pay76 v) (k0_pay77 v) (k0_pay78 v) k0_pay79 k0_pay80 W (ix2 r l)
      = W (ix2 ⟨(v (ix3 0 0 r)).toNat / 128, by omega⟩ ⟨(v (ix3 0 0 r)).toNat % 128, by omega⟩) := by
  pointwise [k0_pay84, k0_pay81, k0_pay83, k0_pay74, pay72_apply]
  rw [lane_sum, pay82_apply _ _ _ _ hi]

/-- The zero point picked for a token, in every lane. -/
theorem pay85_apply (v : Vec Ideal S1x1x128 .i32) (W : Vec Ideal S512x256 .bf16) (r l : Fin 128) (hi : (v (ix3 0 0 r)).toNat < 65536) :
    k0_pay85 (F := Ideal) (k0_pay74 v) (iota .tc S128x128 32 [1] iota_S128x128_d1_w32) (k0_pay75 v) (k0_pay76 v) (k0_pay77 v) (k0_pay78 v) k0_pay79 k0_pay80 W (ix2 r l)
      = W (ix2 ⟨(v (ix3 0 0 r)).toNat / 128, by omega⟩ ⟨128 + (v (ix3 0 0 r)).toNat % 128, by omega⟩) := by
  pointwise [k0_pay85, k0_pay81, k0_pay83, k0_pay74, pay72_apply]
  rw [lane_sum, pay82_apply _ _ _ _ hi]

/-- The shift that brings a token's byte to the top of its word. -/
theorem pay86_apply (v : IVec S128x128 32) (r l : Fin 128) : k0_pay86 v (ix2 r l) = 24#32 - 8#32 * (v (ix2 r l) &&& 3#32) := by
  pointwise [k0_pay86]
  rfl

/-- One entry of a tile: the byte less the zero point, times the scale. -/
theorem pay1_apply (a : Vec Ideal S16x128 .i32) (b c : Vec Ideal S16x128 .bf16) (d : Vec Ideal S1x16x128 .i32) (r : Fin 16) (l : Fin 128)
    (ha : (a (ix2 r l)).toNat < 32) :
    k0_pay1 (F := Ideal) a b c d (ix2 r l) = ((((d (ix3 0 r l) <<< (a (ix2 r l)).toNat).sshiftRight 24).toInt : ℝ) - b (ix2 r l)) * c (ix2 r l) := by
  pointwise [k0_pay1]
  simp only [IntOp.shrsi, IntOp.shli, ha, if_true]
  rfl

/-- A later chunk's payload is the first one's. -/
theorem pay36_eq (a : Vec Ideal S16x128 .i32) (b c : Vec Ideal S16x128 .bf16) (d : Vec Ideal S1x16x128 .i32) : k0_pay36 a b c d = k0_pay1 a b c d := rfl
/-- A later chunk's payload is the first one's. -/
theorem pay37_eq (a : Vec Ideal S16x128 .i32) (b c : Vec Ideal S16x128 .bf16) (d : Vec Ideal S1x16x128 .i32) : k0_pay37 a b c d = k0_pay1 a b c d := rfl

/-- Byte `k` of a word, shifted to the top and back down, is the byte's signed value. -/
theorem code_toInt (w i : BitVec 32) (b : BitVec 8) (h : ∀ q, q < 8 → w.getLsbD (8 * (i.toNat % 4) + q) = b.getLsbD q) :
    ((w <<< (24#32 - 8#32 * (i &&& 3#32)).toNat).sshiftRight 24).toInt = b.toInt := by
  have e3 : (i &&& 3#32).toNat = i.toNat % 4 := by
    simp only [BitVec.toNat_and, BitVec.toNat_ofNat]
    exact Nat.and_two_pow_sub_one_eq_mod i.toNat 2
  have e : (24#32 - 8#32 * (i &&& 3#32)).toNat = 24 - 8 * (i.toNat % 4) := by
    rw [BitVec.toNat_sub, BitVec.toNat_mul, e3]; simp only [BitVec.toNat_ofNat]; omega
  rw [e]
  have hs : (w <<< (24 - 8 * (i.toNat % 4))).sshiftRight 24 = b.signExtend 32 := by
    apply BitVec.eq_of_getLsbD_eq
    intro q hq
    rw [BitVec.getLsbD_sshiftRight, BitVec.getLsbD_signExtend]
    simp only [BitVec.msb_eq_getLsbD_last, BitVec.getLsbD_shiftLeft]
    by_cases hq8 : q < 8
    · have := h q hq8
      rw [if_pos hq8, if_pos (by omega), ← this]
      have e1 : 24 + q - (24 - 8 * (i.toNat % 4)) = 8 * (i.toNat % 4) + q := by omega
      rw [e1]
      simp [hq, show 24 + q < 32 by omega, show ¬ (24 + q < 24 - 8 * (i.toNat % 4)) by omega]
    · have := h 7 (by omega)
      rw [if_neg hq8, if_neg (by omega)]
      have e1 : 32 - 1 - (24 - 8 * (i.toNat % 4)) = 8 * (i.toNat % 4) + 7 := by omega
      rw [e1, this]
      simp [hq, show ¬ (31 < 24 - 8 * (i.toNat % 4)) by omega]
  rw [hs, BitVec.toInt_signExtend_of_le (by decide)]
end Cert.KernelIdeal.Own
end
-- ==== Proof.Spec.lean ====
/- The mathematics both programs compute: the dequantized row of a token, and its RMSNorm, as functions of the arguments. -/
module
public import Idealize.ShloMosaic.PureOps.Ideal
public import Idealize.ShloMosaic.Lib.Pointwise.Index
@[expose] public section
noncomputable section
namespace Cert.Spec
open Idealize.ShloMosaic

/-- The id of token `n`: the tokens of the 8 × 4096 array counted row by row. -/
def tok (a0 : (⟨2, ![8, 4096]⟩ : Shape).Idx → BitVec 32) (n : Fin 32768) : BitVec 32 :=
  a0 (ix2 ⟨n.val / 4096, by have := n.isLt; omega⟩ ⟨n.val % 4096, by omega⟩)

/-- The table row of token `n`. -/
def row (a0 : (⟨2, ![8, 4096]⟩ : Shape).Idx → BitVec 32) (n : Fin 32768) : Fin 64000 :=
  ⟨(tok a0 n).toNat % 64000, by omega⟩

/-- Entry `d` of token `n`'s embedding: its code less the row's zero point, times the row's scale. -/
def emb (a0 : (⟨2, ![8, 4096]⟩ : Shape).Idx → BitVec 32) (a1 : (⟨2, ![64000, 3584]⟩ : Shape).Idx → BitVec 8)
    (a2 a3 : (⟨1, ![64000]⟩ : Shape).Idx → EReal) (n : Fin 32768) (d : Fin 3584) : EReal :=
  (((a1 (ix2 (row a0 n) d)).toInt : ℝ) - a3 (ix1 (row a0 n))) * a2 (ix1 (row a0 n))

/-- Entry `d` of a vector over its root mean square, times the weight. -/
def rms (e g : Fin 3584 → EReal) (d : Fin 3584) : EReal :=
  e d * Ideal.rsqrt ((∑ k, e k * e k) * ((3584⁻¹ : ℝ) : EReal) + Ideal.ofBits .f32 0x358637BD#32) * g d

/-- All the embeddings. -/
def embArr (a0 : (⟨2, ![8, 4096]⟩ : Shape).Idx → BitVec 32) (a1 : (⟨2, ![64000, 3584]⟩ : Shape).Idx → BitVec 8)
    (a2 a3 : (⟨1, ![64000]⟩ : Shape).Idx → EReal) : (⟨2, ![32768, 3584]⟩ : Shape).Idx → EReal :=
  fun y => emb a0 a1 a2 a3 (y 0) (y 1)

/-- All the normalized embeddings. -/
def outArr (a0 : (⟨2, ![8, 4096]⟩ : Shape).Idx → BitVec 32) (a1 : (⟨2, ![64000, 3584]⟩ : Shape).Idx → BitVec 8)
    (a2 a3 : (⟨1, ![64000]⟩ : Shape).Idx → EReal) (a4 : (⟨1, ![3584]⟩ : Shape).Idx → EReal) : (⟨2, ![32768, 3584]⟩ : Shape).Idx → EReal :=
  fun y => rms (emb a0 a1 a2 a3 (y 0)) (fun d => a4 (ix1 d)) (y 1)
end Cert.Spec
end
-- ==== Proof.KI.Ring.lean ====
/- The row transfers of the kernel: which words a block of tokens waits for, what one transfer delivers, and the rule by
   which one transfer is issued. Slot `s` of the ring `cc0_scratch0` holds one row of table words per token of the block. -/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Tactic
public import Idealize.ShloMosaic.Lib.ShareLeaves
public import Idealize.ShloMosaic.Lib.Pipeline.Frame
public import Idealize.ShloMosaic.Lib.Pointwise
public import Idealize.ShloMosaic.Lib.WritesUnit

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] [Named F]

local notation "𝕄" => MT nD τ sig Unit (Elt F) ℕ (Pipeline.UD sig nD τ) ℕ

/-- The table row of the word `v`: a quarter of the row number it names. -/
def qrow (v : BitVec 32) : Fin 16000 := ⟨(v >>> 2).toNat % 16000, Nat.mod_lt _ (by decide)⟩

/-- Token number `n`, kept inside the array of tokens. -/
def tokIx (n : ℕ) : S32768.Idx := fun a => match a with | ⟨0, _⟩ => ⟨n % 32768, Nat.mod_lt _ (by decide)⟩

/-- An index of the table of words. -/
def tabIx (r : Fin 16000) (d : Fin 3584) : S16000x3584.Idx := fun a => match a with | ⟨0, _⟩ => r | ⟨1, _⟩ => d

/-- The words block `p` of tokens waits for, over the whole ring buffer (every slot the same): row `y 1` holds the table
    row of token `128 p + y 1`. -/
def gath (ids : S32768.Idx → Elt F .i32) (T : S16000x3584.Idx → Elt F .i32) (p : ℕ) : S3x128x3584.Idx → Elt F .i32 :=
  fun y => T (tabIx (qrow (ids (tokIx (128 * p + (y 1).val)))) (y 2))

/-- Row `t` of slot `s` of the ring. -/
def rowSet (s : ℕ) (t : ℕ) : Finset S3x128x3584.Idx := Finset.univ.filter fun y => (y 0).val = s ∧ (y 1).val = t

/-- What one row transfer credits its semaphore. -/
def NN : ℕ := cc0_scratch0.dmaCredit S1x3584 .i32

theorem NN_pos : 0 < NN := by decide +kernel

/-- The ring buffer, the table of words, as this device's. -/
abbrev ringAt (c : Dev nD) (I : Finset S3x128x3584.Idx) (f : S3x128x3584.Idx → Elt F .i32) : sProp 𝕄 :=
  (Memref.whole cc0_scratch0).view.loc (c : Thread nD τ) ↦[I]{fullShare} f
abbrev tabAt (c : Dev nD) (q : PosShare TreeShare) (T : S16000x3584.Idx → Elt F .i32) : sProp 𝕄 :=
  (Memref.whole main_v3).view.loc (c : Thread nD τ) ↦{q} T

/-- The share of the table dealt to token `t` of slot `s`. -/
def share (s : Fin 3) (t : Fin 128) : PosShare TreeShare :=
  ShareLeaves.leaf 7 (ShareLeaves.leaf 2 fullShare ⟨s.val, by omega⟩) t

/-- The delivery of token `t`'s transfer into slot `s` for block `p`: the row at the table's words, the share back. -/
def D (c : Dev nD) (ids : S32768.Idx → Elt F .i32) (T : S16000x3584.Idx → Elt F .i32) (s : Fin 3) (p : ℕ) (t : Fin 128) : sProp 𝕄 :=
  iprop(ringAt c (rowSet s.val t.val) (gath ids T p) ∗ tabAt c (share s t) T)

instance D_storable (c : Dev nD) (ids : S32768.Idx → Elt F .i32) (T : S16000x3584.Idx → Elt F .i32) (s : Fin 3) (p : ℕ) (t : Fin 128) :
    BI.Storable (upEmb : UEmb _ 𝕄) (D c ids T s p t) := by unfold D; infer_instance

/-- The semaphore of slot `s`. -/
def semOf (s : Fin 3) : DmaSem sig := ⟨8 + s.val, by have := s.isLt; show 8 + s.val < 11; omega⟩

/-- The batch of slot `s`: `k` transfers issued, `u` units consumed. -/
def bat (c : Dev nD) (ids : S32768.Idx → Elt F .i32) (T : S16000x3584.Idx → Elt F .i32) (s : Fin 3) (p k u : ℕ) : sProp 𝕄 :=
  Batch (countersEmb (U := Pipeline.UD sig nD τ)) (c : Thread nD τ) (.dma (semOf s)) () NN (D c ids T s p) k u

/-- While block `p`'s rows are being issued into slot `s`, `k` of them so far: the batch; for each row not yet issued its
    share of the table and its row of the ring. -/
def Iss (c : Dev nD) (ids : S32768.Idx → Elt F .i32) (T : S16000x3584.Idx → Elt F .i32) (s : Fin 3) (p k : ℕ) : sProp 𝕄 :=
  iprop(bat c ids T s p k 0 ∗ bigSep (pending k) (fun t : Fin 128 => iprop(tabAt c (share s t) T ∗ ∃ f, ringAt c (rowSet s.val t.val) f)))

/-- Peeling the next row off. -/
theorem Iss_peel (c : Dev nD) (ids : S32768.Idx → Elt F .i32) (T : S16000x3584.Idx → Elt F .i32) (s : Fin 3) (p k : ℕ) (hk : k < 128) :
    Iss c ids T s p k ⊢ iprop(bat c ids T s p k 0 ∗ (tabAt c (share s ⟨k, hk⟩) T ∗ ∃ f, ringAt c (rowSet s.val k) f)
      ∗ bigSep (pending (k + 1)) (fun t : Fin 128 => iprop(tabAt c (share s t) T ∗ ∃ f, ringAt c (rowSet s.val t.val) f))) := by
  unfold Iss
  rw [pending_succ hk, bigSep_insert (not_mem_pending_succ hk)]
  exact .rfl

/-- One row of the ring, as the kernel spells it. -/
abbrev dstM (off : Fin 3 → ℕ) (h : ∀ a, off a + S1x1x3584.size a ≤ S3x128x3584.size a) : Memref sig .tc .vmem S1x3584 .i32 :=
  ((Memref.whole cc0_scratch0).slice (Rect.unit (s := S3x128x3584) off S1x1x3584.size h) (fun _ => rfl)).squeeze S1x3584 squeezes_S1x1x3584_S1x3584
/-- One row of the table, as the kernel spells it. -/
abbrev srcM (off : Fin 2 → ℕ) (h : ∀ a, off a + S1x3584.size a ≤ S16000x3584.size a) : Memref sig .tc .hbm S1x3584 .i32 :=
  (Memref.whole main_v3).slice (Rect.unit (s := S16000x3584) off S1x3584.size h) (fun _ => rfl)

/-- Where index `x` of a row's view sits in the ring. -/
theorem dst_emb (off : Fin 3 → ℕ) (h) (x : S1x3584.Idx) :
    (((dstM off h).view.emb x : S3x128x3584.Idx) 0).val = off 0 ∧ (((dstM off h).view.emb x : S3x128x3584.Idx) 1).val = off 1
      ∧ (((dstM off h).view.emb x : S3x128x3584.Idx) 2).val = off 2 + (x 1).val := by
  have e : ((dstM off h).view.emb x : S3x128x3584.Idx)
      = (Rect.unit (s := S3x128x3584) off S1x1x3584.size h).emb (Fin.cons (⟨0, Nat.one_pos⟩ : Fin 1) x) := by
    show (((View.whole cc0_scratch0).slice _).reshape S1x3584 _).emb x = _
    rw [View.emb_reshape, View.emb_slice, View.emb_whole]
    show (Rect.unit (s := S3x128x3584) off S1x1x3584.size h).emb (Shape.reshapeEquiv _ x) = _
    exact congrArg _ (Shape.reshapeEquiv_cons_one squeezes_S1x1x3584_S1x3584.numel_eq x)
  have h0 : (x 0).val = 0 := by have : (x 0).val < 1 := (x 0).isLt; omega
  rw [e]
  refine ⟨?_, ?_, ?_⟩
  · show off 0 + 1 * 0 = _; omega
  · show off 1 + 1 * (x 0).val = _; omega
  · show off 2 + 1 * (x 1).val = _; omega

/-- Where index `x` of a table row's view sits in the table. -/
theorem src_emb (off : Fin 2 → ℕ) (h) (x : S1x3584.Idx) :
    (((srcM off h).view.emb x : S16000x3584.Idx) 0).val = off 0 ∧ (((srcM off h).view.emb x : S16000x3584.Idx) 1).val = off 1 + (x 1).val := by
  have h0 : (x 0).val = 0 := by have : (x 0).val < 1 := (x 0).isLt; omega
  refine ⟨?_, ?_⟩
  · show off 0 + 1 * (x 0).val = _; omega
  · show off 1 + 1 * (x 1).val = _; omega

/-- A row's view covers its row of the ring, no more. -/
theorem dst_sub (off : Fin 3 → ℕ) (h) (s t : ℕ) (e : off = ![s, t, 0]) : (dstM off h).view.set ⊆ rowSet s t := by
  intro y hy
  obtain ⟨x, -, rfl⟩ := Finset.mem_map.mp hy
  have := dst_emb off h x
  subst e
  exact Finset.mem_filter.mpr ⟨Finset.mem_univ _, this.1, this.2.1⟩

/-- What the landed row holds, on its row: the words of the gather. -/
theorem landed (off : Fin 3 → ℕ) (h) (s t : ℕ) (e : off = ![s, t, 0]) (off' : Fin 2 → ℕ) (h') (w : BitVec 32)
    (e' : off' = ![(w >>> 2).toNat, 0]) (ids : S32768.Idx → Elt F .i32) (T : S16000x3584.Idx → Elt F .i32) (p : ℕ)
    (hw : ids (tokIx (128 * p + t)) = w) (fd : S3x128x3584.Idx → Elt F .i32) :
    ∀ y ∈ rowSet s t, (dstM off h).view.write (Elt F) fd ((srcM off' h').view.read (Elt F) T) Finset.univ y = gath ids T p y := by
  intro y hy
  have hy := (Finset.mem_filter.mp hy).2
  let x : S1x3584.Idx := fun a => match a with | ⟨0, _⟩ => ⟨0, Nat.one_pos⟩ | ⟨1, _⟩ => y 2
  have hx : y = (dstM off h).view.emb x := by
    have := dst_emb off h x
    subst e
    funext a
    apply Fin.ext
    match a with
    | ⟨0, _⟩ => exact hy.1.trans this.1.symm
    | ⟨1, _⟩ => exact hy.2.trans this.2.1.symm
    | ⟨2, _⟩ => exact ((this.2.2).trans (by show 0 + (y 2).val = _; simp)).symm
  have hs := src_emb off' h' x
  have hb : (w >>> 2).toNat < 16000 := by
    have := h' 0; subst e'; have h2 : (w >>> 2).toNat + 1 ≤ 16000 := this; omega
  have hz : (srcM off' h').view.emb x = tabIx (qrow w) (y 2) := by
    subst e'
    funext a
    apply Fin.ext
    match a with
    | ⟨0, _⟩ => exact hs.1.trans (Nat.mod_eq_of_lt hb).symm
    | ⟨1, _⟩ => exact hs.2.trans (by show 0 + (y 2).val = _; simp [tabIx])
  conv_lhs => rw [hx]
  rw [View.write_emb_of_mem _ _ (Finset.mem_univ _)]
  show T ((srcM off' h').view.emb x) = _
  rw [hz]
  unfold gath
  rw [hy.2, hw]

/-- The semaphore of the slot, as the kernel spells it. -/
theorem sem_eq (off : Fin 1 → ℕ) (h) (s : Fin 3) (e : off = ![s.val]) :
    ((cc0_scratch4.slice (Rect.unit (s := S3) off S1.size h)).squeeze S_ squeezes_S1_S_).sem = semOf s := by
  subst e
  apply Fin.ext
  show 8 + (S3.rowMajor ((Rect.unit (s := S3) ![s.val] S1.size h).emb (Shape.reshapeEquiv squeezes_S1_S_.numel_eq fun i => i.elim0))).val = 8 + s.val
  rw [Shape.rowMajor_val_one]
  have : ((Shape.reshapeEquiv squeezes_S1_S_.numel_eq fun i : Fin 0 => i.elim0 : S1.Idx) 0).val < 1 := Fin.isLt _
  show 8 + (s.val + 1 * ((Shape.reshapeEquiv squeezes_S1_S_.numel_eq fun i : Fin 0 => i.elim0 : S1.Idx) 0).val) = _
  omega

/-- ISSUING ONE ROW: the next row's transfer, from the table row the token's word names into row `k` of slot `s`. -/
theorem issue (c : Dev nD) (bd : Option (Variants.none).V) (ids : S32768.Idx → Elt F .i32) (T : S16000x3584.Idx → Elt F .i32) (s : Fin 3) (p k : ℕ) (hk : k < 128)
    (off : Fin 3 → ℕ) (h) (e : off = ![s.val, k, 0]) (off' : Fin 2 → ℕ) (h') (w : BitVec 32) (e' : off' = ![(w >>> 2).toNat, 0])
    (hw : ids (tokIx (128 * p + k)) = w) (offs : Fin 1 → ℕ) (hs) (es : offs = ![s.val])
    {α : Type} {Q : α → sProp 𝕄} {K : PUnit → Prog (TpuEff nD τ sig (Elt F) Λ₀ .tc) α}
    {hsrc : (srcM off' h').view.WordExact} {hdst : (dstM off h).view.WordExact}
    {hsem : DmaTarget.Typed (nD := nD) (τ := τ) (p := Proc.tc) Space.hbm (.dma ((cc0_scratch4.slice (Rect.unit (s := S3) offs S1.size hs)).squeeze S_ squeezes_S1_S_).sem) (.here (dstM off h))} :
    Iss c ids T s p k
      ⊢ iprop((Iss c ids T s p (k + 1) -∗ wp frame (wpE (defs₀ (F := F)) Variants.none (c : Thread nD τ) bd) Set.univ (K ⟨⟩) Q)
          -∗ wp frame (wpE (defs₀ (F := F)) Variants.none (c : Thread nD τ) bd) Set.univ
            (.op (.enqueueDma (srcM off' h') (.here (dstM off h)) (.dma ((cc0_scratch4.slice (Rect.unit (s := S3) offs S1.size hs)).squeeze S_ squeezes_S1_S_).sem) hsrc hdst hsem) K) Q) := by
  revert hsem
  rw [sem_eq offs hs s es]
  intro hsem
  refine (Iss_peel c ids T s p k hk).trans ?_
  unfold bat Batch
  iintro ⟨⟨%γ, %γ₀, %κ, #Hinv, HI, H0, Hcred⟩, ⟨Ht, %fd, Hr⟩, Hrest⟩ Hk
  ihave HI' := (show bigSep (pending k) (fun t => count (countersEmb (U := Pipeline.UD sig nD τ)) (γ t) 0) ⊢ iprop(count (countersEmb (U := Pipeline.UD sig nD τ)) (γ ⟨k, hk⟩) 0 ∗ bigSep (pending (k + 1)) (fun t => count (countersEmb (U := Pipeline.UD sig nD τ)) (γ t) 0) : sProp 𝕄)
    from Entails.of_eq (by rw [pending_succ hk, bigSep_insert (not_mem_pending_succ hk)]; rfl)) $$ HI
  icases HI' with ⟨Hc, HI⟩
  ihave Ht' := (pointsTo_split_subset (Finset.subset_univ (srcM off' h').view.set)).1 $$ Ht
  icases Ht' with ⟨Hsrc, Hput⟩
  iapply (wp_enqueueDmaAs Variants.none (c : Thread nD τ) bd Set.univ () NN rfl) $$ [Hsrc Hr] [Hc Hput]
  · isplitl [Hsrc]; · iexact Hsrc
    iapply (pointsTo_writeUpdate (c : Thread nD τ) (dst_sub off h s.val k e)) $$ Hr
  · iapply (batch_creditUpdate_with (countersEmb (U := Pipeline.UD sig nD τ)) (D := D c ids T s p) ⟨k, hk⟩ (put := (Memref.whole main_v3).view.loc (c : Thread nD τ) ↦[Finset.univ \ (srcM off' h').view.set]{share s ⟨k, hk⟩} T) ?_)
    · unfold D
      iintro ⟨Hput, Hr, Hs⟩
      isplitl [Hr]
      · iapply (Entails.of_eq (pointsTo_congr (ℓ := (Memref.whole cc0_scratch0).view.loc (c : Thread nD τ)) (q := fullShare)
          (landed off h s.val k e off' h' w e' ids T p hw fd)))
        iexact Hr
      iapply (pointsTo_split_subset (Finset.subset_univ (srcM off' h').view.set)).2
      isplitl [Hs]; · iexact Hs
      iexact Hput
    isplitr; · iexact Hinv
    isplitl [Hc]; · iexact Hc
    iexact Hput
  iintro Hcred'
  iapply Hk
  unfold Iss bat Batch
  isplitr [Hrest]
  · iexists γ, γ₀, κ
    isplitr; · iexact Hinv
    isplitl [HI]; · iexact HI
    isplitl [H0]; · iexact H0
    rw [show (k + 1) * NN - 0 = (k * NN - 0) + NN by rw [Nat.succ_mul]; omega, ← tallyAt_add]
    icombine Hcred Hcred' as H
    iexact H
  iexact Hrest

end Cert.KernelIdeal.Own
end
-- ==== Proof.KI.Content.lean ====
module
public import proofs.«01_k».proof.Proof.KI.Ring
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-! What one grid point computes, as functions of the buffers it reads: the shift words, the zero points, the scales
(each a 128×128 array constant along its rows), the ring slot with the fetched words, and the norm weights. -/

/-- Sixteen rows of a 128×128 array. -/
def tile2 {e : EltTy} (X : S128x128.Idx → Elt F e) (k : ℕ) : S16x128.Idx → Elt F e :=
  fun x => X (ix2 (Fin.ofNat 128 (16 * k + (x 0).val)) (x 1))

/-- A 16×128 tile of slot `s` of the ring. -/
def tileW (W : S3x128x3584.Idx → Elt F .i32) (s k j : ℕ) : S1x16x128.Idx → Elt F .i32 :=
  fun x => W (ix3 (Fin.ofNat 3 s) (Fin.ofNat 128 (16 * k + (x 1).val)) (Fin.ofNat 3584 (128 * j + (x 2).val)))

/-- 128 weights. -/
def tileG (g : S1x3584.Idx → Elt F .f32) (j : ℕ) : S1x128.Idx → Elt F .f32 :=
  fun x => g (ix2 (0 : Fin 1) (Fin.ofNat 3584 (128 * j + (x 1).val)))

/-- The sum of squares after tiles `0 … n`. -/
def accC (sh : Vec F S16x128 .i32) (zr sc : Vec F S16x128 .bf16) (w : ℕ → Vec F S1x16x128 .i32) : ℕ → FVec F S16x128 .f32
  | 0 => k0_pay2 sh zr sc (w 0)
  | n + 1 => addf (accC sh zr sc w n) (mulf (extf .f32 (k0_pay1 sh zr sc (w (n + 1))) bitsLt_bf16_f32)
      (extf .f32 (k0_pay1 sh zr sc (w (n + 1))) bitsLt_bf16_f32))

/-- The inverse root mean square of sixteen rows. -/
def rmsC (sh : Vec F S16x128 .i32) (zr sc : Vec F S16x128 .bf16) (w : ℕ → Vec F S1x16x128 .i32) : FVec F S16x128 .f32 :=
  k0_pay38 sh zr sc (accC sh zr sc w 24) (k0_pay1 sh zr sc (w 25)) (w 26) (w 27)

/-- The dequantized rows of the point's block. -/
def embV (sh : S128x128.Idx → Elt F .i32) (zr sc : S128x128.Idx → Elt F .bf16) (W : S3x128x3584.Idx → Elt F .i32) (s : ℕ) :
    S128x3584.Idx → Elt F .bf16 :=
  fun y => k0_pay1 (tile2 sh ((y 0).val / 16)) (tile2 zr ((y 0).val / 16)) (tile2 sc ((y 0).val / 16))
    (tileW W s ((y 0).val / 16) ((y 1).val / 128)) (ix2 (Fin.ofNat 16 (y 0).val) (Fin.ofNat 128 (y 1).val))

/-- The normalized rows of the point's block. -/
def outV (sh : S128x128.Idx → Elt F .i32) (zr sc : S128x128.Idx → Elt F .bf16) (W : S3x128x3584.Idx → Elt F .i32) (s : ℕ)
    (g : S1x3584.Idx → Elt F .f32) : S128x3584.Idx → Elt F .bf16 :=
  fun y => k0_pay41
    (k0_pay1 (tile2 sh ((y 0).val / 16)) (tile2 zr ((y 0).val / 16)) (tile2 sc ((y 0).val / 16))
      (tileW W s ((y 0).val / 16) ((y 1).val / 128)))
    (rmsC (tile2 sh ((y 0).val / 16)) (tile2 zr ((y 0).val / 16)) (tile2 sc ((y 0).val / 16)) (tileW W s ((y 0).val / 16)))
    (tileG g ((y 1).val / 128)) (ix2 (Fin.ofNat 16 (y 0).val) (Fin.ofNat 128 (y 1).val))

theorem read2 {e : EltTy} {off : Fin S128x128.rank → ℕ} {h} (k : ℕ) (hk : k < 8) (ho : off = ![16 * k, 0]) (m : Memref sig .tc .vmem S128x128 e)
    (f : m.view.ty.Contents (Elt F)) :
    View.readAt (Elt F) m.view (Rect.unit (s := S128x128) off S16x128.size h).toLoadRect f = tile2 (m.view.read (Elt F) f) k := by
  subst ho
  funext x
  refine congrArg (m.view.read (Elt F) f) (funext fun a => Fin.ext ?_)
  revert a
  have h0 := (x 0).isLt
  have h0' : (x 0).val < 16 := h0
  refine Fin.forall_fin_two.mpr ⟨?_, ?_⟩
  · show 16 * k + 1 * (x 0).val = (16 * k + (x 0).val) % 128
    omega
  · show 0 + 1 * (x 1).val = (x 1).val
    omega

theorem readW {off : Fin S3x128x3584.rank → ℕ} {h} (s k j : ℕ) (hs : s < 3) (hk : k < 8) (hj : j < 28) (ho : off = ![s, 16 * k, 128 * j])
    (W : S3x128x3584.Idx → Elt F .i32) :
    View.readAt (Elt F) (Memref.whole cc0_scratch0).view (Rect.unit (s := S3x128x3584) off S1x16x128.size h).toLoadRect W = tileW W s k j := by
  subst ho
  funext x
  refine congrArg W (funext fun a => Fin.ext ?_)
  have h0 : (x 0).val < 1 := (x 0).isLt
  have h1 : (x 1).val < 16 := (x 1).isLt
  have h2 : (x 2).val < 128 := (x 2).isLt
  match a with
  | ⟨0, _⟩ => show s + 1 * (x 0).val = s % 3; omega
  | ⟨1, _⟩ => show 16 * k + 1 * (x 1).val = (16 * k + (x 1).val) % 128; omega
  | ⟨2, _⟩ => show 128 * j + 1 * (x 2).val = (128 * j + (x 2).val) % 3584; omega

theorem readG (j : ℕ) (hj : j < 28) (o : ℕ) (ho : o = 128 * j) {h : ∀ a, (![0, o] : Fin 2 → ℕ) a + S1x128.size a ≤ S1x3584.size a} (m : Memref sig .tc .vmem S1x3584 .f32) (f : m.view.ty.Contents (Elt F)) :
    View.readAt (Elt F) m.view (Rect.unit (s := S1x3584) ![0, o] S1x128.size h).toLoadRect f = tileG (m.view.read (Elt F) f) j := by
  subst ho
  funext x
  refine congrArg (m.view.read (Elt F) f) (funext fun a => Fin.ext ?_)
  have h0 : (x 0).val < 1 := (x 0).isLt
  have h1 : (x 1).val < 128 := (x 1).isLt
  match a with
  | ⟨0, _⟩ => show 0 + 1 * (x 0).val = 0; omega
  | ⟨1, _⟩ => show 128 * j + 1 * (x 1).val = (128 * j + (x 1).val) % 3584; omega

/-- One more tile of sixteen rows is written: if the tiles before it read `G`, so do these. -/
theorem tile_step (m : Memref sig .tc .vmem S128x3584 .bf16) (f : m.view.ty.Contents (Elt F)) (G : S128x3584.Idx → Elt F .bf16) (k : ℕ)
    (hk : k < 8) (j : ℕ) (hj : j < 28) {L : List (View.Piece (Elt F) S128x3584 .bf16)} {off : Fin S128x3584.rank → ℕ} {h}
    {w : S16x128.Idx → Elt F .bf16} (ho : off = ![16 * k, 128 * j])
    (hw : ∀ x : S16x128.Idx, w x = G (ix2 (Fin.ofNat 128 (16 * k + (x 0).val)) (Fin.ofNat 3584 (128 * j + (x 1).val))))
    (hL : ∀ y : S128x3584.Idx, m.view.read (Elt F) (m.view.writes (Elt F) f L) y
      = if (y 0).val / 16 = k ∧ (y 1).val < 128 * j then G y else m.view.read (Elt F) f y) (y : S128x3584.Idx) :
    m.view.read (Elt F) (m.view.writes (Elt F) f ((⟨Rect.unit (s := S128x3584) off S16x128.size h, w⟩ : View.Piece (Elt F) S128x3584 .bf16) :: L)) y
      = if (y 0).val / 16 = k ∧ (y 1).val < 128 * (j + 1) then G y else m.view.read (Elt F) f y := by
  subst ho
  have hy0 : (y 0).val < 128 := (y 0).isLt
  have hy1 : (y 1).val < 3584 := (y 1).isLt
  by_cases hc : (y 0).val / 16 = k ∧ (y 1).val / 128 = j
  · rw [if_pos (by omega)]
    refine (View.read_writes_cons_unit_of_mem (v := m.view) (f := f) h w L y
      (ix2 (Fin.ofNat 16 (y 0).val) (Fin.ofNat 128 (y 1).val)) rfl ?_).trans ?_
    · refine Fin.forall_fin_two.mpr ⟨?_, ?_⟩
      · show (y 0).val = 16 * k + (y 0).val % 16
        omega
      · show (y 1).val = 128 * j + (y 1).val % 128
        omega
    · rw [hw]
      refine congrArg G (funext fun a => Fin.ext ?_)
      revert a
      refine Fin.forall_fin_two.mpr ⟨?_, ?_⟩
      · show (16 * k + (y 0).val % 16) % 128 = (y 0).val
        omega
      · show (128 * j + (y 1).val % 128) % 3584 = (y 1).val
        omega
  · have hno : m.view.read (Elt F) (m.view.writes (Elt F) f
        ((⟨Rect.unit (s := S128x3584) ![16 * k, 128 * j] S16x128.size h, w⟩ : View.Piece (Elt F) S128x3584 .bf16) :: L)) y
          = m.view.read (Elt F) (m.view.writes (Elt F) f L) y := by
      by_cases h0 : (y 0).val / 16 = k
      · refine View.read_writes_cons_unit_of_not_mem (v := m.view) (f := f) h w L y rfl (1 : Fin 2) ?_
        show (y 1).val < 128 * j ∨ 128 * j + 128 ≤ (y 1).val
        omega
      · refine View.read_writes_cons_unit_of_not_mem (v := m.view) (f := f) h w L y rfl (0 : Fin 2) ?_
        show (y 0).val < 16 * k ∨ 16 * k + 16 ≤ (y 0).val
        omega
    rw [hno, hL]
    refine if_congr ?_ rfl rfl
    omega

/-- No tile is written yet. -/
theorem tile_none (m : Memref sig .tc .vmem S128x3584 .bf16) (f : m.view.ty.Contents (Elt F)) (G : S128x3584.Idx → Elt F .bf16) (k : ℕ)
    (y : S128x3584.Idx) : m.view.read (Elt F) (m.view.writes (Elt F) f []) y
      = if (y 0).val / 16 = k ∧ (y 1).val < 128 * 0 then G y else m.view.read (Elt F) f y := by
  rw [if_neg (by omega)]
  rfl

theorem tile_idx (k j : ℕ) (hk : k < 8) (hj : j < 28) (x : S16x128.Idx) :
    (16 * k + (x 0).val) % 128 / 16 = k ∧ (128 * j + (x 1).val) % 3584 / 128 = j
      ∧ ix2 (Fin.ofNat 16 ((16 * k + (x 0).val) % 128)) (Fin.ofNat 128 ((128 * j + (x 1).val) % 3584)) = x := by
  have h0 : (x 0).val < 16 := (x 0).isLt
  have h1 : (x 1).val < 128 := (x 1).isLt
  refine ⟨by omega, by omega, funext fun a => Fin.ext ?_⟩
  revert a
  refine Fin.forall_fin_two.mpr ⟨?_, ?_⟩
  · show (16 * k + (x 0).val) % 128 % 16 = (x 0).val
    omega
  · show (128 * j + (x 1).val) % 3584 % 128 = (x 1).val
    omega

theorem embV_tile (sh : S128x128.Idx → Elt F .i32) (zr sc : S128x128.Idx → Elt F .bf16) (W : S3x128x3584.Idx → Elt F .i32) (s k j : ℕ)
    (hk : k < 8) (hj : j < 28) (x : S16x128.Idx) :
    embV sh zr sc W s (ix2 (Fin.ofNat 128 (16 * k + (x 0).val)) (Fin.ofNat 3584 (128 * j + (x 1).val)))
      = k0_pay1 (tile2 sh k) (tile2 zr k) (tile2 sc k) (tileW W s k j) x := by
  obtain ⟨e0, e1, e2⟩ := tile_idx k j hk hj x
  show k0_pay1 (tile2 sh ((16 * k + (x 0).val) % 128 / 16)) (tile2 zr ((16 * k + (x 0).val) % 128 / 16)) (tile2 sc ((16 * k + (x 0).val) % 128 / 16))
    (tileW W s ((16 * k + (x 0).val) % 128 / 16) ((128 * j + (x 1).val) % 3584 / 128))
    (ix2 (Fin.ofNat 16 ((16 * k + (x 0).val) % 128)) (Fin.ofNat 128 ((128 * j + (x 1).val) % 3584))) = _
  rw [e0, e1, e2]

theorem outV_tile (sh : S128x128.Idx → Elt F .i32) (zr sc : S128x128.Idx → Elt F .bf16) (W : S3x128x3584.Idx → Elt F .i32) (s : ℕ)
    (g : S1x3584.Idx → Elt F .f32) (k j : ℕ) (hk : k < 8) (hj : j < 28) (x : S16x128.Idx) :
    outV sh zr sc W s g (ix2 (Fin.ofNat 128 (16 * k + (x 0).val)) (Fin.ofNat 3584 (128 * j + (x 1).val)))
      = k0_pay41 (k0_pay1 (tile2 sh k) (tile2 zr k) (tile2 sc k) (tileW W s k j))
          (rmsC (tile2 sh k) (tile2 zr k) (tile2 sc k) (tileW W s k)) (tileG g j) x := by
  obtain ⟨e0, e1, e2⟩ := tile_idx k j hk hj x
  show k0_pay41 (k0_pay1 (tile2 sh ((16 * k + (x 0).val) % 128 / 16)) (tile2 zr ((16 * k + (x 0).val) % 128 / 16))
      (tile2 sc ((16 * k + (x 0).val) % 128 / 16)) (tileW W s ((16 * k + (x 0).val) % 128 / 16) ((128 * j + (x 1).val) % 3584 / 128)))
    (rmsC (tile2 sh ((16 * k + (x 0).val) % 128 / 16)) (tile2 zr ((16 * k + (x 0).val) % 128 / 16)) (tile2 sc ((16 * k + (x 0).val) % 128 / 16))
      (tileW W s ((16 * k + (x 0).val) % 128 / 16))) (tileG g ((128 * j + (x 1).val) % 3584 / 128))
    (ix2 (Fin.ofNat 16 ((16 * k + (x 0).val) % 128)) (Fin.ofNat 128 ((128 * j + (x 1).val) % 3584))) = _
  rw [e0, e1, e2]
end Cert.KernelIdeal.Own
end
-- ==== Proof.KI.Norm.lean ====
/- The rows the body computes: the dequantized row of a token and its RMSNorm, summed chunk by chunk. -/
module
public import proofs.«01_k».proof.Proof.KI.Pick
public import proofs.«01_k».proof.Proof.Spec
public import proofs.«01_k».proof.Proof.KI.Content
@[expose] public section
noncomputable section
namespace Cert.KernelIdeal.Own
open Cert.KernelIdeal Cert.KernelIdeal.Gen
open Idealize.ShloMosaic Idealize.ShloMosaic.TcCoe

/-! ## A row of the two results: the dequantized row, and its RMSNorm -/

variable (sh : Vec Ideal S128x128 .i32) (zr sc : Vec Ideal S128x128 .bf16) (W : Vec Ideal S3x128x3584 .i32) (s : ℕ)
variable (g : Vec Ideal S1x3584 .f32)

/-- Entry `(r, d)` of the dequantized block, the row's shift, zero and scale read at its lane 0. -/
def embAt (r : Fin 128) (d : Fin 3584) : EReal :=
  ((((W (ix3 (Fin.ofNat 3 s) r d) <<< (sh (ix2 r 0)).toNat).sshiftRight 24).toInt : ℝ) - zr (ix2 r 0)) * sc (ix2 r 0)

/-- Row `r` of the block is row `a` of its group of 16. -/
theorem row_split (r : Fin 128) (a : Fin 16) (k : ℕ) (h : 16 * k + a.val = r.val) : Fin.ofNat 128 (16 * k + a.val) = r :=
  Fin.ext (by show (16 * k + a.val) % 128 = r.val; omega)

/-- One payload entry of a tile: the entry of the block. -/
theorem pay1_tile (r : Fin 128) (hs : ∀ l, sh (ix2 r l) = sh (ix2 r 0)) (hz : ∀ l, zr (ix2 r l) = zr (ix2 r 0)) (hc : ∀ l, sc (ix2 r l) = sc (ix2 r 0))
    (hlt : (sh (ix2 r 0)).toNat < 32) (a : Fin 16) (k j : ℕ) (l : Fin 128) (hk : 16 * k + a.val = r.val) (d : Fin 3584) (hd : 128 * j + l.val = d.val) :
    k0_pay1 (F := Ideal) (tile2 sh k) (tile2 zr k) (tile2 sc k) (tileW W s k j) (ix2 a l) = embAt sh zr sc W s r d := by
  have er := row_split r a k hk
  have ed : Fin.ofNat 3584 (128 * j + l.val) = d := Fin.ext (by show (128 * j + l.val) % 3584 = d.val; omega)
  have e1 : (tile2 sh k) (ix2 a l) = sh (ix2 r 0) := (congrArg (fun q => sh (ix2 q l)) er).trans (hs l)
  have e2 : (tile2 zr k) (ix2 a l) = zr (ix2 r 0) := (congrArg (fun q => zr (ix2 q l)) er).trans (hz l)
  have e3 : (tile2 sc k) (ix2 a l) = sc (ix2 r 0) := (congrArg (fun q => sc (ix2 q l)) er).trans (hc l)
  have e4 : (tileW W s k j) (ix3 0 a l) = W (ix3 (Fin.ofNat 3 s) r d) := by
    show W (ix3 _ (Fin.ofNat 128 (16 * k + a.val)) (Fin.ofNat 3584 (128 * j + l.val))) = _
    rw [er, ed]
  rw [pay1_apply _ _ _ _ _ _ (by rw [e1]; exact hlt), e1, e2, e3, e4]
  rfl

/-- The accumulator after chunk `n`: the sum of their squares at the lane. -/
theorem accC_apply (sh zr sc w) (a : Fin 16) (l : Fin 128) (n : ℕ) :
    accC (F := Ideal) sh zr sc w n (ix2 a l) = ∑ j ∈ Finset.range (n + 1), k0_pay1 (F := Ideal) sh zr sc (w j) (ix2 a l) * k0_pay1 (F := Ideal) sh zr sc (w j) (ix2 a l) := by
  induction n with
  | zero =>
    rw [Finset.sum_range_one]
    show k0_pay2 sh zr sc (w 0) (ix2 a l) = _
    pointwise [k0_pay2]
  | succ n ih =>
    rw [Finset.sum_range_succ, ← ih]
    rfl

/-- The factor of a row: the inverse root of the mean of its squares. -/
theorem rmsC_apply (sh zr sc w) (a : Fin 16) (l : Fin 128) :
    rmsC (F := Ideal) sh zr sc w (ix2 a l) = Ideal.rsqrt ((∑ x : Fin 128, ∑ j : Fin 28, k0_pay1 (F := Ideal) sh zr sc (w j.val) (ix2 a x) * k0_pay1 (F := Ideal) sh zr sc (w j.val) (ix2 a x))
      * ((3584⁻¹ : ℝ) : EReal) + Ideal.ofBits .f32 0x358637BD#32) := by
  unfold rmsC
  pointwise [k0_pay38, pay36_eq, pay37_eq]
  refine congrArg Ideal.rsqrt (congrArg₂ (· + ·) (congrArg₂ (· * ·) (Finset.sum_congr rfl fun x _ => ?_) rfl) rfl)
  rw [accC_apply, Fin.sum_univ_eq_sum_range (fun j => k0_pay1 (F := Ideal) sh zr sc (w j) (ix2 a x) * k0_pay1 (F := Ideal) sh zr sc (w j) (ix2 a x)) 28]
  rw [Finset.sum_range_succ _ 27, Finset.sum_range_succ _ 26, Finset.sum_range_succ _ 25]

/-- The block of embeddings the body leaves, entry by entry. -/
theorem embV_apply (r : Fin 128) (hs : ∀ l, sh (ix2 r l) = sh (ix2 r 0)) (hz : ∀ l, zr (ix2 r l) = zr (ix2 r 0)) (hc : ∀ l, sc (ix2 r l) = sc (ix2 r 0))
    (hlt : (sh (ix2 r 0)).toNat < 32) (d : Fin 3584) : embV (F := Ideal) sh zr sc W s (ix2 r d) = embAt sh zr sc W s r d :=
  pay1_tile sh zr sc W s r hs hz hc hlt _ _ _ _ (by show 16 * (r.val / 16) + r.val % 16 = r.val; omega) d (by show 128 * (d.val / 128) + d.val % 128 = d.val; omega)

/-- The block of normalized embeddings the body leaves: the RMSNorm of its row. -/
theorem outV_apply (r : Fin 128) (hs : ∀ l, sh (ix2 r l) = sh (ix2 r 0)) (hz : ∀ l, zr (ix2 r l) = zr (ix2 r 0)) (hc : ∀ l, sc (ix2 r l) = sc (ix2 r 0))
    (hlt : (sh (ix2 r 0)).toNat < 32) (d : Fin 3584) :
    outV (F := Ideal) sh zr sc W s g (ix2 r d) = Cert.Spec.rms (embAt sh zr sc W s r) (fun d => g (ix2 0 d)) d := by
  have hk : 16 * (r.val / 16) + r.val % 16 = r.val := by omega
  have hd : 128 * (d.val / 128) + d.val % 128 = d.val := by omega
  show k0_pay41 _ _ _ (ix2 (Fin.ofNat 16 r.val) (Fin.ofNat 128 d.val)) = _
  pointwise [k0_pay41]
  unfold Cert.Spec.rms
  refine congrArg₂ (· * ·) (congrArg₂ (· * ·) ?_ ?_) ?_
  · exact pay1_tile sh zr sc W s r hs hz hc hlt _ _ _ _ hk d hd
  · refine (rmsC_apply _ _ _ _ _ _).trans (congrArg Ideal.rsqrt (congrArg₂ (· + ·) (congrArg₂ (· * ·) ?_ rfl) rfl))
    rw [Finset.sum_comm, Fin.sum_univ_tiles 28 128 rfl]
    refine Finset.sum_congr rfl fun j _ => Finset.sum_congr rfl fun x _ => ?_
    have := pay1_tile sh zr sc W s r hs hz hc hlt (Fin.ofNat 16 r.val) (r.val / 16) j.val x hk ⟨j.val * 128 + x.val, by have := j.isLt; have := x.isLt; omega⟩
      (by show 128 * j.val + x.val = j.val * 128 + x.val; omega)
    exact congrArg₂ (· * ·) this this
  · exact congrArg (fun q => g (ix2 0 q)) (Fin.ext (by show (128 * (d.val / 128) + d.val % 128) % 3584 = d.val; have := d.isLt; omega))

end Cert.KernelIdeal.Own
end
-- ==== Proof.KI.Issue.lean ====
module
public import proofs.«01_k».proof.Proof.KI.Content
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-- The table of token ids at share `q`. -/
abbrev idsAt (c : Dev nD) (q : PosShare TreeShare) (ids : S32768.Idx → Elt F .i32) : sProp 𝕄 :=
  (Memref.whole main_v0).view.loc (c : Thread nD τ) ↦{q} ids

theorem src_inb (w : BitVec 32) (hw : w.toNat < 64000) : ∀ a, (![(w >>> 2).toNat, 0] : Fin 2 → ℕ) a + S1x3584.size a ≤ S16000x3584.size a := by
  intro a
  match a with
  | ⟨0, _⟩ => show (w >>> 2).toNat + 1 ≤ 16000; rw [BitVec.toNat_ushiftRight, Nat.shiftRight_eq_div_pow]; omega
  | ⟨1, _⟩ => exact Nat.le_refl _

theorem read_tok (ids : S32768.Idx → Elt F .i32) (off : Fin 1 → ℕ) (h) (x : S1.Idx) (m n : ℕ) (e : off = ![m]) (hmn : n = m) (hn : n < 32768) :
    ids (tokIx n) = View.readAt (Elt F) (Memref.whole main_v0).view (Rect.unit (s := S32768) off S1.size h).toLoadRect ids x := by
  subst e hmn
  refine congrArg ids (funext fun a => Fin.ext ?_)
  match a with
  | ⟨0, _⟩ =>
    have : (x 0).val < 1 := (x 0).isLt
    show n % 32768 = n + 1 * (x 0).val
    omega

/-- One trip of the first prologue loop issues sixteen rows of block 0 into slot 0. -/
theorem trip1 (c : Dev nD) (i : grid0.Coords) (h1 : k0_cond1 i = 1#1) (q : PosShare TreeShare) (ids : S32768.Idx → Elt F .i32)
    (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (k : Fin k0_t1_loop.trips) :
    iprop(Iss c ids T 0 0 (16 * k.val) ∗ idsAt c q ids)
    ⊢ wp frame (wpE (defs₀ (F := F)) Variants.none (c : Thread nD τ) none) Set.univ
       (k0_t1_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 h1 k ())
       (fun _ => iprop(Iss c ids T 0 0 (16 * k.val + 16) ∗ idsAt c q ids)) := by
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  iintro ⟨HI, Hid⟩
  have hk : k.val < 8 := lt_of_lt_of_eq k.isLt (by decide +kernel)
  have hr : ∀ off h (x : S1.Idx), (View.readAt (Elt F) (Memref.whole main_v0).view (Rect.unit (s := S32768) off S1.size h).toLoadRect ids x).toNat < 64000 :=
    fun off h x => hid _
  sl_exec (disch := exact fun _ => src_inb _ (hr _ _ _))
  iapply (issue c none ids T 0 (0) (16 * k.val) (by omega) _ _ (k0_off2_eq k) _ _ _ rfl
    (read_tok _ _ _ _ _ _ (k0_off1_eq k) (by omega) (by omega)) _ _ (rfl)) $$ HI
  iintro HI
  sl_exec (disch := exact fun _ => src_inb _ (hr _ _ _))
  iapply (issue c none ids T 0 (0) (16 * k.val + 1) (by omega) _ _ (k0_off5_eq k) _ _ _ rfl
    (read_tok _ _ _ _ _ _ (k0_off4_eq k) (by omega) (by omega)) _ _ (rfl)) $$ HI
  iintro HI
  sl_exec (disch := exact fun _ => src_inb _ (hr _ _ _))
  iapply (issue c none ids T 0 (0) (16 * k.val + 2) (by omega) _ _ (k0_off8_eq k) _ _ _ rfl
    (read_tok _ _ _ _ _ _ (k0_off7_eq k) (by omega) (by omega)) _ _ (rfl)) $$ HI
  iintro HI
  sl_exec (disch := exact fun _ => src_inb _ (hr _ _ _))
  iapply (issue c none ids T 0 (0) (16 * k.val + 3) (by omega) _ _ (k0_off11_eq k) _ _ _ rfl
    (read_tok _ _ _ _ _ _ (k0_off10_eq k) (by omega) (by omega)) _ _ (rfl)) $$ HI
  iintro HI
  sl_exec (disch := exact fun _ => src_inb _ (hr _ _ _))
  iapply (issue c none ids T 0 (0) (16 * k.val + 4) (by omega) _ _ (k0_off14_eq k) _ _ _ rfl
    (read_tok _ _ _ _ _ _ (k0_off13_eq k) (by omega) (by omega)) _ _ (rfl)) $$ HI
  iintro HI
  sl_exec (disch := exact fun _ => src_inb _ (hr _ _ _))
  iapply (issue c none ids T 0 (0) (16 * k.val + 5) (by omega) _ _ (k0_off17_eq k) _ _ _ rfl
    (read_tok _ _ _ _ _ _ (k0_off16_eq k) (by omega) (by omega)) _ _ (rfl)) $$ HI
  iintro HI
  sl_exec (disch := exact fun _ => src_inb _ (hr _ _ _))
  iapply (issue c none ids T 0 (0) (16 * k.val + 6) (by omega) _ _ (k0_off20_eq k) _ _ _ rfl
    (read_tok _ _ _ _ _ _ (k0_off19_eq k) (by omega) (by omega)) _ _ (rfl)) $$ HI
  iintro HI
  sl_exec (disch := exact fun _ => src_inb _ (hr _ _ _))
  iapply (issue c none ids T 0 (0) (16 * k.val + 7) (by omega) _ _ (k0_off23_eq k) _ _ _ rfl
    (read_tok _ _ _ _ _ _ (k0_off22_eq k) (by omega) (by omega)) _ _ (rfl)) $$ HI
  iintro HI
  sl_exec (disch := exact fun _ => src_inb _ (hr _ _ _))
  iapply (issue c none ids T 0 (0) (16 * k.val + 8) (by omega) _ _ (k0_off26_eq k) _ _ _ rfl
    (read_tok _ _ _ _ _ _ (k0_off25_eq k) (by omega) (by omega)) _ _ (rfl)) $$ HI
  iintro HI
  sl_exec (disch := exact fun _ => src_inb _ (hr _ _ _))
  iapply (issue c none ids T 0 (0) (16 * k.val + 9) (by omega) _ _ (k0_off29_eq k) _ _ _ rfl
    (read_tok _ _ _ _ _ _ (k0_off28_eq k) (by omega) (by omega)) _ _ (rfl)) $$ HI
  iintro HI
  sl_exec (disch := exact fun _ => src_inb _ (hr _ _ _))
  iapply (issue c none ids T 0 (0) (16 * k.val + 10) (by omega) _ _ (k0_off32_eq k) _ _ _ rfl
    (read_tok _ _ _ _ _ _ (k0_off31_eq k) (by omega) (by omega)) _ _ (rfl)) $$ HI
  iintro HI
  sl_exec (disch := exact fun _ => src_inb _ (hr _ _ _))
  iapply (issue c none ids T 0 (0) (16 * k.val + 11) (by omega) _ _ (k0_off35_eq k) _ _ _ rfl
    (read_tok _ _ _ _ _ _ (k0_off34_eq k) (by omega) (by omega)) _ _ (rfl)) $$ HI
  iintro HI
  sl_exec (disch := exact fun _ => src_inb _ (hr _ _ _))
  iapply (issue c none ids T 0 (0) (16 * k.val + 12) (by omega) _ _ (k0_off38_eq k) _ _ _ rfl
    (read_tok _ _ _ _ _ _ (k0_off37_eq k) (by omega) (by omega)) _ _ (rfl)) $$ HI
  iintro HI
  sl_exec (disch := exact fun _ => src_inb _ (hr _ _ _))
  iapply (issue c none ids T 0 (0) (16 * k.val + 13) (by omega) _ _ (k0_off41_eq k) _ _ _ rfl
    (read_tok _ _ _ _ _ _ (k0_off40_eq k) (by omega) (by omega)) _ _ (rfl)) $$ HI
  iintro HI
  sl_exec (disch := exact fun _ => src_inb _ (hr _ _ _))
  iapply (issue c none ids T 0 (0) (16 * k.val + 14) (by omega) _ _ (k0_off44_eq k) _ _ _ rfl
    (read_tok _ _ _ _ _ _ (k0_off43_eq k) (by omega) (by omega)) _ _ (rfl)) $$ HI
  iintro HI
  sl_exec (disch := exact fun _ => src_inb _ (hr _ _ _))
  iapply (issue c none ids T 0 (0) (16 * k.val + 15) (by omega) _ _ (k0_off47_eq k) _ _ _ rfl
    (read_tok _ _ _ _ _ _ (k0_off46_eq k) (by omega) (by omega)) _ _ (rfl)) $$ HI
  iintro HI
  sl_exec
  sl_step
  isplitl [HI]; · iexact HI
  iexact Hid

/-- One trip of the second prologue loop issues sixteen rows of block 1 into slot 1. -/
theorem trip2 (c : Dev nD) (i : grid0.Coords) (h1 : k0_cond1 i = 1#1) (q : PosShare TreeShare) (ids : S32768.Idx → Elt F .i32)
    (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (k : Fin k0_t2_loop.trips) :
    iprop(Iss c ids T 1 1 (16 * k.val) ∗ idsAt c q ids)
    ⊢ wp frame (wpE (defs₀ (F := F)) Variants.none (c : Thread nD τ) none) Set.univ
       (k0_t2_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 h1 k ())
       (fun _ => iprop(Iss c ids T 1 1 (16 * k.val + 16) ∗ idsAt c q ids)) := by
  unfold k0_t2_body
  simp only [k0_part6_eq_skeleton, k0_part7_eq_skeleton, k0_part8_eq_skeleton, k0_part9_eq_skeleton, k0_part10_eq_skeleton]
  unfold k0_part6_skel k0_part7_skel k0_part8_skel k0_part9_skel k0_part10_skel
  iintro ⟨HI, Hid⟩
  have hk : k.val < 8 := lt_of_lt_of_eq k.isLt (by decide +kernel)
  have hr : ∀ off h (x : S1.Idx), (View.readAt (Elt F) (Memref.whole main_v0).view (Rect.unit (s := S32768) off S1.size h).toLoadRect ids x).toNat < 64000 :=
    fun off h x => hid _
  sl_exec (disch := exact fun _ => src_inb _ (hr _ _ _))
  iapply (issue c none ids T 1 (1) (16 * k.val) (by omega) _ _ (k0_off50_eq k) _ _ _ rfl
    (read_tok _ _ _ _ _ _ (k0_off49_eq k) (by omega) (by omega)) _ _ (rfl)) $$ HI
  iintro HI
  sl_exec (disch := exact fun _ => src_inb _ (hr _ _ _))
  iapply (issue c none ids T 1 (1) (16 * k.val + 1) (by omega) _ _ (k0_off53_eq k) _ _ _ rfl
    (read_tok _ _ _ _ _ _ (k0_off52_eq k) (by omega) (by omega)) _ _ (rfl)) $$ HI
  iintro HI
  sl_exec (disch := exact fun _ => src_inb _ (hr _ _ _))
  iapply (issue c none ids T 1 (1) (16 * k.val + 2) (by omega) _ _ (k0_off56_eq k) _ _ _ rfl
    (read_tok _ _ _ _ _ _ (k0_off55_eq k) (by omega) (by omega)) _ _ (rfl)) $$ HI
  iintro HI
  sl_exec (disch := exact fun _ => src_inb _ (hr _ _ _))
  iapply (issue c none ids T 1 (1) (16 * k.val + 3) (by omega) _ _ (k0_off59_eq k) _ _ _ rfl
    (read_tok _ _ _ _ _ _ (k0_off58_eq k) (by omega) (by omega)) _ _ (rfl)) $$ HI
  iintro HI
  sl_exec (disch := exact fun _ => src_inb _ (hr _ _ _))
  iapply (issue c none ids T 1 (1) (16 * k.val + 4) (by omega) _ _ (k0_off62_eq k) _ _ _ rfl
    (read_tok _ _ _ _ _ _ (k0_off61_eq k) (by omega) (by omega)) _ _ (rfl)) $$ HI
  iintro HI
  sl_exec (disch := exact fun _ => src_inb _ (hr _ _ _))
  iapply (issue c none ids T 1 (1) (16 * k.val + 5) (by omega) _ _ (k0_off65_eq k) _ _ _ rfl
    (read_tok _ _ _ _ _ _ (k0_off64_eq k) (by omega) (by omega)) _ _ (rfl)) $$ HI
  iintro HI
  sl_exec (disch := exact fun _ => src_inb _ (hr _ _ _))
  iapply (issue c none ids T 1 (1) (16 * k.val + 6) (by omega) _ _ (k0_off68_eq k) _ _ _ rfl
    (read_tok _ _ _ _ _ _ (k0_off67_eq k) (by omega) (by omega)) _ _ (rfl)) $$ HI
  iintro HI
  sl_exec (disch := exact fun _ => src_inb _ (hr _ _ _))
  iapply (issue c none ids T 1 (1) (16 * k.val + 7) (by omega) _ _ (k0_off71_eq k) _ _ _ rfl
    (read_tok _ _ _ _ _ _ (k0_off70_eq k) (by omega) (by omega)) _ _ (rfl)) $$ HI
  iintro HI
  sl_exec (disch := exact fun _ => src_inb _ (hr _ _ _))
  iapply (issue c none ids T 1 (1) (16 * k.val + 8) (by omega) _ _ (k0_off74_eq k) _ _ _ rfl
    (read_tok _ _ _ _ _ _ (k0_off73_eq k) (by omega) (by omega)) _ _ (rfl)) $$ HI
  iintro HI
  sl_exec (disch := exact fun _ => src_inb _ (hr _ _ _))
  iapply (issue c none ids T 1 (1) (16 * k.val + 9) (by omega) _ _ (k0_off77_eq k) _ _ _ rfl
    (read_tok _ _ _ _ _ _ (k0_off76_eq k) (by omega) (by omega)) _ _ (rfl)) $$ HI
  iintro HI
  sl_exec (disch := exact fun _ => src_inb _ (hr _ _ _))
  iapply (issue c none ids T 1 (1) (16 * k.val + 10) (by omega) _ _ (k0_off80_eq k) _ _ _ rfl
    (read_tok _ _ _ _ _ _ (k0_off79_eq k) (by omega) (by omega)) _ _ (rfl)) $$ HI
  iintro HI
  sl_exec (disch := exact fun _ => src_inb _ (hr _ _ _))
  iapply (issue c none ids T 1 (1) (16 * k.val + 11) (by omega) _ _ (k0_off83_eq k) _ _ _ rfl
    (read_tok _ _ _ _ _ _ (k0_off82_eq k) (by omega) (by omega)) _ _ (rfl)) $$ HI
  iintro HI
  sl_exec (disch := exact fun _ => src_inb _ (hr _ _ _))
  iapply (issue c none ids T 1 (1) (16 * k.val + 12) (by omega) _ _ (k0_off86_eq k) _ _ _ rfl
    (read_tok _ _ _ _ _ _ (k0_off85_eq k) (by omega) (by omega)) _ _ (rfl)) $$ HI
  iintro HI
  sl_exec (disch := exact fun _ => src_inb _ (hr _ _ _))
  iapply (issue c none ids T 1 (1) (16 * k.val + 13) (by omega) _ _ (k0_off89_eq k) _ _ _ rfl
    (read_tok _ _ _ _ _ _ (k0_off88_eq k) (by omega) (by omega)) _ _ (rfl)) $$ HI
  iintro HI
  sl_exec (disch := exact fun _ => src_inb _ (hr _ _ _))
  iapply (issue c none ids T 1 (1) (16 * k.val + 14) (by omega) _ _ (k0_off92_eq k) _ _ _ rfl
    (read_tok _ _ _ _ _ _ (k0_off91_eq k) (by omega) (by omega)) _ _ (rfl)) $$ HI
  iintro HI
  sl_exec (disch := exact fun _ => src_inb _ (hr _ _ _))
  iapply (issue c none ids T 1 (1) (16 * k.val + 15) (by omega) _ _ (k0_off95_eq k) _ _ _ rfl
    (read_tok _ _ _ _ _ _ (k0_off94_eq k) (by omega) (by omega)) _ _ (rfl)) $$ HI
  iintro HI
  sl_exec
  sl_step
  isplitl [HI]; · iexact HI
  iexact Hid

end Cert.KernelIdeal.Own
end
-- ==== Proof.KI.Slots.lean ====
module
public import proofs.«01_k».proof.Proof.KI.Issue
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-! The slots of the ring at rest and in flight, and the loop that waits for one slot's 128 rows. -/

/-- The elements of slot `s`. -/
def slotSet (s : ℕ) : Finset S3x128x3584.Idx := Finset.univ.filter fun y => (y 0).val = s

/-- The share of the table dealt to slot `s`. -/
def slotShare (s : Fin 3) : PosShare TreeShare := ShareLeaves.leaf 2 fullShare ⟨s.val, by omega⟩

/-- A slot at rest: its rows of the ring at some contents, its share of the table, its semaphore at zero. -/
def Free (c : Dev nD) (T : S16000x3584.Idx → Elt F .i32) (s : Fin 3) : sProp 𝕄 :=
  iprop((∃ f, ringAt c (slotSet s.val) f) ∗ tabAt c (slotShare s) T ∗ semVal ((c : Thread nD τ), .dma (semOf s)) 0)

/-- A slot whose 128 rows are all on their way, bringing block `p`. -/
def Fly (c : Dev nD) (ids : S32768.Idx → Elt F .i32) (T : S16000x3584.Idx → Elt F .i32) (s : Fin 3) (p : ℕ) : sProp 𝕄 := bat c ids T s p 128 0

theorem rows_disjoint (s : ℕ) : ∀ b b' : Fin 128, b ≠ b' → Disjoint (rowSet s b.val) (rowSet s b'.val) := by
  intro b b' hb
  rw [Finset.disjoint_left]
  intro y hy hy'
  have h1 := (Finset.mem_filter.mp hy).2.2
  have h2 := (Finset.mem_filter.mp hy').2.2
  exact hb (Fin.ext (h1.symm.trans h2))

theorem rows_cover (s : ℕ) : (Finset.univ : Finset (Fin 128)).biUnion (fun t => rowSet s t.val) = slotSet s := by
  ext y
  constructor
  · intro hy
    obtain ⟨t, -, ht⟩ := Finset.mem_biUnion.mp hy
    exact Finset.mem_filter.mpr ⟨Finset.mem_univ _, (Finset.mem_filter.mp ht).2.1⟩
  · intro hy
    exact Finset.mem_biUnion.mpr ⟨⟨(y 1).val, (y 1).isLt⟩, Finset.mem_univ _,
      Finset.mem_filter.mpr ⟨Finset.mem_univ _, (Finset.mem_filter.mp hy).2, rfl⟩⟩

theorem ring_rows (c : Dev nD) (s : ℕ) (f : S3x128x3584.Idx → Elt F .i32) :
    (ringAt c (slotSet s) f : sProp 𝕄) = bigSep Finset.univ fun t : Fin 128 => ringAt c (rowSet s t.val) f :=
  Ring.pointsTo_sub_blocks (ℓ := (Memref.whole cc0_scratch0).view.loc (c : Thread nD τ)) (fun t : Fin 128 => rowSet s t.val) (rows_disjoint s) (slotSet s) (rows_cover s) f

theorem tab_rows (c : Dev nD) (s : Fin 3) (T : S16000x3584.Idx → Elt F .i32) :
    (tabAt c (slotShare s) T : sProp 𝕄) = bigSep Finset.univ fun t : Fin 128 => tabAt c (share s t) T :=
  ShareLeaves.pointsTo_leaves (ℓ := (Memref.whole main_v3).view.loc (c : Thread nD τ)) Finset.univ T 7 (slotShare s)

theorem rows_split (c : Dev nD) (T : S16000x3584.Idx → Elt F .i32) (s : Fin 3) (f : S3x128x3584.Idx → Elt F .i32) :
    iprop(tabAt c (slotShare s) T ∗ ringAt c (slotSet s.val) f)
      ⊢ (bigSep Finset.univ fun t : Fin 128 => iprop(tabAt c (share s t) T ∗ ∃ f, ringAt c (rowSet s.val t.val) f) : sProp 𝕄) := by
  rw [ring_rows, tab_rows, ← bigSep_sep']
  refine bigSep_mono fun t _ => ?_
  show iprop(tabAt c (share s t) T ∗ ringAt c (rowSet s.val t.val) f) ⊢ (iprop(tabAt c (share s t) T ∗ ∃ f, ringAt c (rowSet s.val t.val) f) : sProp 𝕄)
  iintro ⟨H1, H2⟩
  isplitl [H1]; · iexact H1
  iexists f; iexact H2

/-- A slot at rest may start fetching. -/
theorem free_iss (c : Dev nD) (ids : S32768.Idx → Elt F .i32) (T : S16000x3584.Idx → Elt F .i32) (s : Fin 3) (p : ℕ) :
    Free c T s ⊢ iprop(|={Set.univ}=> Iss c ids T s p 0) := by
  unfold Free
  iintro ⟨⟨%f, Hr⟩, Ht, Hc⟩
  imod (Transfers.batch_alloc' (Lvl := ℕ) (countersEmb (U := Pipeline.UD sig nD τ)) (c : Thread nD τ) () NN (D c ids T s p) (sm := .dma (semOf s)) (E := Set.univ)) $$ Hc with HB
  imodintro
  unfold Iss bat
  isplitl [HB]; · iexact HB
  rw [pending_zero]
  iapply (rows_split c T s f) $$ [Ht Hr]
  isplitl [Ht]; · iexact Ht
  iexact Hr

/-- All rows issued. -/
theorem iss_fly (c : Dev nD) (ids : S32768.Idx → Elt F .i32) (T : S16000x3584.Idx → Elt F .i32) (s : Fin 3) (p : ℕ) :
    Iss c ids T s p 128 ⊢ Fly c ids T s p := by
  unfold Iss Fly
  iintro ⟨H, -⟩
  iexact H

/-- All rows delivered. -/
theorem delivered (c : Dev nD) (ids : S32768.Idx → Elt F .i32) (T : S16000x3584.Idx → Elt F .i32) (s : Fin 3) (p : ℕ) :
    bigSep Finset.univ (D c ids T s p) ⊢ iprop(ringAt c (slotSet s.val) (gath ids T p) ∗ tabAt c (slotShare s) T) := by
  rw [ring_rows, tab_rows]
  rw [← bigSep_sep']
  exact .rfl

/-- Slot `s` of the ring. -/
abbrev slotR (s : ℕ) (h : ∀ a, (![s, 0, 0] : Fin 3 → ℕ) a + (![1, 128, 3584] : Fin 3 → ℕ) a ≤ S3x128x3584.size a) : Rect S3x128x3584 :=
  Rect.unit ![s, 0, 0] ![1, 128, 3584] h

/-- A memref's whole buffer at `f`. -/
abbrev wholeAt (c : Dev nD) {cs : CoreSpace} {s : Shape} {e : EltTy} (m : Memref sig .tc cs s e) (f : Buf (Elt F) (m.view.loc (c : Thread nD τ))) :
    sProp 𝕄 :=
  m.view.loc (c : Thread nD τ) ↦{fullShare} f

/-- Slot `s` of the ring at `f`. -/
abbrev slotAt (c : Dev nD) (s : ℕ) (h : ∀ a, (![s, 0, 0] : Fin 3 → ℕ) a + (![1, 128, 3584] : Fin 3 → ℕ) a ≤ S3x128x3584.size a)
    (f : S3x128x3584.Idx → Elt F .i32) : sProp 𝕄 :=
  (Memref.whole cc0_scratch0).view.loc (c : Thread nD τ) ↦[(Memref.whole cc0_scratch0).view.setOn (slotR s h).set]{fullShare} f

theorem slotR_inb (s : Fin 3) : ∀ a, (![s.val, 0, 0] : Fin 3 → ℕ) a + (![1, 128, 3584] : Fin 3 → ℕ) a ≤ S3x128x3584.size a := by
  intro a
  have := s.isLt
  match a with
  | ⟨0, _⟩ => show s.val + 1 ≤ 3; omega
  | ⟨1, _⟩ => exact Nat.le_refl _
  | ⟨2, _⟩ => exact Nat.le_refl _

theorem slot_set (s : ℕ) (h) : (Memref.whole cc0_scratch0).view.setOn (slotR s h).set = slotSet s := by
  ext y
  show y ∈ ((slotR s h).set.map (Function.Embedding.refl _)) ↔ _
  rw [Finset.map_refl, Rect.mem_set_unit]
  constructor
  · intro hy
    have := hy 0
    refine Finset.mem_filter.mpr ⟨Finset.mem_univ _, ?_⟩
    have h1 : s ≤ (y 0).val := this.1
    have h2 : (y 0).val < s + 1 := this.2
    omega
  · intro hy a
    have h0 := (Finset.mem_filter.mp hy).2
    match a with
    | ⟨0, _⟩ => exact ⟨show s ≤ (y 0).val by omega, show (y 0).val < s + 1 by omega⟩
    | ⟨1, _⟩ => exact ⟨Nat.zero_le _, by show (y 1).val < 0 + 128; have := (y 1).isLt; have h : (y 1).val < 128 := this; omega⟩
    | ⟨2, _⟩ => exact ⟨Nat.zero_le _, by show (y 2).val < 0 + 3584; have := (y 2).isLt; have h : (y 2).val < 3584 := this; omega⟩

theorem slot_eq (c : Dev nD) (s : ℕ) (h) (f : S3x128x3584.Idx → Elt F .i32) : (slotAt c s h f : sProp 𝕄) = ringAt c (slotSet s) f := by
  unfold slotAt ringAt
  rw [slot_set]

/-- The slot whose block is computed. -/
abbrev curSlot (i : grid0.Coords) : Fin 3 := ⟨(i 0).val % 3, Nat.mod_lt _ (by omega)⟩

/-- Before wait `k`: before the last, the batch with `k` rows' units consumed; after it, the cell at zero and all deliveries. -/
def waitInv (c : Dev nD) (ids : S32768.Idx → Elt F .i32) (T : S16000x3584.Idx → Elt F .i32) (s : Fin 3) (p k : ℕ) (_ : Unit) : sProp 𝕄 :=
  iprop((∃ W, owes (c : Thread nD τ) 0 W)
    ∗ (if k < 128 then bat c ids T s p 128 (k * NN)
       else iprop(semVal ((c : Thread nD τ), .dma (semOf s)) 0 ∗ bigSep Finset.univ (D c ids T s p))))

theorem wait_step (c : Dev nD) (i : grid0.Coords) (ids : S32768.Idx → Elt F .i32) (T : S16000x3584.Idx → Elt F .i32) (p : ℕ)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (k : Fin k0_t3_loop.trips) :
    waitInv c ids T (curSlot i) p k.val ()
    ⊢ wp frame (wpE (defs₀ (F := F)) Variants.none (c : Thread nD τ) none) Set.univ
       (k0_t3_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 k ())
       (waitInv c ids T (curSlot i) p (k.val + 1)) := by
  have hk : k.val < 128 := lt_of_lt_of_eq k.isLt (by decide +kernel)
  have hs := sem_eq (k0_off97 i) (k0_off97_inb i) (curSlot i) (k0_off97_eq i)
  unfold waitInv k0_t3_body bat
  simp only [← hs]
  simp only [if_pos hk]
  rcases Nat.lt_or_ge (k.val + 1) 128 with h1 | h1
  · simp only [if_pos h1]
    iintro ⟨⟨%W, HO⟩, HB⟩
    sl_exec
    sl_step
    isplitl [HO]; · iexists _; iexact HO
    rw [show (k.val + 1) * NN = k.val * NN + NN from Nat.succ_mul _ _]
    iexact HB
  · simp only [if_neg (Nat.not_lt.mpr h1)]
    iintro ⟨⟨%W, HO⟩, HB⟩
    sl_exec
    sl_step
    isplitl [HO]; · iexists _; iexact HO
    isplitl [HB]; · iexact HB
    iexact HB_all
end Cert.KernelIdeal.Own
end
-- ==== Proof.KI.Trip.lean ====
module
public import proofs.«01_k».proof.Proof.KI.Slots
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-- The slot that block `i + 2` is fetched into. -/
abbrev nextSlot (i : grid0.Coords) : Fin 3 := ⟨((i 0).val + 2) % 3, Nat.mod_lt _ (by omega)⟩

/-- One trip of the main loop when no block is left to fetch: sixteen rows of both results. -/
theorem tripN (c : Dev nD) (i : grid0.Coords) (h2 : ¬ k0_cond2 i = 1#1)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (hs) (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(slotAt c ((i 0).val % 3) hs W ∗ wholeAt c (Memref.whole cc0_scratch3) sh ∗ wholeAt c (Memref.whole cc0_scratch2) zr
      ∗ wholeAt c (Memref.whole cc0_scratch1) sc ∗ wholeAt c arg4 wt ∗ wholeAt c arg6 f6 ∗ wholeAt c arg7 f7)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(slotAt c ((i 0).val % 3) hs W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k.val then outV sh zr sc W ((i 0).val % 3) (arg4.view.read (Elt F) wt) y
            else arg6.view.read (Elt F) f6 y⌝ ∗ wholeAt c arg6 f6')
      ∗ (∃ f7', ⌜∀ y, arg7.view.read (Elt F) f7' y = if (y 0).val / 16 = k.val then embV sh zr sc W ((i 0).val % 3) y
            else arg7.view.read (Elt F) f7 y⌝ ∗ wholeAt c arg7 f7'))) := by
  unfold k0_t4_body
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  have hk : k.val < 8 := lt_of_lt_of_eq k.isLt (by decide +kernel)

  have hsh := fun h => read2 (off := k0_off163 k) (h := h) k.val hk (k0_off163_eq k) (Memref.whole cc0_scratch3) sh
  have hzr := fun h => read2 (off := k0_off163 k) (h := h) k.val hk (k0_off163_eq k) (Memref.whole cc0_scratch2) zr
  have hsc := fun h => read2 (off := k0_off163 k) (h := h) k.val hk (k0_off163_eq k) (Memref.whole cc0_scratch1) sc
  have hw0 := fun h => readW (off := k0_off164 i k) (h := h) ((i 0).val % 3) k.val 0 (Nat.mod_lt _ (by omega)) hk (by omega) (k0_off164_eq i k) W
  have hw1 := fun h => readW (off := k0_off166 i k) (h := h) ((i 0).val % 3) k.val 1 (Nat.mod_lt _ (by omega)) hk (by omega) (k0_off166_eq i k) W
  have hw2 := fun h => readW (off := k0_off168 i k) (h := h) ((i 0).val % 3) k.val 2 (Nat.mod_lt _ (by omega)) hk (by omega) (k0_off168_eq i k) W
  have hw3 := fun h => readW (off := k0_off170 i k) (h := h) ((i 0).val % 3) k.val 3 (Nat.mod_lt _ (by omega)) hk (by omega) (k0_off170_eq i k) W
  have hw4 := fun h => readW (off := k0_off172 i k) (h := h) ((i 0).val % 3) k.val 4 (Nat.mod_lt _ (by omega)) hk (by omega) (k0_off172_eq i k) W
  have hw5 := fun h => readW (off := k0_off174 i k) (h := h) ((i 0).val % 3) k.val 5 (Nat.mod_lt _ (by omega)) hk (by omega) (k0_off174_eq i k) W
  have hw6 := fun h => readW (off := k0_off176 i k) (h := h) ((i 0).val % 3) k.val 6 (Nat.mod_lt _ (by omega)) hk (by omega) (k0_off176_eq i k) W
  have hw7 := fun h => readW (off := k0_off178 i k) (h := h) ((i 0).val % 3) k.val 7 (Nat.mod_lt _ (by omega)) hk (by omega) (k0_off178_eq i k) W
  have hw8 := fun h => readW (off := k0_off180 i k) (h := h) ((i 0).val % 3) k.val 8 (Nat.mod_lt _ (by omega)) hk (by omega) (k0_off180_eq i k) W
  have hw9 := fun h => readW (off := k0_off182 i k) (h := h) ((i 0).val % 3) k.val 9 (Nat.mod_lt _ (by omega)) hk (by omega) (k0_off182_eq i k) W
  have hw10 := fun h => readW (off := k0_off184 i k) (h := h) ((i 0).val % 3) k.val 10 (Nat.mod_lt _ (by omega)) hk (by omega) (k0_off184_eq i k) W
  have hw11 := fun h => readW (off := k0_off186 i k) (h := h) ((i 0).val % 3) k.val 11 (Nat.mod_lt _ (by omega)) hk (by omega) (k0_off186_eq i k) W
  have hw12 := fun h => readW (off := k0_off188 i k) (h := h) ((i 0).val % 3) k.val 12 (Nat.mod_lt _ (by omega)) hk (by omega) (k0_off188_eq i k) W
  have hw13 := fun h => readW (off := k0_off190 i k) (h := h) ((i 0).val % 3) k.val 13 (Nat.mod_lt _ (by omega)) hk (by omega) (k0_off190_eq i k) W
  have hw14 := fun h => readW (off := k0_off192 i k) (h := h) ((i 0).val % 3) k.val 14 (Nat.mod_lt _ (by omega)) hk (by omega) (k0_off192_eq i k) W
  have hw15 := fun h => readW (off := k0_off194 i k) (h := h) ((i 0).val % 3) k.val 15 (Nat.mod_lt _ (by omega)) hk (by omega) (k0_off194_eq i k) W
  have hw16 := fun h => readW (off := k0_off196 i k) (h := h) ((i 0).val % 3) k.val 16 (Nat.mod_lt _ (by omega)) hk (by omega) (k0_off196_eq i k) W
  have hw17 := fun h => readW (off := k0_off198 i k) (h := h) ((i 0).val % 3) k.val 17 (Nat.mod_lt _ (by omega)) hk (by omega) (k0_off198_eq i k) W
  have hw18 := fun h => readW (off := k0_off200 i k) (h := h) ((i 0).val % 3) k.val 18 (Nat.mod_lt _ (by omega)) hk (by omega) (k0_off200_eq i k) W
  have hw19 := fun h => readW (off := k0_off202 i k) (h := h) ((i 0).val % 3) k.val 19 (Nat.mod_lt _ (by omega)) hk (by omega) (k0_off202_eq i k) W
  have hw20 := fun h => readW (off := k0_off204 i k) (h := h) ((i 0).val % 3) k.val 20 (Nat.mod_lt _ (by omega)) hk (by omega) (k0_off204_eq i k) W
  have hw21 := fun h => readW (off := k0_off206 i k) (h := h) ((i 0).val % 3) k.val 21 (Nat.mod_lt _ (by omega)) hk (by omega) (k0_off206_eq i k) W
  have hw22 := fun h => readW (off := k0_off208 i k) (h := h) ((i 0).val % 3) k.val 22 (Nat.mod_lt _ (by omega)) hk (by omega) (k0_off208_eq i k) W
  have hw23 := fun h => readW (off := k0_off210 i k) (h := h) ((i 0).val % 3) k.val 23 (Nat.mod_lt _ (by omega)) hk (by omega) (k0_off210_eq i k) W
  have hw24 := fun h => readW (off := k0_off212 i k) (h := h) ((i 0).val % 3) k.val 24 (Nat.mod_lt _ (by omega)) hk (by omega) (k0_off212_eq i k) W
  have hw25 := fun h => readW (off := k0_off214 i k) (h := h) ((i 0).val % 3) k.val 25 (Nat.mod_lt _ (by omega)) hk (by omega) (k0_off214_eq i k) W
  have hw26 := fun h => readW (off := k0_off216 i k) (h := h) ((i 0).val % 3) k.val 26 (Nat.mod_lt _ (by omega)) hk (by omega) (k0_off216_eq i k) W
  have hw27 := fun h => readW (off := k0_off218 i k) (h := h) ((i 0).val % 3) k.val 27 (Nat.mod_lt _ (by omega)) hk (by omega) (k0_off218_eq i k) W
  have hg0 := fun h => readG 0 (by omega) 0 rfl arg4 wt (h := h)
  have hg1 := fun h => readG 1 (by omega) 128 rfl arg4 wt (h := h)
  have hg2 := fun h => readG 2 (by omega) 256 rfl arg4 wt (h := h)
  have hg3 := fun h => readG 3 (by omega) 384 rfl arg4 wt (h := h)
  have hg4 := fun h => readG 4 (by omega) 512 rfl arg4 wt (h := h)
  have hg5 := fun h => readG 5 (by omega) 640 rfl arg4 wt (h := h)
  have hg6 := fun h => readG 6 (by omega) 768 rfl arg4 wt (h := h)
  have hg7 := fun h => readG 7 (by omega) 896 rfl arg4 wt (h := h)
  have hg8 := fun h => readG 8 (by omega) 1024 rfl arg4 wt (h := h)
  have hg9 := fun h => readG 9 (by omega) 1152 rfl arg4 wt (h := h)
  have hg10 := fun h => readG 10 (by omega) 1280 rfl arg4 wt (h := h)
  have hg11 := fun h => readG 11 (by omega) 1408 rfl arg4 wt (h := h)
  have hg12 := fun h => readG 12 (by omega) 1536 rfl arg4 wt (h := h)
  have hg13 := fun h => readG 13 (by omega) 1664 rfl arg4 wt (h := h)
  have hg14 := fun h => readG 14 (by omega) 1792 rfl arg4 wt (h := h)
  have hg15 := fun h => readG 15 (by omega) 1920 rfl arg4 wt (h := h)
  have hg16 := fun h => readG 16 (by omega) 2048 rfl arg4 wt (h := h)
  have hg17 := fun h => readG 17 (by omega) 2176 rfl arg4 wt (h := h)
  have hg18 := fun h => readG 18 (by omega) 2304 rfl arg4 wt (h := h)
  have hg19 := fun h => readG 19 (by omega) 2432 rfl arg4 wt (h := h)
  have hg20 := fun h => readG 20 (by omega) 2560 rfl arg4 wt (h := h)
  have hg21 := fun h => readG 21 (by omega) 2688 rfl arg4 wt (h := h)
  have hg22 := fun h => readG 22 (by omega) 2816 rfl arg4 wt (h := h)
  have hg23 := fun h => readG 23 (by omega) 2944 rfl arg4 wt (h := h)
  have hg24 := fun h => readG 24 (by omega) 3072 rfl arg4 wt (h := h)
  have hg25 := fun h => readG 25 (by omega) 3200 rfl arg4 wt (h := h)
  have hg26 := fun h => readG 26 (by omega) 3328 rfl arg4 wt (h := h)
  have hg27 := fun h => readG 27 (by omega) 3456 rfl arg4 wt (h := h)
  iintro ⟨Hr, Hsh, Hzr, Hsc, Hw, H6, H7⟩
  sl_exec
  simp only [hsh, hzr, hsc, hw0, hw1, hw2, hw3, hw4, hw5, hw6, hw7, hw8, hw9, hw10, hw11, hw12, hw13, hw14, hw15, hw16, hw17, hw18, hw19, hw20, hw21, hw22, hw23, hw24, hw25, hw26, hw27, hg0, hg1, hg2, hg3, hg4, hg5, hg6, hg7, hg8, hg9, hg10, hg11, hg12, hg13, hg14, hg15, hg16, hg17, hg18, hg19, hg20, hg21, hg22, hg23, hg24, hg25, hg26, hg27]
  sl_step
  isplitl [Hr]; · iexact Hr
  isplitl [Hsh]; · iexact Hsh
  isplitl [Hzr]; · iexact Hzr
  isplitl [Hsc]; · iexact Hsc
  isplitl [Hw]; · iexact Hw
  isplitl [H6]
  · iexists _
    isplitr [H6]
    swap
    · iexact H6
    ipureintro
    intro y
    refine Eq.trans (b := if (y 0).val / 16 = k.val ∧ (y 1).val < 128 * (27 + 1) then outV sh zr sc W ((i 0).val % 3) (arg4.view.read (Elt F) wt) y else arg6.view.read (Elt F) f6 y) ?_
      (if_congr (and_iff_left (show (y 1).val < 3584 from (y 1).isLt)) rfl rfl)
    exact (tile_step arg6 f6 _ k.val hk 27 (by omega) (k0_off219_eq k)
      (fun x => (outV_tile sh zr sc W ((i 0).val % 3) (arg4.view.read (Elt F) wt) k.val 27 hk (by omega) x).symm) (tile_step arg6 f6 _ k.val hk 26 (by omega) (k0_off217_eq k)
      (fun x => (outV_tile sh zr sc W ((i 0).val % 3) (arg4.view.read (Elt F) wt) k.val 26 hk (by omega) x).symm) (tile_step arg6 f6 _ k.val hk 25 (by omega) (k0_off215_eq k)
      (fun x => (outV_tile sh zr sc W ((i 0).val % 3) (arg4.view.read (Elt F) wt) k.val 25 hk (by omega) x).symm) (tile_step arg6 f6 _ k.val hk 24 (by omega) (k0_off213_eq k)
      (fun x => (outV_tile sh zr sc W ((i 0).val % 3) (arg4.view.read (Elt F) wt) k.val 24 hk (by omega) x).symm) (tile_step arg6 f6 _ k.val hk 23 (by omega) (k0_off211_eq k)
      (fun x => (outV_tile sh zr sc W ((i 0).val % 3) (arg4.view.read (Elt F) wt) k.val 23 hk (by omega) x).symm) (tile_step arg6 f6 _ k.val hk 22 (by omega) (k0_off209_eq k)
      (fun x => (outV_tile sh zr sc W ((i 0).val % 3) (arg4.view.read (Elt F) wt) k.val 22 hk (by omega) x).symm) (tile_step arg6 f6 _ k.val hk 21 (by omega) (k0_off207_eq k)
      (fun x => (outV_tile sh zr sc W ((i 0).val % 3) (arg4.view.read (Elt F) wt) k.val 21 hk (by omega) x).symm) (tile_step arg6 f6 _ k.val hk 20 (by omega) (k0_off205_eq k)
      (fun x => (outV_tile sh zr sc W ((i 0).val % 3) (arg4.view.read (Elt F) wt) k.val 20 hk (by omega) x).symm) (tile_step arg6 f6 _ k.val hk 19 (by omega) (k0_off203_eq k)
      (fun x => (outV_tile sh zr sc W ((i 0).val % 3) (arg4.view.read (Elt F) wt) k.val 19 hk (by omega) x).symm) (tile_step arg6 f6 _ k.val hk 18 (by omega) (k0_off201_eq k)
      (fun x => (outV_tile sh zr sc W ((i 0).val % 3) (arg4.view.read (Elt F) wt) k.val 18 hk (by omega) x).symm) (tile_step arg6 f6 _ k.val hk 17 (by omega) (k0_off199_eq k)
      (fun x => (outV_tile sh zr sc W ((i 0).val % 3) (arg4.view.read (Elt F) wt) k.val 17 hk (by omega) x).symm) (tile_step arg6 f6 _ k.val hk 16 (by omega) (k0_off197_eq k)
      (fun x => (outV_tile sh zr sc W ((i 0).val % 3) (arg4.view.read (Elt F) wt) k.val 16 hk (by omega) x).symm) (tile_step arg6 f6 _ k.val hk 15 (by omega) (k0_off195_eq k)
      (fun x => (outV_tile sh zr sc W ((i 0).val % 3) (arg4.view.read (Elt F) wt) k.val 15 hk (by omega) x).symm) (tile_step arg6 f6 _ k.val hk 14 (by omega) (k0_off193_eq k)
      (fun x => (outV_tile sh zr sc W ((i 0).val % 3) (arg4.view.read (Elt F) wt) k.val 14 hk (by omega) x).symm) (tile_step arg6 f6 _ k.val hk 13 (by omega) (k0_off191_eq k)
      (fun x => (outV_tile sh zr sc W ((i 0).val % 3) (arg4.view.read (Elt F) wt) k.val 13 hk (by omega) x).symm) (tile_step arg6 f6 _ k.val hk 12 (by omega) (k0_off189_eq k)
      (fun x => (outV_tile sh zr sc W ((i 0).val % 3) (arg4.view.read (Elt F) wt) k.val 12 hk (by omega) x).symm) (tile_step arg6 f6 _ k.val hk 11 (by omega) (k0_off187_eq k)
      (fun x => (outV_tile sh zr sc W ((i 0).val % 3) (arg4.view.read (Elt F) wt) k.val 11 hk (by omega) x).symm) (tile_step arg6 f6 _ k.val hk 10 (by omega) (k0_off185_eq k)
      (fun x => (outV_tile sh zr sc W ((i 0).val % 3) (arg4.view.read (Elt F) wt) k.val 10 hk (by omega) x).symm) (tile_step arg6 f6 _ k.val hk 9 (by omega) (k0_off183_eq k)
      (fun x => (outV_tile sh zr sc W ((i 0).val % 3) (arg4.view.read (Elt F) wt) k.val 9 hk (by omega) x).symm) (tile_step arg6 f6 _ k.val hk 8 (by omega) (k0_off181_eq k)
      (fun x => (outV_tile sh zr sc W ((i 0).val % 3) (arg4.view.read (Elt F) wt) k.val 8 hk (by omega) x).symm) (tile_step arg6 f6 _ k.val hk 7 (by omega) (k0_off179_eq k)
      (fun x => (outV_tile sh zr sc W ((i 0).val % 3) (arg4.view.read (Elt F) wt) k.val 7 hk (by omega) x).symm) (tile_step arg6 f6 _ k.val hk 6 (by omega) (k0_off177_eq k)
      (fun x => (outV_tile sh zr sc W ((i 0).val % 3) (arg4.view.read (Elt F) wt) k.val 6 hk (by omega) x).symm) (tile_step arg6 f6 _ k.val hk 5 (by omega) (k0_off175_eq k)
      (fun x => (outV_tile sh zr sc W ((i 0).val % 3) (arg4.view.read (Elt F) wt) k.val 5 hk (by omega) x).symm) (tile_step arg6 f6 _ k.val hk 4 (by omega) (k0_off173_eq k)
      (fun x => (outV_tile sh zr sc W ((i 0).val % 3) (arg4.view.read (Elt F) wt) k.val 4 hk (by omega) x).symm) (tile_step arg6 f6 _ k.val hk 3 (by omega) (k0_off171_eq k)
      (fun x => (outV_tile sh zr sc W ((i 0).val % 3) (arg4.view.read (Elt F) wt) k.val 3 hk (by omega) x).symm) (tile_step arg6 f6 _ k.val hk 2 (by omega) (k0_off169_eq k)
      (fun x => (outV_tile sh zr sc W ((i 0).val % 3) (arg4.view.read (Elt F) wt) k.val 2 hk (by omega) x).symm) (tile_step arg6 f6 _ k.val hk 1 (by omega) (k0_off167_eq k)
      (fun x => (outV_tile sh zr sc W ((i 0).val % 3) (arg4.view.read (Elt F) wt) k.val 1 hk (by omega) x).symm) (tile_step arg6 f6 _ k.val hk 0 (by omega) (k0_off165_eq k)
      (fun x => (outV_tile sh zr sc W ((i 0).val % 3) (arg4.view.read (Elt F) wt) k.val 0 hk (by omega) x).symm) (tile_none arg6 f6 _ k.val))))))))))))))))))))))))))))) y
  · iexists _
    isplitr [H7]
    swap
    · iexact H7
    ipureintro
    intro y
    refine Eq.trans (b := if (y 0).val / 16 = k.val ∧ (y 1).val < 128 * (27 + 1) then embV sh zr sc W ((i 0).val % 3) y else arg7.view.read (Elt F) f7 y) ?_
      (if_congr (and_iff_left (show (y 1).val < 3584 from (y 1).isLt)) rfl rfl)
    exact (tile_step arg7 f7 _ k.val hk 27 (by omega) (k0_off219_eq k)
      (fun x => (embV_tile sh zr sc W ((i 0).val % 3) k.val 27 hk (by omega) x).symm) (tile_step arg7 f7 _ k.val hk 26 (by omega) (k0_off217_eq k)
      (fun x => (embV_tile sh zr sc W ((i 0).val % 3) k.val 26 hk (by omega) x).symm) (tile_step arg7 f7 _ k.val hk 25 (by omega) (k0_off215_eq k)
      (fun x => (embV_tile sh zr sc W ((i 0).val % 3) k.val 25 hk (by omega) x).symm) (tile_step arg7 f7 _ k.val hk 24 (by omega) (k0_off213_eq k)
      (fun x => (embV_tile sh zr sc W ((i 0).val % 3) k.val 24 hk (by omega) x).symm) (tile_step arg7 f7 _ k.val hk 23 (by omega) (k0_off211_eq k)
      (fun x => (embV_tile sh zr sc W ((i 0).val % 3) k.val 23 hk (by omega) x).symm) (tile_step arg7 f7 _ k.val hk 22 (by omega) (k0_off209_eq k)
      (fun x => (embV_tile sh zr sc W ((i 0).val % 3) k.val 22 hk (by omega) x).symm) (tile_step arg7 f7 _ k.val hk 21 (by omega) (k0_off207_eq k)
      (fun x => (embV_tile sh zr sc W ((i 0).val % 3) k.val 21 hk (by omega) x).symm) (tile_step arg7 f7 _ k.val hk 20 (by omega) (k0_off205_eq k)
      (fun x => (embV_tile sh zr sc W ((i 0).val % 3) k.val 20 hk (by omega) x).symm) (tile_step arg7 f7 _ k.val hk 19 (by omega) (k0_off203_eq k)
      (fun x => (embV_tile sh zr sc W ((i 0).val % 3) k.val 19 hk (by omega) x).symm) (tile_step arg7 f7 _ k.val hk 18 (by omega) (k0_off201_eq k)
      (fun x => (embV_tile sh zr sc W ((i 0).val % 3) k.val 18 hk (by omega) x).symm) (tile_step arg7 f7 _ k.val hk 17 (by omega) (k0_off199_eq k)
      (fun x => (embV_tile sh zr sc W ((i 0).val % 3) k.val 17 hk (by omega) x).symm) (tile_step arg7 f7 _ k.val hk 16 (by omega) (k0_off197_eq k)
      (fun x => (embV_tile sh zr sc W ((i 0).val % 3) k.val 16 hk (by omega) x).symm) (tile_step arg7 f7 _ k.val hk 15 (by omega) (k0_off195_eq k)
      (fun x => (embV_tile sh zr sc W ((i 0).val % 3) k.val 15 hk (by omega) x).symm) (tile_step arg7 f7 _ k.val hk 14 (by omega) (k0_off193_eq k)
      (fun x => (embV_tile sh zr sc W ((i 0).val % 3) k.val 14 hk (by omega) x).symm) (tile_step arg7 f7 _ k.val hk 13 (by omega) (k0_off191_eq k)
      (fun x => (embV_tile sh zr sc W ((i 0).val % 3) k.val 13 hk (by omega) x).symm) (tile_step arg7 f7 _ k.val hk 12 (by omega) (k0_off189_eq k)
      (fun x => (embV_tile sh zr sc W ((i 0).val % 3) k.val 12 hk (by omega) x).symm) (tile_step arg7 f7 _ k.val hk 11 (by omega) (k0_off187_eq k)
      (fun x => (embV_tile sh zr sc W ((i 0).val % 3) k.val 11 hk (by omega) x).symm) (tile_step arg7 f7 _ k.val hk 10 (by omega) (k0_off185_eq k)
      (fun x => (embV_tile sh zr sc W ((i 0).val % 3) k.val 10 hk (by omega) x).symm) (tile_step arg7 f7 _ k.val hk 9 (by omega) (k0_off183_eq k)
      (fun x => (embV_tile sh zr sc W ((i 0).val % 3) k.val 9 hk (by omega) x).symm) (tile_step arg7 f7 _ k.val hk 8 (by omega) (k0_off181_eq k)
      (fun x => (embV_tile sh zr sc W ((i 0).val % 3) k.val 8 hk (by omega) x).symm) (tile_step arg7 f7 _ k.val hk 7 (by omega) (k0_off179_eq k)
      (fun x => (embV_tile sh zr sc W ((i 0).val % 3) k.val 7 hk (by omega) x).symm) (tile_step arg7 f7 _ k.val hk 6 (by omega) (k0_off177_eq k)
      (fun x => (embV_tile sh zr sc W ((i 0).val % 3) k.val 6 hk (by omega) x).symm) (tile_step arg7 f7 _ k.val hk 5 (by omega) (k0_off175_eq k)
      (fun x => (embV_tile sh zr sc W ((i 0).val % 3) k.val 5 hk (by omega) x).symm) (tile_step arg7 f7 _ k.val hk 4 (by omega) (k0_off173_eq k)
      (fun x => (embV_tile sh zr sc W ((i 0).val % 3) k.val 4 hk (by omega) x).symm) (tile_step arg7 f7 _ k.val hk 3 (by omega) (k0_off171_eq k)
      (fun x => (embV_tile sh zr sc W ((i 0).val % 3) k.val 3 hk (by omega) x).symm) (tile_step arg7 f7 _ k.val hk 2 (by omega) (k0_off169_eq k)
      (fun x => (embV_tile sh zr sc W ((i 0).val % 3) k.val 2 hk (by omega) x).symm) (tile_step arg7 f7 _ k.val hk 1 (by omega) (k0_off167_eq k)
      (fun x => (embV_tile sh zr sc W ((i 0).val % 3) k.val 1 hk (by omega) x).symm) (tile_step arg7 f7 _ k.val hk 0 (by omega) (k0_off165_eq k)
      (fun x => (embV_tile sh zr sc W ((i 0).val % 3) k.val 0 hk (by omega) x).symm) (tile_none arg7 f7 _ k.val))))))))))))))))))))))))))))) y
/-- One trip of the main loop: sixteen rows of block `i + 2` are issued, sixteen rows of both results are computed. -/
theorem tripI (c : Dev nD) (i : grid0.Coords) (h2 : k0_cond2 i = 1#1) (hi : (i 0).val + 2 < 256) (q : PosShare TreeShare)
    (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (hs) (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(Iss c ids T (nextSlot i) ((i 0).val + 2) (16 * k.val) ∗ idsAt c q ids ∗ slotAt c ((i 0).val % 3) hs W ∗ wholeAt c (Memref.whole cc0_scratch3) sh ∗ wholeAt c (Memref.whole cc0_scratch2) zr
      ∗ wholeAt c (Memref.whole cc0_scratch1) sc ∗ wholeAt c arg4 wt ∗ wholeAt c arg6 f6 ∗ wholeAt c arg7 f7)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(Iss c ids T (nextSlot i) ((i 0).val + 2) (16 * k.val + 16) ∗ idsAt c q ids ∗ slotAt c ((i 0).val % 3) hs W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k.val then outV sh zr sc W ((i 0).val % 3) (arg4.view.read (Elt F) wt) y
            else arg6.view.read (Elt F) f6 y⌝ ∗ wholeAt c arg6 f6')
      ∗ (∃ f7', ⌜∀ y, arg7.view.read (Elt F) f7' y = if (y 0).val / 16 = k.val then embV sh zr sc W ((i 0).val % 3) y
            else arg7.view.read (Elt F) f7 y⌝ ∗ wholeAt c arg7 f7'))) := by
  unfold k0_t4_body
  simp only [k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel
  simp only [k0_part11_eq_skeleton, k0_part12_eq_skeleton, k0_part13_eq_skeleton, k0_part14_eq_skeleton, k0_part15_eq_skeleton]
  unfold k0_part11_skel k0_part12_skel k0_part13_skel k0_part14_skel k0_part15_skel
  have hk : k.val < 8 := lt_of_lt_of_eq k.isLt (by decide +kernel)

  have hsh := fun h => read2 (off := k0_off163 k) (h := h) k.val hk (k0_off163_eq k) (Memref.whole cc0_scratch3) sh
  have hzr := fun h => read2 (off := k0_off163 k) (h := h) k.val hk (k0_off163_eq k) (Memref.whole cc0_scratch2) zr
  have hsc := fun h => read2 (off := k0_off163 k) (h := h) k.val hk (k0_off163_eq k) (Memref.whole cc0_scratch1) sc
  have hw0 := fun h => readW (off := k0_off164 i k) (h := h) ((i 0).val % 3) k.val 0 (Nat.mod_lt _ (by omega)) hk (by omega) (k0_off164_eq i k) W
  have hw1 := fun h => readW (off := k0_off166 i k) (h := h) ((i 0).val % 3) k.val 1 (Nat.mod_lt _ (by omega)) hk (by omega) (k0_off166_eq i k) W
  have hw2 := fun h => readW (off := k0_off168 i k) (h := h) ((i 0).val % 3) k.val 2 (Nat.mod_lt _ (by omega)) hk (by omega) (k0_off168_eq i k) W
  have hw3 := fun h => readW (off := k0_off170 i k) (h := h) ((i 0).val % 3) k.val 3 (Nat.mod_lt _ (by omega)) hk (by omega) (k0_off170_eq i k) W
  have hw4 := fun h => readW (off := k0_off172 i k) (h := h) ((i 0).val % 3) k.val 4 (Nat.mod_lt _ (by omega)) hk (by omega) (k0_off172_eq i k) W
  have hw5 := fun h => readW (off := k0_off174 i k) (h := h) ((i 0).val % 3) k.val 5 (Nat.mod_lt _ (by omega)) hk (by omega) (k0_off174_eq i k) W
  have hw6 := fun h => readW (off := k0_off176 i k) (h := h) ((i 0).val % 3) k.val 6 (Nat.mod_lt _ (by omega)) hk (by omega) (k0_off176_eq i k) W
  have hw7 := fun h => readW (off := k0_off178 i k) (h := h) ((i 0).val % 3) k.val 7 (Nat.mod_lt _ (by omega)) hk (by omega) (k0_off178_eq i k) W
  have hw8 := fun h => readW (off := k0_off180 i k) (h := h) ((i 0).val % 3) k.val 8 (Nat.mod_lt _ (by omega)) hk (by omega) (k0_off180_eq i k) W
  have hw9 := fun h => readW (off := k0_off182 i k) (h := h) ((i 0).val % 3) k.val 9 (Nat.mod_lt _ (by omega)) hk (by omega) (k0_off182_eq i k) W
  have hw10 := fun h => readW (off := k0_off184 i k) (h := h) ((i 0).val % 3) k.val 10 (Nat.mod_lt _ (by omega)) hk (by omega) (k0_off184_eq i k) W
  have hw11 := fun h => readW (off := k0_off186 i k) (h := h) ((i 0).val % 3) k.val 11 (Nat.mod_lt _ (by omega)) hk (by omega) (k0_off186_eq i k) W
  have hw12 := fun h => readW (off := k0_off188 i k) (h := h) ((i 0).val % 3) k.val 12 (Nat.mod_lt _ (by omega)) hk (by omega) (k0_off188_eq i k) W
  have hw13 := fun h => readW (off := k0_off190 i k) (h := h) ((i 0).val % 3) k.val 13 (Nat.mod_lt _ (by omega)) hk (by omega) (k0_off190_eq i k) W
  have hw14 := fun h => readW (off := k0_off192 i k) (h := h) ((i 0).val % 3) k.val 14 (Nat.mod_lt _ (by omega)) hk (by omega) (k0_off192_eq i k) W
  have hw15 := fun h => readW (off := k0_off194 i k) (h := h) ((i 0).val % 3) k.val 15 (Nat.mod_lt _ (by omega)) hk (by omega) (k0_off194_eq i k) W
  have hw16 := fun h => readW (off := k0_off196 i k) (h := h) ((i 0).val % 3) k.val 16 (Nat.mod_lt _ (by omega)) hk (by omega) (k0_off196_eq i k) W
  have hw17 := fun h => readW (off := k0_off198 i k) (h := h) ((i 0).val % 3) k.val 17 (Nat.mod_lt _ (by omega)) hk (by omega) (k0_off198_eq i k) W
  have hw18 := fun h => readW (off := k0_off200 i k) (h := h) ((i 0).val % 3) k.val 18 (Nat.mod_lt _ (by omega)) hk (by omega) (k0_off200_eq i k) W
  have hw19 := fun h => readW (off := k0_off202 i k) (h := h) ((i 0).val % 3) k.val 19 (Nat.mod_lt _ (by omega)) hk (by omega) (k0_off202_eq i k) W
  have hw20 := fun h => readW (off := k0_off204 i k) (h := h) ((i 0).val % 3) k.val 20 (Nat.mod_lt _ (by omega)) hk (by omega) (k0_off204_eq i k) W
  have hw21 := fun h => readW (off := k0_off206 i k) (h := h) ((i 0).val % 3) k.val 21 (Nat.mod_lt _ (by omega)) hk (by omega) (k0_off206_eq i k) W
  have hw22 := fun h => readW (off := k0_off208 i k) (h := h) ((i 0).val % 3) k.val 22 (Nat.mod_lt _ (by omega)) hk (by omega) (k0_off208_eq i k) W
  have hw23 := fun h => readW (off := k0_off210 i k) (h := h) ((i 0).val % 3) k.val 23 (Nat.mod_lt _ (by omega)) hk (by omega) (k0_off210_eq i k) W
  have hw24 := fun h => readW (off := k0_off212 i k) (h := h) ((i 0).val % 3) k.val 24 (Nat.mod_lt _ (by omega)) hk (by omega) (k0_off212_eq i k) W
  have hw25 := fun h => readW (off := k0_off214 i k) (h := h) ((i 0).val % 3) k.val 25 (Nat.mod_lt _ (by omega)) hk (by omega) (k0_off214_eq i k) W
  have hw26 := fun h => readW (off := k0_off216 i k) (h := h) ((i 0).val % 3) k.val 26 (Nat.mod_lt _ (by omega)) hk (by omega) (k0_off216_eq i k) W
  have hw27 := fun h => readW (off := k0_off218 i k) (h := h) ((i 0).val % 3) k.val 27 (Nat.mod_lt _ (by omega)) hk (by omega) (k0_off218_eq i k) W
  have hg0 := fun h => readG 0 (by omega) 0 rfl arg4 wt (h := h)
  have hg1 := fun h => readG 1 (by omega) 128 rfl arg4 wt (h := h)
  have hg2 := fun h => readG 2 (by omega) 256 rfl arg4 wt (h := h)
  have hg3 := fun h => readG 3 (by omega) 384 rfl arg4 wt (h := h)
  have hg4 := fun h => readG 4 (by omega) 512 rfl arg4 wt (h := h)
  have hg5 := fun h => readG 5 (by omega) 640 rfl arg4 wt (h := h)
  have hg6 := fun h => readG 6 (by omega) 768 rfl arg4 wt (h := h)
  have hg7 := fun h => readG 7 (by omega) 896 rfl arg4 wt (h := h)
  have hg8 := fun h => readG 8 (by omega) 1024 rfl arg4 wt (h := h)
  have hg9 := fun h => readG 9 (by omega) 1152 rfl arg4 wt (h := h)
  have hg10 := fun h => readG 10 (by omega) 1280 rfl arg4 wt (h := h)
  have hg11 := fun h => readG 11 (by omega) 1408 rfl arg4 wt (h := h)
  have hg12 := fun h => readG 12 (by omega) 1536 rfl arg4 wt (h := h)
  have hg13 := fun h => readG 13 (by omega) 1664 rfl arg4 wt (h := h)
  have hg14 := fun h => readG 14 (by omega) 1792 rfl arg4 wt (h := h)
  have hg15 := fun h => readG 15 (by omega) 1920 rfl arg4 wt (h := h)
  have hg16 := fun h => readG 16 (by omega) 2048 rfl arg4 wt (h := h)
  have hg17 := fun h => readG 17 (by omega) 2176 rfl arg4 wt (h := h)
  have hg18 := fun h => readG 18 (by omega) 2304 rfl arg4 wt (h := h)
  have hg19 := fun h => readG 19 (by omega) 2432 rfl arg4 wt (h := h)
  have hg20 := fun h => readG 20 (by omega) 2560 rfl arg4 wt (h := h)
  have hg21 := fun h => readG 21 (by omega) 2688 rfl arg4 wt (h := h)
  have hg22 := fun h => readG 22 (by omega) 2816 rfl arg4 wt (h := h)
  have hg23 := fun h => readG 23 (by omega) 2944 rfl arg4 wt (h := h)
  have hg24 := fun h => readG 24 (by omega) 3072 rfl arg4 wt (h := h)
  have hg25 := fun h => readG 25 (by omega) 3200 rfl arg4 wt (h := h)
  have hg26 := fun h => readG 26 (by omega) 3328 rfl arg4 wt (h := h)
  have hg27 := fun h => readG 27 (by omega) 3456 rfl arg4 wt (h := h)
  have hr : ∀ off h (x : S1.Idx), (View.readAt (Elt F) (Memref.whole main_v0).view (Rect.unit (s := S32768) off S1.size h).toLoadRect ids x).toNat < 64000 :=
    fun off h x => hid _
  iintro ⟨HI, Hid, Hr, Hsh, Hzr, Hsc, Hw, H6, H7⟩
  sl_exec (disch := exact fun _ => src_inb _ (hr _ _ _))
  iapply (issue c none ids T (nextSlot i) ((i 0).val + 2) (16 * k.val) (by omega) _ _ (k0_off101_eq i k) _ _ _ rfl
    (read_tok _ _ _ _ _ _ (k0_off99_eq i k) (by omega) (by omega)) _ _ (k0_off100_eq i)) $$ HI
  iintro HI
  sl_exec (disch := exact fun _ => src_inb _ (hr _ _ _))
  iapply (issue c none ids T (nextSlot i) ((i 0).val + 2) (16 * k.val + 1) (by omega) _ _ (k0_off105_eq i k) _ _ _ rfl
    (read_tok _ _ _ _ _ _ (k0_off103_eq i k) (by omega) (by omega)) _ _ (k0_off104_eq i)) $$ HI
  iintro HI
  sl_exec (disch := exact fun _ => src_inb _ (hr _ _ _))
  iapply (issue c none ids T (nextSlot i) ((i 0).val + 2) (16 * k.val + 2) (by omega) _ _ (k0_off109_eq i k) _ _ _ rfl
    (read_tok _ _ _ _ _ _ (k0_off107_eq i k) (by omega) (by omega)) _ _ (k0_off108_eq i)) $$ HI
  iintro HI
  sl_exec (disch := exact fun _ => src_inb _ (hr _ _ _))
  iapply (issue c none ids T (nextSlot i) ((i 0).val + 2) (16 * k.val + 3) (by omega) _ _ (k0_off113_eq i k) _ _ _ rfl
    (read_tok _ _ _ _ _ _ (k0_off111_eq i k) (by omega) (by omega)) _ _ (k0_off112_eq i)) $$ HI
  iintro HI
  sl_exec (disch := exact fun _ => src_inb _ (hr _ _ _))
  iapply (issue c none ids T (nextSlot i) ((i 0).val + 2) (16 * k.val + 4) (by omega) _ _ (k0_off117_eq i k) _ _ _ rfl
    (read_tok _ _ _ _ _ _ (k0_off115_eq i k) (by omega) (by omega)) _ _ (k0_off116_eq i)) $$ HI
  iintro HI
  sl_exec (disch := exact fun _ => src_inb _ (hr _ _ _))
  iapply (issue c none ids T (nextSlot i) ((i 0).val + 2) (16 * k.val + 5) (by omega) _ _ (k0_off121_eq i k) _ _ _ rfl
    (read_tok _ _ _ _ _ _ (k0_off119_eq i k) (by omega) (by omega)) _ _ (k0_off120_eq i)) $$ HI
  iintro HI
  sl_exec (disch := exact fun _ => src_inb _ (hr _ _ _))
  iapply (issue c none ids T (nextSlot i) ((i 0).val + 2) (16 * k.val + 6) (by omega) _ _ (k0_off125_eq i k) _ _ _ rfl
    (read_tok _ _ _ _ _ _ (k0_off123_eq i k) (by omega) (by omega)) _ _ (k0_off124_eq i)) $$ HI
  iintro HI
  sl_exec (disch := exact fun _ => src_inb _ (hr _ _ _))
  iapply (issue c none ids T (nextSlot i) ((i 0).val + 2) (16 * k.val + 7) (by omega) _ _ (k0_off129_eq i k) _ _ _ rfl
    (read_tok _ _ _ _ _ _ (k0_off127_eq i k) (by omega) (by omega)) _ _ (k0_off128_eq i)) $$ HI
  iintro HI
  sl_exec (disch := exact fun _ => src_inb _ (hr _ _ _))
  iapply (issue c none ids T (nextSlot i) ((i 0).val + 2) (16 * k.val + 8) (by omega) _ _ (k0_off133_eq i k) _ _ _ rfl
    (read_tok _ _ _ _ _ _ (k0_off131_eq i k) (by omega) (by omega)) _ _ (k0_off132_eq i)) $$ HI
  iintro HI
  sl_exec (disch := exact fun _ => src_inb _ (hr _ _ _))
  iapply (issue c none ids T (nextSlot i) ((i 0).val + 2) (16 * k.val + 9) (by omega) _ _ (k0_off137_eq i k) _ _ _ rfl
    (read_tok _ _ _ _ _ _ (k0_off135_eq i k) (by omega) (by omega)) _ _ (k0_off136_eq i)) $$ HI
  iintro HI
  sl_exec (disch := exact fun _ => src_inb _ (hr _ _ _))
  iapply (issue c none ids T (nextSlot i) ((i 0).val + 2) (16 * k.val + 10) (by omega) _ _ (k0_off141_eq i k) _ _ _ rfl
    (read_tok _ _ _ _ _ _ (k0_off139_eq i k) (by omega) (by omega)) _ _ (k0_off140_eq i)) $$ HI
  iintro HI
  sl_exec (disch := exact fun _ => src_inb _ (hr _ _ _))
  iapply (issue c none ids T (nextSlot i) ((i 0).val + 2) (16 * k.val + 11) (by omega) _ _ (k0_off145_eq i k) _ _ _ rfl
    (read_tok _ _ _ _ _ _ (k0_off143_eq i k) (by omega) (by omega)) _ _ (k0_off144_eq i)) $$ HI
  iintro HI
  sl_exec (disch := exact fun _ => src_inb _ (hr _ _ _))
  iapply (issue c none ids T (nextSlot i) ((i 0).val + 2) (16 * k.val + 12) (by omega) _ _ (k0_off149_eq i k) _ _ _ rfl
    (read_tok _ _ _ _ _ _ (k0_off147_eq i k) (by omega) (by omega)) _ _ (k0_off148_eq i)) $$ HI
  iintro HI
  sl_exec (disch := exact fun _ => src_inb _ (hr _ _ _))
  iapply (issue c none ids T (nextSlot i) ((i 0).val + 2) (16 * k.val + 13) (by omega) _ _ (k0_off153_eq i k) _ _ _ rfl
    (read_tok _ _ _ _ _ _ (k0_off151_eq i k) (by omega) (by omega)) _ _ (k0_off152_eq i)) $$ HI
  iintro HI
  sl_exec (disch := exact fun _ => src_inb _ (hr _ _ _))
  iapply (issue c none ids T (nextSlot i) ((i 0).val + 2) (16 * k.val + 14) (by omega) _ _ (k0_off157_eq i k) _ _ _ rfl
    (read_tok _ _ _ _ _ _ (k0_off155_eq i k) (by omega) (by omega)) _ _ (k0_off156_eq i)) $$ HI
  iintro HI
  sl_exec (disch := exact fun _ => src_inb _ (hr _ _ _))
  iapply (issue c none ids T (nextSlot i) ((i 0).val + 2) (16 * k.val + 15) (by omega) _ _ (k0_off161_eq i k) _ _ _ rfl
    (read_tok _ _ _ _ _ _ (k0_off159_eq i k) (by omega) (by omega)) _ _ (k0_off160_eq i)) $$ HI
  iintro HI
  sl_exec
  simp only [hsh, hzr, hsc, hw0, hw1, hw2, hw3, hw4, hw5, hw6, hw7, hw8, hw9, hw10, hw11, hw12, hw13, hw14, hw15, hw16, hw17, hw18, hw19, hw20, hw21, hw22, hw23, hw24, hw25, hw26, hw27, hg0, hg1, hg2, hg3, hg4, hg5, hg6, hg7, hg8, hg9, hg10, hg11, hg12, hg13, hg14, hg15, hg16, hg17, hg18, hg19, hg20, hg21, hg22, hg23, hg24, hg25, hg26, hg27]
  sl_step
  isplitl [HI]; · iexact HI
  isplitl [Hid]; · iexact Hid
  isplitl [Hr]; · iexact Hr
  isplitl [Hsh]; · iexact Hsh
  isplitl [Hzr]; · iexact Hzr
  isplitl [Hsc]; · iexact Hsc
  isplitl [Hw]; · iexact Hw
  isplitl [H6]
  · iexists _
    isplitr [H6]
    swap
    · iexact H6
    ipureintro
    intro y
    refine Eq.trans (b := if (y 0).val / 16 = k.val ∧ (y 1).val < 128 * (27 + 1) then outV sh zr sc W ((i 0).val % 3) (arg4.view.read (Elt F) wt) y else arg6.view.read (Elt F) f6 y) ?_
      (if_congr (and_iff_left (show (y 1).val < 3584 from (y 1).isLt)) rfl rfl)
    exact (tile_step arg6 f6 _ k.val hk 27 (by omega) (k0_off219_eq k)
      (fun x => (outV_tile sh zr sc W ((i 0).val % 3) (arg4.view.read (Elt F) wt) k.val 27 hk (by omega) x).symm) (tile_step arg6 f6 _ k.val hk 26 (by omega) (k0_off217_eq k)
      (fun x => (outV_tile sh zr sc W ((i 0).val % 3) (arg4.view.read (Elt F) wt) k.val 26 hk (by omega) x).symm) (tile_step arg6 f6 _ k.val hk 25 (by omega) (k0_off215_eq k)
      (fun x => (outV_tile sh zr sc W ((i 0).val % 3) (arg4.view.read (Elt F) wt) k.val 25 hk (by omega) x).symm) (tile_step arg6 f6 _ k.val hk 24 (by omega) (k0_off213_eq k)
      (fun x => (outV_tile sh zr sc W ((i 0).val % 3) (arg4.view.read (Elt F) wt) k.val 24 hk (by omega) x).symm) (tile_step arg6 f6 _ k.val hk 23 (by omega) (k0_off211_eq k)
      (fun x => (outV_tile sh zr sc W ((i 0).val % 3) (arg4.view.read (Elt F) wt) k.val 23 hk (by omega) x).symm) (tile_step arg6 f6 _ k.val hk 22 (by omega) (k0_off209_eq k)
      (fun x => (outV_tile sh zr sc W ((i 0).val % 3) (arg4.view.read (Elt F) wt) k.val 22 hk (by omega) x).symm) (tile_step arg6 f6 _ k.val hk 21 (by omega) (k0_off207_eq k)
      (fun x => (outV_tile sh zr sc W ((i 0).val % 3) (arg4.view.read (Elt F) wt) k.val 21 hk (by omega) x).symm) (tile_step arg6 f6 _ k.val hk 20 (by omega) (k0_off205_eq k)
      (fun x => (outV_tile sh zr sc W ((i 0).val % 3) (arg4.view.read (Elt F) wt) k.val 20 hk (by omega) x).symm) (tile_step arg6 f6 _ k.val hk 19 (by omega) (k0_off203_eq k)
      (fun x => (outV_tile sh zr sc W ((i 0).val % 3) (arg4.view.read (Elt F) wt) k.val 19 hk (by omega) x).symm) (tile_step arg6 f6 _ k.val hk 18 (by omega) (k0_off201_eq k)
      (fun x => (outV_tile sh zr sc W ((i 0).val % 3) (arg4.view.read (Elt F) wt) k.val 18 hk (by omega) x).symm) (tile_step arg6 f6 _ k.val hk 17 (by omega) (k0_off199_eq k)
      (fun x => (outV_tile sh zr sc W ((i 0).val % 3) (arg4.view.read (Elt F) wt) k.val 17 hk (by omega) x).symm) (tile_step arg6 f6 _ k.val hk 16 (by omega) (k0_off197_eq k)
      (fun x => (outV_tile sh zr sc W ((i 0).val % 3) (arg4.view.read (Elt F) wt) k.val 16 hk (by omega) x).symm) (tile_step arg6 f6 _ k.val hk 15 (by omega) (k0_off195_eq k)
      (fun x => (outV_tile sh zr sc W ((i 0).val % 3) (arg4.view.read (Elt F) wt) k.val 15 hk (by omega) x).symm) (tile_step arg6 f6 _ k.val hk 14 (by omega) (k0_off193_eq k)
      (fun x => (outV_tile sh zr sc W ((i 0).val % 3) (arg4.view.read (Elt F) wt) k.val 14 hk (by omega) x).symm) (tile_step arg6 f6 _ k.val hk 13 (by omega) (k0_off191_eq k)
      (fun x => (outV_tile sh zr sc W ((i 0).val % 3) (arg4.view.read (Elt F) wt) k.val 13 hk (by omega) x).symm) (tile_step arg6 f6 _ k.val hk 12 (by omega) (k0_off189_eq k)
      (fun x => (outV_tile sh zr sc W ((i 0).val % 3) (arg4.view.read (Elt F) wt) k.val 12 hk (by omega) x).symm) (tile_step arg6 f6 _ k.val hk 11 (by omega) (k0_off187_eq k)
      (fun x => (outV_tile sh zr sc W ((i 0).val % 3) (arg4.view.read (Elt F) wt) k.val 11 hk (by omega) x).symm) (tile_step arg6 f6 _ k.val hk 10 (by omega) (k0_off185_eq k)
      (fun x => (outV_tile sh zr sc W ((i 0).val % 3) (arg4.view.read (Elt F) wt) k.val 10 hk (by omega) x).symm) (tile_step arg6 f6 _ k.val hk 9 (by omega) (k0_off183_eq k)
      (fun x => (outV_tile sh zr sc W ((i 0).val % 3) (arg4.view.read (Elt F) wt) k.val 9 hk (by omega) x).symm) (tile_step arg6 f6 _ k.val hk 8 (by omega) (k0_off181_eq k)
      (fun x => (outV_tile sh zr sc W ((i 0).val % 3) (arg4.view.read (Elt F) wt) k.val 8 hk (by omega) x).symm) (tile_step arg6 f6 _ k.val hk 7 (by omega) (k0_off179_eq k)
      (fun x => (outV_tile sh zr sc W ((i 0).val % 3) (arg4.view.read (Elt F) wt) k.val 7 hk (by omega) x).symm) (tile_step arg6 f6 _ k.val hk 6 (by omega) (k0_off177_eq k)
      (fun x => (outV_tile sh zr sc W ((i 0).val % 3) (arg4.view.read (Elt F) wt) k.val 6 hk (by omega) x).symm) (tile_step arg6 f6 _ k.val hk 5 (by omega) (k0_off175_eq k)
      (fun x => (outV_tile sh zr sc W ((i 0).val % 3) (arg4.view.read (Elt F) wt) k.val 5 hk (by omega) x).symm) (tile_step arg6 f6 _ k.val hk 4 (by omega) (k0_off173_eq k)
      (fun x => (outV_tile sh zr sc W ((i 0).val % 3) (arg4.view.read (Elt F) wt) k.val 4 hk (by omega) x).symm) (tile_step arg6 f6 _ k.val hk 3 (by omega) (k0_off171_eq k)
      (fun x => (outV_tile sh zr sc W ((i 0).val % 3) (arg4.view.read (Elt F) wt) k.val 3 hk (by omega) x).symm) (tile_step arg6 f6 _ k.val hk 2 (by omega) (k0_off169_eq k)
      (fun x => (outV_tile sh zr sc W ((i 0).val % 3) (arg4.view.read (Elt F) wt) k.val 2 hk (by omega) x).symm) (tile_step arg6 f6 _ k.val hk 1 (by omega) (k0_off167_eq k)
      (fun x => (outV_tile sh zr sc W ((i 0).val % 3) (arg4.view.read (Elt F) wt) k.val 1 hk (by omega) x).symm) (tile_step arg6 f6 _ k.val hk 0 (by omega) (k0_off165_eq k)
      (fun x => (outV_tile sh zr sc W ((i 0).val % 3) (arg4.view.read (Elt F) wt) k.val 0 hk (by omega) x).symm) (tile_none arg6 f6 _ k.val))))))))))))))))))))))))))))) y
  · iexists _
    isplitr [H7]
    swap
    · iexact H7
    ipureintro
    intro y
    refine Eq.trans (b := if (y 0).val / 16 = k.val ∧ (y 1).val < 128 * (27 + 1) then embV sh zr sc W ((i 0).val % 3) y else arg7.view.read (Elt F) f7 y) ?_
      (if_congr (and_iff_left (show (y 1).val < 3584 from (y 1).isLt)) rfl rfl)
    exact (tile_step arg7 f7 _ k.val hk 27 (by omega) (k0_off219_eq k)
      (fun x => (embV_tile sh zr sc W ((i 0).val % 3) k.val 27 hk (by omega) x).symm) (tile_step arg7 f7 _ k.val hk 26 (by omega) (k0_off217_eq k)
      (fun x => (embV_tile sh zr sc W ((i 0).val % 3) k.val 26 hk (by omega) x).symm) (tile_step arg7 f7 _ k.val hk 25 (by omega) (k0_off215_eq k)
      (fun x => (embV_tile sh zr sc W ((i 0).val % 3) k.val 25 hk (by omega) x).symm) (tile_step arg7 f7 _ k.val hk 24 (by omega) (k0_off213_eq k)
      (fun x => (embV_tile sh zr sc W ((i 0).val % 3) k.val 24 hk (by omega) x).symm) (tile_step arg7 f7 _ k.val hk 23 (by omega) (k0_off211_eq k)
      (fun x => (embV_tile sh zr sc W ((i 0).val % 3) k.val 23 hk (by omega) x).symm) (tile_step arg7 f7 _ k.val hk 22 (by omega) (k0_off209_eq k)
      (fun x => (embV_tile sh zr sc W ((i 0).val % 3) k.val 22 hk (by omega) x).symm) (tile_step arg7 f7 _ k.val hk 21 (by omega) (k0_off207_eq k)
      (fun x => (embV_tile sh zr sc W ((i 0).val % 3) k.val 21 hk (by omega) x).symm) (tile_step arg7 f7 _ k.val hk 20 (by omega) (k0_off205_eq k)
      (fun x => (embV_tile sh zr sc W ((i 0).val % 3) k.val 20 hk (by omega) x).symm) (tile_step arg7 f7 _ k.val hk 19 (by omega) (k0_off203_eq k)
      (fun x => (embV_tile sh zr sc W ((i 0).val % 3) k.val 19 hk (by omega) x).symm) (tile_step arg7 f7 _ k.val hk 18 (by omega) (k0_off201_eq k)
      (fun x => (embV_tile sh zr sc W ((i 0).val % 3) k.val 18 hk (by omega) x).symm) (tile_step arg7 f7 _ k.val hk 17 (by omega) (k0_off199_eq k)
      (fun x => (embV_tile sh zr sc W ((i 0).val % 3) k.val 17 hk (by omega) x).symm) (tile_step arg7 f7 _ k.val hk 16 (by omega) (k0_off197_eq k)
      (fun x => (embV_tile sh zr sc W ((i 0).val % 3) k.val 16 hk (by omega) x).symm) (tile_step arg7 f7 _ k.val hk 15 (by omega) (k0_off195_eq k)
      (fun x => (embV_tile sh zr sc W ((i 0).val % 3) k.val 15 hk (by omega) x).symm) (tile_step arg7 f7 _ k.val hk 14 (by omega) (k0_off193_eq k)
      (fun x => (embV_tile sh zr sc W ((i 0).val % 3) k.val 14 hk (by omega) x).symm) (tile_step arg7 f7 _ k.val hk 13 (by omega) (k0_off191_eq k)
      (fun x => (embV_tile sh zr sc W ((i 0).val % 3) k.val 13 hk (by omega) x).symm) (tile_step arg7 f7 _ k.val hk 12 (by omega) (k0_off189_eq k)
      (fun x => (embV_tile sh zr sc W ((i 0).val % 3) k.val 12 hk (by omega) x).symm) (tile_step arg7 f7 _ k.val hk 11 (by omega) (k0_off187_eq k)
      (fun x => (embV_tile sh zr sc W ((i 0).val % 3) k.val 11 hk (by omega) x).symm) (tile_step arg7 f7 _ k.val hk 10 (by omega) (k0_off185_eq k)
      (fun x => (embV_tile sh zr sc W ((i 0).val % 3) k.val 10 hk (by omega) x).symm) (tile_step arg7 f7 _ k.val hk 9 (by omega) (k0_off183_eq k)
      (fun x => (embV_tile sh zr sc W ((i 0).val % 3) k.val 9 hk (by omega) x).symm) (tile_step arg7 f7 _ k.val hk 8 (by omega) (k0_off181_eq k)
      (fun x => (embV_tile sh zr sc W ((i 0).val % 3) k.val 8 hk (by omega) x).symm) (tile_step arg7 f7 _ k.val hk 7 (by omega) (k0_off179_eq k)
      (fun x => (embV_tile sh zr sc W ((i 0).val % 3) k.val 7 hk (by omega) x).symm) (tile_step arg7 f7 _ k.val hk 6 (by omega) (k0_off177_eq k)
      (fun x => (embV_tile sh zr sc W ((i 0).val % 3) k.val 6 hk (by omega) x).symm) (tile_step arg7 f7 _ k.val hk 5 (by omega) (k0_off175_eq k)
      (fun x => (embV_tile sh zr sc W ((i 0).val % 3) k.val 5 hk (by omega) x).symm) (tile_step arg7 f7 _ k.val hk 4 (by omega) (k0_off173_eq k)
      (fun x => (embV_tile sh zr sc W ((i 0).val % 3) k.val 4 hk (by omega) x).symm) (tile_step arg7 f7 _ k.val hk 3 (by omega) (k0_off171_eq k)
      (fun x => (embV_tile sh zr sc W ((i 0).val % 3) k.val 3 hk (by omega) x).symm) (tile_step arg7 f7 _ k.val hk 2 (by omega) (k0_off169_eq k)
      (fun x => (embV_tile sh zr sc W ((i 0).val % 3) k.val 2 hk (by omega) x).symm) (tile_step arg7 f7 _ k.val hk 1 (by omega) (k0_off167_eq k)
      (fun x => (embV_tile sh zr sc W ((i 0).val % 3) k.val 1 hk (by omega) x).symm) (tile_step arg7 f7 _ k.val hk 0 (by omega) (k0_off165_eq k)
      (fun x => (embV_tile sh zr sc W ((i 0).val % 3) k.val 0 hk (by omega) x).symm) (tile_none arg7 f7 _ k.val))))))))))))))))))))))))))))) y
end Cert.KernelIdeal.Own
end
-- ==== Proof.KI.Body.lean ====
module
public import proofs.«01_k».proof.Proof.KI.Trip
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-! The whole point: the prologue (at the first point only), the per-token scales, zero points and shifts, the wait for the
point's rows, the main loop. -/

/-- The scales of the block's tokens, constant along each row. -/
def scM (x2 : S1x1x128.Idx → Elt F .i32) (x3 : S512x256.Idx → Elt F .bf16) : S128x128.Idx → Elt F .bf16 :=
  k0_pay84 (k0_pay74 x2) (iota .tc S128x128 32 [1] iota_S128x128_d1_w32) (k0_pay75 x2) (k0_pay76 x2) (k0_pay77 x2) (k0_pay78 x2)
    (k0_pay79 (F := F)) (k0_pay80 (F := F)) x3

/-- The zero points of the block's tokens, constant along each row. -/
def zrM (x2 : S1x1x128.Idx → Elt F .i32) (x3 : S512x256.Idx → Elt F .bf16) : S128x128.Idx → Elt F .bf16 :=
  k0_pay85 (k0_pay74 x2) (iota .tc S128x128 32 [1] iota_S128x128_d1_w32) (k0_pay75 x2) (k0_pay76 x2) (k0_pay77 x2) (k0_pay78 x2)
    (k0_pay79 (F := F)) (k0_pay80 (F := F)) x3

/-- The shifts of the block's tokens, constant along each row. -/
def shM (x2 : S1x1x128.Idx → Elt F .i32) : S128x128.Idx → Elt F .i32 := k0_pay86 (k0_pay72 x2)

/-- The first `16 k` rows read `G`, the others still read `f₀`. -/
def rowsDone (c : Dev nD) (m : Memref sig .tc .vmem S128x3584 .bf16) (f₀ : Buf (Elt F) (m.view.loc (c : Thread nD τ)))
    (G : S128x3584.Idx → Elt F .bf16) (k : ℕ) : sProp 𝕄 :=
  iprop(∃ f', ⌜∀ y : S128x3584.Idx, m.view.read (Elt F) f' y = if (y 0).val < 16 * k then G y else m.view.read (Elt F) f₀ y⌝ ∗ wholeAt c m f')

/-- What the main loop reads. -/
def reads (c : Dev nD) (i : grid0.Coords) (arg4 : Memref sig .tc .vmem S1x3584 .f32) (W : S3x128x3584.Idx → Elt F .i32)
    (sh : S128x128.Idx → Elt F .i32) (zr sc : S128x128.Idx → Elt F .bf16) (wt : Buf (Elt F) (arg4.view.loc (c : Thread nD τ))) : sProp 𝕄 :=
  iprop(slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt)

theorem rows_step (m : Memref sig .tc .vmem S128x3584 .bf16) (f₀ f f' : m.view.ty.Contents (Elt F))
    (G : S128x3584.Idx → Elt F .bf16) (k : ℕ)
    (hf : ∀ y : S128x3584.Idx, m.view.read (Elt F) f y = if (y 0).val < 16 * k then G y else m.view.read (Elt F) f₀ y)
    (hf' : ∀ y : S128x3584.Idx, m.view.read (Elt F) f' y = if (y 0).val / 16 = k then G y else m.view.read (Elt F) f y) (y : S128x3584.Idx) :
    m.view.read (Elt F) f' y = if (y 0).val < 16 * (k + 1) then G y else m.view.read (Elt F) f₀ y := by
  rw [hf' y, hf y]
  by_cases h1 : (y 0).val / 16 = k
  · rw [if_pos h1, if_pos (by omega)]
  · rw [if_neg h1]
    refine if_congr ?_ rfl rfl
    omega

theorem postN (c : Dev nD) (i : grid0.Coords) (arg4 : Memref sig .tc .vmem S1x3584 .f32)
    (arg6 arg7 : Memref sig .tc .vmem S128x3584 .bf16)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (g6 : Buf (Elt F) (arg6.view.loc (c : Thread nD τ))) (g7 : Buf (Elt F) (arg7.view.loc (c : Thread nD τ))) (k : ℕ)
    (e6 : ∀ y : S128x3584.Idx, arg6.view.read (Elt F) g6 y
      = if (y 0).val < 16 * k then outV sh zr sc W ((i 0).val % 3) (arg4.view.read (Elt F) wt) y else arg6.view.read (Elt F) f6 y)
    (e7 : ∀ y : S128x3584.Idx, arg7.view.read (Elt F) g7 y
      = if (y 0).val < 16 * k then embV sh zr sc W ((i 0).val % 3) y else arg7.view.read (Elt F) f7 y) (_ : Unit) :
    iprop(slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k then outV sh zr sc W ((i 0).val % 3) (arg4.view.read (Elt F) wt) y
            else arg6.view.read (Elt F) g6 y⌝ ∗ wholeAt c arg6 f6')
      ∗ (∃ f7', ⌜∀ y, arg7.view.read (Elt F) f7' y = if (y 0).val / 16 = k then embV sh zr sc W ((i 0).val % 3) y
            else arg7.view.read (Elt F) g7 y⌝ ∗ wholeAt c arg7 f7'))
    ⊢ (iprop((slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt)
      ∗ (∃ f', ⌜∀ y : S128x3584.Idx, arg6.view.read (Elt F) f' y
        = if (y 0).val < 16 * (k + 1) then outV sh zr sc W ((i 0).val % 3) (arg4.view.read (Elt F) wt) y else arg6.view.read (Elt F) f6 y⌝ ∗ wholeAt c arg6 f')
      ∗ (∃ f', ⌜∀ y : S128x3584.Idx, arg7.view.read (Elt F) f' y
        = if (y 0).val < 16 * (k + 1) then embV sh zr sc W ((i 0).val % 3) y else arg7.view.read (Elt F) f7 y⌝ ∗ wholeAt c arg7 f')) : sProp 𝕄) := by
  iintro ⟨Hr, Hsh, Hzr, Hsc, Hw, ⟨%h6, %d6, H6⟩, %h7, %d7, H7⟩
  isplitl [Hr Hsh Hzr Hsc Hw]
  · isplitl [Hr]; · iexact Hr
    isplitl [Hsh]; · iexact Hsh
    isplitl [Hzr]; · iexact Hzr
    isplitl [Hsc]; · iexact Hsc
    iexact Hw
  isplitl [H6]
  · iexists h6
    isplitr
    · ipureintro; exact rows_step arg6 f6 g6 h6 _ k e6 d6
    · iexact H6
  · iexists h7
    isplitr
    · ipureintro; exact rows_step arg7 f7 g7 h7 _ k e7 d7
    · iexact H7

theorem stepN (c : Dev nD) (i : grid0.Coords) (h2 : ¬ k0_cond2 i = 1#1)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(reads c i arg4 W sh zr sc wt
      ∗ rowsDone c arg6 f6 (outV sh zr sc W ((i 0).val % 3) (arg4.view.read (Elt F) wt)) k.val
      ∗ rowsDone c arg7 f7 (embV sh zr sc W ((i 0).val % 3)) k.val)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(reads c i arg4 W sh zr sc wt
      ∗ rowsDone c arg6 f6 (outV sh zr sc W ((i 0).val % 3) (arg4.view.read (Elt F) wt)) (k.val + 1)
      ∗ rowsDone c arg7 f7 (embV sh zr sc W ((i 0).val % 3)) (k.val + 1))) := by
  unfold reads rowsDone
  iintro ⟨⟨Hr, Hsh, Hzr, Hsc, Hw⟩, ⟨%g6, %e6, H6⟩, %g7, %e7, H7⟩
  iapply (wp_mono frame _ _ (postN c i arg4 arg6 arg7 W sh zr sc wt f6 f7 g6 g7 k.val e6 e7))
  iapply (tripN c i h2 arg2 harg2 arg3 harg3 arg4 harg4 arg6 harg6 arg7 harg7 v74 v76 (slotR_inb (curSlot i)) W sh zr sc wt g6 g7 k)
  isplitl [Hr]; · iexact Hr
  isplitl [Hsh]; · iexact Hsh
  isplitl [Hzr]; · iexact Hzr
  isplitl [Hsc]; · iexact Hsc
  isplitl [Hw]; · iexact Hw
  isplitl [H6]; · iexact H6
  iexact H7

theorem postI (c : Dev nD) (i : grid0.Coords) (arg4 : Memref sig .tc .vmem S1x3584 .f32)
    (arg6 arg7 : Memref sig .tc .vmem S128x3584 .bf16) (q : PosShare TreeShare)
    (ids : S32768.Idx → Elt F .i32) (T : S16000x3584.Idx → Elt F .i32)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (g6 : Buf (Elt F) (arg6.view.loc (c : Thread nD τ))) (g7 : Buf (Elt F) (arg7.view.loc (c : Thread nD τ))) (k : ℕ)
    (e6 : ∀ y : S128x3584.Idx, arg6.view.read (Elt F) g6 y
      = if (y 0).val < 16 * k then outV sh zr sc W ((i 0).val % 3) (arg4.view.read (Elt F) wt) y else arg6.view.read (Elt F) f6 y)
    (e7 : ∀ y : S128x3584.Idx, arg7.view.read (Elt F) g7 y
      = if (y 0).val < 16 * k then embV sh zr sc W ((i 0).val % 3) y else arg7.view.read (Elt F) f7 y) (_ : Unit) :
    iprop(Iss c ids T (nextSlot i) ((i 0).val + 2) (16 * k + 16) ∗ idsAt c q ids ∗ slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt
      ∗ (∃ f6', ⌜∀ y, arg6.view.read (Elt F) f6' y = if (y 0).val / 16 = k then outV sh zr sc W ((i 0).val % 3) (arg4.view.read (Elt F) wt) y
            else arg6.view.read (Elt F) g6 y⌝ ∗ wholeAt c arg6 f6')
      ∗ (∃ f7', ⌜∀ y, arg7.view.read (Elt F) f7' y = if (y 0).val / 16 = k then embV sh zr sc W ((i 0).val % 3) y
            else arg7.view.read (Elt F) g7 y⌝ ∗ wholeAt c arg7 f7'))
    ⊢ (iprop(Iss c ids T (nextSlot i) ((i 0).val + 2) (16 * k + 16) ∗ idsAt c q ids ∗ (slotAt c ((i 0).val % 3) (slotR_inb (curSlot i)) W ∗ wholeAt c (Memref.whole cc0_scratch3) sh ∗ wholeAt c (Memref.whole cc0_scratch2) zr
      ∗ wholeAt c (Memref.whole cc0_scratch1) sc ∗ wholeAt c arg4 wt)
      ∗ (∃ f', ⌜∀ y : S128x3584.Idx, arg6.view.read (Elt F) f' y
        = if (y 0).val < 16 * (k + 1) then outV sh zr sc W ((i 0).val % 3) (arg4.view.read (Elt F) wt) y else arg6.view.read (Elt F) f6 y⌝ ∗ wholeAt c arg6 f')
      ∗ (∃ f', ⌜∀ y : S128x3584.Idx, arg7.view.read (Elt F) f' y
        = if (y 0).val < 16 * (k + 1) then embV sh zr sc W ((i 0).val % 3) y else arg7.view.read (Elt F) f7 y⌝ ∗ wholeAt c arg7 f')) : sProp 𝕄) := by
  iintro ⟨HI, Hid, Hr, Hsh, Hzr, Hsc, Hw, ⟨%h6, %d6, H6⟩, %h7, %d7, H7⟩
  isplitl [HI]; · iexact HI
  isplitl [Hid]; · iexact Hid
  isplitl [Hr Hsh Hzr Hsc Hw]
  · isplitl [Hr]; · iexact Hr
    isplitl [Hsh]; · iexact Hsh
    isplitl [Hzr]; · iexact Hzr
    isplitl [Hsc]; · iexact Hsc
    iexact Hw
  isplitl [H6]
  · iexists h6
    isplitr
    · ipureintro; exact rows_step arg6 f6 g6 h6 _ k e6 d6
    · iexact H6
  · iexists h7
    isplitr
    · ipureintro; exact rows_step arg7 f7 g7 h7 _ k e7 d7
    · iexact H7

theorem stepI (c : Dev nD) (i : grid0.Coords) (h2 : k0_cond2 i = 1#1) (hi : (i 0).val + 2 < 256) (q : PosShare TreeShare)
    (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole) (v74 v76 : BitVec 32)
    (W : S3x128x3584.Idx → Elt F .i32) (sh : S128x128.Idx → Elt F .i32) (zr sc : S128x128.Idx → Elt F .bf16)
    (wt : Buf (Elt F) (arg4.view.loc (c : Thread nD τ)))
    (f6 : Buf (Elt F) (arg6.view.loc (c : Thread nD τ))) (f7 : Buf (Elt F) (arg7.view.loc (c : Thread nD τ)))
    (k : Fin k0_t4_loop.trips) :
    iprop(Iss c ids T (nextSlot i) ((i 0).val + 2) (16 * k.val) ∗ idsAt c q ids ∗ reads c i arg4 W sh zr sc wt
      ∗ rowsDone c arg6 f6 (outV sh zr sc W ((i 0).val % 3) (arg4.view.read (Elt F) wt)) k.val
      ∗ rowsDone c arg7 f7 (embV sh zr sc W ((i 0).val % 3)) k.val)
    ⊢ wp frame (wpE (defs₀ (F := F)) Variants.none (c : Thread nD τ) none) Set.univ
       (k0_t4_body i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4 v74 v76 k ())
       (fun _ => iprop(Iss c ids T (nextSlot i) ((i 0).val + 2) (16 * k.val + 16) ∗ idsAt c q ids ∗ reads c i arg4 W sh zr sc wt
      ∗ rowsDone c arg6 f6 (outV sh zr sc W ((i 0).val % 3) (arg4.view.read (Elt F) wt)) (k.val + 1)
      ∗ rowsDone c arg7 f7 (embV sh zr sc W ((i 0).val % 3)) (k.val + 1))) := by
  unfold reads rowsDone
  iintro ⟨HI, Hid, ⟨Hr, Hsh, Hzr, Hsc, Hw⟩, ⟨%g6, %e6, H6⟩, %g7, %e7, H7⟩
  iapply (wp_mono frame _ _ (postI c i arg4 arg6 arg7 q ids T W sh zr sc wt f6 f7 g6 g7 k.val e6 e7))
  iapply (tripI c i h2 hi q ids T hid arg2 harg2 arg3 harg3 arg4 harg4 arg6 harg6 arg7 harg7 v74 v76 (slotR_inb (curSlot i)) W sh zr sc wt g6 g7 k)
  isplitl [HI]; · iexact HI
  isplitl [Hid]; · iexact Hid
  isplitl [Hr]; · iexact Hr
  isplitl [Hsh]; · iexact Hsh
  isplitl [Hzr]; · iexact Hzr
  isplitl [Hsc]; · iexact Hsc
  isplitl [Hw]; · iexact Hw
  isplitl [H6]; · iexact H6
  iexact H7

end Cert.KernelIdeal.Own
end
-- ==== Proof.KI.Point.lean ====
module
public import proofs.«01_k».proof.Proof.KI.Body
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

theorem read_full2 {e : EltTy} {sp : CoreSpace} {n0 n1 : ℕ} (m : Memref sig .tc sp ⟨2, ![n0, n1]⟩ e) (f : m.view.ty.Contents (Elt F))
    {h : ∀ a, (![0, 0] : Fin 2 → ℕ) a + (![n0, n1] : Fin 2 → ℕ) a ≤ (⟨2, ![n0, n1]⟩ : Shape).size a} :
    View.readAt (Elt F) m.view (Rect.unit (s := ⟨2, ![n0, n1]⟩) ![0, 0] ![n0, n1] h).toLoadRect f = m.view.read (Elt F) f := by
  funext x
  refine congrArg (m.view.read (Elt F) f) (funext fun a => Fin.ext ?_)
  match a with
  | ⟨0, _⟩ => show 0 + 1 * (x 0).val = (x 0).val; omega
  | ⟨1, _⟩ => show 0 + 1 * (x 1).val = (x 1).val; omega

theorem read_full3 {e : EltTy} {sp : CoreSpace} {n0 n1 n2 : ℕ} (m : Memref sig .tc sp ⟨3, ![n0, n1, n2]⟩ e) (f : m.view.ty.Contents (Elt F))
    {h : ∀ a, (![0, 0, 0] : Fin 3 → ℕ) a + (![n0, n1, n2] : Fin 3 → ℕ) a ≤ (⟨3, ![n0, n1, n2]⟩ : Shape).size a} :
    View.readAt (Elt F) m.view (Rect.unit (s := ⟨3, ![n0, n1, n2]⟩) ![0, 0, 0] ![n0, n1, n2] h).toLoadRect f = m.view.read (Elt F) f := by
  funext x
  refine congrArg (m.view.read (Elt F) f) (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem z2 : (![0, 0] : Fin 2 → ℕ) = fun _ => 0 := funext (Fin.forall_fin_two.mpr ⟨rfl, rfl⟩)

theorem written1 (c : Dev nD) (f : S128x128.Idx → Elt F .bf16) (w w' : S128x128.Idx → Elt F .bf16) (hw : w = w') :
    wholeAt c (Memref.whole cc0_scratch1) ((Memref.whole cc0_scratch1).view.writes (Elt F) f
      [⟨Rect.unit (s := S128x128) ![0, 0] S128x128.size inb_S128x128_S128x128_0_0, w⟩]) ⊢ (wholeAt c (Memref.whole cc0_scratch1) w' : sProp 𝕄) :=
  Entails.of_eq (congrArg (fun f => wholeAt c (Memref.whole cc0_scratch1) f)
    ((Memref.write_access_unit_zero_univ (Elt F) cc0_scratch1 z2 inb_S128x128_S128x128_0_0 _ _).trans hw))

theorem written2 (c : Dev nD) (f : S128x128.Idx → Elt F .bf16) (w w' : S128x128.Idx → Elt F .bf16) (hw : w = w') :
    wholeAt c (Memref.whole cc0_scratch2) ((Memref.whole cc0_scratch2).view.writes (Elt F) f
      [⟨Rect.unit (s := S128x128) ![0, 0] S128x128.size inb_S128x128_S128x128_0_0, w⟩]) ⊢ (wholeAt c (Memref.whole cc0_scratch2) w' : sProp 𝕄) :=
  Entails.of_eq (congrArg (fun f => wholeAt c (Memref.whole cc0_scratch2) f)
    ((Memref.write_access_unit_zero_univ (Elt F) cc0_scratch2 z2 inb_S128x128_S128x128_0_0 _ _).trans hw))

theorem written3 (c : Dev nD) (f : S128x128.Idx → Elt F .i32) (w w' : S128x128.Idx → Elt F .i32) (hw : w = w') :
    wholeAt c (Memref.whole cc0_scratch3) ((Memref.whole cc0_scratch3).view.writes (Elt F) f
      [⟨Rect.unit (s := S128x128) ![0, 0] S128x128.size inb_S128x128_S128x128_0_0, w⟩]) ⊢ (wholeAt c (Memref.whole cc0_scratch3) w' : sProp 𝕄) :=
  Entails.of_eq (congrArg (fun f => wholeAt c (Memref.whole cc0_scratch3) f)
    ((Memref.write_access_unit_zero_univ (Elt F) cc0_scratch3 z2 inb_S128x128_S128x128_0_0 _ _).trans hw))

/-- The state before the first wait. -/
theorem wait_start (c : Dev nD) (ids : S32768.Idx → Elt F .i32) (T : S16000x3584.Idx → Elt F .i32) (s : Fin 3) (p : ℕ) (u : Unit) :
    iprop((∃ W, owes (c : Thread nD τ) 0 W) ∗ Fly c ids T s p) ⊢ waitInv c ids T s p 0 u := by
  unfold waitInv Fly
  rw [if_pos (by omega), Nat.zero_mul]

/-- The state after the last wait: the slot holds its block's words. -/
theorem wait_end (c : Dev nD) (i : grid0.Coords) (ids : S32768.Idx → Elt F .i32) (T : S16000x3584.Idx → Elt F .i32) (p n : ℕ) (hn : n = 128) (u : Unit) :
    waitInv c ids T (curSlot i) p n u ⊢ iprop((∃ W, owes (c : Thread nD τ) 0 W) ∗ semVal ((c : Thread nD τ), .dma (semOf (curSlot i))) 0
      ∗ slotAt c ((i 0).val % 3) (slotR_inb (curSlot i)) (gath ids T p) ∗ tabAt c (slotShare (curSlot i)) T) := by
  subst hn
  unfold waitInv
  rw [if_neg (by omega), slot_eq]
  iintro ⟨HO, HS, HD⟩
  isplitl [HO]; · iexact HO
  isplitl [HS]; · iexact HS
  iapply (delivered c ids T (curSlot i) p)
  iexact HD

/-- A consumed slot is free again. -/
theorem free_back (c : Dev nD) (i : grid0.Coords) (T : S16000x3584.Idx → Elt F .i32) (f : S3x128x3584.Idx → Elt F .i32) :
    iprop(semVal ((c : Thread nD τ), .dma (semOf (curSlot i))) 0
      ∗ slotAt c ((i 0).val % 3) (slotR_inb (curSlot i)) f ∗ tabAt c (slotShare (curSlot i)) T) ⊢ Free c T (curSlot i) := by
  unfold Free
  rw [slot_eq]
  iintro ⟨HS, HR, HT⟩
  isplitl [HR]; · iexists f; iexact HR
  isplitl [HT]; · iexact HT
  iexact HS

theorem rows_start (c : Dev nD) (m : Memref sig .tc .vmem S128x3584 .bf16) (f : Buf (Elt F) (m.view.loc (c : Thread nD τ)))
    (G : S128x3584.Idx → Elt F .bf16) : wholeAt c m f ⊢ rowsDone c m f G 0 := by
  unfold rowsDone
  iintro H
  iexists f
  isplitr
  · ipureintro; intro y; rw [if_neg (by omega)]
  · iexact H

theorem rows_end (c : Dev nD) (m : Memref sig .tc .vmem S128x3584 .bf16) (f : Buf (Elt F) (m.view.loc (c : Thread nD τ)))
    (G : S128x3584.Idx → Elt F .bf16) (n : ℕ) (hn : n = 8) :
    rowsDone c m f G n ⊢ iprop(∃ f', ⌜m.view.read (Elt F) f' = G⌝ ∗ wholeAt c m f') := by
  subst hn
  unfold rowsDone
  iintro ⟨%f', %e, H⟩
  iexists f'
  isplitr
  · ipureintro; funext y
    rw [e y, if_pos]
    have : (y 0).val < 128 := (y 0).isLt
    omega
  · iexact H

theorem trips_main : Scf.trips k0_t4_loop.lb k0_t4_loop.ub k0_t4_loop.st = 8 := by decide +kernel
theorem trips_wait : Scf.trips k0_t3_loop.lb k0_t3_loop.ub k0_t3_loop.st = 128 := by decide +kernel

theorem trips_0 : Scf.trips k0_t1_loop.lb k0_t1_loop.ub k0_t1_loop.st = 8 := by decide +kernel
theorem trips_1 : Scf.trips k0_t2_loop.lb k0_t2_loop.ub k0_t2_loop.st = 8 := by decide +kernel

/-- A grid point of the last two: nothing is issued. -/
theorem ptEnd (c : Dev nD) (i : grid0.Coords) (h1 : ¬ k0_cond1 i = 1#1) (h2 : ¬ k0_cond2 i = 1#1) (ids : S32768.Idx → Elt F .i32) (T : S16000x3584.Idx → Elt F .i32)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Fly c ids T (curSlot i) (i 0).val ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Free c T (curSlot i) ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  rw [cc0_embed_rmsnorm_eq_skeleton]
  unfold cc0_embed_rmsnorm_skel
  simp only [k0_part32_eq_skeleton, k0_part33_eq_skeleton]
  unfold k0_part32_skel k0_part33_skel
  iintro ⟨HF, ⟨%W, HO⟩, H1, H2, H3, Hg2, Hg3, Hg4, H6, H7⟩
  sl_exec
  have r2 := read_full3 (F := F) arg2 g2 (h := inb_S1x1x128_S1x1x128_0_0_0)
  have r3 := read_full2 (F := F) arg3 g3 (h := inb_S512x256_S512x256_0_0)
  ihave H1 := (show wholeAt c (Memref.whole cc0_scratch1) ((Memref.whole cc0_scratch1).view.writes (Elt F) (Memref.whole cc0_scratch1).view.junk
    (ptEnd.sl.H1_1 c i arg2 arg3 g2 g3)) ⊢ _ from written1 c (Memref.whole cc0_scratch1).view.junk (scM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (scM (arg2.view.read (Elt F) g2) (arg3.view.read (Elt F) g3)) (by rw [r2, r3])) $$ H1
  ihave H2 := (show wholeAt c (Memref.whole cc0_scratch2) ((Memref.whole cc0_scratch2).view.writes (Elt F) (Memref.whole cc0_scratch2).view.junk
    (ptEnd.sl.H2_1 c i arg2 arg3 g2 g3)) ⊢ _ from written2 c (Memref.whole cc0_scratch2).view.junk (zrM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (zrM (arg2.view.read (Elt F) g2) (arg3.view.read (Elt F) g3)) (by rw [r2, r3])) $$ H2
  ihave H3 := (show wholeAt c (Memref.whole cc0_scratch3) ((Memref.whole cc0_scratch3).view.writes (Elt F) (Memref.whole cc0_scratch3).view.junk
    (ptEnd.sl.H3_1 c i arg2 g2)) ⊢ _ from written3 c (Memref.whole cc0_scratch3).view.junk (shM (View.readAt (Elt F) arg2.view (Rect.unit (s := S1x1x128) ![0, 0, 0] S1x1x128.size inb_S1x1x128_S1x1x128_0_0_0).toLoadRect g2)) (shM (arg2.view.read (Elt F) g2)) (by rw [r2])) $$ H3
  sl_for (waitInv c ids T (curSlot i) (i 0).val) $$ [HO HF]
  · intro k acc
    exact wait_step c i ids T (i 0).val arg2 harg2 arg3 harg3 arg4 harg4 arg6 harg6 arg7 harg7 k
  · iapply (wait_start c ids T (curSlot i) (i 0).val _)
    isplitl [HO]; · iexists _; iexact HO
    iexact HF
  iintro %acc HI
  ihave HI := (wait_end c i ids T (i 0).val _ trips_wait acc) $$ HI
  icases HI with ⟨HO, HS, HR, HT⟩
  ihave H6 := (rows_start c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))) $$ H6
  ihave H7 := (rows_start c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))) $$ H7
  ihave HW := (show iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) ⊢ reads c i arg4 (gath ids T (i 0).val) (shM (arg2.view.read (Elt F) g2)) (zrM (arg2.view.read (Elt F) g2) (arg3.view.read (Elt F) g3)) (scM (arg2.view.read (Elt F) g2) (arg3.view.read (Elt F) g3)) g4 from by unfold reads; exact .rfl) $$ [HR H3 H2 H1 Hg4]
  · isplitl [HR]; · iexact HR
    isplitl [H3]; · iexact H3
    isplitl [H2]; · iexact H2
    isplitl [H1]; · iexact H1
    iexact Hg4
  sl_exec
  sl_for (fun k _ => iprop(reads c i arg4 (gath ids T (i 0).val) (shM (arg2.view.read (Elt F) g2)) (zrM (arg2.view.read (Elt F) g2) (arg3.view.read (Elt F) g3)) (scM (arg2.view.read (Elt F) g2) (arg3.view.read (Elt F) g3)) g4 ∗ rowsDone c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) k ∗ rowsDone c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) k)) $$ [HW H6 H7]
  · intro k acc
    exact stepN c i h2 arg2 harg2 arg3 harg3 arg4 harg4 arg6 harg6 arg7 harg7 _ _ (gath ids T (i 0).val) (shM (arg2.view.read (Elt F) g2)) (zrM (arg2.view.read (Elt F) g2) (arg3.view.read (Elt F) g3)) (scM (arg2.view.read (Elt F) g2) (arg3.view.read (Elt F) g3)) g4 f6 f7 k
  · isplitl [HW]; · iexact HW
    isplitl [H6]; · iexact H6
    iexact H7
  iintro %acc2 ⟨HW, H6, H7⟩
  ihave H6 := (rows_end c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) _ trips_main) $$ H6
  ihave H7 := (rows_end c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) _ trips_main) $$ H7
  ihave HW := (show reads c i arg4 (gath ids T (i 0).val) (shM (arg2.view.read (Elt F) g2)) (zrM (arg2.view.read (Elt F) g2) (arg3.view.read (Elt F) g3)) (scM (arg2.view.read (Elt F) g2) (arg3.view.read (Elt F) g3)) g4 ⊢ iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) from by unfold reads; exact .rfl) $$ HW
  icases HW with ⟨HR, H3, H2, H1, Hg4⟩
  sl_exec
  sl_step
  isplitl [HS HR HT]
  · iapply (free_back c i T (gath ids T (i 0).val))
    isplitl [HS]; · iexact HS
    isplitl [HR]; · iexact HR
    iexact HT
  isplitl [HO]; · iexact HO
  isplitl [H1]; · iexists _; iexact H1
  isplitl [H2]; · iexists _; iexact H2
  isplitl [H3]; · iexists _; iexact H3
  isplitl [Hg2]; · iexact Hg2
  isplitl [Hg3]; · iexact Hg3
  isplitl [Hg4]; · iexact Hg4
  isplitl [H6]; · iexact H6
  iexact H7

/-- A grid point that issues the block two points ahead. -/
theorem ptMid (c : Dev nD) (i : grid0.Coords) (h1 : ¬ k0_cond1 i = 1#1) (h2 : k0_cond2 i = 1#1) (hi : (i 0).val + 2 < 256) (q : PosShare TreeShare) (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Fly c ids T (curSlot i) (i 0).val ∗ Free c T (nextSlot i) ∗ idsAt c q ids ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Free c T (curSlot i) ∗ Fly c ids T (nextSlot i) ((i 0).val + 2) ∗ idsAt c q ids ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  rw [cc0_embed_rmsnorm_eq_skeleton]
  unfold cc0_embed_rmsnorm_skel
  simp only [k0_part32_eq_skeleton, k0_part33_eq_skeleton]
  unfold k0_part32_skel k0_part33_skel
  iintro ⟨HF, HN, Hid, ⟨%W, HO⟩, H1, H2, H3, Hg2, Hg3, Hg4, H6, H7⟩
  sl_exec
  have r2 := read_full3 (F := F) arg2 g2 (h := inb_S1x1x128_S1x1x128_0_0_0)
  have r3 := read_full2 (F := F) arg3 g3 (h := inb_S512x256_S512x256_0_0)
  ihave H1 := (show wholeAt c (Memref.whole cc0_scratch1) ((Memref.whole cc0_scratch1).view.writes (Elt F) (Memref.whole cc0_scratch1).view.junk
    (ptMid.sl.H1_1 c i arg2 arg3 g2 g3)) ⊢ _ from written1 c (Memref.whole cc0_scratch1).view.junk (scM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (scM (arg2.view.read (Elt F) g2) (arg3.view.read (Elt F) g3)) (by rw [r2, r3])) $$ H1
  ihave H2 := (show wholeAt c (Memref.whole cc0_scratch2) ((Memref.whole cc0_scratch2).view.writes (Elt F) (Memref.whole cc0_scratch2).view.junk
    (ptMid.sl.H2_1 c i arg2 arg3 g2 g3)) ⊢ _ from written2 c (Memref.whole cc0_scratch2).view.junk (zrM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (zrM (arg2.view.read (Elt F) g2) (arg3.view.read (Elt F) g3)) (by rw [r2, r3])) $$ H2
  ihave H3 := (show wholeAt c (Memref.whole cc0_scratch3) ((Memref.whole cc0_scratch3).view.writes (Elt F) (Memref.whole cc0_scratch3).view.junk
    (ptMid.sl.H3_1 c i arg2 g2)) ⊢ _ from written3 c (Memref.whole cc0_scratch3).view.junk (shM (View.readAt (Elt F) arg2.view (Rect.unit (s := S1x1x128) ![0, 0, 0] S1x1x128.size inb_S1x1x128_S1x1x128_0_0_0).toLoadRect g2)) (shM (arg2.view.read (Elt F) g2)) (by rw [r2])) $$ H3
  sl_for (waitInv c ids T (curSlot i) (i 0).val) $$ [HO HF]
  · intro k acc
    exact wait_step c i ids T (i 0).val arg2 harg2 arg3 harg3 arg4 harg4 arg6 harg6 arg7 harg7 k
  · iapply (wait_start c ids T (curSlot i) (i 0).val _)
    isplitl [HO]; · iexists _; iexact HO
    iexact HF
  iintro %acc HI
  ihave HI := (wait_end c i ids T (i 0).val _ trips_wait acc) $$ HI
  icases HI with ⟨HO, HS, HR, HT⟩
  ihave H6 := (rows_start c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))) $$ H6
  ihave H7 := (rows_start c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))) $$ H7
  ihave HW := (show iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) ⊢ reads c i arg4 (gath ids T (i 0).val) (shM (arg2.view.read (Elt F) g2)) (zrM (arg2.view.read (Elt F) g2) (arg3.view.read (Elt F) g3)) (scM (arg2.view.read (Elt F) g2) (arg3.view.read (Elt F) g3)) g4 from by unfold reads; exact .rfl) $$ [HR H3 H2 H1 Hg4]
  · isplitl [HR]; · iexact HR
    isplitl [H3]; · iexact H3
    isplitl [H2]; · iexact H2
    isplitl [H1]; · iexact H1
    iexact Hg4
  imod (free_iss c ids T (nextSlot i) ((i 0).val + 2)) $$ HN with HN
  sl_exec
  sl_for (fun k _ => iprop(Iss c ids T (nextSlot i) ((i 0).val + 2) (16 * k) ∗ idsAt c q ids ∗ reads c i arg4 (gath ids T (i 0).val) (shM (arg2.view.read (Elt F) g2)) (zrM (arg2.view.read (Elt F) g2) (arg3.view.read (Elt F) g3)) (scM (arg2.view.read (Elt F) g2) (arg3.view.read (Elt F) g3)) g4 ∗ rowsDone c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) k ∗ rowsDone c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) k)) $$ [HN Hid HW H6 H7]
  · intro k acc
    exact stepI c i h2 hi q ids T hid arg2 harg2 arg3 harg3 arg4 harg4 arg6 harg6 arg7 harg7 _ _ (gath ids T (i 0).val) (shM (arg2.view.read (Elt F) g2)) (zrM (arg2.view.read (Elt F) g2) (arg3.view.read (Elt F) g3)) (scM (arg2.view.read (Elt F) g2) (arg3.view.read (Elt F) g3)) g4 f6 f7 k
  · isplitl [HN]; · iexact HN
    isplitl [Hid]; · iexact Hid
    isplitl [HW]; · iexact HW
    isplitl [H6]; · iexact H6
    iexact H7
  iintro %acc2 ⟨HN, Hid, HW, H6, H7⟩
  ihave HN := (show Iss c ids T (nextSlot i) ((i 0).val + 2) (16 * Scf.trips k0_t4_loop.lb k0_t4_loop.ub k0_t4_loop.st) ⊢ Fly c ids T (nextSlot i) ((i 0).val + 2) from by rw [trips_main]; exact iss_fly c ids T (nextSlot i) ((i 0).val + 2)) $$ HN
  ihave H6 := (rows_end c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) _ trips_main) $$ H6
  ihave H7 := (rows_end c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) _ trips_main) $$ H7
  ihave HW := (show reads c i arg4 (gath ids T (i 0).val) (shM (arg2.view.read (Elt F) g2)) (zrM (arg2.view.read (Elt F) g2) (arg3.view.read (Elt F) g3)) (scM (arg2.view.read (Elt F) g2) (arg3.view.read (Elt F) g3)) g4 ⊢ iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) from by unfold reads; exact .rfl) $$ HW
  icases HW with ⟨HR, H3, H2, H1, Hg4⟩
  sl_exec
  sl_step
  isplitl [HS HR HT]
  · iapply (free_back c i T (gath ids T (i 0).val))
    isplitl [HS]; · iexact HS
    isplitl [HR]; · iexact HR
    iexact HT
  isplitl [HN]; · iexact HN
  isplitl [Hid]; · iexact Hid
  isplitl [HO]; · iexact HO
  isplitl [H1]; · iexists _; iexact H1
  isplitl [H2]; · iexists _; iexact H2
  isplitl [H3]; · iexists _; iexact H3
  isplitl [Hg2]; · iexact Hg2
  isplitl [Hg3]; · iexact Hg3
  isplitl [Hg4]; · iexact Hg4
  isplitl [H6]; · iexact H6
  iexact H7

/-- The first grid point: it issues blocks 0 and 1 itself, and block 2 in its main loop. -/
theorem ptZero (c : Dev nD) (i : grid0.Coords) (h1 : k0_cond1 i = 1#1) (h2 : k0_cond2 i = 1#1) (h0 : (i 0).val = 0) (hi : (i 0).val + 2 < 256) (q : PosShare TreeShare) (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Free c T 0 ∗ Free c T 1 ∗ Free c T (nextSlot i) ∗ idsAt c q ids ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Free c T (curSlot i) ∗ Fly c ids T 1 1 ∗ Fly c ids T (nextSlot i) ((i 0).val + 2) ∗ idsAt c q ids ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  rw [cc0_embed_rmsnorm_eq_skeleton]
  unfold cc0_embed_rmsnorm_skel
  simp only [k0_part32_eq_skeleton, k0_part33_eq_skeleton]
  unfold k0_part32_skel k0_part33_skel
  simp only [dif_pos h1, bind_assoc]
  iintro ⟨HA, HB, HN, Hid, ⟨%W, HO⟩, H1, H2, H3, Hg2, Hg3, Hg4, H6, H7⟩
  imod (free_iss c ids T 0 0) $$ HA with HA
  sl_for (fun k _ => iprop(Iss c ids T 0 0 (16 * k) ∗ idsAt c q ids)) $$ [HA Hid]
  · intro k acc
    exact trip1 c i h1 q ids T hid arg2 harg2 arg3 harg3 arg4 harg4 arg6 harg6 arg7 harg7 k
  · isplitl [HA]; · iexact HA
    iexact Hid
  iintro %acc0 ⟨HA, Hid⟩
  ihave HA := (show Iss c ids T 0 0 (16 * Scf.trips k0_t1_loop.lb k0_t1_loop.ub k0_t1_loop.st) ⊢ Fly c ids T 0 0 from by rw [trips_0]; exact iss_fly c ids T 0 0) $$ HA
  sl_exec
  imod (free_iss c ids T 1 1) $$ HB with HB
  sl_for (fun k _ => iprop(Iss c ids T 1 1 (16 * k) ∗ idsAt c q ids)) $$ [HB Hid]
  · intro k acc
    exact trip2 c i h1 q ids T hid arg2 harg2 arg3 harg3 arg4 harg4 arg6 harg6 arg7 harg7 k
  · isplitl [HB]; · iexact HB
    iexact Hid
  iintro %acc1 ⟨HB, Hid⟩
  ihave HB := (show Iss c ids T 1 1 (16 * Scf.trips k0_t2_loop.lb k0_t2_loop.ub k0_t2_loop.st) ⊢ Fly c ids T 1 1 from by rw [trips_1]; exact iss_fly c ids T 1 1) $$ HB
  sl_exec
  have hcur : curSlot i = 0 := Fin.ext (by show (i 0).val % 3 = 0; rw [h0])
  ihave HF := (show Fly c ids T 0 0 ⊢ Fly c ids T (curSlot i) (i 0).val from by rw [hcur, h0]) $$ HA
  sl_exec
  have r2 := read_full3 (F := F) arg2 g2 (h := inb_S1x1x128_S1x1x128_0_0_0)
  have r3 := read_full2 (F := F) arg3 g3 (h := inb_S512x256_S512x256_0_0)
  ihave H1 := (show wholeAt c (Memref.whole cc0_scratch1) ((Memref.whole cc0_scratch1).view.writes (Elt F) (Memref.whole cc0_scratch1).view.junk
    (ptZero.sl.H1_1 c i arg2 arg3 g2 g3)) ⊢ _ from written1 c (Memref.whole cc0_scratch1).view.junk (scM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (scM (arg2.view.read (Elt F) g2) (arg3.view.read (Elt F) g3)) (by rw [r2, r3])) $$ H1
  ihave H2 := (show wholeAt c (Memref.whole cc0_scratch2) ((Memref.whole cc0_scratch2).view.writes (Elt F) (Memref.whole cc0_scratch2).view.junk
    (ptZero.sl.H2_1 c i arg2 arg3 g2 g3)) ⊢ _ from written2 c (Memref.whole cc0_scratch2).view.junk (zrM (View.readAt (Elt F) arg2.view (Rect.unit (s := S1x1x128) ![0, 0, 0] S1x1x128.size inb_S1x1x128_S1x1x128_0_0_0).toLoadRect g2) (View.readAt (Elt F) arg3.view (Rect.unit (s := S512x256) ![0, 0] S512x256.size inb_S512x256_S512x256_0_0).toLoadRect g3)) (zrM (arg2.view.read (Elt F) g2) (arg3.view.read (Elt F) g3)) (by rw [r2, r3])) $$ H2
  ihave H3 := (show wholeAt c (Memref.whole cc0_scratch3) ((Memref.whole cc0_scratch3).view.writes (Elt F) (Memref.whole cc0_scratch3).view.junk
    (ptZero.sl.H3_1 c i arg2 g2)) ⊢ _ from written3 c (Memref.whole cc0_scratch3).view.junk (shM (View.readAt (Elt F) arg2.view (Rect.unit (s := S1x1x128) ![0, 0, 0] S1x1x128.size inb_S1x1x128_S1x1x128_0_0_0).toLoadRect g2)) (shM (arg2.view.read (Elt F) g2)) (by rw [r2])) $$ H3
  sl_for (waitInv c ids T (curSlot i) (i 0).val) $$ [HO HF]
  · intro k acc
    exact wait_step c i ids T (i 0).val arg2 harg2 arg3 harg3 arg4 harg4 arg6 harg6 arg7 harg7 k
  · iapply (wait_start c ids T (curSlot i) (i 0).val _)
    isplitl [HO]; · iexists _; iexact HO
    iexact HF
  iintro %acc HI
  ihave HI := (wait_end c i ids T (i 0).val _ trips_wait acc) $$ HI
  icases HI with ⟨HO, HS, HR, HT⟩
  ihave H6 := (rows_start c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))) $$ H6
  ihave H7 := (rows_start c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))) $$ H7
  ihave HW := (show iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) ⊢ reads c i arg4 (gath ids T (i 0).val) (shM (arg2.view.read (Elt F) g2)) (zrM (arg2.view.read (Elt F) g2) (arg3.view.read (Elt F) g3)) (scM (arg2.view.read (Elt F) g2) (arg3.view.read (Elt F) g3)) g4 from by unfold reads; exact .rfl) $$ [HR H3 H2 H1 Hg4]
  · isplitl [HR]; · iexact HR
    isplitl [H3]; · iexact H3
    isplitl [H2]; · iexact H2
    isplitl [H1]; · iexact H1
    iexact Hg4
  imod (free_iss c ids T (nextSlot i) ((i 0).val + 2)) $$ HN with HN
  sl_exec
  sl_for (fun k _ => iprop(Iss c ids T (nextSlot i) ((i 0).val + 2) (16 * k) ∗ idsAt c q ids ∗ reads c i arg4 (gath ids T (i 0).val) (shM (arg2.view.read (Elt F) g2)) (zrM (arg2.view.read (Elt F) g2) (arg3.view.read (Elt F) g3)) (scM (arg2.view.read (Elt F) g2) (arg3.view.read (Elt F) g3)) g4 ∗ rowsDone c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) k ∗ rowsDone c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) k)) $$ [HN Hid HW H6 H7]
  · intro k acc
    exact stepI c i h2 hi q ids T hid arg2 harg2 arg3 harg3 arg4 harg4 arg6 harg6 arg7 harg7 _ _ (gath ids T (i 0).val) (shM (arg2.view.read (Elt F) g2)) (zrM (arg2.view.read (Elt F) g2) (arg3.view.read (Elt F) g3)) (scM (arg2.view.read (Elt F) g2) (arg3.view.read (Elt F) g3)) g4 f6 f7 k
  · isplitl [HN]; · iexact HN
    isplitl [Hid]; · iexact Hid
    isplitl [HW]; · iexact HW
    isplitl [H6]; · iexact H6
    iexact H7
  iintro %acc2 ⟨HN, Hid, HW, H6, H7⟩
  ihave HN := (show Iss c ids T (nextSlot i) ((i 0).val + 2) (16 * Scf.trips k0_t4_loop.lb k0_t4_loop.ub k0_t4_loop.st) ⊢ Fly c ids T (nextSlot i) ((i 0).val + 2) from by rw [trips_main]; exact iss_fly c ids T (nextSlot i) ((i 0).val + 2)) $$ HN
  ihave H6 := (rows_end c arg6 f6 (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4)) _ trips_main) $$ H6
  ihave H7 := (rows_end c arg7 f7 (embV (shM (arg2.view.read (Elt F) g2)) (zrM (arg2.view.read (Elt F) g2) (arg3.view.read (Elt F) g3)) (scM (arg2.view.read (Elt F) g2) (arg3.view.read (Elt F) g3)) (gath ids T (i 0).val) ((i 0).val % 3)) _ trips_main) $$ H7
  ihave HW := (show reads c i arg4 (gath ids T (i 0).val) (shM (arg2.view.read (Elt F) g2)) (zrM (arg2.view.read (Elt F) g2) (arg3.view.read (Elt F) g3)) (scM (arg2.view.read (Elt F) g2) (arg3.view.read (Elt F) g3)) g4 ⊢ iprop(slotAt c ((i 0).val % 3) (slotR_inb (curSlot i)) (gath ids T (i 0).val) ∗ wholeAt c (Memref.whole cc0_scratch3) (shM (arg2.view.read (Elt F) g2)) ∗ wholeAt c (Memref.whole cc0_scratch2) (zrM (arg2.view.read (Elt F) g2) (arg3.view.read (Elt F) g3))
      ∗ wholeAt c (Memref.whole cc0_scratch1) (scM (arg2.view.read (Elt F) g2) (arg3.view.read (Elt F) g3)) ∗ wholeAt c arg4 g4) from by unfold reads; exact .rfl) $$ HW
  icases HW with ⟨HR, H3, H2, H1, Hg4⟩
  sl_exec
  sl_step
  isplitl [HS HR HT]
  · iapply (free_back c i T (gath ids T (i 0).val))
    isplitl [HS]; · iexact HS
    isplitl [HR]; · iexact HR
    iexact HT
  isplitl [HB]; · iexact HB
  isplitl [HN]; · iexact HN
  isplitl [Hid]; · iexact Hid
  isplitl [HO]; · iexact HO
  isplitl [H1]; · iexists _; iexact H1
  isplitl [H2]; · iexists _; iexact H2
  isplitl [H3]; · iexists _; iexact H3
  isplitl [Hg2]; · iexact Hg2
  isplitl [Hg3]; · iexact Hg3
  isplitl [Hg4]; · iexact Hg4
  isplitl [H6]; · iexact H6
  iexact H7

end Cert.KernelIdeal.Own
end
-- ==== Proof.KI.State.lean ====
/- What is held between two grid points, and what one point does to it. Before point `n` the blocks `n` and `n + 1` are on their way
   (from the second point on, and as far as the grid reaches) and the third slot of the ring is free. -/
module
public import proofs.«01_k».proof.Proof.KI.Point
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-- Slot `s` before point `n`: block `p` on its way, or at rest. -/
def inflight (c : Dev nD) (ids : S32768.Idx → Elt F .i32) (T : S16000x3584.Idx → Elt F .i32) (n : ℕ) (s : Fin 3) (p : ℕ) : sProp 𝕄 :=
  if 0 < n ∧ p < 256 then Fly c ids T s p else Free c T s

/-- The slot of block `n`. -/
def slotOf (n : ℕ) : Fin 3 := ⟨n % 3, Nat.mod_lt _ (by omega)⟩

/-- The ring, the table and the cells before point `n`. -/
def Core (c : Dev nD) (ids : S32768.Idx → Elt F .i32) (T : S16000x3584.Idx → Elt F .i32) (q : PosShare TreeShare) (n : ℕ) : sProp 𝕄 :=
  iprop(inflight c ids T n (slotOf n) n ∗ inflight c ids T n (slotOf (n + 1)) (n + 1) ∗ Free c T (slotOf (n + 2)) ∗ idsAt c q ids)

theorem cond1_iff : ∀ i : grid0.Coords, k0_cond1 i = 1#1 ↔ (i 0).val = 0 := by decide +kernel
theorem cond2_iff : ∀ i : grid0.Coords, k0_cond2 i = 1#1 ↔ (i 0).val + 2 < 256 := by decide +kernel

/-- One grid point. -/
theorem point (c : Dev nD) (i : grid0.Coords) (q : PosShare TreeShare)
    (ids : S32768.Idx → Elt F .i32) (T : S16000x3584.Idx → Elt F .i32) (hid : ∀ y, (ids y).toNat < 64000)
    (arg2 : Memref sig .tc .vmem S1x1x128 .i32) (harg2 : arg2.IsWhole) (arg3 : Memref sig .tc .vmem S512x256 .bf16) (harg3 : arg3.IsWhole)
    (arg4 : Memref sig .tc .vmem S1x3584 .f32) (harg4 : arg4.IsWhole) (arg6 : Memref sig .tc .vmem S128x3584 .bf16) (harg6 : arg6.IsWhole)
    (arg7 : Memref sig .tc .vmem S128x3584 .bf16) (harg7 : arg7.IsWhole)
    (s1 s2 : S128x128.Idx → Elt F .bf16) (s3 : S128x128.Idx → Elt F .i32)
    (g2 : Buf (Elt F) (arg2.view.loc (c : Thread nD τ))) (g3 : Buf (Elt F) (arg3.view.loc (c : Thread nD τ)))
    (g4 : Buf (Elt F) (arg4.view.loc (c : Thread nD τ)))
    (f6 : Buf (Elt F) (arg6.view.loc (c : Thread nD τ))) (f7 : Buf (Elt F) (arg7.view.loc (c : Thread nD τ))) :
    iprop(Core c ids T q (i 0).val ∗ (∃ W, owes (c : Thread nD τ) 0 W) ∗ wholeAt c (Memref.whole cc0_scratch1) s1 ∗ wholeAt c (Memref.whole cc0_scratch2) s2
      ∗ wholeAt c (Memref.whole cc0_scratch3) s3 ∗ wholeAt c arg2 g2 ∗ wholeAt c arg3 g3 ∗ wholeAt c arg4 g4 ∗ wholeAt c arg6 f6 ∗ wholeAt c arg7 f7)
    ⊢ wp frame (wpE (defs₀ (F := F)) Variants.none (c : Thread nD τ) none) Set.univ
       (cc0_embed_rmsnorm i (Memref.whole main_v0) (Memref.isWhole_whole _) arg2 harg2 arg3 harg3 arg4 harg4
          (Memref.whole main_v3) (Memref.isWhole_whole _) arg6 harg6 arg7 harg7
          (Memref.whole cc0_scratch0) (Memref.isWhole_whole _) (Memref.whole cc0_scratch1) (Memref.isWhole_whole _)
          (Memref.whole cc0_scratch2) (Memref.isWhole_whole _) (Memref.whole cc0_scratch3) (Memref.isWhole_whole _) cc0_scratch4)
       (fun _ => iprop(Core c ids T q ((i 0).val + 1) ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c arg2 g2 ∗ wholeAt c arg3 g3 ∗ wholeAt c arg4 g4
      ∗ (∃ f6', ⌜arg6.view.read (Elt F) f6' = (outV (shM (arg2.view.read (Elt F) g2)) (zrM (arg2.view.read (Elt F) g2) (arg3.view.read (Elt F) g3)) (scM (arg2.view.read (Elt F) g2) (arg3.view.read (Elt F) g3)) (gath ids T (i 0).val) ((i 0).val % 3) (arg4.view.read (Elt F) g4))⌝ ∗ wholeAt c arg6 f6')
      ∗ (∃ f7', ⌜arg7.view.read (Elt F) f7' = (embV (shM (arg2.view.read (Elt F) g2)) (zrM (arg2.view.read (Elt F) g2) (arg3.view.read (Elt F) g3)) (scM (arg2.view.read (Elt F) g2) (arg3.view.read (Elt F) g3)) (gath ids T (i 0).val) ((i 0).val % 3))⌝ ∗ wholeAt c arg7 f7'))) := by
  have hlt : (i 0).val < 256 := (i 0).isLt
  have hn : slotOf ((i 0).val + 2) = nextSlot i := rfl
  have hc : slotOf ((i 0).val + 1 + 2) = curSlot i := Fin.ext (by show ((i 0).val + 1 + 2) % 3 = (i 0).val % 3; omega)
  unfold Core
  by_cases h1 : k0_cond1 i = 1#1
  · have h0 := (cond1_iff i).mp h1
    have h2 : k0_cond2 i = 1#1 := (cond2_iff i).mpr (by omega)
    have e0 : slotOf (i 0).val = 0 := Fin.ext (by show (i 0).val % 3 = 0; rw [h0])
    have e1 : slotOf ((i 0).val + 1) = 1 := Fin.ext (by show ((i 0).val + 1) % 3 = 1; rw [h0])
    have a1 : inflight c ids T (i 0).val (slotOf (i 0).val) (i 0).val = (Free c T 0 : sProp 𝕄) := by
      unfold inflight; rw [if_neg (by omega), e0]
    have a2 : inflight c ids T (i 0).val (slotOf ((i 0).val + 1)) ((i 0).val + 1) = (Free c T 1 : sProp 𝕄) := by
      unfold inflight; rw [if_neg (by omega), e1]
    have b1 : inflight c ids T ((i 0).val + 1) (slotOf ((i 0).val + 1)) ((i 0).val + 1) = (Fly c ids T 1 1 : sProp 𝕄) := by
      unfold inflight; rw [if_pos (by omega), e1, h0]
    have b2 : inflight c ids T ((i 0).val + 1) (slotOf ((i 0).val + 1 + 1)) ((i 0).val + 1 + 1) = (Fly c ids T (nextSlot i) ((i 0).val + 2) : sProp 𝕄) := by
      unfold inflight; rw [if_pos (by omega)]; rfl
    rw [a1, a2, b1, b2, hn, hc]
    refine BI.Entails.trans ?_ ((ptZero c i h1 h2 h0 (by omega) q ids T hid arg2 harg2 arg3 harg3 arg4 harg4 arg6 harg6 arg7 harg7 s1 s2 s3 g2 g3 g4 f6 f7).trans (wp_mono frame _ _ fun _ => ?_))
    · show iprop((Free c T 0 ∗ Free c T 1 ∗ Free c T (nextSlot i) ∗ idsAt c q ids) ∗ _) ⊢ (_ : sProp 𝕄)
      iintro ⟨⟨HA, HB, HN, Hid⟩, Hr⟩
      isplitl [HA]; · iexact HA
      isplitl [HB]; · iexact HB
      isplitl [HN]; · iexact HN
      isplitl [Hid]; · iexact Hid
      iexact Hr
    · show iprop(Free c T (curSlot i) ∗ Fly c ids T 1 1 ∗ Fly c ids T (nextSlot i) ((i 0).val + 2) ∗ idsAt c q ids ∗ _) ⊢ (_ : sProp 𝕄)
      iintro ⟨HA, HB, HN, Hid, Hr⟩
      isplitl [HA HB HN Hid]
      · isplitl [HB]; · iexact HB
        isplitl [HN]; · iexact HN
        isplitl [HA]; · iexact HA
        iexact Hid
      iexact Hr
  · have h0 : 0 < (i 0).val := Nat.pos_of_ne_zero fun h => h1 ((cond1_iff i).mpr h)
    have a1 : inflight c ids T (i 0).val (slotOf (i 0).val) (i 0).val = (Fly c ids T (curSlot i) (i 0).val : sProp 𝕄) := by
      unfold inflight; rw [if_pos (by omega)]; rfl
    have a2 : inflight c ids T (i 0).val (slotOf ((i 0).val + 1)) ((i 0).val + 1)
        = (inflight c ids T ((i 0).val + 1) (slotOf ((i 0).val + 1)) ((i 0).val + 1) : sProp 𝕄) := by
      unfold inflight
      by_cases h : (i 0).val + 1 < 256
      · rw [if_pos (by omega), if_pos (by omega)]
      · rw [if_neg (by omega), if_neg (by omega)]
    by_cases h2 : k0_cond2 i = 1#1
    · have hi := (cond2_iff i).mp h2
      have b2 : inflight c ids T ((i 0).val + 1) (slotOf ((i 0).val + 1 + 1)) ((i 0).val + 1 + 1) = (Fly c ids T (nextSlot i) ((i 0).val + 2) : sProp 𝕄) := by
        unfold inflight; rw [if_pos (by omega)]; rfl
      rw [a1, a2, b2, hn, hc]
      generalize inflight c ids T ((i 0).val + 1) (slotOf ((i 0).val + 1)) ((i 0).val + 1) = X
      refine BI.Entails.trans ?_ ((BIClass.sep_mono (P := X) .rfl (ptMid c i h1 h2 hi q ids T hid arg2 harg2 arg3 harg3 arg4 harg4 arg6 harg6 arg7 harg7 s1 s2 s3 g2 g3 g4 f6 f7)).trans ((wp_frame_l frame _ _).trans (wp_mono frame _ _ fun _ => ?_)))
      · show iprop((Fly c ids T (curSlot i) (i 0).val ∗ X ∗ Free c T (nextSlot i) ∗ idsAt c q ids) ∗ _) ⊢ (_ : sProp 𝕄)
        iintro ⟨⟨HA, HB, HN, Hid⟩, Hr⟩
        isplitl [HB]; · iexact HB
        isplitl [HA]; · iexact HA
        isplitl [HN]; · iexact HN
        isplitl [Hid]; · iexact Hid
        iexact Hr
      · show iprop(X ∗ Free c T (curSlot i) ∗ Fly c ids T (nextSlot i) ((i 0).val + 2) ∗ idsAt c q ids ∗ _) ⊢ (_ : sProp 𝕄)
        iintro ⟨HB, HA, HN, Hid, Hr⟩
        isplitl [HA HB HN Hid]
        · isplitl [HB]; · iexact HB
          isplitl [HN]; · iexact HN
          isplitl [HA]; · iexact HA
          iexact Hid
        iexact Hr
    · have hi := mt (cond2_iff i).mpr h2
      have b2 : inflight c ids T ((i 0).val + 1) (slotOf ((i 0).val + 1 + 1)) ((i 0).val + 1 + 1) = (Free c T (nextSlot i) : sProp 𝕄) := by
        unfold inflight; rw [if_neg (by omega)]; rfl
      rw [a1, a2, b2, hn, hc]
      generalize inflight c ids T ((i 0).val + 1) (slotOf ((i 0).val + 1)) ((i 0).val + 1) = X
      refine BI.Entails.trans ?_ ((BIClass.sep_mono (P := iprop(X ∗ Free c T (nextSlot i) ∗ idsAt c q ids)) .rfl (ptEnd c i h1 h2 ids T arg2 harg2 arg3 harg3 arg4 harg4 arg6 harg6 arg7 harg7 s1 s2 s3 g2 g3 g4 f6 f7)).trans ((wp_frame_l frame _ _).trans (wp_mono frame _ _ fun _ => ?_)))
      · show iprop((Fly c ids T (curSlot i) (i 0).val ∗ X ∗ Free c T (nextSlot i) ∗ idsAt c q ids) ∗ _) ⊢ (_ : sProp 𝕄)
        iintro ⟨⟨HA, HB, HN, Hid⟩, Hr⟩
        isplitl [HB HN Hid]
        · isplitl [HB]; · iexact HB
          isplitl [HN]; · iexact HN
          iexact Hid
        isplitl [HA]; · iexact HA
        iexact Hr
      · show iprop((X ∗ Free c T (nextSlot i) ∗ idsAt c q ids) ∗ Free c T (curSlot i) ∗ _) ⊢ (_ : sProp 𝕄)
        iintro ⟨⟨HB, HN, Hid⟩, HA, Hr⟩
        isplitl [HA HB HN Hid]
        · isplitl [HB]; · iexact HB
          isplitl [HN]; · iexact HN
          isplitl [HA]; · iexact HA
          iexact Hid
        iexact Hr

end Cert.KernelIdeal.Own
end
-- ==== Proof.KI.Enter.lean ====
module
public import proofs.«01_k».proof.Proof.KI.State
public import Idealize.ShloMosaic.Lib.Pipeline.FrameBody
public import proofs.«01_k».proof.Proof.Gen.KernelIdeal.Launch
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

/-! ## Entry and exit: the whole ring, the whole table, the cells at zero ⟷ three slots at rest and the table's fourth share -/

/-- The pipeline's own cells: the ring's three. -/
abbrev osem : Fin 3 → SemLoc sig := fun s => .dma (semOf s)
theorem ownSem : Pipeline.OwnSemFacts spec0 osem := by decide

theorem slots_disjoint : ∀ b b' : Fin 3, b ≠ b' → Disjoint (slotSet b.val) (slotSet b'.val) := by
  intro b b' hb
  rw [Finset.disjoint_left]
  intro y hy hy'
  exact hb (Fin.ext ((Finset.mem_filter.mp hy).2.symm.trans (Finset.mem_filter.mp hy').2))

theorem slots_cover : (Finset.univ : Finset (Fin 3)).biUnion (fun s => slotSet s.val) = Finset.univ := by
  ext y
  refine ⟨fun _ => Finset.mem_univ _, fun _ => Finset.mem_biUnion.mpr ⟨⟨(y 0).val, (y 0).isLt⟩, Finset.mem_univ _, Finset.mem_filter.mpr ⟨Finset.mem_univ _, rfl⟩⟩⟩

theorem ring_slots (c : Dev nD) (f : S3x128x3584.Idx → Elt F .i32) :
    (ringAt c Finset.univ f : sProp 𝕄) = iprop(ringAt c (slotSet 0) f ∗ ringAt c (slotSet 1) f ∗ ringAt c (slotSet 2) f) :=
  (Ring.pointsTo_sub_blocks (ℓ := (Memref.whole cc0_scratch0).view.loc (c : Thread nD τ)) (fun s : Fin 3 => slotSet s.val) slots_disjoint _ slots_cover f).trans
    (Ring.bigSep_fin3 _)

theorem ring_join (c : Dev nD) (f₀ : S3x128x3584.Idx → Elt F .i32) :
    iprop((∃ f, ringAt c (slotSet 0) f) ∗ (∃ f, ringAt c (slotSet 1) f) ∗ (∃ f, ringAt c (slotSet 2) f)) ⊢ (iprop(∃ f, ringAt c Finset.univ f) : sProp 𝕄) :=
  (Entails.of_eq (Ring.bigSep_fin3 (fun s : Fin 3 => (iprop(∃ f, ringAt c (slotSet s.val) f) : sProp 𝕄))).symm).trans
    (Ring.pointsTo_sub_blocks_join_exists (ℓ := (Memref.whole cc0_scratch0).view.loc (c : Thread nD τ)) (fun s : Fin 3 => slotSet s.val) slots_disjoint _ slots_cover f₀)

/-- The share of the table no slot uses. -/
def restShare : PosShare TreeShare := ShareLeaves.leaf 2 fullShare (3 : Fin 4)

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem tab_slots (c : Dev nD) (T : S16000x3584.Idx → Elt F .i32) :
    (tabAt c fullShare T : sProp 𝕄) = iprop(tabAt c (slotShare 0) T ∗ tabAt c (slotShare 1) T ∗ tabAt c (slotShare 2) T ∗ tabAt c restShare T) :=
  (ShareLeaves.pointsTo_leaves (ℓ := (Memref.whole main_v3).view.loc (c : Thread nD τ)) Finset.univ T 2 fullShare).trans (bigSep_fin4 _)

/-- What is held before point `n`. -/
def Phi (c : Dev nD) (ids : S32768.Idx → Elt F .i32) (T : S16000x3584.Idx → Elt F .i32) (n : ℕ) : sProp 𝕄 :=
  iprop(Core c ids T fullShare.right n ∗ tabAt c restShare T
    ∗ (∃ s1, wholeAt c (Memref.whole cc0_scratch1) s1) ∗ (∃ s2, wholeAt c (Memref.whole cc0_scratch2) s2)
    ∗ (∃ s3, wholeAt c (Memref.whole cc0_scratch3) s3) ∗ (∃ r, prngReg c r))

theorem core_rest (c : Dev nD) (ids : S32768.Idx → Elt F .i32) (T : S16000x3584.Idx → Elt F .i32) (q : PosShare TreeShare) (n : ℕ) (hn : n = 0 ∨ n = 256) :
    (Core c ids T q n : sProp 𝕄) = iprop(Free c T (slotOf n) ∗ Free c T (slotOf (n + 1)) ∗ Free c T (slotOf (n + 2)) ∗ idsAt c q ids) := by
  unfold Core inflight
  rw [if_neg (by omega), if_neg (by omega)]

/-- Before the first point. -/
theorem enter (c : Dev nD) (ids : S32768.Idx → Elt F .i32) (T : S16000x3584.Idx → Elt F .i32) :
    iprop(((∃ f, ringAt c Finset.univ f) ∗ (∃ s1, wholeAt c (Memref.whole cc0_scratch1) s1) ∗ (∃ s2, wholeAt c (Memref.whole cc0_scratch2) s2)
        ∗ (∃ s3, wholeAt c (Memref.whole cc0_scratch3) s3))
      ∗ (∃ r, prngReg c r)
      ∗ (semVal ((c : Thread nD τ), osem 0) 0 ∗ semVal ((c : Thread nD τ), osem 1) 0 ∗ semVal ((c : Thread nD τ), osem 2) 0)
      ∗ tabAt c fullShare T ∗ idsAt c fullShare.right ids) ⊢ (Phi c ids T 0 : sProp 𝕄) := by
  unfold Phi
  rw [core_rest _ _ _ _ _ (.inl rfl), tab_slots, show slotOf 0 = 0 from rfl, show slotOf (0 + 1) = 1 from rfl, show slotOf (0 + 2) = 2 from rfl]
  unfold Free
  iintro ⟨⟨⟨%f, HR⟩, H1, H2, H3⟩, Hp, ⟨S0, S1, S2⟩, ⟨T0, T1, T2, T3⟩, Hid⟩
  ihave HR := (Entails.of_eq (ring_slots c f)) $$ HR
  icases HR with ⟨R0, R1, R2⟩
  isplitl [R0 R1 R2 S0 S1 S2 T0 T1 T2 Hid]
  · isplitl [R0 S0 T0]
    · isplitl [R0]; · iexists f; iexact R0
      isplitl [T0]; · iexact T0
      iexact S0
    isplitl [R1 S1 T1]
    · isplitl [R1]; · iexists f; iexact R1
      isplitl [T1]; · iexact T1
      iexact S1
    isplitl [R2 S2 T2]
    · isplitl [R2]; · iexists f; iexact R2
      isplitl [T2]; · iexact T2
      iexact S2
    iexact Hid
  isplitl [T3]; · iexact T3
  isplitl [H1]; · iexact H1
  isplitl [H2]; · iexact H2
  isplitl [H3]; · iexact H3
  iexact Hp

/-- After the last point. -/
theorem leave (c : Dev nD) (ids : S32768.Idx → Elt F .i32) (T : S16000x3584.Idx → Elt F .i32) (f₀ : S3x128x3584.Idx → Elt F .i32) :
    (Phi c ids T 256 : sProp 𝕄) ⊢ iprop(((∃ f, ringAt c Finset.univ f) ∗ (∃ s1, wholeAt c (Memref.whole cc0_scratch1) s1) ∗ (∃ s2, wholeAt c (Memref.whole cc0_scratch2) s2)
        ∗ (∃ s3, wholeAt c (Memref.whole cc0_scratch3) s3))
      ∗ (∃ r, prngReg c r)
      ∗ (semVal ((c : Thread nD τ), osem 0) 0 ∗ semVal ((c : Thread nD τ), osem 1) 0 ∗ semVal ((c : Thread nD τ), osem 2) 0)
      ∗ tabAt c fullShare T) := by
  unfold Phi
  rw [core_rest _ _ _ _ _ (.inr rfl), tab_slots, show slotOf 256 = 1 from rfl, show slotOf (256 + 1) = 2 from rfl, show slotOf (256 + 2) = 0 from rfl]
  unfold Free
  iintro ⟨⟨⟨R1, T1, S1⟩, ⟨R2, T2, S2⟩, ⟨R0, T0, S0⟩, Hid⟩, T3, H1, H2, H3, Hp⟩
  isplitl [R0 R1 R2 H1 H2 H3]
  · isplitl [R0 R1 R2]
    · iapply (ring_join c f₀)
      isplitl [R0]; · iexact R0
      isplitl [R1]; · iexact R1
      iexact R2
    isplitl [H1]; · iexact H1
    isplitl [H2]; · iexact H2
    iexact H3
  isplitl [Hp]; · iexact Hp
  isplitl [S0 S1 S2]
  · isplitl [S0]; · iexact S0
    isplitl [S1]; · iexact S1
    iexact S2
  isplitl [T0]; · iexact T0
  isplitl [T1]; · iexact T1
  isplitl [T2]; · iexact T2
  iexact T3

end Cert.KernelIdeal.Own
end
-- ==== Proof.KI.Run.lean ====
/- The launch: the buffers at the region's entry, the pipeline's proof data, the body at every grid point, and the run of the whole
   program. -/
module
public import proofs.«01_k».proof.Proof.KI.Enter
@[expose] public section
set_option pp.maxSteps 1500
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Pipeline (Dat Cfg Window BodyObligation cellOf)
variable {F : FTy → Type} [FloatOps F] [Named F]
local notation "𝕄" => MT nD τ sig Unit (Elt F) ℕ (Pipeline.UD sig nD τ) ℕ

variable (m : (ℓ : Loc nD τ sig) → Buf (Elt F) ℓ) (ρ : Dev nD → PrngReg)

/-- The host operations before the region. -/
abbrev hostOps : List (List (HloOp τ sig (Elt F))) := [hostOps0, hostOps0_1, hostOps0_2, hostOps0_3, hostOps0_4]

/-- Core `c`'s buffers when the region is entered. -/
abbrev V (c : Dev nD) (b : Ref sig .tc) : Buf (Elt F) ((c : Thread nD τ).loc b) := StableHlo.after hostOps.flatten (fun b => m (c, b)) b

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main hostOps
    ⟨hostOps0_sub, hostOps0_1_sub, hostOps0_2_sub, hostOps0_3_sub, hostOps0_4_sub⟩
    (by simp only [List.Forall]; repeat' constructor) main_chain

/-- The prefetched table at entry (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The ids and the table of words, at entry. -/
def idsM (c : Dev nD) : S32768.Idx → Elt F .i32 := V m c main_v0
def tabM (c : Dev nD) : S16000x3584.Idx → Elt F .i32 := V m c main_v3

/-- Window `w`'s block at point `t`, read off its array at entry. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The three matrices one block's ids and the parameters give. -/
def x2 (c : Dev nD) (t : Fin (cfgM m).N) : S1x1x128.Idx → Elt F .i32 := iblk m c 0 t
def x3 (c : Dev nD) (t : Fin (cfgM m).N) : S512x256.Idx → Elt F .bf16 := iblk m c 1 t
def x4 (c : Dev nD) (t : Fin (cfgM m).N) : S1x3584.Idx → Elt F .f32 := iblk m c 2 t

/-- What the body leaves in the two results' blocks. -/
def outB (c : Dev nD) (t : Fin (cfgM m).N) : S128x3584.Idx → Elt F .bf16 :=
  outV (shM (x2 m c t)) (zrM (x2 m c t) (x3 m c t)) (scM (x2 m c t) (x3 m c t)) (gath (idsM m c) (tabM m c) t.val) (t.val % 3) (x4 m c t)
def embB (c : Dev nD) (t : Fin (cfgM m).N) : S128x3584.Idx → Elt F .bf16 :=
  embV (shM (x2 m c t)) (zrM (x2 m c t) (x3 m c t)) (scM (x2 m c t) (x3 m c t)) (gath (idsM m c) (tabM m c) t.val) (t.val % 3)

/-- The proof data. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
    | ⟨4, _⟩ => embB m c t
  Φ t := Phi c (idsM m c) (tabM m c) t.val
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; rfl
theorem after_1 (c : Dev nD) (t : Fin (cfgM m).N) : (dats m 0 c).after 1 t = iblk m c 1 t := by dsimp only [dats]; rfl
theorem after_2 (c : Dev nD) (t : Fin (cfgM m).N) : (dats m 0 c).after 2 t = iblk m c 2 t := by dsimp only [dats]; rfl
theorem after_3 (c : Dev nD) (t : Fin (cfgM m).N) : (dats m 0 c).after 3 t = outB m c t := by dsimp only [dats]; rfl
theorem after_4 (c : Dev nD) (t : Fin (cfgM m).N) : (dats m 0 c).after 4 t = embB m c t := by dsimp only [dats]; rfl

theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The staging buffers at point `t`. -/
abbrev st_0 (t : Fin (cfgM m).N) := spec0_0.stage ((cfgM m).slots t 0)
abbrev st_1 (t : Fin (cfgM m).N) := spec0_1.stage ((cfgM m).slots t 1)
abbrev st_2 (t : Fin (cfgM m).N) := spec0_2.stage ((cfgM m).slots t 2)
abbrev st_3 (t : Fin (cfgM m).N) := spec0_3.stage ((cfgM m).slots t 3)
abbrev st_4 (t : Fin (cfgM m).N) := spec0_4.stage ((cfgM m).slots t 4)

/-- The body at point `t`. -/
abbrev bodyAt (t : Fin (cfgM m).N) : Prog (TpuEff nD τ sig (Elt F) Λ₀ .tc) PUnit :=
  cc0_embed_rmsnorm (grid0.coords t) (Memref.whole main_v0) (Memref.isWhole_whole _) (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (Memref.whole main_v3) (Memref.isWhole_whole _) (st_3 m t) (hstage0_3 (((cfgM m).slots t 3).cast nbuf0_3)) (st_4 m t) (hstage0_4 (((cfgM m).slots t 4).cast nbuf0_4))
    (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4

theorem body_row (t : Fin (cfgM m).N) :
    defs₀ (F := F) .tc (cfgM m).body ((cfgM m).bodyArgs t ((cfgM m).slots t)) = bodyAt m t := by
  unfold defs₀; rw [Defs.onTc_tc]

/-- A whole memref owned is its buffer held at contents that read so. -/
theorem owns_in (c : Dev nD) {s : Shape} {e : EltTy} (a : Memref sig .tc .vmem s e) (h : a.IsWhole) (d : s.Idx → Elt F e) :
    (owns (c : Thread nD τ) a fullShare d : sProp 𝕄) ⊢ iprop(∃ g : Buf (Elt F) (a.view.loc (c : Thread nD τ)), ⌜a.view.read (Elt F) g = d⌝ ∗ wholeAt c a g) := by
  unfold owns wholeAt
  rw [h.set_eq_univ]
theorem owns_out (c : Dev nD) {s : Shape} {e : EltTy} (a : Memref sig .tc .vmem s e) (h : a.IsWhole) (d : s.Idx → Elt F e)
    (g : Buf (Elt F) (a.view.loc (c : Thread nD τ))) (hg : a.view.read (Elt F) g = d) :
    (wholeAt c a g : sProp 𝕄) ⊢ owns (c : Thread nD τ) a fullShare d := by
  unfold owns wholeAt
  rw [h.set_eq_univ]
  iintro H
  iexists g
  isplitr; · ipureintro; exact hg
  iexact H

/-- The point's coordinate. -/
theorem coord_val : ∀ t : Fin grid0.N, ((grid0.coords t) 0).val = t.val := by decide +kernel

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t))

/-- What the core owes does not change and its waits' record is not bounded. -/
theorem owes_in (c : Dev nD) (t : Fin ((cfgM m).N + 1)) :
    ((dats m 0 c).owesAt () t : sProp 𝕄) ⊢ iprop(∃ W, owes (c : Thread nD τ) 0 W) := by
  unfold Dat.owesAt Pipeline.owesWithin
  iintro ⟨%W, -, H⟩
  iexists W
  iexact H
theorem owes_out (c : Dev nD) (t : Fin ((cfgM m).N + 1)) :
    iprop(∃ W, owes (c : Thread nD τ) 0 W) ⊢ ((dats m 0 c).owesAt () t : sProp 𝕄) := by
  unfold Dat.owesAt Pipeline.owesWithin
  iintro ⟨%W, H⟩
  iexists W
  isplitr
  · ipureintro; intro x _; exact Or.inl trivial
  iexact H

theorem phi_at (c : Dev nD) (t : Fin (cfgM m).N) : (dats m 0 c).Φ t.castSucc = Phi c (idsM m c) (tabM m c) ((grid0.coords t) 0).val := by
  rw [coord_val t]; rfl
theorem phi_next (c : Dev nD) (t : Fin (cfgM m).N) : (dats m 0 c).Φ t.succ = Phi c (idsM m c) (tabM m c) (((grid0.coords t) 0).val + 1) := by
  rw [coord_val t]; rfl

/-- The body at any point. -/
theorem sound_body (hid : ∀ c y, (idsM m c y).toNat < 64000) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2]
  rw [phi_at, phi_next, after_0, after_1, after_2, after_3, after_4]
  unfold Phi
  iintro ⟨⟨HC, HT, ⟨%s1, H1⟩, ⟨%s2, H2⟩, ⟨%s3, H3⟩, Hp⟩, Ho, ⟨%d0, G2⟩, ⟨%d1, G3⟩, ⟨%d2, G4⟩, ⟨%d3, G6⟩, %d4, G7⟩
  ihave G2 := (show owns (c : Thread nD τ) (st_0 m t) fullShare (iblk m c 0 t) ⊢ _ from owns_in c (st_0 m t) (hstage0_0 (((cfgM m).slots t 0).cast nbuf0_0)) (x2 m c t)) $$ G2
  icases G2 with ⟨%g2, %e2, G2⟩
  ihave G3 := (show owns (c : Thread nD τ) (st_1 m t) fullShare (iblk m c 1 t) ⊢ _ from owns_in c (st_1 m t) (hstage0_1 (((cfgM m).slots t 1).cast nbuf0_1)) (x3 m c t)) $$ G3
  icases G3 with ⟨%g3, %e3, G3⟩
  ihave G4 := (show owns (c : Thread nD τ) (st_2 m t) fullShare (iblk m c 2 t) ⊢ _ from owns_in c (st_2 m t) (hstage0_2 (((cfgM m).slots t 2).cast nbuf0_2)) (x4 m c t)) $$ G4
  icases G4 with ⟨%g4, %e4, G4⟩
  ihave G6 := (show owns (c : Thread nD τ) (st_3 m t) fullShare ((dats m 0 c).before 3 t d3) ⊢ _ from owns_in c (st_3 m t) (hstage0_3 (((cfgM m).slots t 3).cast nbuf0_3)) ((dats m 0 c).before 3 t d3)) $$ G6
  icases G6 with ⟨%g6, %e6, G6⟩
  ihave G7 := (show owns (c : Thread nD τ) (st_4 m t) fullShare ((dats m 0 c).before 4 t d4) ⊢ _ from owns_in c (st_4 m t) (hstage0_4 (((cfgM m).slots t 4).cast nbuf0_4)) ((dats m 0 c).before 4 t d4)) $$ G7
  icases G7 with ⟨%g7, %e7, G7⟩
  ihave Ho := (owes_in m c t.castSucc) $$ Ho
  iapply (wp_mono frame _ _ (show ∀ _ : PUnit, iprop(iprop(tabAt c restShare (tabM m c) ∗ ∃ r, prngReg c r) ∗ Core c (idsM m c) (tabM m c) fullShare.right (((grid0.coords t) 0).val + 1) ∗ (∃ W, owes (c : Thread nD τ) 0 W)
      ∗ (∃ s1, wholeAt c (Memref.whole cc0_scratch1) s1) ∗ (∃ s2, wholeAt c (Memref.whole cc0_scratch2) s2)
      ∗ (∃ s3, wholeAt c (Memref.whole cc0_scratch3) s3) ∗ wholeAt c (st_0 m t) g2 ∗ wholeAt c (st_1 m t) g3 ∗ wholeAt c (st_2 m t) g4
      ∗ (∃ f6', ⌜(st_3 m t).view.read (Elt F) f6' = (outV (shM ((st_0 m t).view.read (Elt F) g2)) (zrM ((st_0 m t).view.read (Elt F) g2) ((st_1 m t).view.read (Elt F) g3)) (scM ((st_0 m t).view.read (Elt F) g2) ((st_1 m t).view.read (Elt F) g3)) (gath (idsM m c) (tabM m c) ((grid0.coords t) 0).val) (((grid0.coords t) 0).val % 3) ((st_2 m t).view.read (Elt F) g4))⌝ ∗ wholeAt c (st_3 m t) f6')
      ∗ (∃ f7', ⌜(st_4 m t).view.read (Elt F) f7' = (embV (shM ((st_0 m t).view.read (Elt F) g2)) (zrM ((st_0 m t).view.read (Elt F) g2) ((st_1 m t).view.read (Elt F) g3)) (scM ((st_0 m t).view.read (Elt F) g2) ((st_1 m t).view.read (Elt F) g3)) (gath (idsM m c) (tabM m c) ((grid0.coords t) 0).val) (((grid0.coords t) 0).val % 3))⌝ ∗ wholeAt c (st_4 m t) f7')) ⊢ (_ : sProp 𝕄) from fun _ => by
    iintro ⟨⟨HT, Hp⟩, HC, Ho, H1, H2, H3, G2, G3, G4, ⟨%g6', %e6', G6⟩, %g7', %e7', G7⟩
    isplitl [HC HT H1 H2 H3 Hp]
    · isplitl [HC]; · iexact HC
      isplitl [HT]; · iexact HT
      isplitl [H1]; · iexact H1
      isplitl [H2]; · iexact H2
      isplitl [H3]; · iexact H3
      iexact Hp
    isplitl [Ho]; · iapply (owes_out m c t.succ); iexact Ho
    isplitl [G2]
    · iapply (owns_out c (st_0 m t) (hstage0_0 (((cfgM m).slots t 0).cast nbuf0_0)) _ g2 e2)
      iexact G2
    isplitl [G3]
    · iapply (owns_out c (st_1 m t) (hstage0_1 (((cfgM m).slots t 1).cast nbuf0_1)) _ g3 e3)
      iexact G3
    isplitl [G4]
    · iapply (owns_out c (st_2 m t) (hstage0_2 (((cfgM m).slots t 2).cast nbuf0_2)) _ g4 e4)
      iexact G4
    isplitl [G6]
    · iapply (owns_out c (st_3 m t) (hstage0_3 (((cfgM m).slots t 3).cast nbuf0_3)) (outB m c t) g6' (by rw [e6', e2, e3, e4, coord_val t]; rfl))
      iexact G6
    iapply (owns_out c (st_4 m t) (hstage0_4 (((cfgM m).slots t 4).cast nbuf0_4)) (embB m c t) g7' (by rw [e7', e2, e3, coord_val t]; rfl))
    iexact G7))
  iapply (wp_frame_l frame _ _)
  isplitl [HT Hp]
  · isplitl [HT]; · iexact HT
    iexact Hp
  iapply (point c (grid0.coords t) fullShare.right (idsM m c) (tabM m c) (hid c) (st_0 m t) (hstage0_0 (((cfgM m).slots t 0).cast nbuf0_0)) (st_1 m t) (hstage0_1 (((cfgM m).slots t 1).cast nbuf0_1))
    (st_2 m t) (hstage0_2 (((cfgM m).slots t 2).cast nbuf0_2)) (st_3 m t) (hstage0_3 (((cfgM m).slots t 3).cast nbuf0_3)) (st_4 m t) (hstage0_4 (((cfgM m).slots t 4).cast nbuf0_4))
    s1 s2 s3 g2 g3 g4 g6 g7)
  isplitl [HC]; · iexact HC
  isplitl [Ho]; · iexact Ho
  isplitl [H1]; · iexact H1
  isplitl [H2]; · iexact H2
  isplitl [H3]; · iexact H3
  isplitl [G2]; · iexact G2
  isplitl [G3]; · iexact G3
  isplitl [G4]; · iexact G4
  isplitl [G6]; · iexact G6
  iexact G7

theorem body_obligation (hid : ∀ c y, (idsM m c y).toNat < 64000) (c : Dev nD) :
    BodyObligation (dats (F := F) m 0 c) (defs₀ (F := F)) Variants.none () Set.univ := fun t => by
  rw [bigSep_W0, bigSep_W0, body_row]
  exact triple_restated (sound_body m hid c t) rfl .rfl fun _ => .rfl

end Cert.KernelIdeal.Own
end
-- ==== Proof.KI.Main.lean ====
/- The run of the whole program: the region's invariant from the launch's resources and back, the contents of the buffers the
   host operations write, and the frame. -/
module
public import proofs.«01_k».proof.Proof.KI.Run
public import Idealize.ShloMosaic.Lib.StableHlo.RunRead
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
variable {F : FTy → Type} [FloatOps F] [Named F]
local notation "𝕄" => MT nD τ sig Unit (Elt F) ℕ (Pipeline.UD sig nD τ) ℕ

variable (m : (ℓ : Loc nD τ sig) → Buf (Elt F) ℓ) (ρ : Dev nD → PrngReg)

/-! ## The buffers at the region's entry -/

theorem V_arg0 (c : Dev nD) : V m c main_arg0 = m ((c : Thread nD τ).loc main_arg0) := by
  dsimp only [V, hostOps, hostOps0, hostOps0_1, hostOps0_2, hostOps0_3, hostOps0_4, List.flatten, List.append]; after_reads_simp
theorem V_arg1 (c : Dev nD) : V m c main_arg1 = m ((c : Thread nD τ).loc main_arg1) := by
  dsimp only [V, hostOps, hostOps0, hostOps0_1, hostOps0_2, hostOps0_3, hostOps0_4, List.flatten, List.append]; after_reads_simp
theorem V_arg2 (c : Dev nD) : V m c main_arg2 = m ((c : Thread nD τ).loc main_arg2) := by
  dsimp only [V, hostOps, hostOps0, hostOps0_1, hostOps0_2, hostOps0_3, hostOps0_4, List.flatten, List.append]; after_reads_simp
theorem V_arg3 (c : Dev nD) : V m c main_arg3 = m ((c : Thread nD τ).loc main_arg3) := by
  dsimp only [V, hostOps, hostOps0, hostOps0_1, hostOps0_2, hostOps0_3, hostOps0_4, List.flatten, List.append]; after_reads_simp
theorem V_arg4 (c : Dev nD) : V m c main_arg4 = m ((c : Thread nD τ).loc main_arg4) := by
  dsimp only [V, hostOps, hostOps0, hostOps0_1, hostOps0_2, hostOps0_3, hostOps0_4, List.flatten, List.append]; after_reads_simp

/-! ## The launch -/

/-- The buffer the body's own transfers read: the table of words. -/
abbrev H : Finset (Ref sig .tc) := {main_v3}
theorem H_sub : H ⊆ Pipeline.restRefsP sig pre0 spec0 := by decide

theorem hin (c : Dev nD) : iprop(Pipeline.ΦD osem spec0 H (V m) c ∗ Pipeline.ΦT pre0 (tbl m) c) ⊢ ((dats m 0 c).Φ 0 : sProp 𝕄) := by
  refine BIBase.Entails.trans ?_ (enter c (idsM m c) (tabM m c))
  obtain rfl : c = 0 := Subsingleton.elim _ _
  rw [Pipeline.ΦD_eq, scopedRest0_eq, bigSep_singleton]
  unfold Pipeline.ownSems0 Pipeline.ΦT Pipeline.prefHeld
  rw [Ring.bigSep_fin3, show (Finset.univ : Finset (Fin 1)) = {(0 : Fin 1)} from by decide, bigSep_singleton]
  iintro ⟨⟨HR, Hp, HS, HT⟩, Hid⟩
  isplitl [HR]; · iexact HR
  isplitl [Hp]; · iexact Hp
  isplitl [HS]; · iexact HS
  isplitl [HT]; · iexact HT
  iexact Hid

theorem hout (c : Dev nD) : ((dats m 0 c).Φ (Fin.last (cfgM m).N) : sProp 𝕄) ⊢ Pipeline.ΦD osem spec0 H (V m) c := by
  refine BIBase.Entails.trans (show _ ⊢ (Phi c (idsM m c) (tabM m c) 256 : sProp 𝕄) from by
    rw [show (256 : ℕ) = (Fin.last (cfgM m).N).val from N_0.symm]; exact .rfl) ((leave c (idsM m c) (tabM m c) fun _ => (0#32 : BitVec 32)).trans ?_)
  rw [Pipeline.ΦD_eq, scopedRest0_eq, bigSep_singleton]
  unfold Pipeline.ownSems0
  rw [Ring.bigSep_fin3]
  iintro ⟨HR, Hp, HS, HT⟩
  isplitl [HR]; · iexact HR
  isplitl [Hp]; · iexact Hp
  isplitl [HS]; · iexact HS
  iexact HT

set_option backward.isDefEq.respectTransparency.types false in
set_option maxHeartbeats 800000 in
/-- Every weakly fair execution terminates, the pipeline's arrays end at what its proof data compute, every other buffer as the
    region found it, and every counter at zero. -/
theorem run_main (hid : ∀ c y, (idsM m c y).toNat < 64000) : θ_run defs (onTc (τ := τ) (main (F := F))) (s₀ m ρ)
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem defs₀ Variants.none ownSem H H_sub m ρ main
    (hbody := fun c => (body_obligation m hid c).loose) (hshare := fun c => (dats m 0 c).share_full fun _ => rfl)
    (howed := fun _ _ => rfl) (V := V m) (hmain := hmain m Variants.none) (hA := A_eq m) (hpf := V_pre m)
    (hin := hin m) (hout := hout m)

theorem mem_arg0 : main_arg0 ∈ Pipeline.restRefs sig spec0 := Pipeline.mem_restRefs_of main_arg0 (by decide) (by decide)
theorem mem_arg1 : main_arg1 ∈ Pipeline.restRefs sig spec0 := Pipeline.mem_restRefs_of main_arg1 (by decide) (by decide)
theorem mem_arg2 : main_arg2 ∈ Pipeline.restRefs sig spec0 := Pipeline.mem_restRefs_of main_arg2 (by decide) (by decide)
theorem mem_arg3 : main_arg3 ∈ Pipeline.restRefs sig spec0 := Pipeline.mem_restRefs_of main_arg3 (by decide) (by decide)
theorem mem_arg4 : main_arg4 ∈ Pipeline.restRefs sig spec0 := Pipeline.mem_restRefs_of main_arg4 (by decide) (by decide)

/-- The frame: the arguments end unchanged and every counter at zero; the results end at the pipeline's arrays. -/
theorem run_named (hid : ∀ c y, (idsM m c y).toNat < 64000) : θ_run defs (onTc (τ := τ) (main (F := F))) ⟨m, fun _ => 0, ρ⟩
    (fun r => (∀ c : Dev nD,
      r.2.mem ((c : Thread nD τ).loc main_v13_0) = (dats m 0 c).arrAt 3 (cfgM m).N
      ∧ r.2.mem ((c : Thread nD τ).loc main_v13_1) = (dats m 0 c).arrAt 4 (cfgM m).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c).1 3, (h.1 c).1 4,
      ((h.1 c).2 main_arg0 (mem_arg0)).trans (V_arg0 m c),
      ((h.1 c).2 main_arg1 (mem_arg1)).trans (V_arg1 m c),
      ((h.1 c).2 main_arg2 (mem_arg2)).trans (V_arg2 m c),
      ((h.1 c).2 main_arg3 (mem_arg3)).trans (V_arg3 m c),
      ((h.1 c).2 main_arg4 (mem_arg4)).trans (V_arg4 m c)⟩, h.2⟩)
    (run_main m ρ hid)

end Cert.KernelIdeal.Own
end
-- ==== Proof.KI.Entry.lean ====
/- What the host operations leave in the buffers the region reads, and the frame under the precondition. -/
module
public import proofs.«01_k».proof.Proof.KI.Main
public import proofs.«01_k».proof.Defs
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.Sem
variable {F : FTy → Type} [FloatOps F] [Named F]

variable (m : (ℓ : Loc nD τ sig) → Buf (Elt F) ℓ) (ρ : Dev nD → PrngReg)

theorem V_v0 (c : Dev nD) : V m c main_v0 = shapeCast S32768 (m ((c : Thread nD τ).loc main_arg0) : Vec F S8x4096 .i32) shapeCasts_S8x4096_S32768 := by
  dsimp only [V, hostOps, hostOps0, hostOps0_1, hostOps0_2, hostOps0_3, hostOps0_4, List.flatten, List.append]; after_reads_simp
  rfl
theorem V_v3 (c : Dev nD) : V m c main_v3 = Host.bitcastConvertWiden S16000x3584 32 (transpose S16000x3584x4 [0, 2, 1] (shapeCast S16000x4x3584
    (m ((c : Thread nD τ).loc main_arg1) : Vec F S64000x3584 .i8) shapeCasts_S64000x3584_S16000x4x3584) transposes_S16000x4x3584_S16000x3584x4_0_2_1) splits_S16000x3584_w32_S16000x3584x4_w8 := by
  dsimp only [V, hostOps, hostOps0, hostOps0_1, hostOps0_2, hostOps0_3, hostOps0_4, List.flatten, List.append]; after_reads_simp
  rfl
theorem V_v11 (c : Dev nD) : V m c main_v11 = shapeCast S1x3584 (extf .f32 (m ((c : Thread nD τ).loc main_arg4) : Vec F S3584 .bf16) bitsLt_bf16_f32) shapeCasts_S3584_S1x3584 := by
  dsimp only [V, hostOps, hostOps0, hostOps0_1, hostOps0_2, hostOps0_3, hostOps0_4, List.flatten, List.append]; after_reads_simp
  rfl
theorem V_v12 (c : Dev nD) : V m c main_v12 = shapeCast S256x1x128 (shapeCast S32768 (m ((c : Thread nD τ).loc main_arg0) : Vec F S8x4096 .i32) shapeCasts_S8x4096_S32768) shapeCasts_S32768_S256x1x128 := by
  dsimp only [V, hostOps, hostOps0, hostOps0_1, hostOps0_2, hostOps0_3, hostOps0_4, List.flatten, List.append]; after_reads_simp
  rfl

/-- Ids below 64000 in the argument are below 64000 in the flat list of ids. -/
theorem hid_of (h : ∀ (c : Dev nD) x, ((m ((c : Thread nD τ).loc main_arg0) : Vec F S8x4096 .i32) x).toNat < 64000) (c : Dev nD) (y : S32768.Idx) : (idsM m c y).toNat < 64000 := by
  unfold idsM
  rw [V_v0]
  exact h c _

/-- The precondition in plain words: every id is below 64000. -/
theorem ids_lt [Pre_ids_in_vocab.Facts] (a0 : Vec F S8x4096 .i32) (a1 : Vec F S64000x3584 .i8) (a2 : Vec F S64000 .f32) (a3 : Vec F S64000 .bf16) (a4 : Vec F S3584 .bf16)
    (h : Pre_ids_in_vocab.fn (F := F) a0 a1 a2 a3 a4 = fun _ => 1#1) (x : S8x4096.Idx) : (a0 x).toNat < 64000 := by
  have e : IntOp.andi (IntOp.cmpi .sge (a0 x) 0#32) (IntOp.cmpi .slt (a0 x) 64000#32) = 1#1 := congrFun h x
  generalize a0 x = b at e
  have e' : BitVec.ofBool (BitVec.sle 0#32 b) &&& BitVec.ofBool (BitVec.slt b 64000#32) = 1#1 := e
  have h1 : BitVec.sle 0#32 b = true := by
    cases hb : BitVec.sle 0#32 b
    · rw [hb] at e'; simp at e'
    · rfl
  have h2 : BitVec.slt b 64000#32 = true := by
    cases hb : BitVec.slt b 64000#32
    · rw [hb] at e'; simp at e'
    · rfl
  rw [BitVec.sle_iff_toInt_le] at h1
  rw [BitVec.slt_iff_toInt_lt] at h2
  have := b.isLt
  have hc := BitVec.toInt_eq_toNat_cond b
  rw [show (0#32 : BitVec 32).toInt = 0 from by decide] at h1
  rw [show (64000#32 : BitVec 32).toInt = 64000 from by decide] at h2
  split at hc <;> omega

/-- The frame: from any memory the precondition admits, the arguments end unchanged and every counter at zero. -/
theorem frame [Pre_ids_in_vocab.Facts] (h : ∀ c : Dev nD, Pre_ids_in_vocab.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => (h.1 c).2.2, h.2⟩)
    (run_named m ρ (hid_of m fun c x => ids_lt _ _ _ _ _ (h c) x))

end Cert.KernelIdeal.Own
end
-- ==== Proof.KI.Token.lean ====
/- What the kernel's blocks hold at a token, in terms of the arguments: the ids, the row's scale and zero point, the weight, and the
   bits of the word that holds the row's codes. -/
module
public import proofs.«01_k».proof.Proof.KI.Norm
public import proofs.«01_k».proof.Proof.KI.Entry
public import Idealize.ShloMosaic.Lib.BitcastConvert
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.Sem

/-! ## Reshapes at an index -/

/-- The 8 × 4096 array read as one row of 32768. -/
theorem cast_flat {α : Type} (x : S8x4096.Idx → α) (h : S8x4096.ShapeCasts S32768) (n : Fin 32768) :
    shapeCast S32768 x h (ix1 n) = x (ix2 ⟨n.val / 4096, by have := n.isLt; omega⟩ ⟨n.val % 4096, by omega⟩) := by
  refine congrArg x (Shape.reshapeEquiv_eq_of_vals h _ _ _ _ (rowMajor_val2 _ 4096 rfl) (rowMajor_val1 _) ?_)
  show n.val / 4096 * 4096 + n.val % 4096 = n.val
  omega
/-- The row of 32768 read as 256 blocks of 128. -/
theorem cast_blocks {α : Type} (x : S32768.Idx → α) (h : S32768.ShapeCasts S256x1x128) (t : Fin 256) (r : Fin 128) :
    shapeCast S256x1x128 x h (ix3 t 0 r) = x (ix1 ⟨128 * t.val + r.val, by omega⟩) := by
  refine congrArg x (Shape.reshapeEquiv_eq_of_vals h _ _ _ _ (rowMajor_val1 _) (rowMajor_val3 _ 128 128 rfl rfl) ?_)
  show 128 * t.val + r.val = t.val * 128 + (0 : Fin 1).val * 128 + r.val
  simp; omega
/-- A row of 65536 read as 512 rows of 128. -/
theorem cast_groups {α : Type} (x : S65536.Idx → α) (h : S65536.ShapeCasts S512x128) (p : Fin 512) (l : Fin 128) :
    shapeCast S512x128 x h (ix2 p l) = x (ix1 ⟨128 * p.val + l.val, by omega⟩) := by
  refine congrArg x (Shape.reshapeEquiv_eq_of_vals h _ _ _ _ (rowMajor_val1 _) (rowMajor_val2 _ 128 rfl) ?_)
  show 128 * p.val + l.val = p.val * 128 + l.val
  omega
/-- A vector read as a matrix of one row. -/
theorem cast_row {α : Type} (x : S3584.Idx → α) (h : S3584.ShapeCasts S1x3584) (d : Fin 3584) :
    shapeCast S1x3584 x h (ix2 0 d) = x (ix1 d) := by
  refine congrArg x (Shape.reshapeEquiv_eq_of_vals h _ _ _ _ (rowMajor_val1 _) (rowMajor_val2 _ 3584 rfl) ?_)
  show d.val = (0 : Fin 1).val * 3584 + d.val
  simp
/-- The table read as 16000 groups of four rows. -/
theorem cast_quads {α : Type} (x : S64000x3584.Idx → α) (h : S64000x3584.ShapeCasts S16000x4x3584) (p : Fin 16000) (b : Fin 4) (d : Fin 3584) :
    shapeCast S16000x4x3584 x h (ix3 p b d) = x (ix2 ⟨4 * p.val + b.val, by omega⟩ d) := by
  refine congrArg x (Shape.reshapeEquiv_eq_of_vals h _ _ _ _ (rowMajor_val2 _ 3584 rfl) (rowMajor_val3 _ 14336 3584 rfl rfl) ?_)
  show (4 * p.val + b.val) * 3584 + d.val = p.val * 14336 + b.val * 3584 + d.val
  omega

/-- Padding at the end leaves the entries before it. -/
theorem pad_at {α : Type} (x : S64000.Idx → α) (v : S_.Idx → α) (h : S64000.Pads ![0] ![1536] ![0] S65536) (i : ℕ) (hi : i < 64000) :
    pad S65536 ![0] ![1536] ![0] x v h h_S_ (ix1 ⟨i, by omega⟩) = x (ix1 ⟨i, hi⟩) := by
  rw [pad_apply, dif_pos]
  · refine congrArg x (funext fun a => Fin.ext ?_)
    match a with
    | ⟨0, _⟩ => show (i - 0) / (0 + 1) = i; simp
  · intro a
    match a with
    | ⟨0, _⟩ => exact ⟨Nat.zero_le _, by show (i - 0) % (0 + 1) = 0; omega, by show (i - 0) / (0 + 1) < 64000; simpa using hi⟩

/-- Two arrays side by side: the first 128 lanes are the first array's. -/
theorem lanes_lo {α : Type} (x y : S512x128.Idx → α) (h) (p : Fin 512) (l : Fin 128) :
    concatenate S512x256 1 [⟨S512x128, x⟩, ⟨S512x128, y⟩] h (ix2 p ⟨l.val, by omega⟩) = x (ix2 p l) := by
  pointwise
/-- Two arrays side by side: the last 128 lanes are the second array's. -/
theorem lanes_hi {α : Type} (x y : S512x128.Idx → α) (h) (p : Fin 512) (l : Fin 128) :
    concatenate S512x256 1 [⟨S512x128, x⟩, ⟨S512x128, y⟩] h (ix2 p ⟨128 + l.val, by omega⟩) = y (ix2 p l) := by
  pointwise

variable (m : (ℓ : Loc nD τ sig) → Buf (Elt Ideal) ℓ)

/-! ## The arguments, by name -/

/-- The token ids. -/
abbrev A0 (c : Dev nD) : S8x4096.Idx → BitVec 32 := m ((c : Thread nD τ).loc main_arg0)
/-- The table's codes. -/
abbrev A1 (c : Dev nD) : S64000x3584.Idx → BitVec 8 := m ((c : Thread nD τ).loc main_arg1)
/-- The table's scales. -/
abbrev A2 (c : Dev nD) : S64000.Idx → EReal := m ((c : Thread nD τ).loc main_arg2)
/-- The table's zero points. -/
abbrev A3 (c : Dev nD) : S64000.Idx → EReal := m ((c : Thread nD τ).loc main_arg3)
/-- The norm's weight. -/
abbrev A4 (c : Dev nD) : S3584.Idx → EReal := m ((c : Thread nD τ).loc main_arg4)

/-- The scales and zero points as the host lays them out: padded to 512 rows of 128 and put side by side. -/
theorem V_v9 (c : Dev nD) : V m c main_v9 = concatenate S512x256 1 [
    ⟨S512x128, shapeCast S512x128 (pad S65536 ![0] ![1536] ![0] (truncf (F := Ideal) .bf16 (m ((c : Thread nD τ).loc main_arg2) : Vec Ideal S64000 .f32) bitsLt_bf16_f32)
      (sitofp (F := Ideal) .bf16 (constantI S_ 32 0#32)) pads_S64000_S65536_015360 h_S_) shapeCasts_S65536_S512x128⟩,
    ⟨S512x128, shapeCast S512x128 (pad S65536 ![0] ![1536] ![0] (m ((c : Thread nD τ).loc main_arg3) : Vec Ideal S64000 .bf16)
      (sitofp (F := Ideal) .bf16 (constantI S_ 32 0#32)) pads_S64000_S65536_015360 h_S_) shapeCasts_S65536_S512x128⟩] concatenates_S512x128_S512x128_S512x256_d1 := by
  dsimp only [V, hostOps, hostOps0, hostOps0_1, hostOps0_2, hostOps0_3, hostOps0_4, List.flatten, List.append]; after_reads_simp
  rfl

/-! ## The arrays the region reads, at an index -/

/-- The flat ids are the tokens' ids. -/
theorem ids_apply (c : Dev nD) (n : Fin 32768) : idsM m c (ix1 n) = Cert.Spec.tok (A0 m c) n := by
  unfold idsM Cert.Spec.tok A0
  rw [V_v0]
  exact cast_flat _ _ n

/-- The scale of table row `i` lies in row `i / 128`, lane `i % 128` of the layout. -/
theorem scale_apply (c : Dev nD) (i : Fin 64000) :
    (V m c main_v9 : Vec Ideal S512x256 .bf16) (ix2 ⟨i.val / 128, by omega⟩ ⟨i.val % 128, by omega⟩) = A2 m c (ix1 i) := by
  rw [V_v9]
  refine (lanes_lo _ _ _ _ ⟨i.val % 128, by omega⟩).trans ((cast_groups _ _ _ _).trans ?_)
  refine Eq.trans (congrArg _ (congrArg ix1 (Fin.ext ?_))) (pad_at _ _ _ i.val i.isLt)
  show 128 * (i.val / 128) + i.val % 128 = i.val
  omega
/-- The zero point of table row `i` lies in row `i / 128`, lane `128 + i % 128` of the layout. -/
theorem zero_apply (c : Dev nD) (i : Fin 64000) :
    (V m c main_v9 : Vec Ideal S512x256 .bf16) (ix2 ⟨i.val / 128, by omega⟩ ⟨128 + i.val % 128, by omega⟩) = A3 m c (ix1 i) := by
  rw [V_v9]
  refine (lanes_hi _ _ _ _ ⟨i.val % 128, by omega⟩).trans ((cast_groups _ _ _ _).trans ?_)
  refine Eq.trans (congrArg _ (congrArg ix1 (Fin.ext ?_))) (pad_at _ _ _ i.val i.isLt)
  show 128 * (i.val / 128) + i.val % 128 = i.val
  omega
/-- The weight's one-row matrix holds the weight. -/
theorem weight_apply (c : Dev nD) (d : Fin 3584) :
    (V m c main_v11 : Vec Ideal S1x3584 .f32) (ix2 0 d) = A4 m c (ix1 d) := by
  rw [V_v11]
  exact cast_row _ _ d
/-- Entry `r` of the ids' block `t` is the id of token `128 t + r`. -/
theorem block_ids (c : Dev nD) (t : Fin 256) (r : Fin 128) :
    (V m c main_v12 : Vec Ideal S256x1x128 .i32) (ix3 t 0 r) = Cert.Spec.tok (A0 m c) ⟨128 * t.val + r.val, by omega⟩ := by
  rw [V_v12]
  exact (cast_blocks _ _ t r).trans (cast_flat _ _ _)

/-- Byte `i % 4` of the word in row `i / 4` of the packed table is the code in row `i`. -/
theorem word_bit (c : Dev nD) (i : Fin 64000) (d : Fin 3584) (q : ℕ) (hq : q < 8) :
    (tabM m c (ix2 ⟨i.val / 4, by omega⟩ d)).getLsbD (8 * (i.val % 4) + q) = (A1 m c (ix2 i d)).getLsbD q := by
  unfold tabM
  rw [V_v3, Host.bitcastConvertWiden_getLsbD _ _ _ _ _ _ (by omega)]
  have ej : (splits_S16000x3584_w32_S16000x3584x4_w8).snoc (ix2 ⟨i.val / 4, by omega⟩ d) ⟨(8 * (i.val % 4) + q) / 8, by show _ < 4; omega⟩
      = (ix3 ⟨i.val / 4, by omega⟩ d ⟨i.val % 4, by omega⟩ : S16000x3584x4.Idx) := by
    funext a
    apply Fin.ext
    match a with
    | ⟨0, _⟩ => rfl
    | ⟨1, _⟩ => rfl
    | ⟨2, _⟩ => show (8 * (i.val % 4) + q) / 8 = i.val % 4; omega
  have eb : (8 * (i.val % 4) + q) % 8 = q := by omega
  rw [eb]
  refine congrArg (fun b : BitVec 8 => b.getLsbD q) ?_
  refine (congrArg _ ej).trans ?_
  refine Eq.trans (b := shapeCast S16000x4x3584 (A1 m c) shapeCasts_S64000x3584_S16000x4x3584 (ix3 ⟨i.val / 4, by omega⟩ ⟨i.val % 4, by omega⟩ d)) ?_ ?_
  · generalize shapeCast S16000x4x3584 (A1 m c) shapeCasts_S64000x3584_S16000x4x3584 = x
    show transpose _ _ x _ _ = _
    pointwise
  · refine (cast_quads _ _ _ _ _).trans (congrArg (fun k => A1 m c (ix2 k d)) (Fin.ext ?_))
    show 4 * (i.val / 4) + i.val % 4 = i.val
    omega

/-! ## The staged blocks -/

/-- The ids' window takes block `t` at point `t`. -/
theorem idx0 : ∀ t : Fin grid0.N, cc0_transform_0 (grid0.coords t) = ![t.val, 0, 0] := by decide +kernel

/-- The weight's block is the whole weight at every point. -/
theorem x4_apply (c : Dev nD) (t) (d : Fin 3584) : x4 m c t (ix2 0 d) = A4 m c (ix1 d) := by
  rw [← weight_apply]
  unfold x4 iblk
  show (V m c main_v11 : Vec Ideal S1x3584 .f32) _ = _
  refine congrArg _ (funext fun a => Fin.ext ?_)
  match a with
  | ⟨0, _⟩ => rfl
  | ⟨1, _⟩ => show 0 * 3584 + 1 * d.val = d.val; omega
/-- The block of scales and zero points is the whole layout at every point. -/
theorem x3_apply (c : Dev nD) (t) (p : Fin 512) (l : Fin 256) : x3 m c t (ix2 p l) = (V m c main_v9 : Vec Ideal S512x256 .bf16) (ix2 p l) := by
  unfold x3 iblk
  show (V m c main_v9 : Vec Ideal S512x256 .bf16) _ = _
  refine congrArg _ (funext fun a => Fin.ext ?_)
  match a with
  | ⟨0, _⟩ => show 0 * 512 + 1 * p.val = p.val; omega
  | ⟨1, _⟩ => show 0 * 256 + 1 * l.val = l.val; omega
/-- The grid has 256 points. -/
theorem tlt (t : Fin (cfgM m).N) : t.val < 256 := t.isLt

/-- The ids' block at point `t` holds the ids of its 128 tokens. -/
theorem x2_apply (c : Dev nD) (t : Fin (cfgM m).N) (r : Fin 128) :
    x2 m c t (ix3 0 0 r) = Cert.Spec.tok (A0 m c) ⟨128 * t.val + r.val, by have := tlt m t; omega⟩ := by
  refine Eq.trans ?_ (block_ids m c ⟨t.val, tlt m t⟩ r)
  unfold x2 iblk
  show (V m c main_v12 : Vec Ideal S256x1x128 .i32) _ = _
  refine congrArg _ (funext fun a => Fin.ext ?_)
  match a with
  | ⟨0, _⟩ => show cc0_transform_0 (grid0.coords t) 0 * 1 + 1 * 0 = t.val; rw [idx0]; simp
  | ⟨1, _⟩ => show cc0_transform_0 (grid0.coords t) 1 * 1 + 1 * 0 = 0; rw [idx0]; simp
  | ⟨2, _⟩ => show cc0_transform_0 (grid0.coords t) 2 * 128 + 1 * r.val = r.val; rw [idx0]; simp
end Cert.KernelIdeal.Own
end
-- ==== Proof.KI.Value.lean ====
/- The kernel's value: what the body leaves in a block is the mathematics at the block's tokens, and the two result arrays are the
   blocks put together. -/
module
public import proofs.«01_k».proof.Proof.KI.Token
public import Idealize.ShloMosaic.Lib.Pipeline.ValueKit.Geometry
@[expose] public section
noncomputable section
namespace Cert.KernelIdeal.Own
open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- Token `r` of block `t`. -/
def tokOf (t : Fin (cfgM m).N) (r : Fin 128) : Fin 32768 := ⟨128 * t.val + r.val, by have := tlt m t; omega⟩

section Block
variable (hid : ∀ c y, (idsM m c y).toNat < 64000) (c : Dev nD) (t : Fin (cfgM m).N) (r : Fin 128)
include hid

/-- Every token's id is below 64000. -/
theorem tok_lt (n : Fin 32768) : (Cert.Spec.tok (A0 m c) n).toNat < 64000 := by
  rw [← ids_apply]; exact hid c _

/-- A token's row number is its id. -/
theorem row_val (n : Fin 32768) : (Cert.Spec.row (A0 m c) n).val = (Cert.Spec.tok (A0 m c) n).toNat :=
  Nat.mod_eq_of_lt (tok_lt m hid c n)

/-- The id in the block, as a row number of the table. -/
theorem x2_val : (x2 m c t (ix3 0 0 r)).toNat = (Cert.Spec.row (A0 m c) (tokOf m t r)).val := by
  rw [x2_apply, row_val m hid]; rfl

/-- The scale the body picks for a token is its row's, in every lane. -/
theorem sc_eq (l : Fin 128) : scM (x2 m c t) (x3 m c t) (ix2 r l) = A2 m c (ix1 (Cert.Spec.row (A0 m c) (tokOf m t r))) := by
  have e := x2_val m hid c t r
  have hl := (Cert.Spec.row (A0 m c) (tokOf m t r)).isLt
  refine (pay84_apply (x2 m c t) (x3 m c t) r l (by omega)).trans ((x3_apply m c t _ _).trans (Eq.trans ?_ (scale_apply m c _)))
  exact congrArg₂ (fun p q => (V m c main_v9 : Vec Ideal S512x256 .bf16) (ix2 p q)) (Fin.ext (congrArg (· / 128) e)) (Fin.ext (congrArg (· % 128) e))

/-- The zero point the body picks for a token is its row's, in every lane. -/
theorem zr_eq (l : Fin 128) : zrM (x2 m c t) (x3 m c t) (ix2 r l) = A3 m c (ix1 (Cert.Spec.row (A0 m c) (tokOf m t r))) := by
  have e := x2_val m hid c t r
  have hl := (Cert.Spec.row (A0 m c) (tokOf m t r)).isLt
  refine (pay85_apply (x2 m c t) (x3 m c t) r l (by omega)).trans ((x3_apply m c t _ _).trans (Eq.trans ?_ (zero_apply m c _)))
  exact congrArg₂ (fun p q => (V m c main_v9 : Vec Ideal S512x256 .bf16) (ix2 p q)) (Fin.ext (congrArg (· / 128) e)) (Fin.ext (congrArg (fun k => 128 + k % 128) e))

omit hid in
/-- The shift the body uses for a token, from the id's last two bits. -/
theorem sh_eq (l : Fin 128) : shM (F := Ideal) (x2 m c t) (ix2 r l) = 24#32 - 8#32 * (x2 m c t (ix3 0 0 r) &&& 3#32) := by
  refine (pay86_apply _ r l).trans ?_
  rw [pay72_apply (F := Ideal)]

omit hid in
/-- The shift is less than the word's width. -/
theorem sh_lt (i : BitVec 32) : (24#32 - 8#32 * (i &&& 3#32)).toNat < 32 := by
  have h : (i &&& 3#32).toNat = i.toNat % 4 := by
    simp only [BitVec.toNat_and, BitVec.toNat_ofNat]
    exact Nat.and_two_pow_sub_one_eq_mod i.toNat 2
  have h4 : i.toNat % 4 < 4 := Nat.mod_lt _ (by decide)
  generalize i &&& 3#32 = b at h
  have hb : b.toNat < 4 := by omega
  obtain ⟨k, rfl⟩ : ∃ k : Fin 4, b = BitVec.ofNat 32 k.val := ⟨⟨b.toNat, hb⟩, by simp⟩
  fin_cases k <;> decide

/-- The word the ring holds for the token: the packed table's, in row `i / 4`. -/
theorem gath_eq (s : Fin 3) (d : Fin 3584) : gath (F := Ideal) (idsM m c) (tabM m c) t.val (ix3 s r d)
    = tabM m c (ix2 ⟨(Cert.Spec.row (A0 m c) (tokOf m t r)).val / 4, by have := (Cert.Spec.row (A0 m c) (tokOf m t r)).isLt; omega⟩ d) := by
  have hl := (Cert.Spec.row (A0 m c) (tokOf m t r)).isLt
  have ht := tlt m t
  have e1 : tokIx (128 * t.val + r.val) = (ix1 (tokOf m t r) : S32768.Idx) := by
    funext a
    match a with
    | ⟨0, _⟩ => exact Fin.ext (Nat.mod_eq_of_lt (by omega))
  show tabM m c (tabIx (qrow (idsM m c (tokIx (128 * t.val + r.val)))) d) = _
  refine congrArg (tabM m c) (funext fun a => ?_)
  match a with
  | ⟨1, _⟩ => rfl
  | ⟨0, _⟩ =>
    refine Fin.ext ?_
    show (idsM m c (tokIx (128 * t.val + r.val)) >>> 2).toNat % 16000 = (Cert.Spec.row (A0 m c) (tokOf m t r)).val / 4
    rw [e1, ids_apply, row_val m hid, BitVec.toNat_ushiftRight, Nat.shiftRight_eq_div_pow]
    rw [row_val m hid] at hl
    exact Nat.mod_eq_of_lt (by omega)

/-- The dequantized entry of the body is the mathematics. -/
theorem embAt_eq : embAt (shM (F := Ideal) (x2 m c t)) (zrM (x2 m c t) (x3 m c t)) (scM (x2 m c t) (x3 m c t)) (gath (F := Ideal) (idsM m c) (tabM m c) t.val) (t.val % 3) r
    = Cert.Spec.emb (A0 m c) (A1 m c) (A2 m c) (A3 m c) (tokOf m t r) := by
  funext d
  unfold embAt Cert.Spec.emb
  rw [sc_eq m hid, zr_eq m hid, sh_eq, gath_eq m hid]
  rw [code_toInt _ _ (A1 m c (ix2 (Cert.Spec.row (A0 m c) (tokOf m t r)) d)) (fun q hq => by rw [x2_val m hid]; exact word_bit m c _ d q hq)]

/-- The second result's block holds the embeddings of its tokens. -/
theorem embB_apply (d : Fin 3584) : embB m c t (ix2 r d) = Cert.Spec.emb (A0 m c) (A1 m c) (A2 m c) (A3 m c) (tokOf m t r) d := by
  refine (embV_apply _ _ _ _ _ r (fun l => by rw [sh_eq, sh_eq]) (fun l => by rw [zr_eq m hid, zr_eq m hid]) (fun l => by rw [sc_eq m hid, sc_eq m hid]) (by rw [sh_eq]; exact sh_lt _) d).trans ?_
  rw [embAt_eq m hid]

/-- The first result's block holds the normalized embeddings of its tokens. -/
theorem outB_apply (d : Fin 3584) : outB m c t (ix2 r d) = Cert.Spec.rms (Cert.Spec.emb (A0 m c) (A1 m c) (A2 m c) (A3 m c) (tokOf m t r)) (fun d => A4 m c (ix1 d)) d := by
  refine (outV_apply _ _ _ _ _ _ r (fun l => by rw [sh_eq, sh_eq]) (fun l => by rw [zr_eq m hid, zr_eq m hid]) (fun l => by rw [sc_eq m hid, sc_eq m hid]) (by rw [sh_eq]; exact sh_lt _) d).trans ?_
  rw [embAt_eq m hid]
  refine congrArg (fun g => Cert.Spec.rms _ g d) (funext fun k => ?_)
  exact x4_apply m c t k
end Block

/-! ## The arrays -/

/-- The first result's window takes block `t` at point `t`. -/
theorem idx4 : ∀ t : Fin grid0.N, cc0_transform_4 (grid0.coords t) = ![t.val, 0] := by decide +kernel
/-- The second result's window takes block `t` at point `t`. -/
theorem idx5 : ∀ t : Fin grid0.N, cc0_transform_5 (grid0.coords t) = ![t.val, 0] := by decide +kernel

/-- The same of the pipeline's window 3. -/
theorem index_3 (t : Fin (cfgM m).N) : ((cfgM m).win 3).index t = ![t.val, 0] := idx4 t
/-- The same of the pipeline's window 4. -/
theorem index_4 (t : Fin (cfgM m).N) : ((cfgM m).win 4).index t = ![t.val, 0] := idx5 t

/-- The first result's block is written back at every point. -/
theorem flush_3 (t : Fin (cfgM m).N) : ((cfgM m).win 3).flush t = true := by
  unfold Window.flush
  refine (Bool.and_eq_true _ _).mpr ⟨rfl, ?_⟩
  by_cases h : t.val + 1 = (cfgM m).N
  · exact (Bool.or_eq_true _ _).mpr (.inl (decide_eq_true h))
  · refine (Bool.or_eq_true _ _).mpr (.inr (decide_eq_true ⟨lt_of_le_of_ne t.isLt h, fun e => ?_⟩))
    rw [index_3, index_3] at e
    have := congrFun e 0
    exact absurd this (Nat.succ_ne_self t.val)
/-- The second result's block is written back at every point. -/
theorem flush_4 (t : Fin (cfgM m).N) : ((cfgM m).win 4).flush t = true := by
  unfold Window.flush
  refine (Bool.and_eq_true _ _).mpr ⟨rfl, ?_⟩
  by_cases h : t.val + 1 = (cfgM m).N
  · exact (Bool.or_eq_true _ _).mpr (.inl (decide_eq_true h))
  · refine (Bool.or_eq_true _ _).mpr (.inr (decide_eq_true ⟨lt_of_le_of_ne t.isLt h, fun e => ?_⟩))
    rw [index_4, index_4] at e
    have := congrFun e 0
    exact absurd this (Nat.succ_ne_self t.val)

/-- The first result has 256 blocks of rows. -/
theorem nblk_3_0 (h) : ((cfgM m).win 3).nblk ⟨0, h⟩ = 256 := by
  unfold Window.nblk
  show (32768 + 128 - 1) / 128 = 256
  rfl
/-- The first result has one block of columns. -/
theorem nblk_3_1 (h) : ((cfgM m).win 3).nblk ⟨1, h⟩ = 1 := by
  unfold Window.nblk
  show (3584 + 3584 - 1) / 3584 = 1
  rfl
/-- The blocks of the first result cover it. -/
theorem covers_3 : ((cfgM m).win 3).Covers := by
  refine ⟨fun a => match a with | ⟨0, _⟩ => (by decide : 0 < 128) | ⟨1, _⟩ => (by decide : 0 < 3584), fun β => ?_⟩
  have h0 : (β ⟨0, (by decide : 0 < 2)⟩).val < 256 := lt_of_lt_of_eq (β ⟨0, (by decide : 0 < 2)⟩).isLt (nblk_3_0 m _)
  have h1 : (β ⟨1, (by decide : 1 < 2)⟩).val < 1 := lt_of_lt_of_eq (β ⟨1, (by decide : 1 < 2)⟩).isLt (nblk_3_1 m _)
  refine ⟨⟨(β ⟨0, (by decide : 0 < 2)⟩).val, h0⟩, flush_3 m _, fun a => ⟨?_, .inl rfl⟩⟩
  rw [index_3]
  match a with
  | ⟨0, _⟩ => rfl
  | ⟨1, _⟩ => exact (Nat.lt_one_iff.mp h1).symm
/-- The second result has 256 blocks of rows. -/
theorem nblk_4_0 (h) : ((cfgM m).win 4).nblk ⟨0, h⟩ = 256 := by
  unfold Window.nblk
  show (32768 + 128 - 1) / 128 = 256
  rfl
/-- The second result has one block of columns. -/
theorem nblk_4_1 (h) : ((cfgM m).win 4).nblk ⟨1, h⟩ = 1 := by
  unfold Window.nblk
  show (3584 + 3584 - 1) / 3584 = 1
  rfl
/-- The blocks of the second result cover it. -/
theorem covers_4 : ((cfgM m).win 4).Covers := by
  refine ⟨fun a => match a with | ⟨0, _⟩ => (by decide : 0 < 128) | ⟨1, _⟩ => (by decide : 0 < 3584), fun β => ?_⟩
  have h0 : (β ⟨0, (by decide : 0 < 2)⟩).val < 256 := lt_of_lt_of_eq (β ⟨0, (by decide : 0 < 2)⟩).isLt (nblk_4_0 m _)
  have h1 : (β ⟨1, (by decide : 1 < 2)⟩).val < 1 := lt_of_lt_of_eq (β ⟨1, (by decide : 1 < 2)⟩).isLt (nblk_4_1 m _)
  refine ⟨⟨(β ⟨0, (by decide : 0 < 2)⟩).val, h0⟩, flush_4 m _, fun a => ⟨?_, .inl rfl⟩⟩
  rw [index_4]
  match a with
  | ⟨0, _⟩ => rfl
  | ⟨1, _⟩ => exact (Nat.lt_one_iff.mp h1).symm

/-- Where a block's entry lies in its array. -/
theorem emb_3 (t : Fin (cfgM m).N) (y : S128x3584.Idx) : ((((cfgM m).win 3).blk t).view.emb y : S32768x3584.Idx) = ix2 (tokOf m t (y 0)) (y 1) := by
  funext a
  apply Fin.ext
  match a with
  | ⟨0, _⟩ => show cc0_transform_4 (grid0.coords t) 0 * 128 + 1 * (y 0).val = 128 * t.val + (y 0).val; rw [idx4]; show t.val * 128 + 1 * (y 0).val = _; omega
  | ⟨1, _⟩ => show cc0_transform_4 (grid0.coords t) 1 * 3584 + 1 * (y 1).val = (y 1).val; rw [idx4]; show 0 * 3584 + 1 * (y 1).val = _; omega
/-- Where a block's entry lies in the second result. -/
theorem emb_4 (t : Fin (cfgM m).N) (y : S128x3584.Idx) : ((((cfgM m).win 4).blk t).view.emb y : S32768x3584.Idx) = ix2 (tokOf m t (y 0)) (y 1) := by
  funext a
  apply Fin.ext
  match a with
  | ⟨0, _⟩ => show cc0_transform_5 (grid0.coords t) 0 * 128 + 1 * (y 0).val = 128 * t.val + (y 0).val; rw [idx5]; show t.val * 128 + 1 * (y 0).val = _; omega
  | ⟨1, _⟩ => show cc0_transform_5 (grid0.coords t) 1 * 3584 + 1 * (y 1).val = (y 1).val; rw [idx5]; show 0 * 3584 + 1 * (y 1).val = _; omega

/-- A block's index is the pair of its coordinates. -/
theorem ix2_self (y : S128x3584.Idx) : ix2 (y 0) (y 1) = y := by
  funext a
  match a with
  | ⟨0, _⟩ => rfl
  | ⟨1, _⟩ => rfl

/-- The first result's block, entry by entry of the array. -/
theorem outB_array (hid : ∀ c y, (idsM m c y).toNat < 64000) (c : Dev nD) (t : Fin (cfgM m).N) (y : S128x3584.Idx) :
    outB m c t y = Cert.Spec.outArr (A0 m c) (A1 m c) (A2 m c) (A3 m c) (A4 m c) (ix2 (tokOf m t (y 0)) (y 1)) :=
  (congrArg (outB m c t) (ix2_self y).symm).trans (outB_apply m hid c t (y 0) (y 1))
/-- The second result's block, entry by entry of the array. -/
theorem embB_array (hid : ∀ c y, (idsM m c y).toNat < 64000) (c : Dev nD) (t : Fin (cfgM m).N) (y : S128x3584.Idx) :
    embB m c t y = Cert.Spec.embArr (A0 m c) (A1 m c) (A2 m c) (A3 m c) (ix2 (tokOf m t (y 0)) (y 1)) :=
  (congrArg (embB m c t) (ix2_self y).symm).trans (embB_apply m hid c t (y 0) (y 1))

/-- The first result: every normalized embedding. -/
theorem out_eq (hid : ∀ c y, (idsM m c y).toNat < 64000) (c : Dev nD) :
    (dats m 0 c).arrAt 3 (cfgM m).N = Cert.Spec.outArr (A0 m c) (A1 m c) (A2 m c) (A3 m c) (A4 m c) := by
  refine (dats m 0 c).arrAt_eq_of_covers 3 _ (covers_3 m) fun t _ y => ?_
  rw [after_3]
  exact (outB_array m hid c t y).trans (congrArg (Cert.Spec.outArr (A0 m c) (A1 m c) (A2 m c) (A3 m c) (A4 m c)) (emb_3 m t y)).symm

/-- The second result: every embedding. -/
theorem emb_eq (hid : ∀ c y, (idsM m c y).toNat < 64000) (c : Dev nD) :
    (dats m 0 c).arrAt 4 (cfgM m).N = Cert.Spec.embArr (A0 m c) (A1 m c) (A2 m c) (A3 m c) := by
  refine (dats m 0 c).arrAt_eq_of_covers 4 _ (covers_4 m) fun t _ y => ?_
  rw [after_4]
  exact (embB_array m hid c t y).trans (congrArg (Cert.Spec.embArr (A0 m c) (A1 m c) (A2 m c) (A3 m c)) (emb_4 m t y)).symm

/-- The run: both results are the mathematics of the arguments, and the arguments end unchanged. -/
theorem run_spec (ρ : Dev nD → PrngReg) (h : ∀ (c : Dev nD) x, (A0 m c x).toNat < 64000) :
    θ_run defs (onTc (τ := τ) (main (F := Ideal))) ⟨m, fun _ => 0, ρ⟩ (fun r => ∀ c : Dev nD,
      r.2.mem ((c : Thread nD τ).loc main_v13_0) = Cert.Spec.outArr (A0 m c) (A1 m c) (A2 m c) (A3 m c) (A4 m c)
      ∧ r.2.mem ((c : Thread nD τ).loc main_v13_1) = Cert.Spec.embArr (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  have hid := hid_of m h
  (θ_run defs _ _).mono (fun _ h c => ⟨(h.1 c).1.trans (out_eq m hid c), (h.1 c).2.1.trans (emb_eq m hid c), (h.1 c).2.2⟩) (run_named m ρ hid)

end Cert.KernelIdeal.Own
end
-- ==== Proof.RI.Value.lean ====
/- The reference's value: the rows its host operations gather, and what its body makes of them, are the mathematics at every token. -/
module
public import proofs.«01_k».proof.Proof.Spec
public import proofs.«01_k».proof.Proof.Gen.ReferenceIdeal.Frame
public import Idealize.ShloMosaic.Lib.Pointwise
public import Idealize.ShloMosaic.Lib.IdealHost
public import Idealize.ShloMosaic.Lib.StableHlo.RunRead
public import Idealize.ShloMosaic.Lib.Routing.Ops
public import Idealize.ShloMosaic.Lib.Routing.OpsSet
public import Idealize.ShloMosaic.Lib.Pipeline.ValueKit.Geometry
@[expose] public section
set_option maxRecDepth 16384
noncomputable section
namespace Cert.ReferenceIdeal.Own
open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The token ids. -/
abbrev A0 (c : Dev nD) : S8x4096.Idx → BitVec 32 := m ((c : Thread nD τ).loc main_arg0)
/-- The table's codes. -/
abbrev A1 (c : Dev nD) : S64000x3584.Idx → BitVec 8 := m ((c : Thread nD τ).loc main_arg1)
/-- The table's scales. -/
abbrev A2 (c : Dev nD) : S64000.Idx → EReal := m ((c : Thread nD τ).loc main_arg2)
/-- The table's zero points. -/
abbrev A3 (c : Dev nD) : S64000.Idx → EReal := m ((c : Thread nD τ).loc main_arg3)
/-- The norm's weight. -/
abbrev A4 (c : Dev nD) : S3584.Idx → EReal := m ((c : Thread nD τ).loc main_arg4)

/-- The flat ids, a negative one wrapped. -/
def wrapped (a0 : IVec S8x4096 32) : IVec S32768 32 :=
  select (cmpi .slt (shapeCast S32768 a0 shapeCasts_S8x4096_S32768) (broadcastInDim S32768 ![] bcast_S_S32768 (constantI S_ 32 0#32)))
    (addi (shapeCast S32768 a0 shapeCasts_S8x4096_S32768) (broadcastInDim S32768 ![] bcast_S_S32768 (constantI S_ 32 64000#32)))
    (shapeCast S32768 a0 shapeCasts_S8x4096_S32768)
/-- The row numbers the gathers take. -/
def rows (a0 : IVec S8x4096 32) : IVec S32768x1 32 := broadcastInDim S32768x1 ![0] bcast_S32768_S32768x1_0 (wrapped a0)

/-- The gathered codes, as the host computes them. -/
theorem V_v7 (c : Dev nD) : V m c main_v7 = Host.gather gather_S64000x3584_S32768x1_S32768x3584_1_0_n_n_0_1_13584 (A1 m c) (rows (A0 m c)) := by
  dsimp only [V, hostOps0]; after_reads_simp
  rfl
/-- The gathered scales, as the host computes them. -/
theorem V_v23 (c : Dev nD) : V m c main_v23 = broadcastInDim S32768x1 ![0] bcast_S32768_S32768x1_0
    (truncf (F := Ideal) .bf16 (Host.gather gather_S64000_S32768x1_S32768_n_0_n_n_0_1_1 (A2 m c) (rows (A0 m c))) bitsLt_bf16_f32) := by
  dsimp only [V, hostOps0]; after_reads_simp
  rfl
/-- The gathered zero points, as the host computes them. -/
theorem V_v24 (c : Dev nD) : V m c main_v24 = broadcastInDim S32768x1 ![0] bcast_S32768_S32768x1_0
    (Host.gather gather_S64000_S32768x1_S32768_n_0_n_n_0_1_1 (A3 m c) (rows (A0 m c))) := by
  dsimp only [V, hostOps0]; after_reads_simp
  rfl
/-- The weight as a matrix of one row. -/
theorem V_v25 (c : Dev nD) : V m c main_v25 = broadcastInDim S1x3584 ![1] bcast_S3584_S1x3584_1 (A4 m c) := by
  dsimp only [V, hostOps0]; after_reads_simp

/-- The 8 × 4096 array read as one row of 32768. -/
theorem cast_flat {α : Type} (x : S8x4096.Idx → α) (h : S8x4096.ShapeCasts S32768) (n : Fin 32768) :
    shapeCast S32768 x h (ix1 n) = x (ix2 ⟨n.val / 4096, by have := n.isLt; omega⟩ ⟨n.val % 4096, by omega⟩) := by
  refine congrArg x (Shape.reshapeEquiv_eq_of_vals h _ _ _ _ (rowMajor_val2 _ 4096 rfl) (rowMajor_val1 _) ?_)
  show n.val / 4096 * 4096 + n.val % 4096 = n.val
  omega

/-- An id below 64000 is its own wrapped id. -/
theorem wrapped_apply (a0 : IVec S8x4096 32) (n : Fin 32768) (h : (Cert.Spec.tok a0 n).toNat < 64000) : wrapped a0 (ix1 n) = Cert.Spec.tok a0 n := by
  have e : shapeCast S32768 a0 shapeCasts_S8x4096_S32768 (ix1 n) = Cert.Spec.tok a0 n := cast_flat _ _ n
  show Scalar.select (IntOp.cmpi .slt (shapeCast S32768 a0 shapeCasts_S8x4096_S32768 (ix1 n)) 0#32) _ (shapeCast S32768 a0 shapeCasts_S8x4096_S32768 (ix1 n)) = _
  rw [e]
  generalize Cert.Spec.tok a0 n = b at h
  have hb : BitVec.slt b 0#32 = false := by
    rw [Bool.eq_false_iff]
    intro hs
    rw [BitVec.slt_iff_toInt_lt, BitVec.toInt_eq_toNat_cond] at hs
    rw [show (0#32 : BitVec 32).toInt = 0 from by decide] at hs
    split at hs <;> omega
  show Scalar.select (BitVec.ofBool (BitVec.slt b 0#32)) _ b = b
  rw [hb]
  rfl

/-- The row number the gathers take for a token is its id. -/
theorem rows_apply (a0 : IVec S8x4096 32) (n : Fin 32768) (h : (Cert.Spec.tok a0 n).toNat < 64000) :
    rows a0 (ix2 n 0) = BitVec.ofNat 32 (Cert.Spec.row a0 n).val := by
  have e : rows a0 (ix2 n 0) = wrapped a0 (ix1 n) := by
    unfold rows
    generalize wrapped a0 = x
    pointwise
  rw [e, wrapped_apply a0 n h]
  apply BitVec.eq_of_toNat_eq
  show _ = ((Cert.Spec.tok a0 n).toNat % 64000) % 2 ^ 32
  rw [Nat.mod_eq_of_lt h, Nat.mod_eq_of_lt (by omega)]

section At
variable (hid : ∀ c n, (Cert.Spec.tok (A0 m c) n).toNat < 64000) (c : Dev nD) (n : Fin 32768)
include hid

/-- The gathered codes of a token are its row's. -/
theorem codes_apply (d : Fin 3584) : (V m c main_v7 : Vec Ideal S32768x3584 .i8) (ix2 n d) = A1 m c (ix2 (Cert.Spec.row (A0 m c) n) d) := by
  rw [V_v7]
  have h := Routing.gather_row gather_S64000x3584_S32768x1_S32768x3584_1_0_n_n_0_1_13584 rfl rfl rfl rfl rfl (A1 m c) (rows (A0 m c)) n d
    (Cert.Spec.row (A0 m c) n) (by simpa only [ix2_eq_valueIdx] using rows_apply (A0 m c) n (hid c n)) (by norm_num)
  simpa only [ix2_eq_valueIdx] using h
/-- The gathered scale of a token is its row's. -/
theorem scale_apply : (V m c main_v23 : Vec Ideal S32768x1 .bf16) (ix2 n 0) = A2 m c (ix1 (Cert.Spec.row (A0 m c) n)) := by
  rw [V_v23]
  have h := Routing.gather_take1 gather_S64000_S32768x1_S32768_n_0_n_n_0_1_1 rfl rfl rfl rfl (A2 m c) (rows (A0 m c)) n
    (Cert.Spec.row (A0 m c) n) (by simpa only [ix2_eq_valueIdx] using rows_apply (A0 m c) n (hid c n)) (by norm_num)
  generalize Host.gather gather_S64000_S32768x1_S32768_n_0_n_n_0_1_1 (A2 m c) (rows (A0 m c)) = x at h
  pointwise
  simpa only [ix1_eq_valueIdx] using h
/-- The gathered zero point of a token is its row's. -/
theorem zero_apply : (V m c main_v24 : Vec Ideal S32768x1 .bf16) (ix2 n 0) = A3 m c (ix1 (Cert.Spec.row (A0 m c) n)) := by
  rw [V_v24]
  have h := Routing.gather_take1 gather_S64000_S32768x1_S32768_n_0_n_n_0_1_1 rfl rfl rfl rfl (A3 m c) (rows (A0 m c)) n
    (Cert.Spec.row (A0 m c) n) (by simpa only [ix2_eq_valueIdx] using rows_apply (A0 m c) n (hid c n)) (by norm_num)
  generalize Host.gather gather_S64000_S32768x1_S32768_n_0_n_n_0_1_1 (A3 m c) (rows (A0 m c)) = x at h
  pointwise
  simpa only [ix1_eq_valueIdx] using h
omit hid in
/-- The weight's one-row matrix holds the weight. -/
theorem weight_apply (d : Fin 3584) : (V m c main_v25 : Vec Ideal S1x3584 .bf16) (ix2 0 d) = A4 m c (ix1 d) := by
  rw [V_v25]
  generalize A4 m c = x
  pointwise
end At

/-! ## The body's two payloads -/

/-- The dequantized entry: the code less the zero point, times the scale. -/
theorem pay1_apply (q : Vec Ideal S32768x3584 .i8) (s z : Vec Ideal S32768x1 .bf16) (n : Fin 32768) (d : Fin 3584) :
    k0_pay1 (F := Ideal) q s z (ix2 n d) = (((q (ix2 n d)).toInt : ℝ) - z (ix2 n 0)) * s (ix2 n 0) := by
  pointwise [k0_pay1]
  rfl

/-- The divisor of the mean is the real 3584. -/
theorem ofBits_d : Ideal.ofBits .f32 0x45600000#32 = ((3584 : ℝ) : EReal) := by
  simp [Ideal.ofBits, Ideal.ieee, -EReal.coe_mul]; norm_num

/-- The normalized entry: the RMSNorm of the dequantized row. -/
theorem pay2_apply (q : Vec Ideal S32768x3584 .i8) (s z : Vec Ideal S32768x1 .bf16) (g : Vec Ideal S1x3584 .bf16) (n : Fin 32768) (d : Fin 3584) :
    k0_pay2 (F := Ideal) q s z g (ix2 n d) = Cert.Spec.rms (fun k => (((q (ix2 n k)).toInt : ℝ) - z (ix2 n 0)) * s (ix2 n 0)) (fun k => g (ix2 0 k)) d := by
  pointwise [k0_pay2, pay1_apply]
  rw [ofBits_d, Ideal.div_coe (by norm_num : (3584 : ℝ) ≠ 0), one_div]
  rfl

/-! ## The arrays -/

/-- The zero offsets. -/
theorem hz : (![0, 0] : Fin 2 → Nat) = fun _ => 0 := by funext a; match a with | ⟨0, _⟩ => rfl | ⟨1, _⟩ => rfl

/-- The region reads the codes whole. -/
theorem blk0 (c : Dev nD) (t : Fin cfg0.N) (n : Fin 32768) (d : Fin 3584) : (iblk m c 0 t : Vec Ideal S32768x3584 .i8) (ix2 n d) = (V m c main_v7 : Vec Ideal S32768x3584 .i8) (ix2 n d) := by
  unfold iblk
  show (V m c main_v7 : Vec Ideal S32768x3584 .i8) _ = _
  refine congrArg _ (funext fun a => Fin.ext ?_)
  match a with
  | ⟨0, _⟩ => show 0 * 32768 + 1 * n.val = n.val; omega
  | ⟨1, _⟩ => show 0 * 3584 + 1 * d.val = d.val; omega
/-- The region reads the scales whole. -/
theorem blk1 (c : Dev nD) (t : Fin cfg0.N) (n : Fin 32768) : (iblk m c 1 t : Vec Ideal S32768x1 .bf16) (ix2 n 0) = (V m c main_v23 : Vec Ideal S32768x1 .bf16) (ix2 n 0) := by
  unfold iblk
  show (V m c main_v23 : Vec Ideal S32768x1 .bf16) _ = _
  refine congrArg _ (funext fun a => Fin.ext ?_)
  match a with
  | ⟨0, _⟩ => show 0 * 32768 + 1 * n.val = n.val; omega
  | ⟨1, _⟩ => rfl
/-- The region reads the zero points whole. -/
theorem blk2 (c : Dev nD) (t : Fin cfg0.N) (n : Fin 32768) : (iblk m c 2 t : Vec Ideal S32768x1 .bf16) (ix2 n 0) = (V m c main_v24 : Vec Ideal S32768x1 .bf16) (ix2 n 0) := by
  unfold iblk
  show (V m c main_v24 : Vec Ideal S32768x1 .bf16) _ = _
  refine congrArg _ (funext fun a => Fin.ext ?_)
  match a with
  | ⟨0, _⟩ => show 0 * 32768 + 1 * n.val = n.val; omega
  | ⟨1, _⟩ => rfl
/-- The region reads the weight whole. -/
theorem blk3 (c : Dev nD) (t : Fin cfg0.N) (d : Fin 3584) : (iblk m c 3 t : Vec Ideal S1x3584 .bf16) (ix2 0 d) = (V m c main_v25 : Vec Ideal S1x3584 .bf16) (ix2 0 d) := by
  unfold iblk
  show (V m c main_v25 : Vec Ideal S1x3584 .bf16) _ = _
  refine congrArg _ (funext fun a => Fin.ext ?_)
  match a with
  | ⟨0, _⟩ => rfl
  | ⟨1, _⟩ => show 0 * 3584 + 1 * d.val = d.val; omega

/-- An index is the pair of its coordinates. -/
theorem ix2_self (y : S32768x3584.Idx) : ix2 (y 0) (y 1) = y := by
  funext a
  match a with
  | ⟨0, _⟩ => rfl
  | ⟨1, _⟩ => rfl

section Arrays
variable (hid : ∀ c n, (Cert.Spec.tok (A0 m c) n).toNat < 64000) (c : Dev nD)
include hid

/-- The second result at a token is its embedding. -/
theorem out5_at (t : Fin cfg0.N) (n : Fin 32768) (d : Fin 3584) :
    out0_5 (iblk m c 0 t) (iblk m c 1 t) (iblk m c 2 t) (iblk m c 3 t) (ix2 n d) = Cert.Spec.emb (A0 m c) (A1 m c) (A2 m c) (A3 m c) n d := by
  unfold out0_5
  rw [View.canon_unit_zero hz, View.ld_unit_zero hz, View.ld_unit_zero hz, View.ld_unit_zero hz]
  refine (pay1_apply _ _ _ n d).trans ?_
  rw [blk0, blk1, blk2, codes_apply m hid, scale_apply m hid, zero_apply m hid]
  rfl

/-- The first result at a token is its normalized embedding. -/
theorem out4_at (t : Fin cfg0.N) (n : Fin 32768) (d : Fin 3584) :
    out0_4 (iblk m c 0 t) (iblk m c 1 t) (iblk m c 2 t) (iblk m c 3 t) (ix2 n d)
      = Cert.Spec.rms (Cert.Spec.emb (A0 m c) (A1 m c) (A2 m c) (A3 m c) n) (fun k => A4 m c (ix1 k)) d := by
  unfold out0_4
  rw [View.canon_unit_zero hz, View.ld_unit_zero hz, View.ld_unit_zero hz, View.ld_unit_zero hz, View.ld_unit_zero hz]
  refine (pay2_apply _ _ _ _ n d).trans ?_
  refine congrArg₂ (fun e g => Cert.Spec.rms e g d) (funext fun k => ?_) (funext fun k => ?_)
  · rw [blk0, blk1, blk2, codes_apply m hid, scale_apply m hid, zero_apply m hid]
    rfl
  · rw [blk3, weight_apply]

/-- The second result, entry by entry of the array. -/
theorem out5_array (t : Fin cfg0.N) (y : S32768x3584.Idx) :
    out0_5 (iblk m c 0 t) (iblk m c 1 t) (iblk m c 2 t) (iblk m c 3 t) y = Cert.Spec.embArr (A0 m c) (A1 m c) (A2 m c) (A3 m c) y :=
  (congrArg _ (ix2_self y).symm).trans (out5_at m hid c t (y 0) (y 1))
/-- The first result, entry by entry of the array. -/
theorem out4_array (t : Fin cfg0.N) (y : S32768x3584.Idx) :
    out0_4 (iblk m c 0 t) (iblk m c 1 t) (iblk m c 2 t) (iblk m c 3 t) y = Cert.Spec.outArr (A0 m c) (A1 m c) (A2 m c) (A3 m c) (A4 m c) y :=
  (congrArg _ (ix2_self y).symm).trans (out4_at m hid c t (y 0) (y 1))

omit hid in
/-- The first result's one block is the array. -/
theorem emb_4 (t : Fin cfg0.N) (y : S32768x3584.Idx) : (((cfg0.win 4).blk t).view.emb y : S32768x3584.Idx) = y := by
  funext a
  apply Fin.ext
  match a with
  | ⟨0, _⟩ => show 0 * 32768 + 1 * (y 0).val = (y 0).val; omega
  | ⟨1, _⟩ => show 0 * 3584 + 1 * (y 1).val = (y 1).val; omega
omit hid in
/-- The second result's one block is the array. -/
theorem emb_5 (t : Fin cfg0.N) (y : S32768x3584.Idx) : (((cfg0.win 5).blk t).view.emb y : S32768x3584.Idx) = y := by
  funext a
  apply Fin.ext
  match a with
  | ⟨0, _⟩ => show 0 * 32768 + 1 * (y 0).val = (y 0).val; omega
  | ⟨1, _⟩ => show 0 * 3584 + 1 * (y 1).val = (y 1).val; omega

omit hid in
/-- The one block covers the first result. -/
theorem covers_4 : (cfg0.win 4).Covers := (by decide +kernel : win0_4.Covers)
omit hid in
/-- The one block covers the second result. -/
theorem covers_5 : (cfg0.win 5).Covers := (by decide +kernel : win0_5.Covers)

/-- The first result: every normalized embedding. -/
theorem out_eq : (dats m 0 c).arrAt 4 cfg0.N = Cert.Spec.outArr (A0 m c) (A1 m c) (A2 m c) (A3 m c) (A4 m c) := by
  refine (dats m 0 c).arrAt_eq_of_covers 4 _ covers_4 fun t _ y => ?_
  rw [after0_4]
  blk_simp
  exact (out4_array m hid c t y).trans (congrArg (Cert.Spec.outArr (A0 m c) (A1 m c) (A2 m c) (A3 m c) (A4 m c)) (emb_4 t y)).symm

/-- The second result: every embedding. -/
theorem emb_eq : (dats m 0 c).arrAt 5 cfg0.N = Cert.Spec.embArr (A0 m c) (A1 m c) (A2 m c) (A3 m c) := by
  refine (dats m 0 c).arrAt_eq_of_covers 5 _ covers_5 fun t _ y => ?_
  rw [after0_5]
  blk_simp
  exact (out5_array m hid c t y).trans (congrArg (Cert.Spec.embArr (A0 m c) (A1 m c) (A2 m c) (A3 m c)) (emb_5 t y)).symm

/-- The run: both results are the mathematics of the arguments, and the arguments end unchanged. -/
theorem run_spec (ρ : Dev nD → PrngReg) :
    θ_run defs (onTc (τ := τ) (main (F := Ideal))) ⟨m, fun _ => 0, ρ⟩ (fun r => ∀ c : Dev nD,
      r.2.mem ((c : Thread nD τ).loc main_v26_0) = Cert.Spec.outArr (A0 m c) (A1 m c) (A2 m c) (A3 m c) (A4 m c)
      ∧ r.2.mem ((c : Thread nD τ).loc main_v26_1) = Cert.Spec.embArr (A0 m c) (A1 m c) (A2 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h c).1 4).trans (out_eq m hid c), ((h c).1 5).trans (emb_eq m hid c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)
end Arrays
end Cert.ReferenceIdeal.Own
end
-- ==== Proof.lean ====
/- The claims, assembled: the frames of the kernel and of its idealization under the precondition, the frame of the reference,
   the one named constant, and the equality of both results of the idealization and of the reference. -/
module

public import proofs.«01_k».proof.Defs
public import proofs.«01_k».proof.Proof.K.Entry
public import proofs.«01_k».proof.Proof.KI.Value
public import proofs.«01_k».proof.Proof.RI.Value
public import Idealize.ShloMosaic.Adequacy
public import Idealize.ShloMosaic.Init

@[expose] public section

open Idealize.ShloMosaic Idealize.SL.Sem

/-- The side condition of the precondition's one broadcast. -/
theorem Cert.Proof.pre_facts : Cert.Pre_ids_in_vocab.Facts := ⟨by decide⟩

/-- From memories that agree on the arguments, the idealized kernel and the reference both end with the mathematics of those
    arguments in their two results. -/
theorem Cert.Proof.algebraic : letI := Cert.Proof.pre_facts; Cert.algebraic_KernelIdeal_ReferenceIdeal := by
  letI := Cert.Proof.pre_facts
  intro m g m' g' hp ha
  have hk : ∀ (c : Dev Cert.KernelIdeal.nD) x, (Cert.KernelIdeal.Own.A0 m c x).toNat < 64000 :=
    fun c x => Cert.KernelIdeal.Own.ids_lt _ _ _ _ _ (hp c) x
  have e0 : ∀ c, Cert.ReferenceIdeal.Own.A0 m' c = Cert.KernelIdeal.Own.A0 m c := fun c => (ha c).1
  have e1 : ∀ c, Cert.ReferenceIdeal.Own.A1 m' c = Cert.KernelIdeal.Own.A1 m c := fun c => (ha c).2.1
  have e2 : ∀ c, Cert.ReferenceIdeal.Own.A2 m' c = Cert.KernelIdeal.Own.A2 m c := fun c => (ha c).2.2.1
  have e3 : ∀ c, Cert.ReferenceIdeal.Own.A3 m' c = Cert.KernelIdeal.Own.A3 m c := fun c => (ha c).2.2.2.1
  have e4 : ∀ c, Cert.ReferenceIdeal.Own.A4 m' c = Cert.KernelIdeal.Own.A4 m c := fun c => (ha c).2.2.2.2
  have hr : ∀ c n, (Cert.Spec.tok (Cert.ReferenceIdeal.Own.A0 m' c) n).toNat < 64000 := fun c n => by rw [e0 c]; exact hk c _
  refine ⟨_, _, Cert.KernelIdeal.Own.run_spec m g hk, ?_⟩
  refine (θ_run Cert.ReferenceIdeal.defs _ _).mono (fun _ h c => ⟨(h c).1.trans ?_, (h c).2.1.trans ?_, (h c).2.2⟩) (Cert.ReferenceIdeal.Own.run_spec m' hr g')
  · rw [e0 c, e1 c, e2 c, e3 c, e4 c]
  · rw [e0 c, e1 c, e2 c, e3 c]

/-- The claims. -/
theorem Cert.Proof.claim : Cert.Claim :=
  ⟨Cert.Kernel.Gen.facts, Cert.KernelIdeal.Gen.facts, Cert.ReferenceIdeal.Gen.facts, Cert.Proof.pre_facts,
    letI := Cert.Proof.pre_facts; fun m ρ h => Cert.Kernel.Own.frame m ρ h,
    letI := Cert.Proof.pre_facts; fun m ρ h => Cert.KernelIdeal.Own.frame m ρ h,
    fun m ρ _ => Cert.ReferenceIdeal.Gen.frame m ρ,
    letI := Cert.Proof.pre_facts; fun m ρ _ => Cert.ReferenceIdeal.Gen.frame m ρ,
    IdealRules.named_const.statement Cert.KernelIdeal.κ "inv_d_model" .f32 0x39924925#32 ((3584⁻¹ : ℝ) : EReal) rfl,
    Cert.Proof.algebraic⟩

end
